-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_u [hPre_finite_u : Cert.Pre_finite_u.Facts] (m : (ℓ : Loc Cert.KernelIdeal.nD Cert.KernelIdeal.τ Cert.KernelIdeal.sig) → Buf (Elt Ideal) ℓ) : Prop :=
  ∀ c : Dev Cert.KernelIdeal.nD,
    (Cert.Pre_finite_u.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_u [hPre_finite_u : Cert.Pre_finite_u.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_u.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_KernelU (m : (ℓ : Loc Cert.KernelU.nD Cert.KernelU.τ Cert.KernelU.sig) → Buf (Elt Bits) ℓ) : Prop :=
  True

def Pre_KernelUIdeal (m : (ℓ : Loc Cert.KernelUIdeal.nD Cert.KernelUIdeal.τ Cert.KernelUIdeal.sig) → Buf (Elt Ideal) ℓ) : Prop :=
  True

def Pre_ReferenceUIdeal (m : (ℓ : Loc Cert.ReferenceUIdeal.nD Cert.ReferenceUIdeal.τ Cert.ReferenceUIdeal.sig) → Buf (Elt Ideal) ℓ) : Prop :=
  True

def Pre_KernelSilu (m : (ℓ : Loc Cert.KernelSilu.nD Cert.KernelSilu.τ Cert.KernelSilu.sig) → Buf (Elt Bits) ℓ) : Prop :=
  True

def Pre_KernelSiluIdeal (m : (ℓ : Loc Cert.KernelSiluIdeal.nD Cert.KernelSiluIdeal.τ Cert.KernelSiluIdeal.sig) → Buf (Elt Ideal) ℓ) : Prop :=
  True

def Pre_ReferenceSiluIdeal (m : (ℓ : Loc Cert.ReferenceSiluIdeal.nD Cert.ReferenceSiluIdeal.τ Cert.ReferenceSiluIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelSig (m : (ℓ : Loc Cert.KernelSig.nD Cert.KernelSig.τ Cert.KernelSig.sig) → Buf (Elt Bits) ℓ) : Prop :=
  True

def Pre_KernelSigIdeal (m : (ℓ : Loc Cert.KernelSigIdeal.nD Cert.KernelSigIdeal.τ Cert.KernelSigIdeal.sig) → Buf (Elt Ideal) ℓ) : Prop :=
  True

def Pre_ReferenceSigIdeal (m : (ℓ : Loc Cert.ReferenceSigIdeal.nD Cert.ReferenceSigIdeal.τ Cert.ReferenceSigIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelScmp (m : (ℓ : Loc Cert.KernelScmp.nD Cert.KernelScmp.τ Cert.KernelScmp.sig) → Buf (Elt Bits) ℓ) : Prop :=
  True

def Pre_KernelScmpIdeal (m : (ℓ : Loc Cert.KernelScmpIdeal.nD Cert.KernelScmpIdeal.τ Cert.KernelScmpIdeal.sig) → Buf (Elt Ideal) ℓ) : Prop :=
  True

def Pre_ReferenceScmpIdeal (m : (ℓ : Loc Cert.ReferenceScmpIdeal.nD Cert.ReferenceScmpIdeal.τ Cert.ReferenceScmpIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_u [hKernelIdeal : Cert.KernelIdeal.Facts] [hPre_finite_u : Cert.Pre_finite_u.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_u m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_u [hReferenceIdeal : Cert.ReferenceIdeal.Facts] [hPre_finite_u : Cert.Pre_finite_u.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_u m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_KernelU [hKernelU : Cert.KernelU.Facts] : Prop :=
  ∀ (m : (ℓ : Loc Cert.KernelU.nD Cert.KernelU.τ Cert.KernelU.sig) → Buf (Elt Bits) ℓ) (g : Dev Cert.KernelU.nD → PrngReg), Pre_KernelU m →
    θ_run (Cert.KernelU.defs (F := Bits)) (onTc (τ := Cert.KernelU.τ) (Cert.KernelU.main (F := Bits))) ⟨m, fun _ => 0, g⟩ (fun r => (∀ c : Dev Cert.KernelU.nD,
      r.2.mem ((c.tc : Thread Cert.KernelU.nD Cert.KernelU.τ).loc Cert.KernelU.main_arg0) = m ((c.tc : Thread Cert.KernelU.nD Cert.KernelU.τ).loc Cert.KernelU.main_arg0)
      ∧ r.2.mem ((c.tc : Thread Cert.KernelU.nD Cert.KernelU.τ).loc Cert.KernelU.main_arg1) = m ((c.tc : Thread Cert.KernelU.nD Cert.KernelU.τ).loc Cert.KernelU.main_arg1)
      ∧ r.2.mem ((c.tc : Thread Cert.KernelU.nD Cert.KernelU.τ).loc Cert.KernelU.main_arg2) = m ((c.tc : Thread Cert.KernelU.nD Cert.KernelU.τ).loc Cert.KernelU.main_arg2))
      ∧ r.2.sem = fun _ => 0)

def quiescent_KernelUIdeal [hKernelUIdeal : Cert.KernelUIdeal.Facts] : Prop :=
  ∀ (m : (ℓ : Loc Cert.KernelUIdeal.nD Cert.KernelUIdeal.τ Cert.KernelUIdeal.sig) → Buf (Elt Ideal) ℓ) (g : Dev Cert.KernelUIdeal.nD → PrngReg), Pre_KernelUIdeal m →
    θ_run (Cert.KernelUIdeal.defs (F := Ideal)) (onTc (τ := Cert.KernelUIdeal.τ) (Cert.KernelUIdeal.main (F := Ideal))) ⟨m, fun _ => 0, g⟩ (fun r => (∀ c : Dev Cert.KernelUIdeal.nD,
      r.2.mem ((c.tc : Thread Cert.KernelUIdeal.nD Cert.KernelUIdeal.τ).loc Cert.KernelUIdeal.main_arg0) = m ((c.tc : Thread Cert.KernelUIdeal.nD Cert.KernelUIdeal.τ).loc Cert.KernelUIdeal.main_arg0)
      ∧ r.2.mem ((c.tc : Thread Cert.KernelUIdeal.nD Cert.KernelUIdeal.τ).loc Cert.KernelUIdeal.main_arg1) = m ((c.tc : Thread Cert.KernelUIdeal.nD Cert.KernelUIdeal.τ).loc Cert.KernelUIdeal.main_arg1)
      ∧ r.2.mem ((c.tc : Thread Cert.KernelUIdeal.nD Cert.KernelUIdeal.τ).loc Cert.KernelUIdeal.main_arg2) = m ((c.tc : Thread Cert.KernelUIdeal.nD Cert.KernelUIdeal.τ).loc Cert.KernelUIdeal.main_arg2))
      ∧ r.2.sem = fun _ => 0)

def quiescent_ReferenceUIdeal [hReferenceUIdeal : Cert.ReferenceUIdeal.Facts] : Prop :=
  ∀ (m : (ℓ : Loc Cert.ReferenceUIdeal.nD Cert.ReferenceUIdeal.τ Cert.ReferenceUIdeal.sig) → Buf (Elt Ideal) ℓ) (g : Dev Cert.ReferenceUIdeal.nD → PrngReg), Pre_ReferenceUIdeal m →
    θ_run (Cert.ReferenceUIdeal.defs (F := Ideal)) (onTc (τ := Cert.ReferenceUIdeal.τ) (Cert.ReferenceUIdeal.main (F := Ideal))) ⟨m, fun _ => 0, g⟩ (fun r => (∀ c : Dev Cert.ReferenceUIdeal.nD,
      r.2.mem ((c.tc : Thread Cert.ReferenceUIdeal.nD Cert.ReferenceUIdeal.τ).loc Cert.ReferenceUIdeal.main_arg0) = m ((c.tc : Thread Cert.ReferenceUIdeal.nD Cert.ReferenceUIdeal.τ).loc Cert.ReferenceUIdeal.main_arg0)
      ∧ r.2.mem ((c.tc : Thread Cert.ReferenceUIdeal.nD Cert.ReferenceUIdeal.τ).loc Cert.ReferenceUIdeal.main_arg1) = m ((c.tc : Thread Cert.ReferenceUIdeal.nD Cert.ReferenceUIdeal.τ).loc Cert.ReferenceUIdeal.main_arg1)
      ∧ r.2.mem ((c.tc : Thread Cert.ReferenceUIdeal.nD Cert.ReferenceUIdeal.τ).loc Cert.ReferenceUIdeal.main_arg2) = m ((c.tc : Thread Cert.ReferenceUIdeal.nD Cert.ReferenceUIdeal.τ).loc Cert.ReferenceUIdeal.main_arg2))
      ∧ r.2.sem = fun _ => 0)

def quiescent_KernelSilu [hKernelSilu : Cert.KernelSilu.Facts] : Prop :=
  ∀ (m : (ℓ : Loc Cert.KernelSilu.nD Cert.KernelSilu.τ Cert.KernelSilu.sig) → Buf (Elt Bits) ℓ) (g : Dev Cert.KernelSilu.nD → PrngReg), Pre_KernelSilu m →
    θ_run (Cert.KernelSilu.defs (F := Bits)) (onTc (τ := Cert.KernelSilu.τ) (Cert.KernelSilu.main (F := Bits))) ⟨m, fun _ => 0, g⟩ (fun r => (∀ c : Dev Cert.KernelSilu.nD,
      r.2.mem ((c.tc : Thread Cert.KernelSilu.nD Cert.KernelSilu.τ).loc Cert.KernelSilu.main_arg0) = m ((c.tc : Thread Cert.KernelSilu.nD Cert.KernelSilu.τ).loc Cert.KernelSilu.main_arg0)
      ∧ r.2.mem ((c.tc : Thread Cert.KernelSilu.nD Cert.KernelSilu.τ).loc Cert.KernelSilu.main_arg1) = m ((c.tc : Thread Cert.KernelSilu.nD Cert.KernelSilu.τ).loc Cert.KernelSilu.main_arg1)
      ∧ r.2.mem ((c.tc : Thread Cert.KernelSilu.nD Cert.KernelSilu.τ).loc Cert.KernelSilu.main_arg2) = m ((c.tc : Thread Cert.KernelSilu.nD Cert.KernelSilu.τ).loc Cert.KernelSilu.main_arg2))
      ∧ r.2.sem = fun _ => 0)

def quiescent_KernelSiluIdeal [hKernelSiluIdeal : Cert.KernelSiluIdeal.Facts] : Prop :=
  ∀ (m : (ℓ : Loc Cert.KernelSiluIdeal.nD Cert.KernelSiluIdeal.τ Cert.KernelSiluIdeal.sig) → Buf (Elt Ideal) ℓ) (g : Dev Cert.KernelSiluIdeal.nD → PrngReg), Pre_KernelSiluIdeal m →
    θ_run (Cert.KernelSiluIdeal.defs (F := Ideal)) (onTc (τ := Cert.KernelSiluIdeal.τ) (Cert.KernelSiluIdeal.main (F := Ideal))) ⟨m, fun _ => 0, g⟩ (fun r => (∀ c : Dev Cert.KernelSiluIdeal.nD,
      r.2.mem ((c.tc : Thread Cert.KernelSiluIdeal.nD Cert.KernelSiluIdeal.τ).loc Cert.KernelSiluIdeal.main_arg0) = m ((c.tc : Thread Cert.KernelSiluIdeal.nD Cert.KernelSiluIdeal.τ).loc Cert.KernelSiluIdeal.main_arg0)
      ∧ r.2.mem ((c.tc : Thread Cert.KernelSiluIdeal.nD Cert.KernelSiluIdeal.τ).loc Cert.KernelSiluIdeal.main_arg1) = m ((c.tc : Thread Cert.KernelSiluIdeal.nD Cert.KernelSiluIdeal.τ).loc Cert.KernelSiluIdeal.main_arg1)
      ∧ r.2.mem ((c.tc : Thread Cert.KernelSiluIdeal.nD Cert.KernelSiluIdeal.τ).loc Cert.KernelSiluIdeal.main_arg2) = m ((c.tc : Thread Cert.KernelSiluIdeal.nD Cert.KernelSiluIdeal.τ).loc Cert.KernelSiluIdeal.main_arg2))
      ∧ r.2.sem = fun _ => 0)

def quiescent_ReferenceSiluIdeal [hReferenceSiluIdeal : Cert.ReferenceSiluIdeal.Facts] : Prop :=
  ∀ (m : (ℓ : Loc Cert.ReferenceSiluIdeal.nD Cert.ReferenceSiluIdeal.τ Cert.ReferenceSiluIdeal.sig) → Buf (Elt Ideal) ℓ) (g : Dev Cert.ReferenceSiluIdeal.nD → PrngReg), Pre_ReferenceSiluIdeal m →
    θ_run (Cert.ReferenceSiluIdeal.defs (F := Ideal)) (onTc (τ := Cert.ReferenceSiluIdeal.τ) (Cert.ReferenceSiluIdeal.main (F := Ideal))) ⟨m, fun _ => 0, g⟩ (fun r => (∀ c : Dev Cert.ReferenceSiluIdeal.nD,
      r.2.mem ((c.tc : Thread Cert.ReferenceSiluIdeal.nD Cert.ReferenceSiluIdeal.τ).loc Cert.ReferenceSiluIdeal.main_arg0) = m ((c.tc : Thread Cert.ReferenceSiluIdeal.nD Cert.ReferenceSiluIdeal.τ).loc Cert.ReferenceSiluIdeal.main_arg0)
      ∧ r.2.mem ((c.tc : Thread Cert.ReferenceSiluIdeal.nD Cert.ReferenceSiluIdeal.τ).loc Cert.ReferenceSiluIdeal.main_arg1) = m ((c.tc : Thread Cert.ReferenceSiluIdeal.nD Cert.ReferenceSiluIdeal.τ).loc Cert.ReferenceSiluIdeal.main_arg1)
      ∧ r.2.mem ((c.tc : Thread Cert.ReferenceSiluIdeal.nD Cert.ReferenceSiluIdeal.τ).loc Cert.ReferenceSiluIdeal.main_arg2) = m ((c.tc : Thread Cert.ReferenceSiluIdeal.nD Cert.ReferenceSiluIdeal.τ).loc Cert.ReferenceSiluIdeal.main_arg2))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1)
      ∧ r.2.mem ((c.tc : Thread Cert.KernelQ.nD Cert.KernelQ.τ).loc Cert.KernelQ.main_arg2) = m ((c.tc : Thread Cert.KernelQ.nD Cert.KernelQ.τ).loc Cert.KernelQ.main_arg2))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1)
      ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2))
      ∧ r.2.sem = fun _ => 0)

def quiescent_KernelSig [hKernelSig : Cert.KernelSig.Facts] : Prop :=
  ∀ (m : (ℓ : Loc Cert.KernelSig.nD Cert.KernelSig.τ Cert.KernelSig.sig) → Buf (Elt Bits) ℓ) (g : Dev Cert.KernelSig.nD → PrngReg), Pre_KernelSig m →
    θ_run (Cert.KernelSig.defs (F := Bits)) (onTc (τ := Cert.KernelSig.τ) (Cert.KernelSig.main (F := Bits))) ⟨m, fun _ => 0, g⟩ (fun r => (∀ c : Dev Cert.KernelSig.nD,
      r.2.mem ((c.tc : Thread Cert.KernelSig.nD Cert.KernelSig.τ).loc Cert.KernelSig.main_arg0) = m ((c.tc : Thread Cert.KernelSig.nD Cert.KernelSig.τ).loc Cert.KernelSig.main_arg0)
      ∧ r.2.mem ((c.tc : Thread Cert.KernelSig.nD Cert.KernelSig.τ).loc Cert.KernelSig.main_arg1) = m ((c.tc : Thread Cert.KernelSig.nD Cert.KernelSig.τ).loc Cert.KernelSig.main_arg1)
      ∧ r.2.mem ((c.tc : Thread Cert.KernelSig.nD Cert.KernelSig.τ).loc Cert.KernelSig.main_arg2) = m ((c.tc : Thread Cert.KernelSig.nD Cert.KernelSig.τ).loc Cert.KernelSig.main_arg2))
      ∧ r.2.sem = fun _ => 0)

def quiescent_KernelSigIdeal [hKernelSigIdeal : Cert.KernelSigIdeal.Facts] : Prop :=
  ∀ (m : (ℓ : Loc Cert.KernelSigIdeal.nD Cert.KernelSigIdeal.τ Cert.KernelSigIdeal.sig) → Buf (Elt Ideal) ℓ) (g : Dev Cert.KernelSigIdeal.nD → PrngReg), Pre_KernelSigIdeal m →
    θ_run (Cert.KernelSigIdeal.defs (F := Ideal)) (onTc (τ := Cert.KernelSigIdeal.τ) (Cert.KernelSigIdeal.main (F := Ideal))) ⟨m, fun _ => 0, g⟩ (fun r => (∀ c : Dev Cert.KernelSigIdeal.nD,
      r.2.mem ((c.tc : Thread Cert.KernelSigIdeal.nD Cert.KernelSigIdeal.τ).loc Cert.KernelSigIdeal.main_arg0) = m ((c.tc : Thread Cert.KernelSigIdeal.nD Cert.KernelSigIdeal.τ).loc Cert.KernelSigIdeal.main_arg0)
      ∧ r.2.mem ((c.tc : Thread Cert.KernelSigIdeal.nD Cert.KernelSigIdeal.τ).loc Cert.KernelSigIdeal.main_arg1) = m ((c.tc : Thread Cert.KernelSigIdeal.nD Cert.KernelSigIdeal.τ).loc Cert.KernelSigIdeal.main_arg1)
      ∧ r.2.mem ((c.tc : Thread Cert.KernelSigIdeal.nD Cert.KernelSigIdeal.τ).loc Cert.KernelSigIdeal.main_arg2) = m ((c.tc : Thread Cert.KernelSigIdeal.nD Cert.KernelSigIdeal.τ).loc Cert.KernelSigIdeal.main_arg2))
      ∧ r.2.sem = fun _ => 0)

def quiescent_ReferenceSigIdeal [hReferenceSigIdeal : Cert.ReferenceSigIdeal.Facts] : Prop :=
  ∀ (m : (ℓ : Loc Cert.ReferenceSigIdeal.nD Cert.ReferenceSigIdeal.τ Cert.ReferenceSigIdeal.sig) → Buf (Elt Ideal) ℓ) (g : Dev Cert.ReferenceSigIdeal.nD → PrngReg), Pre_ReferenceSigIdeal m →
    θ_run (Cert.ReferenceSigIdeal.defs (F := Ideal)) (onTc (τ := Cert.ReferenceSigIdeal.τ) (Cert.ReferenceSigIdeal.main (F := Ideal))) ⟨m, fun _ => 0, g⟩ (fun r => (∀ c : Dev Cert.ReferenceSigIdeal.nD,
      r.2.mem ((c.tc : Thread Cert.ReferenceSigIdeal.nD Cert.ReferenceSigIdeal.τ).loc Cert.ReferenceSigIdeal.main_arg0) = m ((c.tc : Thread Cert.ReferenceSigIdeal.nD Cert.ReferenceSigIdeal.τ).loc Cert.ReferenceSigIdeal.main_arg0)
      ∧ r.2.mem ((c.tc : Thread Cert.ReferenceSigIdeal.nD Cert.ReferenceSigIdeal.τ).loc Cert.ReferenceSigIdeal.main_arg1) = m ((c.tc : Thread Cert.ReferenceSigIdeal.nD Cert.ReferenceSigIdeal.τ).loc Cert.ReferenceSigIdeal.main_arg1)
      ∧ r.2.mem ((c.tc : Thread Cert.ReferenceSigIdeal.nD Cert.ReferenceSigIdeal.τ).loc Cert.ReferenceSigIdeal.main_arg2) = m ((c.tc : Thread Cert.ReferenceSigIdeal.nD Cert.ReferenceSigIdeal.τ).loc Cert.ReferenceSigIdeal.main_arg2))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2))
      ∧ r.2.sem = fun _ => 0)

def quiescent_KernelScmp [hKernelScmp : Cert.KernelScmp.Facts] : Prop :=
  ∀ (m : (ℓ : Loc Cert.KernelScmp.nD Cert.KernelScmp.τ Cert.KernelScmp.sig) → Buf (Elt Bits) ℓ) (g : Dev Cert.KernelScmp.nD → PrngReg), Pre_KernelScmp m →
    θ_run (Cert.KernelScmp.defs (F := Bits)) (onTc (τ := Cert.KernelScmp.τ) (Cert.KernelScmp.main (F := Bits))) ⟨m, fun _ => 0, g⟩ (fun r => (∀ c : Dev Cert.KernelScmp.nD,
      r.2.mem ((c.tc : Thread Cert.KernelScmp.nD Cert.KernelScmp.τ).loc Cert.KernelScmp.main_arg0) = m ((c.tc : Thread Cert.KernelScmp.nD Cert.KernelScmp.τ).loc Cert.KernelScmp.main_arg0)
      ∧ r.2.mem ((c.tc : Thread Cert.KernelScmp.nD Cert.KernelScmp.τ).loc Cert.KernelScmp.main_arg1) = m ((c.tc : Thread Cert.KernelScmp.nD Cert.KernelScmp.τ).loc Cert.KernelScmp.main_arg1)
      ∧ r.2.mem ((c.tc : Thread Cert.KernelScmp.nD Cert.KernelScmp.τ).loc Cert.KernelScmp.main_arg2) = m ((c.tc : Thread Cert.KernelScmp.nD Cert.KernelScmp.τ).loc Cert.KernelScmp.main_arg2))
      ∧ r.2.sem = fun _ => 0)

def quiescent_KernelScmpIdeal [hKernelScmpIdeal : Cert.KernelScmpIdeal.Facts] : Prop :=
  ∀ (m : (ℓ : Loc Cert.KernelScmpIdeal.nD Cert.KernelScmpIdeal.τ Cert.KernelScmpIdeal.sig) → Buf (Elt Ideal) ℓ) (g : Dev Cert.KernelScmpIdeal.nD → PrngReg), Pre_KernelScmpIdeal m →
    θ_run (Cert.KernelScmpIdeal.defs (F := Ideal)) (onTc (τ := Cert.KernelScmpIdeal.τ) (Cert.KernelScmpIdeal.main (F := Ideal))) ⟨m, fun _ => 0, g⟩ (fun r => (∀ c : Dev Cert.KernelScmpIdeal.nD,
      r.2.mem ((c.tc : Thread Cert.KernelScmpIdeal.nD Cert.KernelScmpIdeal.τ).loc Cert.KernelScmpIdeal.main_arg0) = m ((c.tc : Thread Cert.KernelScmpIdeal.nD Cert.KernelScmpIdeal.τ).loc Cert.KernelScmpIdeal.main_arg0)
      ∧ r.2.mem ((c.tc : Thread Cert.KernelScmpIdeal.nD Cert.KernelScmpIdeal.τ).loc Cert.KernelScmpIdeal.main_arg1) = m ((c.tc : Thread Cert.KernelScmpIdeal.nD Cert.KernelScmpIdeal.τ).loc Cert.KernelScmpIdeal.main_arg1)
      ∧ r.2.mem ((c.tc : Thread Cert.KernelScmpIdeal.nD Cert.KernelScmpIdeal.τ).loc Cert.KernelScmpIdeal.main_arg2) = m ((c.tc : Thread Cert.KernelScmpIdeal.nD Cert.KernelScmpIdeal.τ).loc Cert.KernelScmpIdeal.main_arg2))
      ∧ r.2.sem = fun _ => 0)

def quiescent_ReferenceScmpIdeal [hReferenceScmpIdeal : Cert.ReferenceScmpIdeal.Facts] : Prop :=
  ∀ (m : (ℓ : Loc Cert.ReferenceScmpIdeal.nD Cert.ReferenceScmpIdeal.τ Cert.ReferenceScmpIdeal.sig) → Buf (Elt Ideal) ℓ) (g : Dev Cert.ReferenceScmpIdeal.nD → PrngReg), Pre_ReferenceScmpIdeal m →
    θ_run (Cert.ReferenceScmpIdeal.defs (F := Ideal)) (onTc (τ := Cert.ReferenceScmpIdeal.τ) (Cert.ReferenceScmpIdeal.main (F := Ideal))) ⟨m, fun _ => 0, g⟩ (fun r => (∀ c : Dev Cert.ReferenceScmpIdeal.nD,
      r.2.mem ((c.tc : Thread Cert.ReferenceScmpIdeal.nD Cert.ReferenceScmpIdeal.τ).loc Cert.ReferenceScmpIdeal.main_arg0) = m ((c.tc : Thread Cert.ReferenceScmpIdeal.nD Cert.ReferenceScmpIdeal.τ).loc Cert.ReferenceScmpIdeal.main_arg0)
      ∧ r.2.mem ((c.tc : Thread Cert.ReferenceScmpIdeal.nD Cert.ReferenceScmpIdeal.τ).loc Cert.ReferenceScmpIdeal.main_arg1) = m ((c.tc : Thread Cert.ReferenceScmpIdeal.nD Cert.ReferenceScmpIdeal.τ).loc Cert.ReferenceScmpIdeal.main_arg1)
      ∧ r.2.mem ((c.tc : Thread Cert.ReferenceScmpIdeal.nD Cert.ReferenceScmpIdeal.τ).loc Cert.ReferenceScmpIdeal.main_arg2) = m ((c.tc : Thread Cert.ReferenceScmpIdeal.nD Cert.ReferenceScmpIdeal.τ).loc Cert.ReferenceScmpIdeal.main_arg2))
      ∧ r.2.sem = fun _ => 0)

def preserves_Kernel_KernelIdeal : Prop :=
  True

def algebraic_KernelIdeal_ReferenceIdeal_pre_finite_u [hKernelIdeal : Cert.KernelIdeal.Facts] [hReferenceIdeal : Cert.ReferenceIdeal.Facts] [hPre_finite_u : Cert.Pre_finite_u.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_u m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_KernelU_KernelUIdeal : Prop :=
  True

def algebraic_KernelUIdeal_ReferenceUIdeal [hKernelUIdeal : Cert.KernelUIdeal.Facts] [hReferenceUIdeal : Cert.ReferenceUIdeal.Facts] : Prop :=
  ∀ (m : (ℓ : Loc Cert.KernelUIdeal.nD Cert.KernelUIdeal.τ Cert.KernelUIdeal.sig) → Buf (Elt Ideal) ℓ) (g : Dev Cert.KernelUIdeal.nD → PrngReg)
    (m' : (ℓ : Loc Cert.ReferenceUIdeal.nD Cert.ReferenceUIdeal.τ Cert.ReferenceUIdeal.sig) → Buf (Elt Ideal) ℓ) (g' : Dev Cert.ReferenceUIdeal.nD → PrngReg), Pre_KernelUIdeal m →
    (∀ c : Dev Cert.KernelUIdeal.nD,
      m' ((c.tc : Thread Cert.ReferenceUIdeal.nD Cert.ReferenceUIdeal.τ).loc Cert.ReferenceUIdeal.main_arg0) = m ((c.tc : Thread Cert.KernelUIdeal.nD Cert.KernelUIdeal.τ).loc Cert.KernelUIdeal.main_arg0)
      ∧ m' ((c.tc : Thread Cert.ReferenceUIdeal.nD Cert.ReferenceUIdeal.τ).loc Cert.ReferenceUIdeal.main_arg1) = m ((c.tc : Thread Cert.KernelUIdeal.nD Cert.KernelUIdeal.τ).loc Cert.KernelUIdeal.main_arg1)
      ∧ m' ((c.tc : Thread Cert.ReferenceUIdeal.nD Cert.ReferenceUIdeal.τ).loc Cert.ReferenceUIdeal.main_arg2) = m ((c.tc : Thread Cert.KernelUIdeal.nD Cert.KernelUIdeal.τ).loc Cert.KernelUIdeal.main_arg2)) →
    ∃ (v0 : (c : Dev Cert.KernelUIdeal.nD) → Buf (Elt Ideal) ((c.tc : Thread Cert.KernelUIdeal.nD Cert.KernelUIdeal.τ).loc Cert.KernelUIdeal.main_v6)),
      θ_run (Cert.KernelUIdeal.defs (F := Ideal)) (onTc (τ := Cert.KernelUIdeal.τ) (Cert.KernelUIdeal.main (F := Ideal))) ⟨m, fun _ => 0, g⟩ (fun r => ∀ c : Dev Cert.KernelUIdeal.nD,
          r.2.mem ((c.tc : Thread Cert.KernelUIdeal.nD Cert.KernelUIdeal.τ).loc Cert.KernelUIdeal.main_v6) = v0 c
          ∧ r.2.mem ((c.tc : Thread Cert.KernelUIdeal.nD Cert.KernelUIdeal.τ).loc Cert.KernelUIdeal.main_arg0) = m ((c.tc : Thread Cert.KernelUIdeal.nD Cert.KernelUIdeal.τ).loc Cert.KernelUIdeal.main_arg0)
          ∧ r.2.mem ((c.tc : Thread Cert.KernelUIdeal.nD Cert.KernelUIdeal.τ).loc Cert.KernelUIdeal.main_arg1) = m ((c.tc : Thread Cert.KernelUIdeal.nD Cert.KernelUIdeal.τ).loc Cert.KernelUIdeal.main_arg1)
          ∧ r.2.mem ((c.tc : Thread Cert.KernelUIdeal.nD Cert.KernelUIdeal.τ).loc Cert.KernelUIdeal.main_arg2) = m ((c.tc : Thread Cert.KernelUIdeal.nD Cert.KernelUIdeal.τ).loc Cert.KernelUIdeal.main_arg2))
      ∧ θ_run (Cert.ReferenceUIdeal.defs (F := Ideal)) (onTc (τ := Cert.ReferenceUIdeal.τ) (Cert.ReferenceUIdeal.main (F := Ideal))) ⟨m', fun _ => 0, g'⟩ (fun r => ∀ c : Dev Cert.ReferenceUIdeal.nD,
          r.2.mem ((c.tc : Thread Cert.ReferenceUIdeal.nD Cert.ReferenceUIdeal.τ).loc Cert.ReferenceUIdeal.main_v4) = v0 c
          ∧ r.2.mem ((c.tc : Thread Cert.ReferenceUIdeal.nD Cert.ReferenceUIdeal.τ).loc Cert.ReferenceUIdeal.main_arg0) = m' ((c.tc : Thread Cert.ReferenceUIdeal.nD Cert.ReferenceUIdeal.τ).loc Cert.ReferenceUIdeal.main_arg0)
          ∧ r.2.mem ((c.tc : Thread Cert.ReferenceUIdeal.nD Cert.ReferenceUIdeal.τ).loc Cert.ReferenceUIdeal.main_arg1) = m' ((c.tc : Thread Cert.ReferenceUIdeal.nD Cert.ReferenceUIdeal.τ).loc Cert.ReferenceUIdeal.main_arg1)
          ∧ r.2.mem ((c.tc : Thread Cert.ReferenceUIdeal.nD Cert.ReferenceUIdeal.τ).loc Cert.ReferenceUIdeal.main_arg2) = m' ((c.tc : Thread Cert.ReferenceUIdeal.nD Cert.ReferenceUIdeal.τ).loc Cert.ReferenceUIdeal.main_arg2))

def preserves_KernelSilu_KernelSiluIdeal : Prop :=
  True

def algebraic_KernelSiluIdeal_ReferenceSiluIdeal [hKernelSiluIdeal : Cert.KernelSiluIdeal.Facts] [hReferenceSiluIdeal : Cert.ReferenceSiluIdeal.Facts] : Prop :=
  ∀ (m : (ℓ : Loc Cert.KernelSiluIdeal.nD Cert.KernelSiluIdeal.τ Cert.KernelSiluIdeal.sig) → Buf (Elt Ideal) ℓ) (g : Dev Cert.KernelSiluIdeal.nD → PrngReg)
    (m' : (ℓ : Loc Cert.ReferenceSiluIdeal.nD Cert.ReferenceSiluIdeal.τ Cert.ReferenceSiluIdeal.sig) → Buf (Elt Ideal) ℓ) (g' : Dev Cert.ReferenceSiluIdeal.nD → PrngReg), Pre_KernelSiluIdeal m →
    (∀ c : Dev Cert.KernelSiluIdeal.nD,
      m' ((c.tc : Thread Cert.ReferenceSiluIdeal.nD Cert.ReferenceSiluIdeal.τ).loc Cert.ReferenceSiluIdeal.main_arg0) = m ((c.tc : Thread Cert.KernelSiluIdeal.nD Cert.KernelSiluIdeal.τ).loc Cert.KernelSiluIdeal.main_arg0)
      ∧ m' ((c.tc : Thread Cert.ReferenceSiluIdeal.nD Cert.ReferenceSiluIdeal.τ).loc Cert.ReferenceSiluIdeal.main_arg1) = m ((c.tc : Thread Cert.KernelSiluIdeal.nD Cert.KernelSiluIdeal.τ).loc Cert.KernelSiluIdeal.main_arg1)
      ∧ m' ((c.tc : Thread Cert.ReferenceSiluIdeal.nD Cert.ReferenceSiluIdeal.τ).loc Cert.ReferenceSiluIdeal.main_arg2) = m ((c.tc : Thread Cert.KernelSiluIdeal.nD Cert.KernelSiluIdeal.τ).loc Cert.KernelSiluIdeal.main_arg2)) →
    ∃ (v0 : (c : Dev Cert.KernelSiluIdeal.nD) → Buf (Elt Ideal) ((c.tc : Thread Cert.KernelSiluIdeal.nD Cert.KernelSiluIdeal.τ).loc Cert.KernelSiluIdeal.main_v8)),
      θ_run (Cert.KernelSiluIdeal.defs (F := Ideal)) (onTc (τ := Cert.KernelSiluIdeal.τ) (Cert.KernelSiluIdeal.main (F := Ideal))) ⟨m, fun _ => 0, g⟩ (fun r => ∀ c : Dev Cert.KernelSiluIdeal.nD,
          r.2.mem ((c.tc : Thread Cert.KernelSiluIdeal.nD Cert.KernelSiluIdeal.τ).loc Cert.KernelSiluIdeal.main_v8) = v0 c
          ∧ r.2.mem ((c.tc : Thread Cert.KernelSiluIdeal.nD Cert.KernelSiluIdeal.τ).loc Cert.KernelSiluIdeal.main_arg0) = m ((c.tc : Thread Cert.KernelSiluIdeal.nD Cert.KernelSiluIdeal.τ).loc Cert.KernelSiluIdeal.main_arg0)
          ∧ r.2.mem ((c.tc : Thread Cert.KernelSiluIdeal.nD Cert.KernelSiluIdeal.τ).loc Cert.KernelSiluIdeal.main_arg1) = m ((c.tc : Thread Cert.KernelSiluIdeal.nD Cert.KernelSiluIdeal.τ).loc Cert.KernelSiluIdeal.main_arg1)
          ∧ r.2.mem ((c.tc : Thread Cert.KernelSiluIdeal.nD Cert.KernelSiluIdeal.τ).loc Cert.KernelSiluIdeal.main_arg2) = m ((c.tc : Thread Cert.KernelSiluIdeal.nD Cert.KernelSiluIdeal.τ).loc Cert.KernelSiluIdeal.main_arg2))
      ∧ θ_run (Cert.ReferenceSiluIdeal.defs (F := Ideal)) (onTc (τ := Cert.ReferenceSiluIdeal.τ) (Cert.ReferenceSiluIdeal.main (F := Ideal))) ⟨m', fun _ => 0, g'⟩ (fun r => ∀ c : Dev Cert.ReferenceSiluIdeal.nD,
          r.2.mem ((c.tc : Thread Cert.ReferenceSiluIdeal.nD Cert.ReferenceSiluIdeal.τ).loc Cert.ReferenceSiluIdeal.main_v9) = v0 c
          ∧ r.2.mem ((c.tc : Thread Cert.ReferenceSiluIdeal.nD Cert.ReferenceSiluIdeal.τ).loc Cert.ReferenceSiluIdeal.main_arg0) = m' ((c.tc : Thread Cert.ReferenceSiluIdeal.nD Cert.ReferenceSiluIdeal.τ).loc Cert.ReferenceSiluIdeal.main_arg0)
          ∧ r.2.mem ((c.tc : Thread Cert.ReferenceSiluIdeal.nD Cert.ReferenceSiluIdeal.τ).loc Cert.ReferenceSiluIdeal.main_arg1) = m' ((c.tc : Thread Cert.ReferenceSiluIdeal.nD Cert.ReferenceSiluIdeal.τ).loc Cert.ReferenceSiluIdeal.main_arg1)
          ∧ r.2.mem ((c.tc : Thread Cert.ReferenceSiluIdeal.nD Cert.ReferenceSiluIdeal.τ).loc Cert.ReferenceSiluIdeal.main_arg2) = m' ((c.tc : Thread Cert.ReferenceSiluIdeal.nD Cert.ReferenceSiluIdeal.τ).loc Cert.ReferenceSiluIdeal.main_arg2))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)
      ∧ m' ((c.tc : Thread Cert.ReferenceQIdeal.nD Cert.ReferenceQIdeal.τ).loc Cert.ReferenceQIdeal.main_arg2) = m ((c.tc : Thread Cert.KernelQIdeal.nD Cert.KernelQIdeal.τ).loc Cert.KernelQIdeal.main_arg2)) →
    ∃ (v0 : (c : Dev Cert.KernelQIdeal.nD) → Buf (Elt Ideal) ((c.tc : Thread Cert.KernelQIdeal.nD Cert.KernelQIdeal.τ).loc Cert.KernelQIdeal.main_v6)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v6) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
          ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v7) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1)
          ∧ r.2.mem ((c.tc : Thread Cert.ReferenceQIdeal.nD Cert.ReferenceQIdeal.τ).loc Cert.ReferenceQIdeal.main_arg2) = m' ((c.tc : Thread Cert.ReferenceQIdeal.nD Cert.ReferenceQIdeal.τ).loc Cert.ReferenceQIdeal.main_arg2))

def preserves_KernelSig_KernelSigIdeal : Prop :=
  True

def algebraic_KernelSigIdeal_ReferenceSigIdeal [hKernelSigIdeal : Cert.KernelSigIdeal.Facts] [hReferenceSigIdeal : Cert.ReferenceSigIdeal.Facts] : Prop :=
  ∀ (m : (ℓ : Loc Cert.KernelSigIdeal.nD Cert.KernelSigIdeal.τ Cert.KernelSigIdeal.sig) → Buf (Elt Ideal) ℓ) (g : Dev Cert.KernelSigIdeal.nD → PrngReg)
    (m' : (ℓ : Loc Cert.ReferenceSigIdeal.nD Cert.ReferenceSigIdeal.τ Cert.ReferenceSigIdeal.sig) → Buf (Elt Ideal) ℓ) (g' : Dev Cert.ReferenceSigIdeal.nD → PrngReg), Pre_KernelSigIdeal m →
    (∀ c : Dev Cert.KernelSigIdeal.nD,
      m' ((c.tc : Thread Cert.ReferenceSigIdeal.nD Cert.ReferenceSigIdeal.τ).loc Cert.ReferenceSigIdeal.main_arg0) = m ((c.tc : Thread Cert.KernelSigIdeal.nD Cert.KernelSigIdeal.τ).loc Cert.KernelSigIdeal.main_arg0)
      ∧ m' ((c.tc : Thread Cert.ReferenceSigIdeal.nD Cert.ReferenceSigIdeal.τ).loc Cert.ReferenceSigIdeal.main_arg1) = m ((c.tc : Thread Cert.KernelSigIdeal.nD Cert.KernelSigIdeal.τ).loc Cert.KernelSigIdeal.main_arg1)
      ∧ m' ((c.tc : Thread Cert.ReferenceSigIdeal.nD Cert.ReferenceSigIdeal.τ).loc Cert.ReferenceSigIdeal.main_arg2) = m ((c.tc : Thread Cert.KernelSigIdeal.nD Cert.KernelSigIdeal.τ).loc Cert.KernelSigIdeal.main_arg2)) →
    ∃ (v0 : (c : Dev Cert.KernelSigIdeal.nD) → Buf (Elt Ideal) ((c.tc : Thread Cert.KernelSigIdeal.nD Cert.KernelSigIdeal.τ).loc Cert.KernelSigIdeal.main_v13)),
      θ_run (Cert.KernelSigIdeal.defs (F := Ideal)) (onTc (τ := Cert.KernelSigIdeal.τ) (Cert.KernelSigIdeal.main (F := Ideal))) ⟨m, fun _ => 0, g⟩ (fun r => ∀ c : Dev Cert.KernelSigIdeal.nD,
          r.2.mem ((c.tc : Thread Cert.KernelSigIdeal.nD Cert.KernelSigIdeal.τ).loc Cert.KernelSigIdeal.main_v13) = v0 c
          ∧ r.2.mem ((c.tc : Thread Cert.KernelSigIdeal.nD Cert.KernelSigIdeal.τ).loc Cert.KernelSigIdeal.main_arg0) = m ((c.tc : Thread Cert.KernelSigIdeal.nD Cert.KernelSigIdeal.τ).loc Cert.KernelSigIdeal.main_arg0)
          ∧ r.2.mem ((c.tc : Thread Cert.KernelSigIdeal.nD Cert.KernelSigIdeal.τ).loc Cert.KernelSigIdeal.main_arg1) = m ((c.tc : Thread Cert.KernelSigIdeal.nD Cert.KernelSigIdeal.τ).loc Cert.KernelSigIdeal.main_arg1)
          ∧ r.2.mem ((c.tc : Thread Cert.KernelSigIdeal.nD Cert.KernelSigIdeal.τ).loc Cert.KernelSigIdeal.main_arg2) = m ((c.tc : Thread Cert.KernelSigIdeal.nD Cert.KernelSigIdeal.τ).loc Cert.KernelSigIdeal.main_arg2))
      ∧ θ_run (Cert.ReferenceSigIdeal.defs (F := Ideal)) (onTc (τ := Cert.ReferenceSigIdeal.τ) (Cert.ReferenceSigIdeal.main (F := Ideal))) ⟨m', fun _ => 0, g'⟩ (fun r => ∀ c : Dev Cert.ReferenceSigIdeal.nD,
          r.2.mem ((c.tc : Thread Cert.ReferenceSigIdeal.nD Cert.ReferenceSigIdeal.τ).loc Cert.ReferenceSigIdeal.main_v19) = v0 c
          ∧ r.2.mem ((c.tc : Thread Cert.ReferenceSigIdeal.nD Cert.ReferenceSigIdeal.τ).loc Cert.ReferenceSigIdeal.main_arg0) = m' ((c.tc : Thread Cert.ReferenceSigIdeal.nD Cert.ReferenceSigIdeal.τ).loc Cert.ReferenceSigIdeal.main_arg0)
          ∧ r.2.mem ((c.tc : Thread Cert.ReferenceSigIdeal.nD Cert.ReferenceSigIdeal.τ).loc Cert.ReferenceSigIdeal.main_arg1) = m' ((c.tc : Thread Cert.ReferenceSigIdeal.nD Cert.ReferenceSigIdeal.τ).loc Cert.ReferenceSigIdeal.main_arg1)
          ∧ r.2.mem ((c.tc : Thread Cert.ReferenceSigIdeal.nD Cert.ReferenceSigIdeal.τ).loc Cert.ReferenceSigIdeal.main_arg2) = m' ((c.tc : Thread Cert.ReferenceSigIdeal.nD Cert.ReferenceSigIdeal.τ).loc Cert.ReferenceSigIdeal.main_arg2))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)) →
    ∃ (v0 : (c : Dev Cert.KernelKvIdeal.nD) → Buf (Elt Ideal) ((c.tc : Thread Cert.KernelKvIdeal.nD Cert.KernelKvIdeal.τ).loc Cert.KernelKvIdeal.main_v4_0)) (v1 : (c : Dev Cert.KernelKvIdeal.nD) → Buf (Elt Ideal) ((c.tc : Thread Cert.KernelKvIdeal.nD Cert.KernelKvIdeal.τ).loc Cert.KernelKvIdeal.main_v4_1)) (v2 : (c : Dev Cert.KernelKvIdeal.nD) → Buf (Elt Ideal) ((c.tc : Thread Cert.KernelKvIdeal.nD Cert.KernelKvIdeal.τ).loc Cert.KernelKvIdeal.main_v4_2)) (v3 : (c : Dev Cert.KernelKvIdeal.nD) → Buf (Elt Ideal) ((c.tc : Thread Cert.KernelKvIdeal.nD Cert.KernelKvIdeal.τ).loc Cert.KernelKvIdeal.main_v4_3)) (v4 : (c : Dev Cert.KernelKvIdeal.nD) → Buf (Elt Ideal) ((c.tc : Thread Cert.KernelKvIdeal.nD Cert.KernelKvIdeal.τ).loc Cert.KernelKvIdeal.main_v4_4)) (v5 : (c : Dev Cert.KernelKvIdeal.nD) → Buf (Elt Ideal) ((c.tc : Thread Cert.KernelKvIdeal.nD Cert.KernelKvIdeal.τ).loc Cert.KernelKvIdeal.main_v4_5)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v4_0) = v0 c
          ∧ r.2.mem ((c.tc : Thread Cert.KernelKvIdeal.nD Cert.KernelKvIdeal.τ).loc Cert.KernelKvIdeal.main_v4_1) = v1 c
          ∧ r.2.mem ((c.tc : Thread Cert.KernelKvIdeal.nD Cert.KernelKvIdeal.τ).loc Cert.KernelKvIdeal.main_v4_2) = v2 c
          ∧ r.2.mem ((c.tc : Thread Cert.KernelKvIdeal.nD Cert.KernelKvIdeal.τ).loc Cert.KernelKvIdeal.main_v4_3) = v3 c
          ∧ r.2.mem ((c.tc : Thread Cert.KernelKvIdeal.nD Cert.KernelKvIdeal.τ).loc Cert.KernelKvIdeal.main_v4_4) = v4 c
          ∧ r.2.mem ((c.tc : Thread Cert.KernelKvIdeal.nD Cert.KernelKvIdeal.τ).loc Cert.KernelKvIdeal.main_v4_5) = v5 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v8) = v0 c
          ∧ r.2.mem ((c.tc : Thread Cert.ReferenceKvIdeal.nD Cert.ReferenceKvIdeal.τ).loc Cert.ReferenceKvIdeal.main_v11) = v1 c
          ∧ r.2.mem ((c.tc : Thread Cert.ReferenceKvIdeal.nD Cert.ReferenceKvIdeal.τ).loc Cert.ReferenceKvIdeal.main_v14) = v2 c
          ∧ r.2.mem ((c.tc : Thread Cert.ReferenceKvIdeal.nD Cert.ReferenceKvIdeal.τ).loc Cert.ReferenceKvIdeal.main_v17) = v3 c
          ∧ r.2.mem ((c.tc : Thread Cert.ReferenceKvIdeal.nD Cert.ReferenceKvIdeal.τ).loc Cert.ReferenceKvIdeal.main_v20) = v4 c
          ∧ r.2.mem ((c.tc : Thread Cert.ReferenceKvIdeal.nD Cert.ReferenceKvIdeal.τ).loc Cert.ReferenceKvIdeal.main_v23) = v5 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2))

def preserves_KernelScmp_KernelScmpIdeal : Prop :=
  True

def algebraic_KernelScmpIdeal_ReferenceScmpIdeal [hKernelScmpIdeal : Cert.KernelScmpIdeal.Facts] [hReferenceScmpIdeal : Cert.ReferenceScmpIdeal.Facts] : Prop :=
  ∀ (m : (ℓ : Loc Cert.KernelScmpIdeal.nD Cert.KernelScmpIdeal.τ Cert.KernelScmpIdeal.sig) → Buf (Elt Ideal) ℓ) (g : Dev Cert.KernelScmpIdeal.nD → PrngReg)
    (m' : (ℓ : Loc Cert.ReferenceScmpIdeal.nD Cert.ReferenceScmpIdeal.τ Cert.ReferenceScmpIdeal.sig) → Buf (Elt Ideal) ℓ) (g' : Dev Cert.ReferenceScmpIdeal.nD → PrngReg), Pre_KernelScmpIdeal m →
    (∀ c : Dev Cert.KernelScmpIdeal.nD,
      m' ((c.tc : Thread Cert.ReferenceScmpIdeal.nD Cert.ReferenceScmpIdeal.τ).loc Cert.ReferenceScmpIdeal.main_arg0) = m ((c.tc : Thread Cert.KernelScmpIdeal.nD Cert.KernelScmpIdeal.τ).loc Cert.KernelScmpIdeal.main_arg0)
      ∧ m' ((c.tc : Thread Cert.ReferenceScmpIdeal.nD Cert.ReferenceScmpIdeal.τ).loc Cert.ReferenceScmpIdeal.main_arg1) = m ((c.tc : Thread Cert.KernelScmpIdeal.nD Cert.KernelScmpIdeal.τ).loc Cert.KernelScmpIdeal.main_arg1)
      ∧ m' ((c.tc : Thread Cert.ReferenceScmpIdeal.nD Cert.ReferenceScmpIdeal.τ).loc Cert.ReferenceScmpIdeal.main_arg2) = m ((c.tc : Thread Cert.KernelScmpIdeal.nD Cert.KernelScmpIdeal.τ).loc Cert.KernelScmpIdeal.main_arg2)) →
    ∃ (v0 : (c : Dev Cert.KernelScmpIdeal.nD) → Buf (Elt Ideal) ((c.tc : Thread Cert.KernelScmpIdeal.nD Cert.KernelScmpIdeal.τ).loc Cert.KernelScmpIdeal.main_v0_0)) (v1 : (c : Dev Cert.KernelScmpIdeal.nD) → Buf (Elt Ideal) ((c.tc : Thread Cert.KernelScmpIdeal.nD Cert.KernelScmpIdeal.τ).loc Cert.KernelScmpIdeal.main_v0_1)),
      θ_run (Cert.KernelScmpIdeal.defs (F := Ideal)) (onTc (τ := Cert.KernelScmpIdeal.τ) (Cert.KernelScmpIdeal.main (F := Ideal))) ⟨m, fun _ => 0, g⟩ (fun r => ∀ c : Dev Cert.KernelScmpIdeal.nD,
          r.2.mem ((c.tc : Thread Cert.KernelScmpIdeal.nD Cert.KernelScmpIdeal.τ).loc Cert.KernelScmpIdeal.main_v0_0) = v0 c
          ∧ r.2.mem ((c.tc : Thread Cert.KernelScmpIdeal.nD Cert.KernelScmpIdeal.τ).loc Cert.KernelScmpIdeal.main_v0_1) = v1 c
          ∧ r.2.mem ((c.tc : Thread Cert.KernelScmpIdeal.nD Cert.KernelScmpIdeal.τ).loc Cert.KernelScmpIdeal.main_arg0) = m ((c.tc : Thread Cert.KernelScmpIdeal.nD Cert.KernelScmpIdeal.τ).loc Cert.KernelScmpIdeal.main_arg0)
          ∧ r.2.mem ((c.tc : Thread Cert.KernelScmpIdeal.nD Cert.KernelScmpIdeal.τ).loc Cert.KernelScmpIdeal.main_arg1) = m ((c.tc : Thread Cert.KernelScmpIdeal.nD Cert.KernelScmpIdeal.τ).loc Cert.KernelScmpIdeal.main_arg1)
          ∧ r.2.mem ((c.tc : Thread Cert.KernelScmpIdeal.nD Cert.KernelScmpIdeal.τ).loc Cert.KernelScmpIdeal.main_arg2) = m ((c.tc : Thread Cert.KernelScmpIdeal.nD Cert.KernelScmpIdeal.τ).loc Cert.KernelScmpIdeal.main_arg2))
      ∧ θ_run (Cert.ReferenceScmpIdeal.defs (F := Ideal)) (onTc (τ := Cert.ReferenceScmpIdeal.τ) (Cert.ReferenceScmpIdeal.main (F := Ideal))) ⟨m', fun _ => 0, g'⟩ (fun r => ∀ c : Dev Cert.ReferenceScmpIdeal.nD,
          r.2.mem ((c.tc : Thread Cert.ReferenceScmpIdeal.nD Cert.ReferenceScmpIdeal.τ).loc Cert.ReferenceScmpIdeal.main_v33) = v0 c
          ∧ r.2.mem ((c.tc : Thread Cert.ReferenceScmpIdeal.nD Cert.ReferenceScmpIdeal.τ).loc Cert.ReferenceScmpIdeal.main_v39) = v1 c
          ∧ r.2.mem ((c.tc : Thread Cert.ReferenceScmpIdeal.nD Cert.ReferenceScmpIdeal.τ).loc Cert.ReferenceScmpIdeal.main_arg0) = m' ((c.tc : Thread Cert.ReferenceScmpIdeal.nD Cert.ReferenceScmpIdeal.τ).loc Cert.ReferenceScmpIdeal.main_arg0)
          ∧ r.2.mem ((c.tc : Thread Cert.ReferenceScmpIdeal.nD Cert.ReferenceScmpIdeal.τ).loc Cert.ReferenceScmpIdeal.main_arg1) = m' ((c.tc : Thread Cert.ReferenceScmpIdeal.nD Cert.ReferenceScmpIdeal.τ).loc Cert.ReferenceScmpIdeal.main_arg1)
          ∧ r.2.mem ((c.tc : Thread Cert.ReferenceScmpIdeal.nD Cert.ReferenceScmpIdeal.τ).loc Cert.ReferenceScmpIdeal.main_arg2) = m' ((c.tc : Thread Cert.ReferenceScmpIdeal.nD Cert.ReferenceScmpIdeal.τ).loc Cert.ReferenceScmpIdeal.main_arg2))

def Claim : Prop :=
  ∃ (hKernel : Cert.Kernel.Facts) (hKernelIdeal : Cert.KernelIdeal.Facts) (hReferenceIdeal : Cert.ReferenceIdeal.Facts) (hKernelU : Cert.KernelU.Facts) (hKernelUIdeal : Cert.KernelUIdeal.Facts) (hReferenceUIdeal : Cert.ReferenceUIdeal.Facts) (hKernelSilu : Cert.KernelSilu.Facts) (hKernelSiluIdeal : Cert.KernelSiluIdeal.Facts) (hReferenceSiluIdeal : Cert.ReferenceSiluIdeal.Facts) (hKernelQ : Cert.KernelQ.Facts) (hKernelQIdeal : Cert.KernelQIdeal.Facts) (hReferenceQIdeal : Cert.ReferenceQIdeal.Facts) (hKernelSig : Cert.KernelSig.Facts) (hKernelSigIdeal : Cert.KernelSigIdeal.Facts) (hReferenceSigIdeal : Cert.ReferenceSigIdeal.Facts) (hKernelKv : Cert.KernelKv.Facts) (hKernelKvIdeal : Cert.KernelKvIdeal.Facts) (hReferenceKvIdeal : Cert.ReferenceKvIdeal.Facts) (hKernelScmp : Cert.KernelScmp.Facts) (hKernelScmpIdeal : Cert.KernelScmpIdeal.Facts) (hReferenceScmpIdeal : Cert.ReferenceScmpIdeal.Facts) (hPre_finite_u : Cert.Pre_finite_u.Facts),
    quiescent_Kernel (hKernel := hKernel)
    ∧ quiescent_KernelIdeal (hKernelIdeal := hKernelIdeal)
    ∧ quiescent_KernelIdeal_pre_finite_u (hKernelIdeal := hKernelIdeal) (hPre_finite_u := hPre_finite_u)
    ∧ quiescent_ReferenceIdeal (hReferenceIdeal := hReferenceIdeal)
    ∧ quiescent_ReferenceIdeal_pre_finite_u (hReferenceIdeal := hReferenceIdeal) (hPre_finite_u := hPre_finite_u)
    ∧ quiescent_KernelU (hKernelU := hKernelU)
    ∧ quiescent_KernelUIdeal (hKernelUIdeal := hKernelUIdeal)
    ∧ quiescent_ReferenceUIdeal (hReferenceUIdeal := hReferenceUIdeal)
    ∧ quiescent_KernelSilu (hKernelSilu := hKernelSilu)
    ∧ quiescent_KernelSiluIdeal (hKernelSiluIdeal := hKernelSiluIdeal)
    ∧ quiescent_ReferenceSiluIdeal (hReferenceSiluIdeal := hReferenceSiluIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelSig (hKernelSig := hKernelSig)
    ∧ quiescent_KernelSigIdeal (hKernelSigIdeal := hKernelSigIdeal)
    ∧ quiescent_ReferenceSigIdeal (hReferenceSigIdeal := hReferenceSigIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelScmp (hKernelScmp := hKernelScmp)
    ∧ quiescent_KernelScmpIdeal (hKernelScmpIdeal := hKernelScmpIdeal)
    ∧ quiescent_ReferenceScmpIdeal (hReferenceScmpIdeal := hReferenceScmpIdeal)
    ∧ preserves_Kernel_KernelIdeal
    ∧ algebraic_KernelIdeal_ReferenceIdeal_pre_finite_u (hKernelIdeal := hKernelIdeal) (hReferenceIdeal := hReferenceIdeal) (hPre_finite_u := hPre_finite_u)
    ∧ preserves_KernelU_KernelUIdeal
    ∧ algebraic_KernelUIdeal_ReferenceUIdeal (hKernelUIdeal := hKernelUIdeal) (hReferenceUIdeal := hReferenceUIdeal)
    ∧ preserves_KernelSilu_KernelSiluIdeal
    ∧ algebraic_KernelSiluIdeal_ReferenceSiluIdeal (hKernelSiluIdeal := hKernelSiluIdeal) (hReferenceSiluIdeal := hReferenceSiluIdeal)
    ∧ preserves_KernelQ_KernelQIdeal
    ∧ algebraic_KernelQIdeal_ReferenceQIdeal (hKernelQIdeal := hKernelQIdeal) (hReferenceQIdeal := hReferenceQIdeal)
    ∧ preserves_KernelSig_KernelSigIdeal
    ∧ algebraic_KernelSigIdeal_ReferenceSigIdeal (hKernelSigIdeal := hKernelSigIdeal) (hReferenceSigIdeal := hReferenceSigIdeal)
    ∧ preserves_KernelKv_KernelKvIdeal
    ∧ algebraic_KernelKvIdeal_ReferenceKvIdeal (hKernelKvIdeal := hKernelKvIdeal) (hReferenceKvIdeal := hReferenceKvIdeal)
    ∧ preserves_KernelScmp_KernelScmpIdeal
    ∧ algebraic_KernelScmpIdeal_ReferenceScmpIdeal (hKernelScmpIdeal := hKernelScmpIdeal) (hReferenceScmpIdeal := hReferenceScmpIdeal)
-- ==== Pre_finite_u.lean ====
abbrev S8192x1024 : Shape := ⟨2, ![8192, 1024]⟩
abbrev S8192x2048 : Shape := ⟨2, ![8192, 2048]⟩
abbrev S8192x4608 : Shape := ⟨2, ![8192, 4608]⟩
abbrev S4x256x256 : Shape := ⟨3, ![4, 256, 256]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x2048 .bf16) (main_arg2 : FVec F S8192x4608 .bf16) (main_arg3 : FVec F S8192x1024 .bf16) (main_arg4 : FVec F S8192x2048 .f32) (main_arg5 : FVec F S4x256x256 .f32) (main_arg6 : FVec F S1024 .f32) (main_arg7 : FVec F S1024x2048 .f32) (main_arg8 : FVec F S1024x2048 .f32) (main_arg9 : FVec F S2048x2048 .f32) (main_arg10 : FVec F S2048 .f32) (main_arg11 : FVec F S2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S8192x2048 : Shape := ⟨2, ![8192, 2048]⟩
abbrev S8192x4608 : Shape := ⟨2, ![8192, 4608]⟩
abbrev S4x256x256 : Shape := ⟨3, ![4, 256, 256]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S1x1024 : Shape := ⟨2, ![1, 1024]⟩
abbrev S1x2048 : Shape := ⟨2, ![1, 2048]⟩
abbrev S16x1024 : Shape := ⟨2, ![16, 1024]⟩
abbrev S512x1024 : Shape := ⟨2, ![512, 1024]⟩
abbrev S512x2048 : Shape := ⟨2, ![512, 2048]⟩
abbrev S528x1024 : Shape := ⟨2, ![528, 1024]⟩
abbrev S512x1 : Shape := ⟨2, ![512, 1]⟩
abbrev S528x256 : Shape := ⟨2, ![528, 256]⟩
abbrev S512x256 : Shape := ⟨2, ![512, 256]⟩
abbrev S128x256 : Shape := ⟨2, ![128, 256]⟩
abbrev S1x256x256 : Shape := ⟨3, ![1, 256, 256]⟩
abbrev S256x256 : Shape := ⟨2, ![256, 256]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩

abbrev nBuf : Space → Nat
  | .hbm => 20
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S8192x4608, .bf16⟩
  | .hbm, ⟨3, _⟩ => ⟨S8192x1024, .bf16⟩
  | .hbm, ⟨4, _⟩ => ⟨S8192x2048, .f32⟩
  | .hbm, ⟨5, _⟩ => ⟨S4x256x256, .f32⟩
  | .hbm, ⟨6, _⟩ => ⟨S1024, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S2048, .f32⟩
  | .hbm, ⟨11, _⟩ => ⟨S2048, .f32⟩
  | .hbm, ⟨12, _⟩ => ⟨S4x256x256, .bf16⟩
  | .hbm, ⟨13, _⟩ => ⟨S1x1024, .f32⟩
  | .hbm, ⟨14, _⟩ => ⟨S1024x2048, .bf16⟩
  | .hbm, ⟨15, _⟩ => ⟨S1024x2048, .bf16⟩
  | .hbm, ⟨16, _⟩ => ⟨S2048x2048, .bf16⟩
  | .hbm, ⟨17, _⟩ => ⟨S1x2048, .f32⟩
  | .hbm, ⟨18, _⟩ => ⟨S1x2048, .f32⟩
  | .hbm, ⟨19, _⟩ => ⟨S8192x2048, .f32⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .f32⟩
  | .local _ .vmem, ⟨15, _⟩ => ⟨S512x2048, .f32⟩
  | .local _ .vmem, ⟨16, _⟩ => ⟨S4x256x256, .bf16⟩
  | .local _ .vmem, ⟨17, _⟩ => ⟨S1x1024, .f32⟩
  | .local _ .vmem, ⟨18, _⟩ => ⟨S1024x2048, .bf16⟩
  | .local _ .vmem, ⟨19, _⟩ => ⟨S1024x2048, .bf16⟩
  | .local _ .vmem, ⟨20, _⟩ => ⟨S2048x2048, .bf16⟩
  | .local _ .vmem, ⟨21, _⟩ => ⟨S1x2048, .f32⟩
  | .local _ .vmem, ⟨22, _⟩ => ⟨S1x2048, .f32⟩
  | .local _ .vmem, ⟨23, _⟩ => ⟨S512x2048, .f32⟩
  | .local _ .vmem, ⟨24, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S8192x1024 : Shape := ⟨2, ![8192, 1024]⟩
abbrev S8192x2048 : Shape := ⟨2, ![8192, 2048]⟩
abbrev S8192x4608 : Shape := ⟨2, ![8192, 4608]⟩
abbrev S4x256x256 : Shape := ⟨3, ![4, 256, 256]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S2x4096x1024 : Shape := ⟨3, ![2, 4096, 1024]⟩
abbrev S_ : Shape := ⟨0, ![]⟩
abbrev S2x4097x1024 : Shape := ⟨3, ![2, 4097, 1024]⟩
abbrev S4096 : Shape := ⟨1, ![4096]⟩
abbrev S2x4097x256 : Shape := ⟨3, ![2, 4097, 256]⟩
abbrev S2x4096x256 : Shape := ⟨3, ![2, 4096, 256]⟩
abbrev S2x4099x256 : Shape := ⟨3, ![2, 4099, 256]⟩
abbrev S1x4096x1 : Shape := ⟨3, ![1, 4096, 1]⟩
abbrev S2x4101x256 : Shape := ⟨3, ![2, 4101, 256]⟩
abbrev S2x4105x256 : Shape := ⟨3, ![2, 4105, 256]⟩
abbrev S2x4113x256 : Shape := ⟨3, ![2, 4113, 256]⟩
abbrev S2x4096x1x256 : Shape := ⟨4, ![2, 4096, 1, 256]⟩
abbrev S2x4096x4x256 : Shape := ⟨4, ![2, 4096, 4, 256]⟩
abbrev S4x256x2x4096 : Shape := ⟨4, ![4, 256, 2, 4096]⟩
abbrev S1x1x1024 : Shape := ⟨3, ![1, 1, 1024]⟩
abbrev S8192 : Shape := ⟨1, ![8192]⟩
abbrev S8192x1 : Shape := ⟨2, ![8192, 1]⟩
abbrev S1x2048 : Shape := ⟨2, ![1, 2048]⟩

abbrev nBuf : Space → Nat
  | .hbm => 158
  | .vmem => 0
  | .smem => 0
  | _ => 0

abbrev hbmTy0_0 (i : Nat) : BufTy := match i % 128 with
  | 0 => ⟨S8192x1024, .f32⟩
  | 1 => ⟨S8192x2048, .bf16⟩
  | 2 => ⟨S8192x4608, .bf16⟩
  | 3 => ⟨S8192x1024, .bf16⟩
  | 4 => ⟨S8192x2048, .f32⟩
  | 5 => ⟨S4x256x256, .f32⟩
  | 6 => ⟨S1024, .f32⟩
  | 7 => ⟨S1024x2048, .f32⟩
  | 8 => ⟨S1024x2048, .f32⟩
  | 9 => ⟨S2048x2048, .f32⟩
  | 10 => ⟨S2048, .f32⟩
  | 11 => ⟨S2048, .f32⟩
  | 12 => ⟨S8192x1024, .bf16⟩
  | 13 => ⟨S8192x1024, .f32⟩
  | 14 => ⟨S8192x1024, .bf16⟩
  | 15 => ⟨S8192x1024, .f32⟩
  | 16 => ⟨S8192x2048, .bf16⟩
  | 17 => ⟨S8192x2048, .f32⟩
  | 18 => ⟨S8192x2048, .bf16⟩
  | 19 => ⟨S8192x2048, .f32⟩
  | 20 => ⟨S2x4096x1024, .f32⟩
  | 21 => ⟨S_, .f32⟩
  | 22 => ⟨S_, .f32⟩
  | 23 => ⟨S2x4096x1024, .f32⟩
  | 24 => ⟨S_, .i32⟩
  | 25 => ⟨S_, .f32⟩
  | 26 => ⟨S2x4097x1024, .f32⟩
  | 27 => ⟨S4096, .i32⟩
  | 28 => ⟨S2x4097x256, .f32⟩
  | 29 => ⟨S2x4096x256, .f32⟩
  | 30 => ⟨S_, .i32⟩
  | 31 => ⟨S_, .f32⟩
  | 32 => ⟨S2x4099x256, .f32⟩
  | 33 => ⟨S2x4096x256, .f32⟩
  | 34 => ⟨S_, .i32⟩
  | 35 => ⟨S4096, .i32⟩
  | 36 => ⟨S4096, .i32⟩
  | 37 => ⟨S_, .i32⟩
  | 38 => ⟨S4096, .i32⟩
  | 39 => ⟨S4096, .i32⟩
  | 40 => ⟨S4096, .f32⟩
  | 41 => ⟨S1x4096x1, .f32⟩
  | 42 => ⟨S2x4096x256, .f32⟩
  | 43 => ⟨S2x4096x256, .f32⟩
  | 44 => ⟨S2x4096x256, .f32⟩
  | 45 => ⟨S2x4096x256, .f32⟩
  | 46 => ⟨S2x4096x256, .f32⟩
  | 47 => ⟨S2x4097x256, .f32⟩
  | 48 => ⟨S2x4096x256, .f32⟩
  | 49 => ⟨S_, .i32⟩
  | 50 => ⟨S_, .f32⟩
  | 51 => ⟨S2x4101x256, .f32⟩
  | 52 => ⟨S2x4096x256, .f32⟩
  | 53 => ⟨S_, .i32⟩
  | 54 => ⟨S4096, .i32⟩
  | 55 => ⟨S4096, .i32⟩
  | 56 => ⟨S_, .i32⟩
  | 57 => ⟨S4096, .i32⟩
  | 58 => ⟨S4096, .i32⟩
  | 59 => ⟨S4096, .f32⟩
  | 60 => ⟨S1x4096x1, .f32⟩
  | 61 => ⟨S2x4096x256, .f32⟩
  | 62 => ⟨S2x4096x256, .f32⟩
  | 63 => ⟨S2x4096x256, .f32⟩
  | 64 => ⟨S2x4096x256, .f32⟩
  | 65 => ⟨S2x4096x256, .f32⟩
  | 66 => ⟨S2x4097x256, .f32⟩
  | 67 => ⟨S2x4096x256, .f32⟩
  | 68 => ⟨S_, .i32⟩
  | 69 => ⟨S_, .f32⟩
  | 70 => ⟨S2x4105x256, .f32⟩
  | 71 => ⟨S2x4096x256, .f32⟩
  | 72 => ⟨S_, .i32⟩
  | 73 => ⟨S4096, .i32⟩
  | 74 => ⟨S4096, .i32⟩
  | 75 => ⟨S_, .i32⟩
  | 76 => ⟨S4096, .i32⟩
  | 77 => ⟨S4096, .i32⟩
  | 78 => ⟨S4096, .f32⟩
  | 79 => ⟨S1x4096x1, .f32⟩
  | 80 => ⟨S2x4096x256, .f32⟩
  | 81 => ⟨S2x4096x256, .f32⟩
  | 82 => ⟨S2x4096x256, .f32⟩
  | 83 => ⟨S2x4096x256, .f32⟩
  | 84 => ⟨S2x4096x256, .f32⟩
  | 85 => ⟨S2x4097x256, .f32⟩
  | 86 => ⟨S2x4096x256, .f32⟩
  | 87 => ⟨S_, .i32⟩
  | 88 => ⟨S_, .f32⟩
  | 89 => ⟨S2x4113x256, .f32⟩
  | 90 => ⟨S2x4096x256, .f32⟩
  | 91 => ⟨S_, .i32⟩
  | 92 => ⟨S4096, .i32⟩
  | 93 => ⟨S4096, .i32⟩
  | 94 => ⟨S_, .i32⟩
  | 95 => ⟨S4096, .i32⟩
  | 96 => ⟨S4096, .i32⟩
  | 97 => ⟨S4096, .f32⟩
  | 98 => ⟨S1x4096x1, .f32⟩
  | 99 => ⟨S2x4096x256, .f32⟩
  | 100 => ⟨S2x4096x256, .f32⟩
  | 101 => ⟨S2x4096x256, .f32⟩
  | 102 => ⟨S2x4096x256, .f32⟩
  | 103 => ⟨S2x4096x256, .f32⟩
  | 104 => ⟨S2x4096x1x256, .f32⟩
  | 105 => ⟨S2x4096x1x256, .f32⟩
  | 106 => ⟨S2x4096x1x256, .f32⟩
  | 107 => ⟨S2x4096x1x256, .f32⟩
  | 108 => ⟨S2x4096x4x256, .f32⟩
  | 109 => ⟨S4x256x2x4096, .f32⟩
  | 110 => ⟨S2x4096x4x256, .f32⟩
  | 111 => ⟨S2x4096x1024, .f32⟩
  | 112 => ⟨S1x1x1024, .f32⟩
  | 113 => ⟨S2x4096x1024, .f32⟩
  | 114 => ⟨S2x4096x1024, .f32⟩
  | 115 => ⟨S8192x1024, .f32⟩
  | 116 => ⟨S8192x1024, .f32⟩
  | 117 => ⟨S8192x2048, .f32⟩
  | 118 => ⟨S8192x1024, .f32⟩
  | 119 => ⟨S8192x1024, .f32⟩
  | 120 => ⟨S8192x2048, .f32⟩
  | 121 => ⟨S_, .f32⟩
  | 122 => ⟨S8192x2048, .f32⟩
  | 123 => ⟨S8192x2048, .f32⟩
  | 124 => ⟨S8192x2048, .f32⟩
  | 125 => ⟨S8192x2048, .f32⟩
  | 126 => ⟨S8192x2048, .f32⟩
  | 127 => ⟨S8192x2048, .f32⟩
  | _ => ⟨S8192x1024, .f32⟩

abbrev hbmTy0_1 (i : Nat) : BufTy := match i % 128 with
  | 0 => ⟨S8192x2048, .f32⟩
  | 1 => ⟨S_, .f32⟩
  | 2 => ⟨S8192, .f32⟩
  | 3 => ⟨S8192x1, .f32⟩
  | 4 => ⟨S_, .f32⟩
  | 5 => ⟨S8192x1, .f32⟩
  | 6 => ⟨S8192x1, .f32⟩
  | 7 => ⟨S8192x2048, .f32⟩
  | 8 => ⟨S8192x2048, .f32⟩
  | 9 => ⟨S8192x2048, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S8192x2048, .f32⟩
  | 17 => ⟨S8192x2048, .f32⟩
  | 18 => ⟨S_, .f32⟩
  | 19 => ⟨S8192x1, .f32⟩
  | 20 => ⟨S8192x1, .f32⟩
  | 21 => ⟨S8192x1, .f32⟩
  | 22 => ⟨S8192x2048, .f32⟩
  | 23 => ⟨S8192x2048, .f32⟩
  | 24 => ⟨S1x2048, .f32⟩
  | 25 => ⟨S8192x2048, .f32⟩
  | 26 => ⟨S8192x2048, .f32⟩
  | 27 => ⟨S1x2048, .f32⟩
  | 28 => ⟨S8192x2048, .f32⟩
  | 29 => ⟨S8192x2048, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call0_call0_cst : Ref sig .tc := ⟨.hbm, 21, rfl⟩
abbrev main_call0_call0_v0 : Ref sig .tc := ⟨.hbm, 22, rfl⟩
abbrev main_v9 : Ref sig .tc := ⟨.hbm, 23, rfl⟩
abbrev main_c : Ref sig .tc := ⟨.hbm, 24, rfl⟩
abbrev main_call1_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_call2_v0 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_3 : Ref sig .tc := ⟨.hbm, 49, rfl⟩
abbrev main_call3_v0 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_6 : Ref sig .tc := ⟨.hbm, 68, rfl⟩
abbrev main_call4_v0 : Ref sig .tc := ⟨.hbm, 69, rfl⟩
abbrev main_v44 : Ref sig .tc := ⟨.hbm, 70, rfl⟩
abbrev main_v45 : Ref sig .tc := ⟨.hbm, 71, rfl⟩
abbrev main_c_7 : Ref sig .tc := ⟨.hbm, 72, rfl⟩
abbrev main_v46 : Ref sig .tc := ⟨.hbm, 73, rfl⟩
abbrev main_v47 : Ref sig .tc := ⟨.hbm, 74, rfl⟩
abbrev main_c_8 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_9 : Ref sig .tc := ⟨.hbm, 87, rfl⟩
abbrev main_call5_v0 : Ref sig .tc := ⟨.hbm, 88, rfl⟩
abbrev main_v59 : Ref sig .tc := ⟨.hbm, 89, rfl⟩
abbrev main_v60 : Ref sig .tc := ⟨.hbm, 90, rfl⟩
abbrev main_c_10 : Ref sig .tc := ⟨.hbm, 91, rfl⟩
abbrev main_v61 : Ref sig .tc := ⟨.hbm, 92, rfl⟩
abbrev main_v62 : Ref sig .tc := ⟨.hbm, 93, rfl⟩
abbrev main_c_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_12 : Ref sig .tc := ⟨.hbm, 129, rfl⟩
abbrev main_v96 : Ref sig .tc := ⟨.hbm, 130, rfl⟩
abbrev main_v97 : Ref sig .tc := ⟨.hbm, 131, rfl⟩
abbrev main_cst_13 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_14 : Ref sig .tc := ⟨.hbm, 138, rfl⟩
abbrev main_v103 : Ref sig .tc := ⟨.hbm, 139, rfl⟩
abbrev main_v104 : Ref sig .tc := ⟨.hbm, 140, rfl⟩
abbrev main_cst_15 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_16 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩

abbrev nD : Nat := 1
abbrev τ : Topo := Topo.v7x

variable {F : FTy → Type} [FloatOps F]
-- ==== KernelU.lean ====
abbrev S8192x2048 : Shape := ⟨2, ![8192, 2048]⟩
abbrev S2048x9752 : Shape := ⟨2, ![2048, 9752]⟩
abbrev S9752 : Shape := ⟨1, ![9752]⟩
abbrev S2 : Shape := ⟨1, ![2]⟩
abbrev S9752x2048 : Shape := ⟨2, ![9752, 2048]⟩
abbrev S1x9752 : Shape := ⟨2, ![1, 9752]⟩
abbrev S1x512 : Shape := ⟨2, ![1, 512]⟩
abbrev S1x1024 : Shape := ⟨2, ![1, 1024]⟩
abbrev S8192x1024 : Shape := ⟨2, ![8192, 1024]⟩
abbrev S2048x2048 : Shape := ⟨2, ![2048, 2048]⟩
abbrev S512x2048 : Shape := ⟨2, ![512, 2048]⟩
abbrev S1 : Shape := ⟨1, ![1]⟩
abbrev S2048x512 : Shape := ⟨2, ![2048, 512]⟩
abbrev S512x512 : Shape := ⟨2, ![512, 512]⟩

abbrev nBuf : Space → Nat
  | .hbm => 10
  | .vmem => 8
  | .smem => 1
  | _ => 0

abbrev bufTy : (tb : Table) → Fin (tcTables nBuf tb) → BufTy
  | .hbm, ⟨0, _⟩ => ⟨S8192x2048, .f32⟩
  | .hbm, ⟨1, _⟩ => ⟨S2048x9752, .f32⟩
  | .hbm, ⟨2, _⟩ => ⟨S9752, .f32⟩
  | .hbm, ⟨3, _⟩ => ⟨S8192x2048, .bf16⟩
  | .hbm, ⟨4, _⟩ => ⟨S9752x2048, .f32⟩
  | .hbm, ⟨5, _⟩ => ⟨S1x9752, .f32⟩
  | .hbm, ⟨6, _⟩ => ⟨S1x512, .f32⟩
  | .hbm, ⟨7, _⟩ => ⟨S1x512, .f32⟩
  | .hbm, ⟨8, _⟩ => ⟨S1x1024, .f32⟩
  | .hbm, ⟨9, _⟩ => ⟨S8192x1024, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | .local _ .smem, ⟨0, _⟩ => ⟨S2, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c8_i32 : BitVec 32 := 8#32
  let v2 : BitVec 32 := Scalar.muli v1 c8_i32
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S2) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUIdeal.lean ====
abbrev S8192x2048 : Shape := ⟨2, ![8192, 2048]⟩
abbrev S2048x9752 : Shape := ⟨2, ![2048, 9752]⟩
abbrev S9752 : Shape := ⟨1, ![9752]⟩
abbrev S8192x9752 : Shape := ⟨2, ![8192, 9752]⟩
abbrev S1x9752 : Shape := ⟨2, ![1, 9752]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x9752, .f32⟩
  | .hbm, ⟨2, _⟩ => ⟨S9752, .f32⟩
  | .hbm, ⟨3, _⟩ => ⟨S8192x9752, .f32⟩
  | .hbm, ⟨4, _⟩ => ⟨S1x9752, .f32⟩
  | .hbm, ⟨5, _⟩ => ⟨S8192x9752, .f32⟩
  | .hbm, ⟨6, _⟩ => ⟨S8192x9752, .f32⟩
  | .hbm, ⟨7, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelSilu.lean ====
abbrev S8192x2048 : Shape := ⟨2, ![8192, 2048]⟩
abbrev S2048x9752 : Shape := ⟨2, ![2048, 9752]⟩
abbrev S9752 : Shape := ⟨1, ![9752]⟩
abbrev S4 : Shape := ⟨1, ![4]⟩
abbrev S9752x2048 : Shape := ⟨2, ![9752, 2048]⟩
abbrev S1x9752 : Shape := ⟨2, ![1, 9752]⟩
abbrev S1x512 : Shape := ⟨2, ![1, 512]⟩
abbrev S1x2048 : Shape := ⟨2, ![1, 2048]⟩
abbrev S2048x2048 : Shape := ⟨2, ![2048, 2048]⟩
abbrev S512x2048 : Shape := ⟨2, ![512, 2048]⟩
abbrev S1 : Shape := ⟨1, ![1]⟩
abbrev S2048x512 : Shape := ⟨2, ![2048, 512]⟩
abbrev S512x512 : Shape := ⟨2, ![512, 512]⟩

abbrev nBuf : Space → Nat
  | .hbm => 12
  | .vmem => 8
  | .smem => 1
  | _ => 0

abbrev bufTy : (tb : Table) → Fin (tcTables nBuf tb) → BufTy
  | .hbm, ⟨0, _⟩ => ⟨S8192x2048, .f32⟩
  | .hbm, ⟨1, _⟩ => ⟨S2048x9752, .f32⟩
  | .hbm, ⟨2, _⟩ => ⟨S9752, .f32⟩
  | .hbm, ⟨3, _⟩ => ⟨S8192x2048, .bf16⟩
  | .hbm, ⟨4, _⟩ => ⟨S9752x2048, .f32⟩
  | .hbm, ⟨5, _⟩ => ⟨S1x9752, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x2048, .f32⟩
  | .hbm, ⟨11, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | .local _ .smem, ⟨0, _⟩ => ⟨S4, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c8_i32 : BitVec 32 := 8#32
  let v2 : BitVec 32 := Scalar.muli v1 c8_i32
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S4) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceSiluIdeal.lean ====
abbrev S8192x2048 : Shape := ⟨2, ![8192, 2048]⟩
abbrev S2048x9752 : Shape := ⟨2, ![2048, 9752]⟩
abbrev S9752 : Shape := ⟨1, ![9752]⟩
abbrev S8192x9752 : Shape := ⟨2, ![8192, 9752]⟩
abbrev S1x9752 : Shape := ⟨2, ![1, 9752]⟩
abbrev S8192x1024 : Shape := ⟨2, ![8192, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x9752, .f32⟩
  | .hbm, ⟨2, _⟩ => ⟨S9752, .f32⟩
  | .hbm, ⟨3, _⟩ => ⟨S8192x9752, .f32⟩
  | .hbm, ⟨4, _⟩ => ⟨S1x9752, .f32⟩
  | .hbm, ⟨5, _⟩ => ⟨S8192x9752, .f32⟩
  | .hbm, ⟨6, _⟩ => ⟨S8192x9752, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x2048, .f32⟩
  | .hbm, ⟨28, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== KernelQ.lean ====
abbrev S8192x2048 : Shape := ⟨2, ![8192, 2048]⟩
abbrev S2048x9752 : Shape := ⟨2, ![2048, 9752]⟩
abbrev S9752 : Shape := ⟨1, ![9752]⟩
abbrev S2 : Shape := ⟨1, ![2]⟩
abbrev S9752x2048 : Shape := ⟨2, ![9752, 2048]⟩
abbrev S1x9752 : Shape := ⟨2, ![1, 9752]⟩
abbrev S1x512 : Shape := ⟨2, ![1, 512]⟩
abbrev S1x1024 : Shape := ⟨2, ![1, 1024]⟩
abbrev S8192x1024 : Shape := ⟨2, ![8192, 1024]⟩
abbrev S2048x2048 : Shape := ⟨2, ![2048, 2048]⟩
abbrev S512x2048 : Shape := ⟨2, ![512, 2048]⟩
abbrev S1 : Shape := ⟨1, ![1]⟩
abbrev S2048x512 : Shape := ⟨2, ![2048, 512]⟩
abbrev S512x512 : Shape := ⟨2, ![512, 512]⟩

abbrev nBuf : Space → Nat
  | .hbm => 10
  | .vmem => 8
  | .smem => 1
  | _ => 0

abbrev bufTy : (tb : Table) → Fin (tcTables nBuf tb) → BufTy
  | .hbm, ⟨0, _⟩ => ⟨S8192x2048, .f32⟩
  | .hbm, ⟨1, _⟩ => ⟨S2048x9752, .f32⟩
  | .hbm, ⟨2, _⟩ => ⟨S9752, .f32⟩
  | .hbm, ⟨3, _⟩ => ⟨S8192x2048, .bf16⟩
  | .hbm, ⟨4, _⟩ => ⟨S9752x2048, .f32⟩
  | .hbm, ⟨5, _⟩ => ⟨S1x9752, .f32⟩
  | .hbm, ⟨6, _⟩ => ⟨S1x512, .f32⟩
  | .hbm, ⟨7, _⟩ => ⟨S1x512, .f32⟩
  | .hbm, ⟨8, _⟩ => ⟨S1x1024, .f32⟩
  | .hbm, ⟨9, _⟩ => ⟨S8192x1024, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | .local _ .smem, ⟨0, _⟩ => ⟨S2, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c8_i32 : BitVec 32 := 8#32
  let v2 : BitVec 32 := Scalar.muli v1 c8_i32
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S2) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceQIdeal.lean ====
abbrev S8192x2048 : Shape := ⟨2, ![8192, 2048]⟩
abbrev S2048x9752 : Shape := ⟨2, ![2048, 9752]⟩
abbrev S9752 : Shape := ⟨1, ![9752]⟩
abbrev S8192x9752 : Shape := ⟨2, ![8192, 9752]⟩
abbrev S1x9752 : Shape := ⟨2, ![1, 9752]⟩
abbrev S8192x1024 : Shape := ⟨2, ![8192, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x9752, .f32⟩
  | .hbm, ⟨2, _⟩ => ⟨S9752, .f32⟩
  | .hbm, ⟨3, _⟩ => ⟨S8192x9752, .f32⟩
  | .hbm, ⟨4, _⟩ => ⟨S1x9752, .f32⟩
  | .hbm, ⟨5, _⟩ => ⟨S8192x9752, .f32⟩
  | .hbm, ⟨6, _⟩ => ⟨S8192x9752, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelSig.lean ====
abbrev S8192x2048 : Shape := ⟨2, ![8192, 2048]⟩
abbrev S2048x9752 : Shape := ⟨2, ![2048, 9752]⟩
abbrev S9752 : Shape := ⟨1, ![9752]⟩
abbrev S9 : Shape := ⟨1, ![9]⟩
abbrev S9752x2048 : Shape := ⟨2, ![9752, 2048]⟩
abbrev S1x9752 : Shape := ⟨2, ![1, 9752]⟩
abbrev S1x512 : Shape := ⟨2, ![1, 512]⟩
abbrev S1x4608 : Shape := ⟨2, ![1, 4608]⟩
abbrev S8192x4608 : Shape := ⟨2, ![8192, 4608]⟩
abbrev S2048x2048 : Shape := ⟨2, ![2048, 2048]⟩
abbrev S512x2048 : Shape := ⟨2, ![512, 2048]⟩
abbrev S1 : Shape := ⟨1, ![1]⟩
abbrev S2048x512 : Shape := ⟨2, ![2048, 512]⟩
abbrev S512x512 : Shape := ⟨2, ![512, 512]⟩

abbrev nBuf : Space → Nat
  | .hbm => 17
  | .vmem => 8
  | .smem => 1
  | _ => 0

abbrev bufTy : (tb : Table) → Fin (tcTables nBuf tb) → BufTy
  | .hbm, ⟨0, _⟩ => ⟨S8192x2048, .f32⟩
  | .hbm, ⟨1, _⟩ => ⟨S2048x9752, .f32⟩
  | .hbm, ⟨2, _⟩ => ⟨S9752, .f32⟩
  | .hbm, ⟨3, _⟩ => ⟨S8192x2048, .bf16⟩
  | .hbm, ⟨4, _⟩ => ⟨S9752x2048, .f32⟩
  | .hbm, ⟨5, _⟩ => ⟨S1x9752, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x4608, .f32⟩
  | .hbm, ⟨16, _⟩ => ⟨S8192x4608, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | .local _ .smem, ⟨0, _⟩ => ⟨S9, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 9], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c8_i32 : BitVec 32 := 8#32
  let v2 : BitVec 32 := Scalar.muli v1 c8_i32
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S9.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S9) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceSigIdeal.lean ====
abbrev S8192x2048 : Shape := ⟨2, ![8192, 2048]⟩
abbrev S2048x9752 : Shape := ⟨2, ![2048, 9752]⟩
abbrev S9752 : Shape := ⟨1, ![9752]⟩
abbrev S8192x9752 : Shape := ⟨2, ![8192, 9752]⟩
abbrev S1x9752 : Shape := ⟨2, ![1, 9752]⟩
abbrev S8192x4096 : Shape := ⟨2, ![8192, 4096]⟩
abbrev S_ : Shape := ⟨0, ![]⟩
abbrev S8192x512 : Shape := ⟨2, ![8192, 512]⟩
abbrev S8192x4608 : Shape := ⟨2, ![8192, 4608]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x9752, .f32⟩
  | .hbm, ⟨2, _⟩ => ⟨S9752, .f32⟩
  | .hbm, ⟨3, _⟩ => ⟨S8192x9752, .f32⟩
  | .hbm, ⟨4, _⟩ => ⟨S1x9752, .f32⟩
  | .hbm, ⟨5, _⟩ => ⟨S8192x9752, .f32⟩
  | .hbm, ⟨6, _⟩ => ⟨S8192x9752, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x4608, .f32⟩
  | .hbm, ⟨26, _⟩ => ⟨S8192x4608, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelKv.lean ====
abbrev S8192x2048 : Shape := ⟨2, ![8192, 2048]⟩
abbrev S2048x9752 : Shape := ⟨2, ![2048, 9752]⟩
abbrev S9752 : Shape := ⟨1, ![9752]⟩
abbrev S3 : Shape := ⟨1, ![3]⟩
abbrev S9752x2048 : Shape := ⟨2, ![9752, 2048]⟩
abbrev S1x9752 : Shape := ⟨2, ![1, 9752]⟩
abbrev S1x1536 : Shape := ⟨2, ![1, 1536]⟩
abbrev S16384x128 : Shape := ⟨2, ![16384, 128]⟩
abbrev S2048x2048 : Shape := ⟨2, ![2048, 2048]⟩
abbrev S512x2048 : Shape := ⟨2, ![512, 2048]⟩
abbrev S1 : Shape := ⟨1, ![1]⟩
abbrev S1x512 : Shape := ⟨2, ![1, 512]⟩
abbrev S4096x128 : Shape := ⟨2, ![4096, 128]⟩
abbrev S512x512 : Shape := ⟨2, ![512, 512]⟩
abbrev S512x128 : Shape := ⟨2, ![512, 128]⟩

abbrev nBuf : Space → Nat
  | .hbm => 13
  | .vmem => 18
  | .smem => 1
  | _ => 0

abbrev bufTy : (tb : Table) → Fin (tcTables nBuf tb) → BufTy
  | .hbm, ⟨0, _⟩ => ⟨S8192x2048, .f32⟩
  | .hbm, ⟨1, _⟩ => ⟨S2048x9752, .f32⟩
  | .hbm, ⟨2, _⟩ => ⟨S9752, .f32⟩
  | .hbm, ⟨3, _⟩ => ⟨S8192x2048, .bf16⟩
  | .hbm, ⟨4, _⟩ => ⟨S9752x2048, .f32⟩
  | .hbm, ⟨5, _⟩ => ⟨S1x9752, .f32⟩
  | .hbm, ⟨6, _⟩ => ⟨S1x1536, .f32⟩
  | .hbm, ⟨7, _⟩ => ⟨S16384x128, .f32⟩
  | .hbm, ⟨8, _⟩ => ⟨S16384x128, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S16384x128, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .smem, ⟨0, _⟩ => ⟨S3, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 3], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c8_i32 : BitVec 32 := 8#32
  let v2 : BitVec 32 := Scalar.muli v1 c8_i32
  v2

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_1 : BitVec 32 := 0#32
  let v5 : BitVec 1 := Scalar.cmpi .ne v4 c0_i32_1
  v5

def k0_cond2 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_2 : BitVec 32 := 0#32
  let v8 : BitVec 1 := Scalar.cmpi .ne v7 c0_i32_2
  v8

def k0_cond3 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceKvIdeal.lean ====
abbrev S8192x2048 : Shape := ⟨2, ![8192, 2048]⟩
abbrev S2048x9752 : Shape := ⟨2, ![2048, 9752]⟩
abbrev S9752 : Shape := ⟨1, ![9752]⟩
abbrev S8192x9752 : Shape := ⟨2, ![8192, 9752]⟩
abbrev S1x9752 : Shape := ⟨2, ![1, 9752]⟩
abbrev S8192x1536 : Shape := ⟨2, ![8192, 1536]⟩
abbrev S8192x6x2x128 : Shape := ⟨4, ![8192, 6, 2, 128]⟩
abbrev S8192x1x2x128 : Shape := ⟨4, ![8192, 1, 2, 128]⟩
abbrev S8192x2x128 : Shape := ⟨3, ![8192, 2, 128]⟩
abbrev S16384x128 : Shape := ⟨2, ![16384, 128]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x9752, .f32⟩
  | .hbm, ⟨2, _⟩ => ⟨S9752, .f32⟩
  | .hbm, ⟨3, _⟩ => ⟨S8192x9752, .f32⟩
  | .hbm, ⟨4, _⟩ => ⟨S1x9752, .f32⟩
  | .hbm, ⟨5, _⟩ => ⟨S8192x9752, .f32⟩
  | .hbm, ⟨6, _⟩ => ⟨S8192x9752, .f32⟩
  | .hbm, ⟨7, _⟩ => ⟨S8192x1536, .f32⟩
  | .hbm, ⟨8, _⟩ => ⟨S8192x6x2x128, .f32⟩
  | .hbm, ⟨9, _⟩ => ⟨S8192x1x2x128, .f32⟩
  | .hbm, ⟨10, _⟩ => ⟨S8192x2x128, .f32⟩
  | .hbm, ⟨11, _⟩ => ⟨S16384x128, .f32⟩
  | .hbm, ⟨12, _⟩ => ⟨S8192x1x2x128, .f32⟩
  | .hbm, ⟨13, _⟩ => ⟨S8192x2x128, .f32⟩
  | .hbm, ⟨14, _⟩ => ⟨S16384x128, .f32⟩
  | .hbm, ⟨15, _⟩ => ⟨S8192x1x2x128, .f32⟩
  | .hbm, ⟨16, _⟩ => ⟨S8192x2x128, .f32⟩
  | .hbm, ⟨17, _⟩ => ⟨S16384x128, .f32⟩
  | .hbm, ⟨18, _⟩ => ⟨S8192x1x2x128, .f32⟩
  | .hbm, ⟨19, _⟩ => ⟨S8192x2x128, .f32⟩
  | .hbm, ⟨20, _⟩ => ⟨S16384x128, .f32⟩
  | .hbm, ⟨21, _⟩ => ⟨S8192x1x2x128, .f32⟩
  | .hbm, ⟨22, _⟩ => ⟨S8192x2x128, .f32⟩
  | .hbm, ⟨23, _⟩ => ⟨S16384x128, .f32⟩
  | .hbm, ⟨24, _⟩ => ⟨S8192x1x2x128, .f32⟩
  | .hbm, ⟨25, _⟩ => ⟨S8192x2x128, .f32⟩
  | .hbm, ⟨26, _⟩ => ⟨S16384x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩

abbrev nD : Nat := 1
abbrev τ : Topo := Topo.v7x

variable {F : FTy → Type} [FloatOps F]
-- ==== KernelScmp.lean ====
abbrev S32x1024 : Shape := ⟨2, ![32, 1024]⟩
abbrev S32x512x256 : Shape := ⟨3, ![32, 512, 256]⟩
abbrev S32x8x128 : Shape := ⟨3, ![32, 8, 128]⟩
abbrev S32x2x512 : Shape := ⟨3, ![32, 2, 512]⟩
abbrev S4x512x256 : Shape := ⟨3, ![4, 512, 256]⟩
abbrev S4x8x128 : Shape := ⟨3, ![4, 8, 128]⟩
abbrev S4x2x512 : Shape := ⟨3, ![4, 2, 512]⟩
abbrev S1x512 : Shape := ⟨2, ![1, 512]⟩
abbrev S1x1024 : Shape := ⟨2, ![1, 1024]⟩
abbrev S1x128 : Shape := ⟨2, ![1, 128]⟩
abbrev S12x128 : Shape := ⟨2, ![12, 128]⟩
abbrev S16x128 : Shape := ⟨2, ![16, 128]⟩
abbrev S1x512x256 : Shape := ⟨3, ![1, 512, 256]⟩
abbrev S512x256 : Shape := ⟨2, ![512, 256]⟩
abbrev S512x128 : Shape := ⟨2, ![512, 128]⟩
abbrev S16x512 : Shape := ⟨2, ![16, 512]⟩
abbrev S16 : Shape := ⟨1, ![16]⟩
abbrev S16x1 : Shape := ⟨2, ![16, 1]⟩
abbrev S4x128 : Shape := ⟨2, ![4, 128]⟩
abbrev S1x256 : Shape := ⟨2, ![1, 256]⟩
abbrev S1x1x512 : Shape := ⟨3, ![1, 1, 512]⟩
abbrev S8x128 : Shape := ⟨2, ![8, 128]⟩
abbrev S1x8x128 : Shape := ⟨3, ![1, 8, 128]⟩

abbrev nBuf : Space → Nat
  | .hbm => 5
  | .vmem => 9
  | .smem => 0
  | _ => 0

abbrev bufTy : (tb : Table) → Fin (tcTables nBuf tb) → BufTy
  | .hbm, ⟨0, _⟩ => ⟨S32x1024, .f32⟩
  | .hbm, ⟨1, _⟩ => ⟨S32x512x256, .f32⟩
  | .hbm, ⟨2, _⟩ => ⟨S32x512x256, .f32⟩
  | .hbm, ⟨3, _⟩ => ⟨S32x8x128, .f32⟩
  | .hbm, ⟨4, _⟩ => ⟨S32x2x512, .f32⟩
  | .local _ .vmem, ⟨0, _⟩ => ⟨S32x1024, .f32⟩
  | .local _ .vmem, ⟨1, _⟩ => ⟨S4x512x256, .f32⟩
  | .local _ .vmem, ⟨2, _⟩ => ⟨S4x512x256, .f32⟩
  | .local _ .vmem, ⟨3, _⟩ => ⟨S4x512x256, .f32⟩
  | .local _ .vmem, ⟨4, _⟩ => ⟨S4x512x256, .f32⟩
  | .local _ .vmem, ⟨5, _⟩ => ⟨S4x8x128, .f32⟩
  | .local _ .vmem, ⟨6, _⟩ => ⟨S4x8x128, .f32⟩
  | .local _ .vmem, ⟨7, _⟩ => ⟨S4x2x512, .f32⟩
  | .local _ .vmem, ⟨8, _⟩ => ⟨S4x2x512, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def k0_off1 (i : grid0.Coords) (c0_i32_25 : BitVec 32) : Fin 2 → Nat :=
  let arg0 : BitVec 32 := BitVec.ofNat 32 (i 0).val
  let c4_i32 : BitVec 32 := 4#32
  let v95 : BitVec 32 := Scalar.muli arg0 c4_i32
  let v96 : BitVec 32 := Scalar.addi v95 c0_i32_25
  let v97 : Index := Scalar.indexCast v96
  let c0 : Index := 0#32
  ![v97.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceScmpIdeal.lean ====
abbrev S32x1024 : Shape := ⟨2, ![32, 1024]⟩
abbrev S32x512x256 : Shape := ⟨3, ![32, 512, 256]⟩
abbrev S32x2x4x128 : Shape := ⟨4, ![32, 2, 4, 128]⟩
abbrev S512 : Shape := ⟨1, ![512]⟩
abbrev S_ : Shape := ⟨0, ![]⟩
abbrev S64x2x128x2x128 : Shape := ⟨5, ![64, 2, 128, 2, 128]⟩
abbrev S64x128x2x2x128 : Shape := ⟨5, ![64, 128, 2, 2, 128]⟩
abbrev S32x512x2x128 : Shape := ⟨4, ![32, 512, 2, 128]⟩
abbrev S32x2x4x512 : Shape := ⟨4, ![32, 2, 4, 512]⟩
abbrev S32x2x4 : Shape := ⟨3, ![32, 2, 4]⟩
abbrev S32x2x4x1 : Shape := ⟨4, ![32, 2, 4, 1]⟩
abbrev S32x8x128 : Shape := ⟨3, ![32, 8, 128]⟩
abbrev S32x2x512 : Shape := ⟨3, ![32, 2, 512]⟩
abbrev S32x2x256x2 : Shape := ⟨4, ![32, 2, 256, 2]⟩
abbrev S32x2x256 : Shape := ⟨3, ![32, 2, 256]⟩
abbrev S32x2x2x1x128 : Shape := ⟨5, ![32, 2, 2, 1, 128]⟩
abbrev S32x2x2x2x128 : Shape := ⟨5, ![32, 2, 2, 2, 128]⟩

abbrev nBuf : Space → Nat
  | .hbm => 64
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x512x256, .f32⟩
  | .hbm, ⟨2, _⟩ => ⟨S32x512x256, .f32⟩
  | .hbm, ⟨3, _⟩ => ⟨S32x2x4x128, .f32⟩
  | .hbm, ⟨4, _⟩ => ⟨S512, .i32⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S64x2x128x2x128, .f32⟩
  | .hbm, ⟨18, _⟩ => ⟨S64x128x2x2x128, .f32⟩
  | .hbm, ⟨19, _⟩ => ⟨S32x512x2x128, .f32⟩
  | .hbm, ⟨20, _⟩ => ⟨S32x2x4x512, .f32⟩
  | .hbm, ⟨21, _⟩ => ⟨S_, .f32⟩
  | .hbm, ⟨22, _⟩ => ⟨S_, .f32⟩
  | .hbm, ⟨23, _⟩ => ⟨S32x2x4x512, .i1⟩
  | .hbm, ⟨24, _⟩ => ⟨S32x2x4x512, .f32⟩
  | .hbm, ⟨25, _⟩ => ⟨S32x2x4x512, .f32⟩
  | .hbm, ⟨26, _⟩ => ⟨S_, .f32⟩
  | .hbm, ⟨27, _⟩ => ⟨S32x2x4, .f32⟩
  | .hbm, ⟨28, _⟩ => ⟨S32x2x4x1, .f32⟩
  | .hbm, ⟨29, _⟩ => ⟨S32x2x4x512, .f32⟩
  | .hbm, ⟨30, _⟩ => ⟨S32x2x4x512, .f32⟩
  | .hbm, ⟨31, _⟩ => ⟨S_, .f32⟩
  | .hbm, ⟨32, _⟩ => ⟨S32x2x4x512, .f32⟩
  | .hbm, ⟨33, _⟩ => ⟨S32x2x4x512, .f32⟩
  | .hbm, ⟨34, _⟩ => ⟨S_, .f32⟩
  | .hbm, ⟨35, _⟩ => ⟨S_, .f32⟩
  | .hbm, ⟨36, _⟩ => ⟨S32x2x4x512, .i1⟩
  | .hbm, ⟨37, _⟩ => ⟨S32x2x4x512, .f32⟩
  | .hbm, ⟨38, _⟩ => ⟨S32x2x4x512, .f32⟩
  | .hbm, ⟨39, _⟩ => ⟨S_, .f32⟩
  | .hbm, ⟨40, _⟩ => ⟨S32x2x4, .f32⟩
  | .hbm, ⟨41, _⟩ => ⟨S32x2x4x1, .f32⟩
  | .hbm, ⟨42, _⟩ => ⟨S_, .f32⟩
  | .hbm, ⟨43, _⟩ => ⟨S32x2x4x1, .f32⟩
  | .hbm, ⟨44, _⟩ => ⟨S32x2x4x1, .i1⟩
  | .hbm, ⟨45, _⟩ => ⟨S_, .f32⟩
  | .hbm, ⟨46, _⟩ => ⟨S_, .f32⟩
  | .hbm, ⟨47, _⟩ => ⟨S32x2x4x1, .f32⟩
  | .hbm, ⟨48, _⟩ => ⟨S32x2x4x1, .f32⟩
  | .hbm, ⟨49, _⟩ => ⟨S32x2x4x512, .f32⟩
  | .hbm, ⟨50, _⟩ => ⟨S32x2x4x512, .f32⟩
  | .hbm, ⟨51, _⟩ => ⟨S64x2x128x2x128, .f32⟩
  | .hbm, ⟨52, _⟩ => ⟨S64x128x2x2x128, .f32⟩
  | .hbm, ⟨53, _⟩ => ⟨S32x512x2x128, .f32⟩
  | .hbm, ⟨54, _⟩ => ⟨S32x2x4x128, .f32⟩
  | .hbm, ⟨55, _⟩ => ⟨S32x8x128, .f32⟩
  | .hbm, ⟨56, _⟩ => ⟨S_, .f32⟩
  | .hbm, ⟨57, _⟩ => ⟨S32x2x512, .f32⟩
  | .hbm, ⟨58, _⟩ => ⟨S32x2x256x2, .f32⟩
  | .hbm, ⟨59, _⟩ => ⟨S_, .f32⟩
  | .hbm, ⟨60, _⟩ => ⟨S32x2x256, .f32⟩
  | .hbm, ⟨61, _⟩ => ⟨S32x2x2x1x128, .f32⟩
  | .hbm, ⟨62, _⟩ => ⟨S32x2x2x2x128, .f32⟩
  | .hbm, ⟨63, _⟩ => ⟨S32x2x512, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_cst_8 : Ref sig .tc := ⟨.hbm, 45, rfl⟩
abbrev main_call2_v0 : Ref sig .tc := ⟨.hbm, 46, rfl⟩
abbrev main_call2_v1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_cst_10 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Proof.Spec.lean ====
/- The problem's mathematics as plain sums over the extended reals: what both programs compute at one row. -/
module

public import Idealize.ShloMosaic.PureOps
public import Idealize.ShloMosaic.Lib.ValueIdx
public import Idealize.ShloMosaic.Lib.Pointwise

@[expose] public section

noncomputable section

namespace Cert.Proof

open Idealize.ShloMosaic

/-- The window of a channel: 2, 4, 8 or 16 rows, by the group of 256 channels it lies in. -/
def win (ch : Fin 1024) : ℕ := 2 ^ (ch.val / 256 + 1)

/-- The sum of the last `w` rows of a sequence of 4096 rows up to row `R`, rows before the sequence counting nothing. -/
def winSum (u : Fin 8192 → Fin 1024 → EReal) (w : ℕ) (R : Fin 8192) (ch : Fin 1024) : EReal :=
  ∑ j ∈ Finset.range w, if j ≤ R.val % 4096 then u ⟨R.val - j, by omega⟩ ch else 0

/-- How many rows a window of `w` holds at row `R` of the batch, as the programs count them. -/
def count (w : ℕ) (R : ℕ) : EReal :=
  FloatOps.sitofp (F := Ideal) FTy.f32 (IntOp.minsi (IntOp.addi (BitVec.ofNat 32 (R % 4096)) 1#32) (BitVec.ofNat 32 w))

/-- The causal window mean of a channel, less the row itself. -/
def poolMean (u : Fin 8192 → Fin 1024 → EReal) (R : Fin 8192) (ch : Fin 1024) : EReal :=
  Ideal.div (winSum u (win ch) R ch) (count (win ch) R.val) - u R ch

/-- The group's mixing product and the scale. -/
def poolMix (m : Fin 1024 → EReal) (pw : Fin 4 → Fin 256 → Fin 256 → EReal) (ps : Fin 1024 → EReal) (e : Fin 1024) : EReal :=
  (∑ x : Fin 256, m ⟨e.val / 256 * 256 + x.val, by omega⟩ * pw ⟨e.val / 256, by omega⟩ x ⟨e.val % 256, by omega⟩) * ps e

/-- The two gated up-projections merged. -/
def merge (y zp o zn : Fin 1024 → EReal) (ga gb : Fin 2048 → EReal) (wup wun : Fin 1024 → Fin 2048 → EReal)
    (d : Fin 2048) : EReal :=
  ga d * (∑ e, y e * zp e * wup e d) + gb d * (∑ e, o e * zn e * wun e d)

/-- The scaled residual and the output projection. -/
def residual (x mix : Fin 2048 → EReal) (wo : Fin 2048 → Fin 2048 → EReal) (d : Fin 2048) : EReal :=
  Ideal.ofBits FTy.f32 1066940400#32 * x d + ∑ k, mix k * wo k d

/-- The mean of a row. -/
def rowMu (z : Fin 2048 → EReal) : EReal := Ideal.div (∑ d, z d) (Ideal.ofBits FTy.f32 1157627904#32)

/-- The layer norm of a row. -/
def layerNorm (z lg lb : Fin 2048 → EReal) (d : Fin 2048) : EReal :=
  (z d - rowMu z) * Ideal.rsqrt (rowMu (fun k => (z k - rowMu z) * (z k - rowMu z)) + Ideal.ofBits FTy.f32 925353388#32) * lg d + lb d

/-- A row of the result. -/
def rowOut (m zp o zn : Fin 1024 → EReal) (ga gb x : Fin 2048 → EReal) (pw : Fin 4 → Fin 256 → Fin 256 → EReal)
    (ps : Fin 1024 → EReal) (wup wun : Fin 1024 → Fin 2048 → EReal) (wo : Fin 2048 → Fin 2048 → EReal)
    (lg lb : Fin 2048 → EReal) : Fin 2048 → EReal :=
  layerNorm (residual x (merge (poolMix m pw ps) zp o zn ga gb wup wun) wo) lg lb

end Cert.Proof

end
-- ==== Proof.KernelPool.lean ====
/- The kernel's causal window means: the doubling sums of rolled rows, read at a row. -/
module

public import proofs.«01_k».proof.Proof.Gen.KernelIdeal.Skeleton
public import proofs.«01_k».proof.Proof.Spec

@[expose] public section

set_option maxRecDepth 16384

noncomputable section

namespace Cert.Proof

open Cert.KernelIdeal Cert.KernelIdeal.Gen
open Idealize.ShloMosaic Idealize.ShloMosaic.TcCoe

/-- The rows and their copy rolled down by `k`, added. -/
def dbl (k : BitVec 32) (s : FVec Ideal S528x256 .f32) : FVec Ideal S528x256 .f32 :=
  addf s (dynamicRotate 0 k none s rotates_S528x256_d0)

/-- What a group of channels makes of its window sums `S` and rows `a`. -/
def poolGroup (S a : FVec Ideal S528x256 .f32) (p : IVec S512x1 32) (w : BitVec 32) : FVec Ideal S512x256 .bf16 :=
  truncf .bf16 (subf (divf (extractStridedSlice S512x256 ![16, 0] S slices_S528x256_o16_0_S512x256)
    (broadcastTo S512x256 (sitofp .f32 (minsi (addi p (broadcast S512x1 1#32)) (broadcast S512x1 w))) broadcasts_S512x1_S512x256))
    (extractStridedSlice S512x256 ![16, 0] a slices_S528x256_o16_0_S512x256)) bitsLt_bf16_f32

/-- `poolGroup` at a row and channel. -/
theorem poolGroup_apply (S a : FVec Ideal S528x256 .f32) (p : IVec S512x1 32) (w : BitVec 32) (r : Fin 512) (c : Fin 256) :
    poolGroup S a p w (ix2 r c) = Ideal.div (S (ix2 ⟨16 + r.val, by omega⟩ c))
      (FloatOps.sitofp (F := Ideal) FTy.f32 (IntOp.minsi (IntOp.addi (p (ix2 r 0)) 1#32) w)) - a (ix2 ⟨16 + r.val, by omega⟩ c) := by
  unfold poolGroup
  pointwise

/-- Adding the rows rolled by `k` turns sums of `k` rows into sums of `2 k`, wherever no row wraps. -/
theorem dbl_apply (s : FVec Ideal S528x256 .f32) (f : ℕ → EReal) (c : Fin 256) (k : ℕ) (kb : BitVec 32)
    (hk : kb = 1#32 ∧ k = 1 ∨ kb = 2#32 ∧ k = 2 ∨ kb = 4#32 ∧ k = 4 ∨ kb = 8#32 ∧ k = 8)
    (hs : ∀ t : Fin 528, k ≤ t.val + 1 → s (ix2 t c) = ∑ j ∈ Finset.range k, f (t.val - j))
    (t : Fin 528) (ht : k + k ≤ t.val + 1) :
    dbl kb s (ix2 t c) = ∑ j ∈ Finset.range (k + k), f (t.val - j) := by
  have roll : dbl kb s (ix2 t c) = s (ix2 t c) + s (ix2 ⟨(t.val + 528 - k) % 528, Nat.mod_lt _ (by norm_num)⟩ c) := by
    unfold dbl
    rcases hk with ⟨rfl, rfl⟩ | ⟨rfl, rfl⟩ | ⟨rfl, rfl⟩ | ⟨rfl, rfl⟩ <;> pointwise
  have hmod : (t.val + 528 - k) % 528 = t.val - k := by
    have : t.val + 528 - k = (t.val - k) + 528 := by omega
    rw [this, Nat.add_mod_right, Nat.mod_eq_of_lt (by omega)]
  rw [roll, hs t (by omega), hs _ (by simp only [hmod]; omega), Finset.sum_range_add]
  congr 1
  refine Finset.sum_congr rfl fun j _ => ?_
  simp only [hmod]
  congr 1
  omega

/-- A column of the rows, as a function of the row number. -/
def col (a : FVec Ideal S528x256 .f32) (c : Fin 256) (t : ℕ) : EReal :=
  if h : t < 528 then a (ix2 ⟨t, h⟩ c) else 0

/-- One row is its own sum. -/
theorem dbl_zero (a : FVec Ideal S528x256 .f32) (c : Fin 256) (t : Fin 528) (_ : 1 ≤ t.val + 1) :
    a (ix2 t c) = ∑ j ∈ Finset.range 1, col a c (t.val - j) := by
  simp [col]

/-- Sums of two rows. -/
theorem dbl1 (a : FVec Ideal S528x256 .f32) (c : Fin 256) (t : Fin 528) (h : 2 ≤ t.val + 1) :
    dbl 1#32 a (ix2 t c) = ∑ j ∈ Finset.range 2, col a c (t.val - j) :=
  dbl_apply a _ c 1 1#32 (by simp) (dbl_zero a c) t h

/-- Sums of four rows. -/
theorem dbl2 (a : FVec Ideal S528x256 .f32) (c : Fin 256) (t : Fin 528) (h : 4 ≤ t.val + 1) :
    dbl 2#32 (dbl 1#32 a) (ix2 t c) = ∑ j ∈ Finset.range 4, col a c (t.val - j) :=
  dbl_apply _ _ c 2 2#32 (by simp) (dbl1 a c) t h

/-- Sums of eight rows. -/
theorem dbl4 (a : FVec Ideal S528x256 .f32) (c : Fin 256) (t : Fin 528) (h : 8 ≤ t.val + 1) :
    dbl 4#32 (dbl 2#32 (dbl 1#32 a)) (ix2 t c) = ∑ j ∈ Finset.range 8, col a c (t.val - j) :=
  dbl_apply _ _ c 4 4#32 (by simp) (dbl2 a c) t h

/-- Sums of sixteen rows. -/
theorem dbl8 (a : FVec Ideal S528x256 .f32) (c : Fin 256) (t : Fin 528) (h : 16 ≤ t.val + 1) :
    dbl 8#32 (dbl 4#32 (dbl 2#32 (dbl 1#32 a))) (ix2 t c) = ∑ j ∈ Finset.range 16, col a c (t.val - j) :=
  dbl_apply _ _ c 8 8#32 (by simp) (dbl4 a c) t h

/-- The first row of a grid point within its sequence. -/
def row0 (i : grid0.Coords) : BitVec 32 :=
  let v0 : BitVec 32 := Scalar.muli (BitVec.ofNat 32 (i 0).val) 512#32
  let v2 : BitVec 32 := Scalar.select (Scalar.cmpi .eq 4096#32 0#32) 1#32 4096#32
  let v3 : BitVec 32 := Scalar.remsi v0 v2
  Scalar.select (Scalar.andi (Scalar.xori (Scalar.cmpi .slt v3 0#32) (Scalar.cmpi .slt v2 0#32)) (Scalar.cmpi .ne v3 0#32))
    (Scalar.addi v3 v2) v3

/-- `row0` is the remainder of the point's first row. -/
theorem row0_eq (i : grid0.Coords) : row0 i = BitVec.ofNat 32 (512 * (i 0).val % 4096) := by
  have h : ∀ n : Fin 16, (let v0 : BitVec 32 := Scalar.muli (BitVec.ofNat 32 n.val) 512#32
      let v2 : BitVec 32 := Scalar.select (Scalar.cmpi .eq 4096#32 0#32) 1#32 4096#32
      let v3 : BitVec 32 := Scalar.remsi v0 v2
      Scalar.select (Scalar.andi (Scalar.xori (Scalar.cmpi .slt v3 0#32) (Scalar.cmpi .slt v2 0#32)) (Scalar.cmpi .ne v3 0#32))
        (Scalar.addi v3 v2) v3) = BitVec.ofNat 32 (512 * n.val % 4096) := by decide +kernel
  exact h (i 0)

/-- The positions of a point's rows within their sequence. -/
theorem pay3_apply (i : grid0.Coords) (r : Fin 512) :
    k0_pay3 i (ix2 r 0) = BitVec.ofNat 32 ((512 * (i 0).val + r.val) % 4096) := by
  have e : k0_pay3 i (ix2 r 0) = row0 i + BitVec.ofNat 32 r.val := by
    unfold k0_pay3 row0
    pointwise
    rfl
  have hm : (512 * (i 0).val + r.val) % 4096 = 512 * (i 0).val % 4096 + r.val := by omega
  rw [e, row0_eq, hm, BitVec.ofNat_add]

/-- The rows a point works on: the sixteen before it (none at the start of a sequence), then its own. -/
theorem pay2_apply (i : grid0.Coords) (h : Vec Ideal S16x1024 .f32) (x : Vec Ideal S512x1024 .f32) (t : Fin 528) (d : Fin 1024) :
    k0_pay2 i h x (ix2 t d) = if ht : t.val < 16 then (if 512 * (i 0).val % 4096 = 0 then 0 else h (ix2 ⟨t.val, ht⟩ d))
      else x (ix2 ⟨t.val - 16, by omega⟩ d) := by
  have e : k0_pay2 i h x (ix2 t d) = if ht : t.val < 16 then
      (Scalar.select (Scalar.cmpi .eq (row0 i) 0#32) (broadcast S16x1024 (Scalar.ofBits (F := Ideal) .f32 0x00000000#32)) h) (ix2 ⟨t.val, ht⟩ d)
      else x (ix2 ⟨t.val - 16, by omega⟩ d) := by
    unfold k0_pay2
    show concatenate S528x1024 0 [⟨S16x1024, Scalar.select (Scalar.cmpi .eq (row0 i) 0#32) (broadcast S16x1024 (Scalar.ofBits (F := Ideal) .f32 0x00000000#32)) h⟩, ⟨S512x1024, x⟩] concatenates_S16x1024_S512x1024_S528x1024_d0 (ix2 t d) = _
    generalize Scalar.select (Scalar.cmpi .eq (row0 i) 0#32) (broadcast S16x1024 (Scalar.ofBits (F := Ideal) .f32 0x00000000#32)) h = z
    pointwise
  rw [e]
  split
  · have hd : ∀ n : Fin 16, Scalar.cmpi .eq (BitVec.ofNat 32 (512 * n.val % 4096)) 0#32 = if 512 * n.val % 4096 = 0 then 1#1 else 0#1 := by
      decide +kernel
    rw [row0_eq, hd (i 0)]
    split
    · simp [Scalar.select]
      pointwise
    · simp [Scalar.select]
  · rfl

/-- A grid point's number is below sixteen. -/
theorem point_lt (i : grid0.Coords) : (i 0).val < 16 := (i 0).isLt

/-- A window of the rows a point works on is the window of the batch. -/
theorem window_eq (u : Fin 8192 → Fin 1024 → EReal) (i : grid0.Coords) (h : Vec Ideal S16x1024 .f32) (x : Vec Ideal S512x1024 .f32)
    (hx : ∀ (r : Fin 512) (d : Fin 1024), x (ix2 r d) = u ⟨512 * (i 0).val + r.val, by have := point_lt i; omega⟩ d)
    (hh : ∀ (r : Fin 16) (d : Fin 1024) (hz : 512 * (i 0).val % 4096 ≠ 0),
      h (ix2 r d) = u ⟨512 * (i 0).val - 16 + r.val, by have := point_lt i; omega⟩ d)
    (a : FVec Ideal S528x256 .f32) (w : ℕ) (hw : w ≤ 16) (r : Fin 512) (c : Fin 256) (ch : Fin 1024)
    (ha : ∀ t : Fin 528, a (ix2 t c) = k0_pay2 i h x (ix2 t ch)) :
    ∑ j ∈ Finset.range w, col a c (16 + r.val - j)
      = winSum u w ⟨512 * (i 0).val + r.val, by have := point_lt i; omega⟩ ch := by
  have hi := point_lt i
  unfold winSum
  refine Finset.sum_congr rfl fun j hj => ?_
  have hj' : j < 16 := lt_of_lt_of_le (Finset.mem_range.mp hj) hw
  have ht : 16 + r.val - j < 528 := by omega
  unfold col
  rw [dif_pos ht, ha, pay2_apply]
  by_cases h1 : 16 + r.val - j < 16
  · rw [dif_pos h1]
    by_cases h0 : 512 * (i 0).val % 4096 = 0
    · rw [if_pos h0, if_neg (by simp only; omega)]
    · rw [if_neg h0, if_pos (by simp only; omega), hh _ _ h0]
      congr 1
      apply Fin.ext
      simp only
      omega
  · rw [dif_neg h1, if_pos (by simp only; omega), hx]
    congr 1
    apply Fin.ext
    simp only
    omega

/-- What one group of channels makes of the rows is the window mean of the batch. -/
theorem group_eq (u : Fin 8192 → Fin 1024 → EReal) (i : grid0.Coords) (h : Vec Ideal S16x1024 .f32) (x : Vec Ideal S512x1024 .f32)
    (hx : ∀ (r : Fin 512) (d : Fin 1024), x (ix2 r d) = u ⟨512 * (i 0).val + r.val, by have := point_lt i; omega⟩ d)
    (hh : ∀ (r : Fin 16) (d : Fin 1024) (hz : 512 * (i 0).val % 4096 ≠ 0),
      h (ix2 r d) = u ⟨512 * (i 0).val - 16 + r.val, by have := point_lt i; omega⟩ d)
    (S a : FVec Ideal S528x256 .f32) (w : ℕ) (hw : w ≤ 16) (r : Fin 512) (c : Fin 256) (ch : Fin 1024) (hwin : win ch = w)
    (ha : ∀ t : Fin 528, a (ix2 t c) = k0_pay2 i h x (ix2 t ch))
    (hS : ∀ t : Fin 528, w ≤ t.val + 1 → S (ix2 t c) = ∑ j ∈ Finset.range w, col a c (t.val - j)) :
    poolGroup S a (k0_pay3 i) (BitVec.ofNat 32 w) (ix2 r c)
      = poolMean u ⟨512 * (i 0).val + r.val, by have := point_lt i; omega⟩ ch := by
  rw [poolGroup_apply, hS _ (by simp only; omega), pay3_apply, ha, pay2_apply, dif_neg (by simp only; omega), hx]
  simp only
  rw [window_eq u i h x hx hh a w hw r c ch ha]
  unfold poolMean count
  rw [hwin]
  congr 3
  omega

/-- All four groups of window means of a point's rows. -/
def meanRows (i : grid0.Coords) (h : Vec Ideal S16x1024 .f32) (x : Vec Ideal S512x1024 .f32) : FVec Ideal S512x1024 .bf16 :=
  k0_pay11 (k0_pay4 i h x) (k0_pay8 (k0_pay3 i) (k0_pay5 i h x) (k0_pay6 i h x) k0_pay7)
    (k0_pay9 (k0_pay2 i h x) (k0_pay3 i)) (k0_pay10 (k0_pay2 i h x) (k0_pay3 i))

/-- The channels of group `o / 256`, cut out of the rows. -/
theorem slice_apply (v : FVec Ideal S528x1024 .f32) (o : ℕ) (ho : o + 256 ≤ 1024) (H) (t : Fin 528) (c : Fin 256) :
    extractStridedSlice S528x256 ![0, o] v H (ix2 t c) = v (ix2 t ⟨o + c.val, by omega⟩) := by
  pointwise

/-- A point's window means are the batch's. -/
theorem meanRows_apply (u : Fin 8192 → Fin 1024 → EReal) (i : grid0.Coords) (h : Vec Ideal S16x1024 .f32) (x : Vec Ideal S512x1024 .f32)
    (hx : ∀ (r : Fin 512) (d : Fin 1024), x (ix2 r d) = u ⟨512 * (i 0).val + r.val, by have := point_lt i; omega⟩ d)
    (hh : ∀ (r : Fin 16) (d : Fin 1024) (hz : 512 * (i 0).val % 4096 ≠ 0),
      h (ix2 r d) = u ⟨512 * (i 0).val - 16 + r.val, by have := point_lt i; omega⟩ d)
    (r : Fin 512) (ch : Fin 1024) :
    meanRows i h x (ix2 r ch) = poolMean u ⟨512 * (i 0).val + r.val, by have := point_lt i; omega⟩ ch := by
  have e4 : k0_pay4 i h x = poolGroup (dbl 1#32 (extractStridedSlice S528x256 ![0, 0] (k0_pay2 i h x) slices_S528x1024_o0_0_S528x256))
      (extractStridedSlice S528x256 ![0, 0] (k0_pay2 i h x) slices_S528x1024_o0_0_S528x256) (k0_pay3 i) (BitVec.ofNat 32 2) := rfl
  have e8 : k0_pay8 (k0_pay3 i) (k0_pay5 i h x) (k0_pay6 i h x) k0_pay7
      = poolGroup (dbl 2#32 (dbl 1#32 (extractStridedSlice S528x256 ![0, 256] (k0_pay2 i h x) slices_S528x1024_o0_256_S528x256)))
      (extractStridedSlice S528x256 ![0, 256] (k0_pay2 i h x) slices_S528x1024_o0_256_S528x256) (k0_pay3 i) (BitVec.ofNat 32 4) := rfl
  have e9 : k0_pay9 (k0_pay2 i h x) (k0_pay3 i)
      = poolGroup (dbl 4#32 (dbl 2#32 (dbl 1#32 (extractStridedSlice S528x256 ![0, 512] (k0_pay2 i h x) slices_S528x1024_o0_512_S528x256))))
      (extractStridedSlice S528x256 ![0, 512] (k0_pay2 i h x) slices_S528x1024_o0_512_S528x256) (k0_pay3 i) (BitVec.ofNat 32 8) := rfl
  have e10 : k0_pay10 (k0_pay2 i h x) (k0_pay3 i)
      = poolGroup (dbl 8#32 (dbl 4#32 (dbl 2#32 (dbl 1#32 (extractStridedSlice S528x256 ![0, 768] (k0_pay2 i h x) slices_S528x1024_o0_768_S528x256)))))
      (extractStridedSlice S528x256 ![0, 768] (k0_pay2 i h x) slices_S528x1024_o0_768_S528x256) (k0_pay3 i) (BitVec.ofNat 32 16) := rfl
  have e11 : meanRows i h x (ix2 r ch) = if h0 : ch.val < 256 then k0_pay4 i h x (ix2 r ⟨ch.val, h0⟩)
      else if h1 : ch.val - 256 < 256 then k0_pay8 (k0_pay3 i) (k0_pay5 i h x) (k0_pay6 i h x) k0_pay7 (ix2 r ⟨ch.val - 256, h1⟩)
      else if h2 : ch.val - 256 - 256 < 256 then k0_pay9 (k0_pay2 i h x) (k0_pay3 i) (ix2 r ⟨ch.val - 256 - 256, h2⟩)
      else k0_pay10 (k0_pay2 i h x) (k0_pay3 i) (ix2 r ⟨ch.val - 256 - 256 - 256, by omega⟩) := by
    unfold meanRows k0_pay11
    generalize k0_pay4 i h x = g1
    generalize k0_pay8 (k0_pay3 i) (k0_pay5 i h x) (k0_pay6 i h x) k0_pay7 = g2
    generalize k0_pay9 (k0_pay2 i h x) (k0_pay3 i) = g3
    generalize k0_pay10 (k0_pay2 i h x) (k0_pay3 i) = g4
    pointwise
  rw [e11]
  have hwin : ∀ g : ℕ, ch.val / 256 = g → win ch = 2 ^ (g + 1) := fun g hg => by unfold win; rw [hg]
  split
  · rw [e4]
    refine group_eq u i h x hx hh _ _ 2 (by omega) r _ ch (hwin 0 (by omega)) (fun t => ?_) (fun t ht => dbl1 _ _ t ht)
    rw [slice_apply _ 0 (by omega)]; congr 2; apply Fin.ext; simp only; omega
  · split
    · rw [e8]
      refine group_eq u i h x hx hh _ _ 4 (by omega) r _ ch (hwin 1 (by omega)) (fun t => ?_) (fun t ht => dbl2 _ _ t ht)
      rw [slice_apply _ 256 (by omega)]; congr 2; apply Fin.ext; simp only; omega
    · split
      · rw [e9]
        refine group_eq u i h x hx hh _ _ 8 (by omega) r _ ch (hwin 2 (by omega)) (fun t => ?_) (fun t ht => dbl4 _ _ t ht)
        rw [slice_apply _ 512 (by omega)]; congr 2; apply Fin.ext; simp only; omega
      · rw [e10]
        refine group_eq u i h x hx hh _ _ 16 (by omega) r _ ch (hwin 3 (by omega)) (fun t => ?_) (fun t ht => dbl8 _ _ t ht)
        rw [slice_apply _ 768 (by omega)]; congr 2; apply Fin.ext; simp only; omega

end Cert.Proof

end
-- ==== Proof.KernelChunk.lean ====
/- What the kernel's body computes in each of its four chunks of 128 rows, read at an index. -/
module

public import proofs.«01_k».proof.Proof.KernelPool

@[expose] public section

set_option maxRecDepth 16384

noncomputable section

namespace Cert.Proof

open Cert.KernelIdeal Cert.KernelIdeal.Gen
open Idealize.ShloMosaic Idealize.ShloMosaic.TcCoe

/-- The four mixing matrices, by their group. -/
def sel4 (p0 p1 p2 p3 : Vec Ideal S1x256x256 .bf16) (g : Fin 4) (x y : Fin 256) : EReal :=
  if g.val = 0 then p0 (ix3 0 x y) else if g.val = 1 then p1 (ix3 0 x y) else if g.val = 2 then p2 (ix3 0 x y) else p3 (ix3 0 x y)

/-- The four groups' products side by side, at a channel. -/
theorem pick (m : Fin 1024 → EReal) (p0 p1 p2 p3 : Vec Ideal S1x256x256 .bf16) (k : Fin 1024) :
    (if h : k.val < 256 then ∑ x : Fin 256, m ⟨x.val, by omega⟩ * p0 (ix3 0 x ⟨k.val, h⟩)
      else if h1 : k.val - 256 < 256 then ∑ x : Fin 256, m ⟨256 + x.val, by omega⟩ * p1 (ix3 0 x ⟨k.val - 256, h1⟩)
      else if h2 : k.val - 256 - 256 < 256 then ∑ x : Fin 256, m ⟨512 + x.val, by omega⟩ * p2 (ix3 0 x ⟨k.val - 256 - 256, h2⟩)
      else ∑ x : Fin 256, m ⟨768 + x.val, by omega⟩ * p3 (ix3 0 x ⟨k.val - 256 - 256 - 256, by omega⟩))
      = ∑ x : Fin 256, m ⟨k.val / 256 * 256 + x.val, by omega⟩ * sel4 p0 p1 p2 p3 ⟨k.val / 256, by omega⟩ x ⟨k.val % 256, by omega⟩ := by
  unfold sel4
  split
  · have e : k.val / 256 = 0 := by omega
    have e' : k.val % 256 = k.val := by omega
    refine Finset.sum_congr rfl fun x _ => ?_
    simp only [e, e', if_true]
    simp
  · split
    · have e : k.val / 256 = 1 := by omega
      have e' : k.val % 256 = k.val - 256 := by omega
      refine Finset.sum_congr rfl fun x _ => ?_
      simp [e, e']
    · split
      · have e : k.val / 256 = 2 := by omega
        have e' : k.val % 256 = k.val - 256 - 256 := by omega
        refine Finset.sum_congr rfl fun x _ => ?_
        simp [e, e']
      · have e : k.val / 256 = 3 := by omega
        have e' : k.val % 256 = k.val - 256 - 256 - 256 := by omega
        refine Finset.sum_congr rfl fun x _ => ?_
        simp [e, e']

variable (v88 : FVec Ideal S512x1024 .bf16) (p0 p1 p2 p3 : Vec Ideal S1x256x256 .bf16) (ps : Vec Ideal S1x1024 .f32)
  (zp o zn : Vec Ideal S128x1024 .bf16) (wup wun : Vec Ideal S1024x2048 .bf16) (ga gb : Vec Ideal S128x2048 .bf16)
  (wo : Vec Ideal S2048x2048 .bf16) (x : Vec Ideal S128x2048 .f32) (lg lb : Vec Ideal S1x2048 .f32) (r : Fin 128) (d : Fin 2048)

/-- A row of a chunk from its window means `m`. -/
def chunkRow (m : Fin 1024 → EReal) : EReal :=
  rowOut m (fun e => zp (ix2 r e)) (fun e => o (ix2 r e)) (fun e => zn (ix2 r e)) (fun d => ga (ix2 r d)) (fun d => gb (ix2 r d))
    (fun d => x (ix2 r d)) (sel4 p0 p1 p2 p3) (fun e => ps (ix2 0 e)) (fun e d => wup (ix2 e d)) (fun e d => wun (ix2 e d))
    (fun e d => wo (ix2 e d)) (fun d => lg (ix2 0 d)) (fun d => lb (ix2 0 d)) d

/-- The first chunk's gated pooling product. -/
theorem up0 (g1 g2 g3 g4 : FVec Ideal S512x256 .bf16) :
    k0_pay12 g1 g2 g3 g4 p0 p1 p2 p3 ps zp wup (ix2 r d)
      = ∑ e, poolMix (fun ch => k0_pay11 g1 g2 g3 g4 (ix2 ⟨r.val, by omega⟩ ch)) (sel4 p0 p1 p2 p3) (fun e => ps (ix2 0 e)) e
        * zp (ix2 r e) * wup (ix2 e d) := by
  unfold k0_pay12
  generalize k0_pay11 g1 g2 g3 g4 = v88
  pointwise
  refine Finset.sum_congr rfl fun k _ => ?_
  exact congrArg (fun z => z * ps (ix2 0 k) * zp (ix2 r k) * wup (ix2 k d)) (pick (fun ch => v88 (ix2 ⟨r.val, by omega⟩ ch)) p0 p1 p2 p3 k)

/-- The second chunk's gated pooling product. -/
theorem up1 : k0_pay16 v88 p0 p1 p2 p3 ps zp wup (ix2 r d)
      = ∑ e, poolMix (fun ch => v88 (ix2 ⟨128 + r.val, by omega⟩ ch)) (sel4 p0 p1 p2 p3) (fun e => ps (ix2 0 e)) e
        * zp (ix2 r e) * wup (ix2 e d) := by
  unfold k0_pay16
  pointwise
  refine Finset.sum_congr rfl fun k _ => ?_
  exact congrArg (fun z => z * ps (ix2 0 k) * zp (ix2 r k) * wup (ix2 k d)) (pick (fun ch => v88 (ix2 ⟨128 + r.val, by omega⟩ ch)) p0 p1 p2 p3 k)

/-- The third chunk's gated pooling rows. -/
theorem up2 (e : Fin 1024) : k0_pay19 v88 p0 p1 p2 p3 ps zp (ix2 r e)
      = poolMix (fun ch => v88 (ix2 ⟨256 + r.val, by omega⟩ ch)) (sel4 p0 p1 p2 p3) (fun e => ps (ix2 0 e)) e
        * zp (ix2 r e) := by
  unfold k0_pay19
  pointwise
  exact congrArg (fun z => z * ps (ix2 0 e) * zp (ix2 r e)) (pick (fun ch => v88 (ix2 ⟨256 + r.val, by omega⟩ ch)) p0 p1 p2 p3 e)

/-- The fourth chunk's pooling rows. -/
theorem up3 (e : Fin 1024) : k0_pay23 v88 p0 p1 p2 p3 ps (ix2 r e)
      = poolMix (fun ch => v88 (ix2 ⟨384 + r.val, by omega⟩ ch)) (sel4 p0 p1 p2 p3) (fun e => ps (ix2 0 e)) e := by
  unfold k0_pay23
  pointwise
  exact congrArg (fun z => z * ps (ix2 0 e)) (pick (fun ch => v88 (ix2 ⟨384 + r.val, by omega⟩ ch)) p0 p1 p2 p3 e)

/-- The first chunk's rows. -/
theorem chunk0 (g1 g2 g3 g4 : FVec Ideal S512x256 .bf16) :
    k0_pay15 (k0_pay14 (k0_pay12 g1 g2 g3 g4 p0 p1 p2 p3 ps zp wup) (k0_pay13 o zn) wun ga gb wo x lg) lb (ix2 r d)
      = chunkRow p0 p1 p2 p3 ps zp o zn wup wun ga gb wo x lg lb r d
        (fun ch => k0_pay11 g1 g2 g3 g4 (ix2 ⟨r.val, by omega⟩ ch)) := by
  have h := fun d => up0 p0 p1 p2 p3 ps zp wup r d g1 g2 g3 g4
  revert h
  generalize k0_pay12 g1 g2 g3 g4 p0 p1 p2 p3 ps zp wup = a
  intro h
  have e : k0_pay15 (k0_pay14 a (k0_pay13 o zn) wun ga gb wo x lg) lb (ix2 r d)
      = layerNorm (residual (fun d => x (ix2 r d)) (fun d => ga (ix2 r d) * a (ix2 r d) + gb (ix2 r d) * ∑ e, o (ix2 r e) * zn (ix2 r e) * wun (ix2 e d)) (fun d e => wo (ix2 d e))) (fun d => lg (ix2 0 d)) (fun d => lb (ix2 0 d)) d := by
    unfold k0_pay15 k0_pay14 k0_pay13
    pointwise
    rfl
  rw [e]
  simp only [h]
  rfl

/-- The second chunk's rows. -/
theorem chunk1 :
    k0_pay18 (k0_pay17 (k0_pay16 v88 p0 p1 p2 p3 ps zp wup) o zn wun ga gb wo x) lg lb (ix2 r d)
      = chunkRow p0 p1 p2 p3 ps zp o zn wup wun ga gb wo x lg lb r d (fun ch => v88 (ix2 ⟨128 + r.val, by omega⟩ ch)) := by
  have h := fun d => up1 v88 p0 p1 p2 p3 ps zp wup r d
  revert h
  generalize k0_pay16 v88 p0 p1 p2 p3 ps zp wup = a
  intro h
  have e : k0_pay18 (k0_pay17 a o zn wun ga gb wo x) lg lb (ix2 r d)
      = layerNorm (residual (fun d => x (ix2 r d)) (fun d => ga (ix2 r d) * a (ix2 r d) + gb (ix2 r d) * ∑ e, o (ix2 r e) * zn (ix2 r e) * wun (ix2 e d)) (fun d e => wo (ix2 d e))) (fun d => lg (ix2 0 d)) (fun d => lb (ix2 0 d)) d := by
    unfold k0_pay18 k0_pay17
    pointwise
    rfl
  rw [e]
  simp only [h]
  rfl

/-- The third chunk's rows. -/
theorem chunk2 :
    k0_pay22 (k0_pay20 (k0_pay19 v88 p0 p1 p2 p3 ps zp) wup o zn wun ga gb wo x)
        (k0_pay21 (k0_pay19 v88 p0 p1 p2 p3 ps zp) wup o zn wun ga gb wo x) lg lb (ix2 r d)
      = chunkRow p0 p1 p2 p3 ps zp o zn wup wun ga gb wo x lg lb r d (fun ch => v88 (ix2 ⟨256 + r.val, by omega⟩ ch)) := by
  have h := fun d => up2 v88 p0 p1 p2 p3 ps zp r d
  revert h
  generalize k0_pay19 v88 p0 p1 p2 p3 ps zp = a
  intro h
  have e : k0_pay22 (k0_pay20 a wup o zn wun ga gb wo x) (k0_pay21 a wup o zn wun ga gb wo x) lg lb (ix2 r d)
      = layerNorm (residual (fun d => x (ix2 r d)) (fun d => ga (ix2 r d) * (∑ e, a (ix2 r e) * wup (ix2 e d)) + gb (ix2 r d) * ∑ e, o (ix2 r e) * zn (ix2 r e) * wun (ix2 e d)) (fun d e => wo (ix2 d e))) (fun d => lg (ix2 0 d)) (fun d => lb (ix2 0 d)) d := by
    unfold k0_pay22 k0_pay21 k0_pay20
    pointwise
    rfl
  rw [e]
  simp only [h]
  rfl

/-- The fourth chunk's rows. -/
theorem chunk3 :
    k0_pay1 (k0_pay24 (k0_pay23 v88 p0 p1 p2 p3 ps) zp wup o zn wun ga gb wo x)
        (k0_pay25 (k0_pay23 v88 p0 p1 p2 p3 ps) zp wup o zn wun ga gb wo x) lg lb (ix2 r d)
      = chunkRow p0 p1 p2 p3 ps zp o zn wup wun ga gb wo x lg lb r d (fun ch => v88 (ix2 ⟨384 + r.val, by omega⟩ ch)) := by
  have h := fun d => up3 v88 p0 p1 p2 p3 ps r d
  revert h
  generalize k0_pay23 v88 p0 p1 p2 p3 ps = a
  intro h
  have e : k0_pay1 (k0_pay24 a zp wup o zn wun ga gb wo x) (k0_pay25 a zp wup o zn wun ga gb wo x) lg lb (ix2 r d)
      = layerNorm (residual (fun d => x (ix2 r d)) (fun d => ga (ix2 r d) * (∑ e, a (ix2 r e) * zp (ix2 r e) * wup (ix2 e d)) + gb (ix2 r d) * ∑ e, o (ix2 r e) * zn (ix2 r e) * wun (ix2 e d)) (fun d e => wo (ix2 d e))) (fun d => lg (ix2 0 d)) (fun d => lb (ix2 0 d)) d := by
    unfold k0_pay1 k0_pay25 k0_pay24
    pointwise
    rfl
  rw [e]
  simp only [h]
  rfl

end Cert.Proof

end
-- ==== Proof.KernelOut.lean ====
/- The block that a grid point of the kernel leaves, read at a row and column. -/
module

public import proofs.«01_k».proof.Proof.KernelChunk
public import proofs.«01_k».proof.Proof.Gen.KernelIdeal.Value
public import Idealize.ShloMosaic.Lib.Pipeline.ValueKit.Tiles

@[expose] public section

set_option maxRecDepth 16384

noncomputable section

namespace Cert.Proof

open Cert.KernelIdeal Cert.KernelIdeal.Gen
open Idealize.ShloMosaic Idealize.ShloMosaic.TcCoe

/-- A chunk's row, its operands read where they stand in the block. -/
theorem chunkRow_eq {p0 p1 p2 p3 : Vec Ideal S1x256x256 .bf16} {ps : Vec Ideal S1x1024 .f32}
    {zp o zn : Vec Ideal S128x1024 .bf16} {wup wun : Vec Ideal S1024x2048 .bf16} {ga gb : Vec Ideal S128x2048 .bf16}
    {wo : Vec Ideal S2048x2048 .bf16} {x : Vec Ideal S128x2048 .f32} {lg lb : Vec Ideal S1x2048 .f32} {r : Fin 128} {d : Fin 2048}
    {m m' zp' o' zn' : Fin 1024 → EReal} {ga' gb' x' : Fin 2048 → EReal} {pw : Fin 4 → Fin 256 → Fin 256 → EReal}
    (hm : ∀ ch, m ch = m' ch) (h2 : ∀ e, zp (ix2 r e) = zp' e) (h3 : ∀ e, o (ix2 r e) = o' e) (h4 : ∀ e, zn (ix2 r e) = zn' e)
    (h5 : ∀ e, ga (ix2 r e) = ga' e) (h6 : ∀ e, gb (ix2 r e) = gb' e) (h7 : ∀ e, x (ix2 r e) = x' e)
    (h8 : ∀ g a b, sel4 p0 p1 p2 p3 g a b = pw g a b) :
    chunkRow p0 p1 p2 p3 ps zp o zn wup wun ga gb wo x lg lb r d m
      = rowOut m' zp' o' zn' ga' gb' x' pw (fun e => ps (ix2 0 e)) (fun e d => wup (ix2 e d)) (fun e d => wun (ix2 e d))
        (fun e d => wo (ix2 e d)) (fun d => lg (ix2 0 d)) (fun d => lb (ix2 0 d)) d := by
  unfold chunkRow
  rw [funext hm, funext h2, funext h3, funext h4, funext h5, funext h6, funext h7, funext fun g => funext fun a => funext fun b => h8 g a b]

/-- The mixing matrices as loaded are the groups of the block. -/
theorem sel4_load (X : Vec Ideal S4x256x256 .bf16) (g : Fin 4) (a b : Fin 256) :
    sel4 (View.ld X (Rect.unit (s := S4x256x256) ![0, 0, 0] S1x256x256.size inb_S4x256x256_S1x256x256_0_0_0))
      (View.ld X (Rect.unit (s := S4x256x256) ![1, 0, 0] S1x256x256.size inb_S4x256x256_S1x256x256_1_0_0))
      (View.ld X (Rect.unit (s := S4x256x256) ![2, 0, 0] S1x256x256.size inb_S4x256x256_S1x256x256_2_0_0))
      (View.ld X (Rect.unit (s := S4x256x256) ![3, 0, 0] S1x256x256.size inb_S4x256x256_S1x256x256_3_0_0)) g a b
      = X (ix3 g a b) := by
  unfold sel4
  have key : ∀ (o : ℕ) (inb : ∀ a, ![o, 0, 0] a + S1x256x256.size a ≤ S4x256x256.size a), g.val = o →
      View.ld X (Rect.unit (s := S4x256x256) ![o, 0, 0] S1x256x256.size inb) (ix3 0 a b) = X (ix3 g a b) := fun o inb ho =>
    View.ld_unit_apply_of _ _ _ _ _ _ fun q => match q with
      | ⟨0, _⟩ => ho
      | ⟨1, _⟩ => (Nat.zero_add a.val).symm
      | ⟨2, _⟩ => (Nat.zero_add b.val).symm
  split
  · exact key 0 _ (by omega)
  · split
    · exact key 1 _ (by omega)
    · split
      · exact key 2 _ (by omega)
      · exact key 3 _ (by omega)

/-- Offsets that are all zero. -/
theorem hz : (![0, 0] : Fin 2 → Nat) = fun _ => 0 := funext fun a => by fin_cases a <;> rfl

/-- What a grid point leaves at row `R` and column `d` of its block: the layer's row from its window means. -/
theorem out_apply (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S512x2048 .f32) (harg8 : arg8.IsWhole) (arg9 : Memref sig .tc .vmem S4x256x256 .bf16) (harg9 : arg9.IsWhole) (arg10 : Memref sig .tc .vmem S1x1024 .f32) (harg10 : arg10.IsWhole) (arg11 : Memref sig .tc .vmem S1024x2048 .bf16) (harg11 : arg11.IsWhole) (arg12 : Memref sig .tc .vmem S1024x2048 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S512x2048 .f32) (harg16 : arg16.IsWhole)
    (x0 : Vec Ideal S16x1024 .f32) (x1 : Vec Ideal S512x1024 .f32) (x2 : Vec Ideal S512x1024 .bf16) (x3 : Vec Ideal S512x1024 .bf16) (x4 : Vec Ideal S512x1024 .bf16) (x5 : Vec Ideal S512x2048 .bf16) (x6 : Vec Ideal S512x2048 .bf16) (x7 : Vec Ideal S512x2048 .f32) (x8 : Vec Ideal S4x256x256 .bf16) (x9 : Vec Ideal S1x1024 .f32) (x10 : Vec Ideal S1024x2048 .bf16) (x11 : Vec Ideal S1024x2048 .bf16) (x12 : Vec Ideal S2048x2048 .bf16) (x13 : Vec Ideal S1x2048 .f32) (x14 : Vec Ideal S1x2048 .f32)
    (R : Fin 512) (d : Fin 2048) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 (ix2 R d)
      = rowOut (fun ch => meanRows i x0 x1 (ix2 R ch)) (fun e => x2 (ix2 R e)) (fun e => x3 (ix2 R e)) (fun e => x4 (ix2 R e))
        (fun d => x5 (ix2 R d)) (fun d => x6 (ix2 R d)) (fun d => x7 (ix2 R d)) (fun g a b => x8 (ix3 g a b)) (fun e => x9 (ix2 0 e))
        (fun e d => x10 (ix2 e d)) (fun e d => x11 (ix2 e d)) (fun e d => x12 (ix2 e d)) (fun d => x13 (ix2 0 d)) (fun d => x14 (ix2 0 d)) d := by
  unfold out0_A_15
  have hc := cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14
  rw [View.read_writes_eq_canon _ _ _ hc]
  refine View.canon_eq_of_allAt _ _ _ (hc _) ?_
  clear hc
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread, harg10.read_unread, harg11.read_unread,
    harg12.read_unread, harg13.read_unread, harg14.read_unread, harg15.read_unread,
    View.ld_unit_zero (S := S16x1024) hz, View.ld_unit_zero (S := S512x1024) hz, View.ld_unit_zero (S := S1x1024) hz,
    View.ld_unit_zero (S := S1024x2048) hz, View.ld_unit_zero (S := S2048x2048) hz, View.ld_unit_zero (S := S1x2048) hz]
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro x hx
    obtain ⟨r, e, rfl⟩ : ∃ (r : Fin 128) (e : Fin 2048), x = ix2 r e := ⟨_, _, eq_ix2 x⟩
    have h0 : R.val = 384 + r.val := hx 0
    obtain rfl : d = e := Fin.ext ((hx 1).trans (Nat.zero_add _))
    refine (chunk3 ..).trans (chunkRow_eq (fun ch => ?_) (fun e => ?_) (fun e => ?_) (fun e => ?_) (fun e => ?_) (fun e => ?_)
      (fun e => ?_) (sel4_load x8))
    · exact congrArg (fun q => meanRows i x0 x1 (ix2 q ch)) (Fin.ext (by simp only []; omega))
    all_goals exact View.ld_unit_apply_of _ _ _ _ _ _ (Fin.forall_fin_two.mpr ⟨h0, (Nat.zero_add _).symm⟩)
  · intro x hx
    obtain ⟨r, e, rfl⟩ : ∃ (r : Fin 128) (e : Fin 2048), x = ix2 r e := ⟨_, _, eq_ix2 x⟩
    have h0 : R.val = 256 + r.val := hx 0
    obtain rfl : d = e := Fin.ext ((hx 1).trans (Nat.zero_add _))
    refine (chunk2 ..).trans (chunkRow_eq (fun ch => ?_) (fun e => ?_) (fun e => ?_) (fun e => ?_) (fun e => ?_) (fun e => ?_)
      (fun e => ?_) (sel4_load x8))
    · exact congrArg (fun q => meanRows i x0 x1 (ix2 q ch)) (Fin.ext (by simp only []; omega))
    all_goals exact View.ld_unit_apply_of _ _ _ _ _ _ (Fin.forall_fin_two.mpr ⟨h0, (Nat.zero_add _).symm⟩)
  · intro x hx
    obtain ⟨r, e, rfl⟩ : ∃ (r : Fin 128) (e : Fin 2048), x = ix2 r e := ⟨_, _, eq_ix2 x⟩
    have h0 : R.val = 128 + r.val := hx 0
    obtain rfl : d = e := Fin.ext ((hx 1).trans (Nat.zero_add _))
    refine (chunk1 ..).trans (chunkRow_eq (fun ch => ?_) (fun e => ?_) (fun e => ?_) (fun e => ?_) (fun e => ?_) (fun e => ?_)
      (fun e => ?_) (sel4_load x8))
    · exact congrArg (fun q => meanRows i x0 x1 (ix2 q ch)) (Fin.ext (by simp only []; omega))
    all_goals exact View.ld_unit_apply_of _ _ _ _ _ _ (Fin.forall_fin_two.mpr ⟨h0, (Nat.zero_add _).symm⟩)
  · intro x hx
    obtain ⟨r, e, rfl⟩ : ∃ (r : Fin 128) (e : Fin 2048), x = ix2 r e := ⟨_, _, eq_ix2 x⟩
    have h0 : R.val = 0 + r.val := hx 0
    obtain rfl : d = e := Fin.ext ((hx 1).trans (Nat.zero_add _))
    refine (chunk0 ..).trans (chunkRow_eq (fun ch => ?_) (fun e => ?_) (fun e => ?_) (fun e => ?_) (fun e => ?_) (fun e => ?_)
      (fun e => ?_) (sel4_load x8))
    · exact congrArg (fun q => meanRows i x0 x1 (ix2 q ch)) (Fin.ext (by simp only []; omega))
    all_goals exact View.ld_unit_apply_of _ _ _ _ _ _ (Fin.forall_fin_two.mpr ⟨h0, (Nat.zero_add _).symm⟩)

end Cert.Proof

end
-- ==== Proof.KernelBlocks.lean ====
/- The kernel's blocks at the places of its arguments, and its result array read at a row and column. -/
module

public import proofs.«01_k».proof.Proof.KernelOut
public import Idealize.ShloMosaic.Lib.Pipeline.ValueKit.Geometry

@[expose] public section

set_option maxRecDepth 16384

noncomputable section

namespace Cert.Proof

open Cert.KernelIdeal Cert.KernelIdeal.Gen
open Idealize.ShloMosaic Idealize.ShloMosaic.TcCoe

variable (m : (ℓ : Loc nD τ sig) → Buf (Elt Ideal) ℓ) (c : Dev nD) (t : Fin cfg0.N)

/-- A grid point's coordinate is its number. -/
theorem coord_eq : ∀ t : Fin cfg0.N, (grid0.coords t 0).val = t.val := (by decide +kernel : ∀ t : Fin grid0.N, _)

theorem at0 : ∀ t : Fin cfg0.N, win0_0.index t = ![t.val * 32 - 1, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 1] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 1] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![0, 0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![0, 0] := (by decide +kernel : ∀ t : Fin grid0.N, _)
theorem at11 : ∀ t : Fin cfg0.N, win0_11.index t = ![0, 0] := (by decide +kernel : ∀ t : Fin grid0.N, _)
theorem at12 : ∀ t : Fin cfg0.N, win0_12.index t = ![0, 0] := (by decide +kernel : ∀ t : Fin grid0.N, _)
theorem at13 : ∀ t : Fin cfg0.N, win0_13.index t = ![0, 0] := (by decide +kernel : ∀ t : Fin grid0.N, _)
theorem at14 : ∀ t : Fin cfg0.N, win0_14.index t = ![0, 0] := (by decide +kernel : ∀ t : Fin grid0.N, _)
theorem at15 : ∀ t : Fin cfg0.N, win0_15.index t = ![t.val, 0] := (by decide +kernel : ∀ t : Fin grid0.N, _)

theorem pt_lt : t.val < 16 := t.isLt

/-- The rows just before a point's, of the pooled array. -/
theorem blk0 (r : Fin 16) (d : Fin 1024) : iblk m c 0 t (ix2 r d)
    = m ((c : Thread nD τ).loc main_arg0) (ix2 ⟨512 * t.val - 16 + r.val, by have := pt_lt t; omega⟩ d) := by
  refine Eq.trans ?_ (congrFun (V_main_arg0 m c) _)
  blk_simp [iblk, at0]
  refine congrArg _ ?_
  blk_ext [at0]

/-- A point's rows of the pooled array. -/
theorem blk1 (r : Fin 512) (d : Fin 1024) : iblk m c 1 t (ix2 r d)
    = m ((c : Thread nD τ).loc main_arg0) (ix2 ⟨512 * t.val + r.val, by have := pt_lt t; omega⟩ d) := by
  refine Eq.trans ?_ (congrFun (V_main_arg0 m c) _)
  blk_simp [iblk, at1]
  refine congrArg _ ?_
  blk_ext [at1]

/-- A point's rows of the pooling branch's gate. -/
theorem blk2 (r : Fin 512) (d : Fin 1024) : iblk m c 2 t (ix2 r d)
    = m ((c : Thread nD τ).loc main_arg1) (ix2 ⟨512 * t.val + r.val, by have := pt_lt t; omega⟩ ⟨d.val, by omega⟩) := by
  refine Eq.trans ?_ (congrFun (V_main_arg1 m c) _)
  blk_simp [iblk, at2]
  refine congrArg _ ?_
  blk_ext [at2]

/-- A point's rows of the attention's output. -/
theorem blk3 (r : Fin 512) (d : Fin 1024) : iblk m c 3 t (ix2 r d)
    = m ((c : Thread nD τ).loc main_arg3) (ix2 ⟨512 * t.val + r.val, by have := pt_lt t; omega⟩ d) := by
  refine Eq.trans ?_ (congrFun (V_main_arg3 m c) _)
  blk_simp [iblk, at3]
  refine congrArg _ ?_
  blk_ext [at3]

/-- A point's rows of the attention branch's gate. -/
theorem blk4 (r : Fin 512) (d : Fin 1024) : iblk m c 4 t (ix2 r d)
    = m ((c : Thread nD τ).loc main_arg1) (ix2 ⟨512 * t.val + r.val, by have := pt_lt t; omega⟩ ⟨1024 + d.val, by omega⟩) := by
  refine Eq.trans ?_ (congrFun (V_main_arg1 m c) _)
  blk_simp [iblk, at4]
  refine congrArg _ ?_
  blk_ext [at4]

/-- A point's rows of the first merge gate. -/
theorem blk5 (r : Fin 512) (d : Fin 2048) : X0_5 m c t (ix2 r d)
    = m ((c : Thread nD τ).loc main_arg2) (ix2 ⟨512 * t.val + r.val, by have := pt_lt t; omega⟩ ⟨d.val, by omega⟩) := by
  unfold X0_5 Pipeline.Window.fill
  rw [dif_pos (moved0_5 t _)]
  refine Eq.trans ?_ (congrFun (V_main_arg2 m c) _)
  blk_simp [iblk, at5]
  refine congrArg _ ?_
  blk_ext [at5]

/-- A point's rows of the second merge gate. -/
theorem blk6 (r : Fin 512) (d : Fin 2048) : X0_6 m c t (ix2 r d)
    = m ((c : Thread nD τ).loc main_arg2) (ix2 ⟨512 * t.val + r.val, by have := pt_lt t; omega⟩ ⟨2048 + d.val, by omega⟩) := by
  unfold X0_6 Pipeline.Window.fill
  rw [dif_pos (moved0_6 t _)]
  refine Eq.trans ?_ (congrFun (V_main_arg2 m c) _)
  blk_simp [iblk, at6]
  refine congrArg _ ?_
  blk_ext [at6]

/-- A point's rows of the residual. -/
theorem blk7 (r : Fin 512) (d : Fin 2048) : iblk m c 7 t (ix2 r d)
    = m ((c : Thread nD τ).loc main_arg4) (ix2 ⟨512 * t.val + r.val, by have := pt_lt t; omega⟩ d) := by
  refine Eq.trans ?_ (congrFun (V_main_arg4 m c) _)
  blk_simp [iblk, at7]
  refine congrArg _ ?_
  blk_ext [at7]

/-- The mixing matrices, whole at every point. -/
theorem blk8 (g : Fin 4) (a b : Fin 256) : iblk m c 8 t (ix3 g a b) = m ((c : Thread nD τ).loc main_arg5) (ix3 g a b) := by
  refine Eq.trans ?_ (congrFun (show V m c main_v0 = m ((c : Thread nD τ).loc main_arg5) from rfl) _)
  blk_simp [iblk, at8]
  refine congrArg _ ?_
  blk_ext [at8]

/-- The pooling scale, whole at every point. -/
theorem blk9 (d : Fin 1024) : iblk m c 9 t (ix2 0 d) = m ((c : Thread nD τ).loc main_arg6) (ix1 d) := by
  have e : V m c main_v1 = broadcastInDim S1x1024 ![1] bcast_S1024_S1x1024_1 (m ((c : Thread nD τ).loc main_arg6)) := rfl
  have h : V m c main_v1 (ix2 0 d) = m ((c : Thread nD τ).loc main_arg6) (ix1 d) := by
    rw [e]
    pointwise
  refine Eq.trans ?_ h
  blk_simp [iblk, at9]
  refine congrArg _ ?_
  blk_ext [at9]

/-- The norm's gain, whole at every point. -/
theorem blk13 (d : Fin 2048) : iblk m c 13 t (ix2 0 d) = m ((c : Thread nD τ).loc main_arg10) (ix1 d) := by
  have e : V m c main_v5 = broadcastInDim S1x2048 ![1] bcast_S2048_S1x2048_1 (m ((c : Thread nD τ).loc main_arg10)) := rfl
  have h : V m c main_v5 (ix2 0 d) = m ((c : Thread nD τ).loc main_arg10) (ix1 d) := by
    rw [e]
    pointwise
  refine Eq.trans ?_ h
  blk_simp [iblk, at13]
  refine congrArg _ ?_
  blk_ext [at13]

/-- The norm's offset, whole at every point. -/
theorem blk14 (d : Fin 2048) : iblk m c 14 t (ix2 0 d) = m ((c : Thread nD τ).loc main_arg11) (ix1 d) := by
  have e : V m c main_v6 = broadcastInDim S1x2048 ![1] bcast_S2048_S1x2048_1 (m ((c : Thread nD τ).loc main_arg11)) := rfl
  have h : V m c main_v6 (ix2 0 d) = m ((c : Thread nD τ).loc main_arg11) (ix1 d) := by
    rw [e]
    pointwise
  refine Eq.trans ?_ h
  blk_simp [iblk, at14]
  refine congrArg _ ?_
  blk_ext [at14]

/-- The pooling branch's up-projection, whole at every point. -/
theorem blk10 (e : Fin 1024) (d : Fin 2048) : iblk m c 10 t (ix2 e d) = m ((c : Thread nD τ).loc main_arg7) (ix2 e d) := by
  refine Eq.trans ?_ (congrFun (show V m c main_v2 = m ((c : Thread nD τ).loc main_arg7) from rfl) _)
  blk_simp [iblk, at10]
  refine congrArg _ ?_
  blk_ext [at10]

/-- The attention branch's up-projection, whole at every point. -/
theorem blk11 (e : Fin 1024) (d : Fin 2048) : iblk m c 11 t (ix2 e d) = m ((c : Thread nD τ).loc main_arg8) (ix2 e d) := by
  refine Eq.trans ?_ (congrFun (show V m c main_v3 = m ((c : Thread nD τ).loc main_arg8) from rfl) _)
  blk_simp [iblk, at11]
  refine congrArg _ ?_
  blk_ext [at11]

/-- The output projection, whole at every point. -/
theorem blk12 (e : Fin 2048) (d : Fin 2048) : iblk m c 12 t (ix2 e d) = m ((c : Thread nD τ).loc main_arg9) (ix2 e d) := by
  refine Eq.trans ?_ (congrFun (show V m c main_v4 = m ((c : Thread nD τ).loc main_arg9) from rfl) _)
  blk_simp [iblk, at12]
  refine congrArg _ ?_
  blk_ext [at12]

/-- The result of the layer's last stage at row `R` and column `d`, as a function of the arguments. -/
def tailAt (m : (ℓ : Loc nD τ sig) → Buf (Elt Ideal) ℓ) (c : Dev nD) (R : Fin 8192) (d : Fin 2048) : EReal :=
  rowOut (fun ch => poolMean (fun R ch => m ((c : Thread nD τ).loc main_arg0) (ix2 R ch)) R ch)
    (fun e => m ((c : Thread nD τ).loc main_arg1) (ix2 R ⟨e.val, by omega⟩))
    (fun e => m ((c : Thread nD τ).loc main_arg3) (ix2 R e))
    (fun e => m ((c : Thread nD τ).loc main_arg1) (ix2 R ⟨1024 + e.val, by omega⟩))
    (fun d => m ((c : Thread nD τ).loc main_arg2) (ix2 R ⟨d.val, by omega⟩))
    (fun d => m ((c : Thread nD τ).loc main_arg2) (ix2 R ⟨2048 + d.val, by omega⟩))
    (fun d => m ((c : Thread nD τ).loc main_arg4) (ix2 R d))
    (fun g a b => m ((c : Thread nD τ).loc main_arg5) (ix3 g a b))
    (fun e => m ((c : Thread nD τ).loc main_arg6) (ix1 e))
    (fun e d => m ((c : Thread nD τ).loc main_arg7) (ix2 e d))
    (fun e d => m ((c : Thread nD τ).loc main_arg8) (ix2 e d))
    (fun e d => m ((c : Thread nD τ).loc main_arg9) (ix2 e d))
    (fun d => m ((c : Thread nD τ).loc main_arg10) (ix1 d)) (fun d => m ((c : Thread nD τ).loc main_arg11) (ix1 d)) d

/-- A point's window means, from the argument. -/
theorem means (r : Fin 512) (ch : Fin 1024) : meanRows (grid0.coords t) (iblk m c 0 t) (iblk m c 1 t) (ix2 r ch)
    = poolMean (fun R ch => m ((c : Thread nD τ).loc main_arg0) (ix2 R ch)) ⟨512 * t.val + r.val, by have := pt_lt t; omega⟩ ch := by
  refine (meanRows_apply (fun R ch => m ((c : Thread nD τ).loc main_arg0) (ix2 R ch)) (grid0.coords t) _ _ (fun r d => ?_)
    (fun r d hz => ?_) r ch).trans ?_
  · refine (blk1 m c t r d).trans (congrArg (fun q => m ((c : Thread nD τ).loc main_arg0) (ix2 q d)) (Fin.ext ?_))
    simp only [coord_eq]
  · refine (blk0 m c t r d).trans (congrArg (fun q => m ((c : Thread nD τ).loc main_arg0) (ix2 q d)) (Fin.ext ?_))
    simp only [coord_eq]
  · exact congrArg (fun q => poolMean (fun R ch => m ((c : Thread nD τ).loc main_arg0) (ix2 R ch)) q ch) (Fin.ext (by simp only [coord_eq]))

/-- Every point writes its block back. -/
theorem flush15 : ∀ t : Fin cfg0.N, (cfg0.win 15).flush t = true := (by decide +kernel : ∀ t : Fin grid0.N, win0_15.flush t = true)

/-- The kernel's result array in the rows of a point. -/
theorem result_at (r : Fin 512) (d : Fin 2048) : (dats m 0 c).arrAt 15 cfg0.N (ix2 ⟨512 * t.val + r.val, by have := pt_lt t; omega⟩ d)
    = tailAt m c ⟨512 * t.val + r.val, by have := pt_lt t; omega⟩ d := by
  have b := congrFun (Cert.KernelIdeal.Value.blocks15 m c t (flush15 t)) (ix2 r d)
  rw [Cert.KernelIdeal.Value.flushed15_A] at b
  have e : ((cfg0.win 15).blk t).view.emb (ix2 r d) = ix2 ⟨512 * t.val + r.val, by have := pt_lt t; omega⟩ d := by
    blk_ext [at15]
  have b' : (dats m 0 c).arrAt 15 cfg0.N (((cfg0.win 15).blk t).view.emb (ix2 r d)) = _ := b
  rw [e] at b'
  refine b'.trans ((out_apply _ _ _ _ _ _ _ _ _ _ _ _ _ _ _ _ _ _ _ _ _ _ _ _ _ _ _ _ _ _ _ _ _ _ _ _ _ _ _ _ _ _ _ _ _ _ _ _ _ r d).trans ?_)
  unfold tailAt
  simp only [means, blk2, blk3, blk4, blk5, blk6, blk7, blk8, blk9, blk10, blk11, blk12, blk13, blk14]

/-- The kernel's result array at a row and column. -/
theorem result_apply (R : Fin 8192) (d : Fin 2048) : (dats m 0 c).arrAt 15 cfg0.N (ix2 R d) = tailAt m c R d := by
  have h := result_at m c ⟨R.val / 512, by show R.val / 512 < 16; omega⟩ ⟨R.val % 512, by omega⟩ d
  have e : (⟨512 * (R.val / 512) + R.val % 512, by omega⟩ : Fin 8192) = R := Fin.ext (by simp only []; omega)
  exact e ▸ h

end Cert.Proof

end
-- ==== Proof.RefOps.lean ====
/- The reference program as a straight line of host operations, and what its run leaves in the result. -/
module

public import proofs.«01_k».proof.Proof.Gen.ReferenceIdeal
public import Idealize.ShloMosaic.Lib.StableHlo.Run
public import Idealize.ShloMosaic.Lib.StableHlo.RunRead

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The four window means, each a group of 256 channels, laid side by side. -/
def stackFour : (main_v72 : Ref sig .tc).ty.Contents (Elt F) → (main_v73 : Ref sig .tc).ty.Contents (Elt F) → (main_v74 : Ref sig .tc).ty.Contents (Elt F) → (main_v75 : Ref sig .tc).ty.Contents (Elt F) → (main_v76 : Ref sig .tc).ty.Contents (Elt F) :=
  (fun u0 u1 u2 u3 => (concatenate S2x4096x4x256 2 [⟨S2x4096x1x256, (u0 : (⟨S2x4096x1x256, .f32⟩ : BufTy).Contents (Elt F))⟩, ⟨S2x4096x1x256, (u1 : (⟨S2x4096x1x256, .f32⟩ : BufTy).Contents (Elt F))⟩, ⟨S2x4096x1x256, (u2 : (⟨S2x4096x1x256, .f32⟩ : BufTy).Contents (Elt F))⟩, ⟨S2x4096x1x256, (u3 : (⟨S2x4096x1x256, .f32⟩ : BufTy).Contents (Elt F))⟩] concatenates_S2x4096x1x256_S2x4096x1x256_S2x4096x1x256_S2x4096x1x256_S2x4096x4x256_d2 : (⟨S2x4096x4x256, .f32⟩ : BufTy).Contents (Elt F)))

/-- Operation 0 of the reference. -/
abbrev op0 : HloOp τ sig (Elt F) :=
  unary main_arg1 main_v0 ((extractStridedSlice S8192x1024 ![0, 0] · slices_S8192x2048_S8192x1024_0_0) : (⟨S8192x2048, .bf16⟩ : BufTy).Contents (Elt F) → (⟨S8192x1024, .bf16⟩ : BufTy).Contents (Elt F))
/-- Operation 1 of the reference. -/
abbrev op1 : HloOp τ sig (Elt F) :=
  unary main_v0 main_v1 ((extf .f32 · bitsLt_bf16_f32) : (⟨S8192x1024, .bf16⟩ : BufTy).Contents (Elt F) → (⟨S8192x1024, .f32⟩ : BufTy).Contents (Elt F))
/-- Operation 2 of the reference. -/
abbrev op2 : HloOp τ sig (Elt F) :=
  unary main_arg1 main_v2 ((extractStridedSlice S8192x1024 ![0, 1024] · slices_S8192x2048_S8192x1024_0_1024) : (⟨S8192x2048, .bf16⟩ : BufTy).Contents (Elt F) → (⟨S8192x1024, .bf16⟩ : BufTy).Contents (Elt F))
/-- Operation 3 of the reference. -/
abbrev op3 : HloOp τ sig (Elt F) :=
  unary main_v2 main_v3 ((extf .f32 · bitsLt_bf16_f32) : (⟨S8192x1024, .bf16⟩ : BufTy).Contents (Elt F) → (⟨S8192x1024, .f32⟩ : BufTy).Contents (Elt F))
/-- Operation 4 of the reference. -/
abbrev op4 : HloOp τ sig (Elt F) :=
  unary main_arg2 main_v4 ((extractStridedSlice S8192x2048 ![0, 0] · slices_S8192x4608_S8192x2048_0_0) : (⟨S8192x4608, .bf16⟩ : BufTy).Contents (Elt F) → (⟨S8192x2048, .bf16⟩ : BufTy).Contents (Elt F))
/-- Operation 5 of the reference. -/
abbrev op5 : HloOp τ sig (Elt F) :=
  unary main_v4 main_v5 ((extf .f32 · bitsLt_bf16_f32) : (⟨S8192x2048, .bf16⟩ : BufTy).Contents (Elt F) → (⟨S8192x2048, .f32⟩ : BufTy).Contents (Elt F))
/-- Operation 6 of the reference. -/
abbrev op6 : HloOp τ sig (Elt F) :=
  unary main_arg2 main_v6 ((extractStridedSlice S8192x2048 ![0, 2048] · slices_S8192x4608_S8192x2048_0_2048) : (⟨S8192x4608, .bf16⟩ : BufTy).Contents (Elt F) → (⟨S8192x2048, .bf16⟩ : BufTy).Contents (Elt F))
/-- Operation 7 of the reference. -/
abbrev op7 : HloOp τ sig (Elt F) :=
  unary main_v6 main_v7 ((extf .f32 · bitsLt_bf16_f32) : (⟨S8192x2048, .bf16⟩ : BufTy).Contents (Elt F) → (⟨S8192x2048, .f32⟩ : BufTy).Contents (Elt F))
/-- Operation 8 of the reference. -/
abbrev op8 : HloOp τ sig (Elt F) :=
  reshape main_arg0 main_v8 (rfl : (.f32 : EltTy) = .f32) shapeCasts_S8192x1024_S2x4096x1024
/-- Operation 9 of the reference. -/
abbrev op9 : HloOp τ sig (Elt F) :=
  TRef.nullary (TRef.of (T := ⟨S_, .f32⟩) main_call0_call0_cst) (constant S_ .f32 0x00000000#32)
/-- Operation 10 of the reference. -/
abbrev op10 : HloOp τ sig (Elt F) :=
  TRef.unary (TRef.of (T := ⟨S_, .f32⟩) main_call0_call0_cst) (TRef.of (T := ⟨S_, .f32⟩) main_call0_call0_v0) (broadcastInDim S_ ![] bcast_S_S_)
/-- Operation 11 of the reference. -/
abbrev op11 : HloOp τ sig (Elt F) :=
  TRef.binary (TRef.of (T := ⟨S2x4096x1024, .f32⟩) main_v8) (TRef.of (T := ⟨S_, .f32⟩) main_call0_call0_v0) (TRef.of (T := ⟨S2x4096x1024, .f32⟩) main_v9) (fun x v => Host.reduceWindowAdd ![1, 4096, 1] ![1, 1, 1] ![0, 4095, 0] ![0, 0, 0] x v reduceWindows_S2x4096x1024_S2x4096x1024_w1s1p0_0_w4096s1p4095_0_w1s1p0_0 h_S_)
/-- Operation 12 of the reference. -/
abbrev op12 : HloOp τ sig (Elt F) :=
  nullary main_c (constantI S_ 32 0#32)
/-- Operation 13 of the reference. -/
abbrev op13 : HloOp τ sig (Elt F) :=
  TRef.unary (TRef.of (T := ⟨S_, .i32⟩) main_c) (TRef.of (T := ⟨S_, .f32⟩) main_call1_v0) (sitofp .f32)
/-- Operation 14 of the reference. -/
abbrev op14 : HloOp τ sig (Elt F) :=
  TRef.binary (TRef.of (T := ⟨S2x4096x1024, .f32⟩) main_v9) (TRef.of (T := ⟨S_, .f32⟩) main_call1_v0) (TRef.of (T := ⟨S2x4097x1024, .f32⟩) main_v10) (fun x v => pad S2x4097x1024 ![0, 1, 0] ![0, 0, 0] ![0, 0, 0] x v pads_S2x4096x1024_S2x4097x1024_000_100_000 h_S_)
/-- Operation 15 of the reference. -/
abbrev op15 : HloOp τ sig (Elt F) :=
  nullary main_v11 (iotaInDim S4096 32 0)
/-- Operation 16 of the reference. -/
abbrev op16 : HloOp τ sig (Elt F) :=
  unary main_v10 main_v12 ((extractStridedSlice S2x4097x256 ![0, 0, 0] · slices_S2x4097x1024_S2x4097x256_0_0_0) : (⟨S2x4097x1024, .f32⟩ : BufTy).Contents (Elt F) → (⟨S2x4097x256, .f32⟩ : BufTy).Contents (Elt F))
/-- Operation 17 of the reference. -/
abbrev op17 : HloOp τ sig (Elt F) :=
  unary main_v12 main_v13 ((extractStridedSlice S2x4096x256 ![0, 1, 0] · slices_S2x4097x256_S2x4096x256_0_1_0) : (⟨S2x4097x256, .f32⟩ : BufTy).Contents (Elt F) → (⟨S2x4096x256, .f32⟩ : BufTy).Contents (Elt F))
/-- Operation 18 of the reference. -/
abbrev op18 : HloOp τ sig (Elt F) :=
  nullary main_c_0 (constantI S_ 32 0#32)
/-- Operation 19 of the reference. -/
abbrev op19 : HloOp τ sig (Elt F) :=
  TRef.unary (TRef.of (T := ⟨S_, .i32⟩) main_c_0) (TRef.of (T := ⟨S_, .f32⟩) main_call2_v0) (sitofp .f32)
/-- Operation 20 of the reference. -/
abbrev op20 : HloOp τ sig (Elt F) :=
  TRef.binary (TRef.of (T := ⟨S2x4097x256, .f32⟩) main_v12) (TRef.of (T := ⟨S_, .f32⟩) main_call2_v0) (TRef.of (T := ⟨S2x4099x256, .f32⟩) main_v14) (fun x v => pad S2x4099x256 ![0, 2, 0] ![0, 0, 0] ![0, 0, 0] x v pads_S2x4097x256_S2x4099x256_000_200_000 h_S_)
/-- Operation 21 of the reference. -/
abbrev op21 : HloOp τ sig (Elt F) :=
  unary main_v14 main_v15 ((extractStridedSlice S2x4096x256 ![0, 1, 0] · slices_S2x4099x256_S2x4096x256_0_1_0) : (⟨S2x4099x256, .f32⟩ : BufTy).Contents (Elt F) → (⟨S2x4096x256, .f32⟩ : BufTy).Contents (Elt F))
/-- Operation 22 of the reference. -/
abbrev op22 : HloOp τ sig (Elt F) :=
  nullary main_c_1 (constantI S_ 32 1#32)
/-- Operation 23 of the reference. -/
abbrev op23 : HloOp τ sig (Elt F) :=
  unary main_c_1 main_v16 (broadcastInDim S4096 ![] bcast_S_S4096 : (⟨S_, .i32⟩ : BufTy).Contents (Elt F) → (⟨S4096, .i32⟩ : BufTy).Contents (Elt F))
/-- Operation 24 of the reference. -/
abbrev op24 : HloOp τ sig (Elt F) :=
  binary main_v11 main_v16 main_v17 (addi : (⟨S4096, .i32⟩ : BufTy).Contents (Elt F) → (⟨S4096, .i32⟩ : BufTy).Contents (Elt F) → (⟨S4096, .i32⟩ : BufTy).Contents (Elt F))
/-- Operation 25 of the reference. -/
abbrev op25 : HloOp τ sig (Elt F) :=
  nullary main_c_2 (constantI S_ 32 2#32)
/-- Operation 26 of the reference. -/
abbrev op26 : HloOp τ sig (Elt F) :=
  unary main_c_2 main_v18 (broadcastInDim S4096 ![] bcast_S_S4096 : (⟨S_, .i32⟩ : BufTy).Contents (Elt F) → (⟨S4096, .i32⟩ : BufTy).Contents (Elt F))
/-- Operation 27 of the reference. -/
abbrev op27 : HloOp τ sig (Elt F) :=
  binary main_v17 main_v18 main_v19 (minsi : (⟨S4096, .i32⟩ : BufTy).Contents (Elt F) → (⟨S4096, .i32⟩ : BufTy).Contents (Elt F) → (⟨S4096, .i32⟩ : BufTy).Contents (Elt F))
/-- Operation 28 of the reference. -/
abbrev op28 : HloOp τ sig (Elt F) :=
  unary main_v19 main_v20 (sitofp .f32 : (⟨S4096, .i32⟩ : BufTy).Contents (Elt F) → (⟨S4096, .f32⟩ : BufTy).Contents (Elt F))
/-- Operation 29 of the reference. -/
abbrev op29 : HloOp τ sig (Elt F) :=
  unary main_v20 main_v21 (broadcastInDim S1x4096x1 ![1] bcast_S4096_S1x4096x1_1 : (⟨S4096, .f32⟩ : BufTy).Contents (Elt F) → (⟨S1x4096x1, .f32⟩ : BufTy).Contents (Elt F))
/-- Operation 30 of the reference. -/
abbrev op30 : HloOp τ sig (Elt F) :=
  binary main_v13 main_v15 main_v22 (subf : (⟨S2x4096x256, .f32⟩ : BufTy).Contents (Elt F) → (⟨S2x4096x256, .f32⟩ : BufTy).Contents (Elt F) → (⟨S2x4096x256, .f32⟩ : BufTy).Contents (Elt F))
/-- Operation 31 of the reference. -/
abbrev op31 : HloOp τ sig (Elt F) :=
  unary main_v21 main_v23 (broadcastInDim S2x4096x256 ![0, 1, 2] bcast_S1x4096x1_S2x4096x256_0_1_2 : (⟨S1x4096x1, .f32⟩ : BufTy).Contents (Elt F) → (⟨S2x4096x256, .f32⟩ : BufTy).Contents (Elt F))
/-- Operation 32 of the reference. -/
abbrev op32 : HloOp τ sig (Elt F) :=
  binary main_v22 main_v23 main_v24 (Host.divf : (⟨S2x4096x256, .f32⟩ : BufTy).Contents (Elt F) → (⟨S2x4096x256, .f32⟩ : BufTy).Contents (Elt F) → (⟨S2x4096x256, .f32⟩ : BufTy).Contents (Elt F))
/-- Operation 33 of the reference. -/
abbrev op33 : HloOp τ sig (Elt F) :=
  unary main_v8 main_v25 ((extractStridedSlice S2x4096x256 ![0, 0, 0] · slices_S2x4096x1024_S2x4096x256_0_0_0) : (⟨S2x4096x1024, .f32⟩ : BufTy).Contents (Elt F) → (⟨S2x4096x256, .f32⟩ : BufTy).Contents (Elt F))
/-- Operation 34 of the reference. -/
abbrev op34 : HloOp τ sig (Elt F) :=
  binary main_v24 main_v25 main_v26 (subf : (⟨S2x4096x256, .f32⟩ : BufTy).Contents (Elt F) → (⟨S2x4096x256, .f32⟩ : BufTy).Contents (Elt F) → (⟨S2x4096x256, .f32⟩ : BufTy).Contents (Elt F))
/-- Operation 35 of the reference. -/
abbrev op35 : HloOp τ sig (Elt F) :=
  unary main_v10 main_v27 ((extractStridedSlice S2x4097x256 ![0, 0, 256] · slices_S2x4097x1024_S2x4097x256_0_0_256) : (⟨S2x4097x1024, .f32⟩ : BufTy).Contents (Elt F) → (⟨S2x4097x256, .f32⟩ : BufTy).Contents (Elt F))
/-- Operation 36 of the reference. -/
abbrev op36 : HloOp τ sig (Elt F) :=
  unary main_v27 main_v28 ((extractStridedSlice S2x4096x256 ![0, 1, 0] · slices_S2x4097x256_S2x4096x256_0_1_0) : (⟨S2x4097x256, .f32⟩ : BufTy).Contents (Elt F) → (⟨S2x4096x256, .f32⟩ : BufTy).Contents (Elt F))
/-- Operation 37 of the reference. -/
abbrev op37 : HloOp τ sig (Elt F) :=
  nullary main_c_3 (constantI S_ 32 0#32)
/-- Operation 38 of the reference. -/
abbrev op38 : HloOp τ sig (Elt F) :=
  TRef.unary (TRef.of (T := ⟨S_, .i32⟩) main_c_3) (TRef.of (T := ⟨S_, .f32⟩) main_call3_v0) (sitofp .f32)
/-- Operation 39 of the reference. -/
abbrev op39 : HloOp τ sig (Elt F) :=
  TRef.binary (TRef.of (T := ⟨S2x4097x256, .f32⟩) main_v27) (TRef.of (T := ⟨S_, .f32⟩) main_call3_v0) (TRef.of (T := ⟨S2x4101x256, .f32⟩) main_v29) (fun x v => pad S2x4101x256 ![0, 4, 0] ![0, 0, 0] ![0, 0, 0] x v pads_S2x4097x256_S2x4101x256_000_400_000 h_S_)
/-- Operation 40 of the reference. -/
abbrev op40 : HloOp τ sig (Elt F) :=
  unary main_v29 main_v30 ((extractStridedSlice S2x4096x256 ![0, 1, 0] · slices_S2x4101x256_S2x4096x256_0_1_0) : (⟨S2x4101x256, .f32⟩ : BufTy).Contents (Elt F) → (⟨S2x4096x256, .f32⟩ : BufTy).Contents (Elt F))
/-- Operation 41 of the reference. -/
abbrev op41 : HloOp τ sig (Elt F) :=
  nullary main_c_4 (constantI S_ 32 1#32)
/-- Operation 42 of the reference. -/
abbrev op42 : HloOp τ sig (Elt F) :=
  unary main_c_4 main_v31 (broadcastInDim S4096 ![] bcast_S_S4096 : (⟨S_, .i32⟩ : BufTy).Contents (Elt F) → (⟨S4096, .i32⟩ : BufTy).Contents (Elt F))
/-- Operation 43 of the reference. -/
abbrev op43 : HloOp τ sig (Elt F) :=
  binary main_v11 main_v31 main_v32 (addi : (⟨S4096, .i32⟩ : BufTy).Contents (Elt F) → (⟨S4096, .i32⟩ : BufTy).Contents (Elt F) → (⟨S4096, .i32⟩ : BufTy).Contents (Elt F))
/-- Operation 44 of the reference. -/
abbrev op44 : HloOp τ sig (Elt F) :=
  nullary main_c_5 (constantI S_ 32 4#32)
/-- Operation 45 of the reference. -/
abbrev op45 : HloOp τ sig (Elt F) :=
  unary main_c_5 main_v33 (broadcastInDim S4096 ![] bcast_S_S4096 : (⟨S_, .i32⟩ : BufTy).Contents (Elt F) → (⟨S4096, .i32⟩ : BufTy).Contents (Elt F))
/-- Operation 46 of the reference. -/
abbrev op46 : HloOp τ sig (Elt F) :=
  binary main_v32 main_v33 main_v34 (minsi : (⟨S4096, .i32⟩ : BufTy).Contents (Elt F) → (⟨S4096, .i32⟩ : BufTy).Contents (Elt F) → (⟨S4096, .i32⟩ : BufTy).Contents (Elt F))
/-- Operation 47 of the reference. -/
abbrev op47 : HloOp τ sig (Elt F) :=
  unary main_v34 main_v35 (sitofp .f32 : (⟨S4096, .i32⟩ : BufTy).Contents (Elt F) → (⟨S4096, .f32⟩ : BufTy).Contents (Elt F))
/-- Operation 48 of the reference. -/
abbrev op48 : HloOp τ sig (Elt F) :=
  unary main_v35 main_v36 (broadcastInDim S1x4096x1 ![1] bcast_S4096_S1x4096x1_1 : (⟨S4096, .f32⟩ : BufTy).Contents (Elt F) → (⟨S1x4096x1, .f32⟩ : BufTy).Contents (Elt F))
/-- Operation 49 of the reference. -/
abbrev op49 : HloOp τ sig (Elt F) :=
  binary main_v28 main_v30 main_v37 (subf : (⟨S2x4096x256, .f32⟩ : BufTy).Contents (Elt F) → (⟨S2x4096x256, .f32⟩ : BufTy).Contents (Elt F) → (⟨S2x4096x256, .f32⟩ : BufTy).Contents (Elt F))
/-- Operation 50 of the reference. -/
abbrev op50 : HloOp τ sig (Elt F) :=
  unary main_v36 main_v38 (broadcastInDim S2x4096x256 ![0, 1, 2] bcast_S1x4096x1_S2x4096x256_0_1_2 : (⟨S1x4096x1, .f32⟩ : BufTy).Contents (Elt F) → (⟨S2x4096x256, .f32⟩ : BufTy).Contents (Elt F))
/-- Operation 51 of the reference. -/
abbrev op51 : HloOp τ sig (Elt F) :=
  binary main_v37 main_v38 main_v39 (Host.divf : (⟨S2x4096x256, .f32⟩ : BufTy).Contents (Elt F) → (⟨S2x4096x256, .f32⟩ : BufTy).Contents (Elt F) → (⟨S2x4096x256, .f32⟩ : BufTy).Contents (Elt F))
/-- Operation 52 of the reference. -/
abbrev op52 : HloOp τ sig (Elt F) :=
  unary main_v8 main_v40 ((extractStridedSlice S2x4096x256 ![0, 0, 256] · slices_S2x4096x1024_S2x4096x256_0_0_256) : (⟨S2x4096x1024, .f32⟩ : BufTy).Contents (Elt F) → (⟨S2x4096x256, .f32⟩ : BufTy).Contents (Elt F))
/-- Operation 53 of the reference. -/
abbrev op53 : HloOp τ sig (Elt F) :=
  binary main_v39 main_v40 main_v41 (subf : (⟨S2x4096x256, .f32⟩ : BufTy).Contents (Elt F) → (⟨S2x4096x256, .f32⟩ : BufTy).Contents (Elt F) → (⟨S2x4096x256, .f32⟩ : BufTy).Contents (Elt F))
/-- Operation 54 of the reference. -/
abbrev op54 : HloOp τ sig (Elt F) :=
  unary main_v10 main_v42 ((extractStridedSlice S2x4097x256 ![0, 0, 512] · slices_S2x4097x1024_S2x4097x256_0_0_512) : (⟨S2x4097x1024, .f32⟩ : BufTy).Contents (Elt F) → (⟨S2x4097x256, .f32⟩ : BufTy).Contents (Elt F))
/-- Operation 55 of the reference. -/
abbrev op55 : HloOp τ sig (Elt F) :=
  unary main_v42 main_v43 ((extractStridedSlice S2x4096x256 ![0, 1, 0] · slices_S2x4097x256_S2x4096x256_0_1_0) : (⟨S2x4097x256, .f32⟩ : BufTy).Contents (Elt F) → (⟨S2x4096x256, .f32⟩ : BufTy).Contents (Elt F))
/-- Operation 56 of the reference. -/
abbrev op56 : HloOp τ sig (Elt F) :=
  nullary main_c_6 (constantI S_ 32 0#32)
/-- Operation 57 of the reference. -/
abbrev op57 : HloOp τ sig (Elt F) :=
  TRef.unary (TRef.of (T := ⟨S_, .i32⟩) main_c_6) (TRef.of (T := ⟨S_, .f32⟩) main_call4_v0) (sitofp .f32)
/-- Operation 58 of the reference. -/
abbrev op58 : HloOp τ sig (Elt F) :=
  TRef.binary (TRef.of (T := ⟨S2x4097x256, .f32⟩) main_v42) (TRef.of (T := ⟨S_, .f32⟩) main_call4_v0) (TRef.of (T := ⟨S2x4105x256, .f32⟩) main_v44) (fun x v => pad S2x4105x256 ![0, 8, 0] ![0, 0, 0] ![0, 0, 0] x v pads_S2x4097x256_S2x4105x256_000_800_000 h_S_)
/-- Operation 59 of the reference. -/
abbrev op59 : HloOp τ sig (Elt F) :=
  unary main_v44 main_v45 ((extractStridedSlice S2x4096x256 ![0, 1, 0] · slices_S2x4105x256_S2x4096x256_0_1_0) : (⟨S2x4105x256, .f32⟩ : BufTy).Contents (Elt F) → (⟨S2x4096x256, .f32⟩ : BufTy).Contents (Elt F))
/-- Operation 60 of the reference. -/
abbrev op60 : HloOp τ sig (Elt F) :=
  nullary main_c_7 (constantI S_ 32 1#32)
/-- Operation 61 of the reference. -/
abbrev op61 : HloOp τ sig (Elt F) :=
  unary main_c_7 main_v46 (broadcastInDim S4096 ![] bcast_S_S4096 : (⟨S_, .i32⟩ : BufTy).Contents (Elt F) → (⟨S4096, .i32⟩ : BufTy).Contents (Elt F))
/-- Operation 62 of the reference. -/
abbrev op62 : HloOp τ sig (Elt F) :=
  binary main_v11 main_v46 main_v47 (addi : (⟨S4096, .i32⟩ : BufTy).Contents (Elt F) → (⟨S4096, .i32⟩ : BufTy).Contents (Elt F) → (⟨S4096, .i32⟩ : BufTy).Contents (Elt F))
/-- Operation 63 of the reference. -/
abbrev op63 : HloOp τ sig (Elt F) :=
  nullary main_c_8 (constantI S_ 32 8#32)
/-- Operation 64 of the reference. -/
abbrev op64 : HloOp τ sig (Elt F) :=
  unary main_c_8 main_v48 (broadcastInDim S4096 ![] bcast_S_S4096 : (⟨S_, .i32⟩ : BufTy).Contents (Elt F) → (⟨S4096, .i32⟩ : BufTy).Contents (Elt F))
/-- Operation 65 of the reference. -/
abbrev op65 : HloOp τ sig (Elt F) :=
  binary main_v47 main_v48 main_v49 (minsi : (⟨S4096, .i32⟩ : BufTy).Contents (Elt F) → (⟨S4096, .i32⟩ : BufTy).Contents (Elt F) → (⟨S4096, .i32⟩ : BufTy).Contents (Elt F))
/-- Operation 66 of the reference. -/
abbrev op66 : HloOp τ sig (Elt F) :=
  unary main_v49 main_v50 (sitofp .f32 : (⟨S4096, .i32⟩ : BufTy).Contents (Elt F) → (⟨S4096, .f32⟩ : BufTy).Contents (Elt F))
/-- Operation 67 of the reference. -/
abbrev op67 : HloOp τ sig (Elt F) :=
  unary main_v50 main_v51 (broadcastInDim S1x4096x1 ![1] bcast_S4096_S1x4096x1_1 : (⟨S4096, .f32⟩ : BufTy).Contents (Elt F) → (⟨S1x4096x1, .f32⟩ : BufTy).Contents (Elt F))
/-- Operation 68 of the reference. -/
abbrev op68 : HloOp τ sig (Elt F) :=
  binary main_v43 main_v45 main_v52 (subf : (⟨S2x4096x256, .f32⟩ : BufTy).Contents (Elt F) → (⟨S2x4096x256, .f32⟩ : BufTy).Contents (Elt F) → (⟨S2x4096x256, .f32⟩ : BufTy).Contents (Elt F))
/-- Operation 69 of the reference. -/
abbrev op69 : HloOp τ sig (Elt F) :=
  unary main_v51 main_v53 (broadcastInDim S2x4096x256 ![0, 1, 2] bcast_S1x4096x1_S2x4096x256_0_1_2 : (⟨S1x4096x1, .f32⟩ : BufTy).Contents (Elt F) → (⟨S2x4096x256, .f32⟩ : BufTy).Contents (Elt F))
/-- Operation 70 of the reference. -/
abbrev op70 : HloOp τ sig (Elt F) :=
  binary main_v52 main_v53 main_v54 (Host.divf : (⟨S2x4096x256, .f32⟩ : BufTy).Contents (Elt F) → (⟨S2x4096x256, .f32⟩ : BufTy).Contents (Elt F) → (⟨S2x4096x256, .f32⟩ : BufTy).Contents (Elt F))
/-- Operation 71 of the reference. -/
abbrev op71 : HloOp τ sig (Elt F) :=
  unary main_v8 main_v55 ((extractStridedSlice S2x4096x256 ![0, 0, 512] · slices_S2x4096x1024_S2x4096x256_0_0_512) : (⟨S2x4096x1024, .f32⟩ : BufTy).Contents (Elt F) → (⟨S2x4096x256, .f32⟩ : BufTy).Contents (Elt F))
/-- Operation 72 of the reference. -/
abbrev op72 : HloOp τ sig (Elt F) :=
  binary main_v54 main_v55 main_v56 (subf : (⟨S2x4096x256, .f32⟩ : BufTy).Contents (Elt F) → (⟨S2x4096x256, .f32⟩ : BufTy).Contents (Elt F) → (⟨S2x4096x256, .f32⟩ : BufTy).Contents (Elt F))
/-- Operation 73 of the reference. -/
abbrev op73 : HloOp τ sig (Elt F) :=
  unary main_v10 main_v57 ((extractStridedSlice S2x4097x256 ![0, 0, 768] · slices_S2x4097x1024_S2x4097x256_0_0_768) : (⟨S2x4097x1024, .f32⟩ : BufTy).Contents (Elt F) → (⟨S2x4097x256, .f32⟩ : BufTy).Contents (Elt F))
/-- Operation 74 of the reference. -/
abbrev op74 : HloOp τ sig (Elt F) :=
  unary main_v57 main_v58 ((extractStridedSlice S2x4096x256 ![0, 1, 0] · slices_S2x4097x256_S2x4096x256_0_1_0) : (⟨S2x4097x256, .f32⟩ : BufTy).Contents (Elt F) → (⟨S2x4096x256, .f32⟩ : BufTy).Contents (Elt F))
/-- Operation 75 of the reference. -/
abbrev op75 : HloOp τ sig (Elt F) :=
  nullary main_c_9 (constantI S_ 32 0#32)
/-- Operation 76 of the reference. -/
abbrev op76 : HloOp τ sig (Elt F) :=
  TRef.unary (TRef.of (T := ⟨S_, .i32⟩) main_c_9) (TRef.of (T := ⟨S_, .f32⟩) main_call5_v0) (sitofp .f32)
/-- Operation 77 of the reference. -/
abbrev op77 : HloOp τ sig (Elt F) :=
  TRef.binary (TRef.of (T := ⟨S2x4097x256, .f32⟩) main_v57) (TRef.of (T := ⟨S_, .f32⟩) main_call5_v0) (TRef.of (T := ⟨S2x4113x256, .f32⟩) main_v59) (fun x v => pad S2x4113x256 ![0, 16, 0] ![0, 0, 0] ![0, 0, 0] x v pads_S2x4097x256_S2x4113x256_000_1600_000 h_S_)
/-- Operation 78 of the reference. -/
abbrev op78 : HloOp τ sig (Elt F) :=
  unary main_v59 main_v60 ((extractStridedSlice S2x4096x256 ![0, 1, 0] · slices_S2x4113x256_S2x4096x256_0_1_0) : (⟨S2x4113x256, .f32⟩ : BufTy).Contents (Elt F) → (⟨S2x4096x256, .f32⟩ : BufTy).Contents (Elt F))
/-- Operation 79 of the reference. -/
abbrev op79 : HloOp τ sig (Elt F) :=
  nullary main_c_10 (constantI S_ 32 1#32)
/-- Operation 80 of the reference. -/
abbrev op80 : HloOp τ sig (Elt F) :=
  unary main_c_10 main_v61 (broadcastInDim S4096 ![] bcast_S_S4096 : (⟨S_, .i32⟩ : BufTy).Contents (Elt F) → (⟨S4096, .i32⟩ : BufTy).Contents (Elt F))
/-- Operation 81 of the reference. -/
abbrev op81 : HloOp τ sig (Elt F) :=
  binary main_v11 main_v61 main_v62 (addi : (⟨S4096, .i32⟩ : BufTy).Contents (Elt F) → (⟨S4096, .i32⟩ : BufTy).Contents (Elt F) → (⟨S4096, .i32⟩ : BufTy).Contents (Elt F))
/-- Operation 82 of the reference. -/
abbrev op82 : HloOp τ sig (Elt F) :=
  nullary main_c_11 (constantI S_ 32 16#32)
/-- Operation 83 of the reference. -/
abbrev op83 : HloOp τ sig (Elt F) :=
  unary main_c_11 main_v63 (broadcastInDim S4096 ![] bcast_S_S4096 : (⟨S_, .i32⟩ : BufTy).Contents (Elt F) → (⟨S4096, .i32⟩ : BufTy).Contents (Elt F))
/-- Operation 84 of the reference. -/
abbrev op84 : HloOp τ sig (Elt F) :=
  binary main_v62 main_v63 main_v64 (minsi : (⟨S4096, .i32⟩ : BufTy).Contents (Elt F) → (⟨S4096, .i32⟩ : BufTy).Contents (Elt F) → (⟨S4096, .i32⟩ : BufTy).Contents (Elt F))
/-- Operation 85 of the reference. -/
abbrev op85 : HloOp τ sig (Elt F) :=
  unary main_v64 main_v65 (sitofp .f32 : (⟨S4096, .i32⟩ : BufTy).Contents (Elt F) → (⟨S4096, .f32⟩ : BufTy).Contents (Elt F))
/-- Operation 86 of the reference. -/
abbrev op86 : HloOp τ sig (Elt F) :=
  unary main_v65 main_v66 (broadcastInDim S1x4096x1 ![1] bcast_S4096_S1x4096x1_1 : (⟨S4096, .f32⟩ : BufTy).Contents (Elt F) → (⟨S1x4096x1, .f32⟩ : BufTy).Contents (Elt F))
/-- Operation 87 of the reference. -/
abbrev op87 : HloOp τ sig (Elt F) :=
  binary main_v58 main_v60 main_v67 (subf : (⟨S2x4096x256, .f32⟩ : BufTy).Contents (Elt F) → (⟨S2x4096x256, .f32⟩ : BufTy).Contents (Elt F) → (⟨S2x4096x256, .f32⟩ : BufTy).Contents (Elt F))
/-- Operation 88 of the reference. -/
abbrev op88 : HloOp τ sig (Elt F) :=
  unary main_v66 main_v68 (broadcastInDim S2x4096x256 ![0, 1, 2] bcast_S1x4096x1_S2x4096x256_0_1_2 : (⟨S1x4096x1, .f32⟩ : BufTy).Contents (Elt F) → (⟨S2x4096x256, .f32⟩ : BufTy).Contents (Elt F))
/-- Operation 89 of the reference. -/
abbrev op89 : HloOp τ sig (Elt F) :=
  binary main_v67 main_v68 main_v69 (Host.divf : (⟨S2x4096x256, .f32⟩ : BufTy).Contents (Elt F) → (⟨S2x4096x256, .f32⟩ : BufTy).Contents (Elt F) → (⟨S2x4096x256, .f32⟩ : BufTy).Contents (Elt F))
/-- Operation 90 of the reference. -/
abbrev op90 : HloOp τ sig (Elt F) :=
  unary main_v8 main_v70 ((extractStridedSlice S2x4096x256 ![0, 0, 768] · slices_S2x4096x1024_S2x4096x256_0_0_768) : (⟨S2x4096x1024, .f32⟩ : BufTy).Contents (Elt F) → (⟨S2x4096x256, .f32⟩ : BufTy).Contents (Elt F))
/-- Operation 91 of the reference. -/
abbrev op91 : HloOp τ sig (Elt F) :=
  binary main_v69 main_v70 main_v71 (subf : (⟨S2x4096x256, .f32⟩ : BufTy).Contents (Elt F) → (⟨S2x4096x256, .f32⟩ : BufTy).Contents (Elt F) → (⟨S2x4096x256, .f32⟩ : BufTy).Contents (Elt F))
/-- Operation 92 of the reference. -/
abbrev op92 : HloOp τ sig (Elt F) :=
  unary main_v26 main_v72 (broadcastInDim S2x4096x1x256 ![0, 1, 3] bcast_S2x4096x256_S2x4096x1x256_0_1_3 : (⟨S2x4096x256, .f32⟩ : BufTy).Contents (Elt F) → (⟨S2x4096x1x256, .f32⟩ : BufTy).Contents (Elt F))
/-- Operation 93 of the reference. -/
abbrev op93 : HloOp τ sig (Elt F) :=
  unary main_v41 main_v73 (broadcastInDim S2x4096x1x256 ![0, 1, 3] bcast_S2x4096x256_S2x4096x1x256_0_1_3 : (⟨S2x4096x256, .f32⟩ : BufTy).Contents (Elt F) → (⟨S2x4096x1x256, .f32⟩ : BufTy).Contents (Elt F))
/-- Operation 94 of the reference. -/
abbrev op94 : HloOp τ sig (Elt F) :=
  unary main_v56 main_v74 (broadcastInDim S2x4096x1x256 ![0, 1, 3] bcast_S2x4096x256_S2x4096x1x256_0_1_3 : (⟨S2x4096x256, .f32⟩ : BufTy).Contents (Elt F) → (⟨S2x4096x1x256, .f32⟩ : BufTy).Contents (Elt F))
/-- Operation 95 of the reference. -/
abbrev op95 : HloOp τ sig (Elt F) :=
  unary main_v71 main_v75 (broadcastInDim S2x4096x1x256 ![0, 1, 3] bcast_S2x4096x256_S2x4096x1x256_0_1_3 : (⟨S2x4096x256, .f32⟩ : BufTy).Contents (Elt F) → (⟨S2x4096x1x256, .f32⟩ : BufTy).Contents (Elt F))
/-- Operation 96 of the reference. -/
abbrev op96 : HloOp τ sig (Elt F) :=
  nary ![main_v72, main_v73, main_v74, main_v75] main_v76 (fun u => stackFour (F := F) (u 0) (u 1) (u 2) (u 3))
/-- Operation 97 of the reference. -/
abbrev op97 : HloOp τ sig (Elt F) :=
  binary main_arg5 main_v76 main_v77 ((fun l r => Host.dotGeneral dot_S4x256x256_S2x4096x4x256_S4x256x2x4096_1_3_2_01_0_2 none l r) : (⟨S4x256x256, .f32⟩ : BufTy).Contents (Elt F) → (⟨S2x4096x4x256, .f32⟩ : BufTy).Contents (Elt F) → (⟨S4x256x2x4096, .f32⟩ : BufTy).Contents (Elt F))
/-- Operation 98 of the reference. -/
abbrev op98 : HloOp τ sig (Elt F) :=
  unary main_v77 main_v78 ((transpose S2x4096x4x256 [2, 3, 0, 1] · transposes_S4x256x2x4096_S2x4096x4x256_2_3_0_1) : (⟨S4x256x2x4096, .f32⟩ : BufTy).Contents (Elt F) → (⟨S2x4096x4x256, .f32⟩ : BufTy).Contents (Elt F))
/-- Operation 99 of the reference. -/
abbrev op99 : HloOp τ sig (Elt F) :=
  reshape main_v78 main_v79 (rfl : (.f32 : EltTy) = .f32) shapeCasts_S2x4096x4x256_S2x4096x1024
/-- Operation 100 of the reference. -/
abbrev op100 : HloOp τ sig (Elt F) :=
  unary main_arg6 main_v80 (broadcastInDim S1x1x1024 ![2] bcast_S1024_S1x1x1024_2 : (⟨S1024, .f32⟩ : BufTy).Contents (Elt F) → (⟨S1x1x1024, .f32⟩ : BufTy).Contents (Elt F))
/-- Operation 101 of the reference. -/
abbrev op101 : HloOp τ sig (Elt F) :=
  unary main_v80 main_v81 (broadcastInDim S2x4096x1024 ![0, 1, 2] bcast_S1x1x1024_S2x4096x1024_0_1_2 : (⟨S1x1x1024, .f32⟩ : BufTy).Contents (Elt F) → (⟨S2x4096x1024, .f32⟩ : BufTy).Contents (Elt F))
/-- Operation 102 of the reference. -/
abbrev op102 : HloOp τ sig (Elt F) :=
  binary main_v79 main_v81 main_v82 (mulf : (⟨S2x4096x1024, .f32⟩ : BufTy).Contents (Elt F) → (⟨S2x4096x1024, .f32⟩ : BufTy).Contents (Elt F) → (⟨S2x4096x1024, .f32⟩ : BufTy).Contents (Elt F))
/-- Operation 103 of the reference. -/
abbrev op103 : HloOp τ sig (Elt F) :=
  reshape main_v82 main_v83 (rfl : (.f32 : EltTy) = .f32) shapeCasts_S2x4096x1024_S8192x1024
/-- Operation 104 of the reference. -/
abbrev op104 : HloOp τ sig (Elt F) :=
  binary main_v83 main_v1 main_v84 (mulf : (⟨S8192x1024, .f32⟩ : BufTy).Contents (Elt F) → (⟨S8192x1024, .f32⟩ : BufTy).Contents (Elt F) → (⟨S8192x1024, .f32⟩ : BufTy).Contents (Elt F))
/-- Operation 105 of the reference. -/
abbrev op105 : HloOp τ sig (Elt F) :=
  binary main_v84 main_arg7 main_v85 ((fun l r => Host.dotGeneral dot_S8192x1024_S1024x2048_S8192x2048_1_0_0_1_n_n none l r) : (⟨S8192x1024, .f32⟩ : BufTy).Contents (Elt F) → (⟨S1024x2048, .f32⟩ : BufTy).Contents (Elt F) → (⟨S8192x2048, .f32⟩ : BufTy).Contents (Elt F))
/-- Operation 106 of the reference. -/
abbrev op106 : HloOp τ sig (Elt F) :=
  unary main_arg3 main_v86 ((extf .f32 · bitsLt_bf16_f32) : (⟨S8192x1024, .bf16⟩ : BufTy).Contents (Elt F) → (⟨S8192x1024, .f32⟩ : BufTy).Contents (Elt F))
/-- Operation 107 of the reference. -/
abbrev op107 : HloOp τ sig (Elt F) :=
  binary main_v86 main_v3 main_v87 (mulf : (⟨S8192x1024, .f32⟩ : BufTy).Contents (Elt F) → (⟨S8192x1024, .f32⟩ : BufTy).Contents (Elt F) → (⟨S8192x1024, .f32⟩ : BufTy).Contents (Elt F))
/-- Operation 108 of the reference. -/
abbrev op108 : HloOp τ sig (Elt F) :=
  binary main_v87 main_arg8 main_v88 ((fun l r => Host.dotGeneral dot_S8192x1024_S1024x2048_S8192x2048_1_0_0_1_n_n none l r) : (⟨S8192x1024, .f32⟩ : BufTy).Contents (Elt F) → (⟨S1024x2048, .f32⟩ : BufTy).Contents (Elt F) → (⟨S8192x2048, .f32⟩ : BufTy).Contents (Elt F))
/-- Operation 109 of the reference. -/
abbrev op109 : HloOp τ sig (Elt F) :=
  nullary main_cst (constant S_ .f32 0x3F9837F0#32)
/-- Operation 110 of the reference. -/
abbrev op110 : HloOp τ sig (Elt F) :=
  unary main_cst main_v89 (broadcastInDim S8192x2048 ![] bcast_S_S8192x2048 : (⟨S_, .f32⟩ : BufTy).Contents (Elt F) → (⟨S8192x2048, .f32⟩ : BufTy).Contents (Elt F))
/-- Operation 111 of the reference. -/
abbrev op111 : HloOp τ sig (Elt F) :=
  binary main_v89 main_arg4 main_v90 (mulf : (⟨S8192x2048, .f32⟩ : BufTy).Contents (Elt F) → (⟨S8192x2048, .f32⟩ : BufTy).Contents (Elt F) → (⟨S8192x2048, .f32⟩ : BufTy).Contents (Elt F))
/-- Operation 112 of the reference. -/
abbrev op112 : HloOp τ sig (Elt F) :=
  binary main_v5 main_v85 main_v91 (mulf : (⟨S8192x2048, .f32⟩ : BufTy).Contents (Elt F) → (⟨S8192x2048, .f32⟩ : BufTy).Contents (Elt F) → (⟨S8192x2048, .f32⟩ : BufTy).Contents (Elt F))
/-- Operation 113 of the reference. -/
abbrev op113 : HloOp τ sig (Elt F) :=
  binary main_v7 main_v88 main_v92 (mulf : (⟨S8192x2048, .f32⟩ : BufTy).Contents (Elt F) → (⟨S8192x2048, .f32⟩ : BufTy).Contents (Elt F) → (⟨S8192x2048, .f32⟩ : BufTy).Contents (Elt F))
/-- Operation 114 of the reference. -/
abbrev op114 : HloOp τ sig (Elt F) :=
  binary main_v91 main_v92 main_v93 (addf : (⟨S8192x2048, .f32⟩ : BufTy).Contents (Elt F) → (⟨S8192x2048, .f32⟩ : BufTy).Contents (Elt F) → (⟨S8192x2048, .f32⟩ : BufTy).Contents (Elt F))
/-- Operation 115 of the reference. -/
abbrev op115 : HloOp τ sig (Elt F) :=
  binary main_v93 main_arg9 main_v94 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F))
/-- Operation 116 of the reference. -/
abbrev op116 : HloOp τ sig (Elt F) :=
  binary main_v90 main_v94 main_v95 (addf : (⟨S8192x2048, .f32⟩ : BufTy).Contents (Elt F) → (⟨S8192x2048, .f32⟩ : BufTy).Contents (Elt F) → (⟨S8192x2048, .f32⟩ : BufTy).Contents (Elt F))
/-- Operation 117 of the reference. -/
abbrev op117 : HloOp τ sig (Elt F) :=
  nullary main_cst_12 (constant S_ .f32 0x00000000#32)
/-- Operation 118 of the reference. -/
abbrev op118 : HloOp τ sig (Elt F) :=
  binary main_v95 main_cst_12 main_v96 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F))
/-- Operation 119 of the reference. -/
abbrev op119 : HloOp τ sig (Elt F) :=
  unary main_v96 main_v97 (broadcastInDim S8192x1 ![0] bcast_S8192_S8192x1_0 : (⟨S8192, .f32⟩ : BufTy).Contents (Elt F) → (⟨S8192x1, .f32⟩ : BufTy).Contents (Elt F))
/-- Operation 120 of the reference. -/
abbrev op120 : HloOp τ sig (Elt F) :=
  nullary main_cst_13 (constant S_ .f32 0x45000000#32)
/-- Operation 121 of the reference. -/
abbrev op121 : HloOp τ sig (Elt F) :=
  unary main_cst_13 main_v98 (broadcastInDim S8192x1 ![] bcast_S_S8192x1 : (⟨S_, .f32⟩ : BufTy).Contents (Elt F) → (⟨S8192x1, .f32⟩ : BufTy).Contents (Elt F))
/-- Operation 122 of the reference. -/
abbrev op122 : HloOp τ sig (Elt F) :=
  binary main_v97 main_v98 main_v99 (Host.divf : (⟨S8192x1, .f32⟩ : BufTy).Contents (Elt F) → (⟨S8192x1, .f32⟩ : BufTy).Contents (Elt F) → (⟨S8192x1, .f32⟩ : BufTy).Contents (Elt F))
/-- Operation 123 of the reference. -/
abbrev op123 : HloOp τ sig (Elt F) :=
  unary main_v99 main_v100 (broadcastInDim S8192x2048 ![0, 1] bcast_S8192x1_S8192x2048_0_1 : (⟨S8192x1, .f32⟩ : BufTy).Contents (Elt F) → (⟨S8192x2048, .f32⟩ : BufTy).Contents (Elt F))
/-- Operation 124 of the reference. -/
abbrev op124 : HloOp τ sig (Elt F) :=
  binary main_v95 main_v100 main_v101 (subf : (⟨S8192x2048, .f32⟩ : BufTy).Contents (Elt F) → (⟨S8192x2048, .f32⟩ : BufTy).Contents (Elt F) → (⟨S8192x2048, .f32⟩ : BufTy).Contents (Elt F))
/-- Operation 125 of the reference. -/
abbrev op125 : HloOp τ sig (Elt F) :=
  binary main_v101 main_v101 main_v102 (mulf : (⟨S8192x2048, .f32⟩ : BufTy).Contents (Elt F) → (⟨S8192x2048, .f32⟩ : BufTy).Contents (Elt F) → (⟨S8192x2048, .f32⟩ : BufTy).Contents (Elt F))
/-- Operation 126 of the reference. -/
abbrev op126 : HloOp τ sig (Elt F) :=
  nullary main_cst_14 (constant S_ .f32 0x00000000#32)
/-- Operation 127 of the reference. -/
abbrev op127 : HloOp τ sig (Elt F) :=
  binary main_v102 main_cst_14 main_v103 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F))
/-- Operation 128 of the reference. -/
abbrev op128 : HloOp τ sig (Elt F) :=
  unary main_v103 main_v104 (broadcastInDim S8192x1 ![0] bcast_S8192_S8192x1_0 : (⟨S8192, .f32⟩ : BufTy).Contents (Elt F) → (⟨S8192x1, .f32⟩ : BufTy).Contents (Elt F))
/-- Operation 129 of the reference. -/
abbrev op129 : HloOp τ sig (Elt F) :=
  nullary main_cst_15 (constant S_ .f32 0x45000000#32)
/-- Operation 130 of the reference. -/
abbrev op130 : HloOp τ sig (Elt F) :=
  unary main_cst_15 main_v105 (broadcastInDim S8192x1 ![] bcast_S_S8192x1 : (⟨S_, .f32⟩ : BufTy).Contents (Elt F) → (⟨S8192x1, .f32⟩ : BufTy).Contents (Elt F))
/-- Operation 131 of the reference. -/
abbrev op131 : HloOp τ sig (Elt F) :=
  binary main_v104 main_v105 main_v106 (Host.divf : (⟨S8192x1, .f32⟩ : BufTy).Contents (Elt F) → (⟨S8192x1, .f32⟩ : BufTy).Contents (Elt F) → (⟨S8192x1, .f32⟩ : BufTy).Contents (Elt F))
/-- Operation 132 of the reference. -/
abbrev op132 : HloOp τ sig (Elt F) :=
  unary main_v99 main_v107 (broadcastInDim S8192x2048 ![0, 1] bcast_S8192x1_S8192x2048_0_1 : (⟨S8192x1, .f32⟩ : BufTy).Contents (Elt F) → (⟨S8192x2048, .f32⟩ : BufTy).Contents (Elt F))
/-- Operation 133 of the reference. -/
abbrev op133 : HloOp τ sig (Elt F) :=
  binary main_v95 main_v107 main_v108 (subf : (⟨S8192x2048, .f32⟩ : BufTy).Contents (Elt F) → (⟨S8192x2048, .f32⟩ : BufTy).Contents (Elt F) → (⟨S8192x2048, .f32⟩ : BufTy).Contents (Elt F))
/-- Operation 134 of the reference. -/
abbrev op134 : HloOp τ sig (Elt F) :=
  nullary main_cst_16 (constant S_ .f32 0x3727C5AC#32)
/-- Operation 135 of the reference. -/
abbrev op135 : HloOp τ sig (Elt F) :=
  unary main_cst_16 main_v109 (broadcastInDim S8192x1 ![] bcast_S_S8192x1 : (⟨S_, .f32⟩ : BufTy).Contents (Elt F) → (⟨S8192x1, .f32⟩ : BufTy).Contents (Elt F))
/-- Operation 136 of the reference. -/
abbrev op136 : HloOp τ sig (Elt F) :=
  binary main_v106 main_v109 main_v110 (addf : (⟨S8192x1, .f32⟩ : BufTy).Contents (Elt F) → (⟨S8192x1, .f32⟩ : BufTy).Contents (Elt F) → (⟨S8192x1, .f32⟩ : BufTy).Contents (Elt F))
/-- Operation 137 of the reference. -/
abbrev op137 : HloOp τ sig (Elt F) :=
  unary main_v110 main_v111 (Host.rsqrt : (⟨S8192x1, .f32⟩ : BufTy).Contents (Elt F) → (⟨S8192x1, .f32⟩ : BufTy).Contents (Elt F))
/-- Operation 138 of the reference. -/
abbrev op138 : HloOp τ sig (Elt F) :=
  unary main_v111 main_v112 (broadcastInDim S8192x2048 ![0, 1] bcast_S8192x1_S8192x2048_0_1 : (⟨S8192x1, .f32⟩ : BufTy).Contents (Elt F) → (⟨S8192x2048, .f32⟩ : BufTy).Contents (Elt F))
/-- Operation 139 of the reference. -/
abbrev op139 : HloOp τ sig (Elt F) :=
  binary main_v108 main_v112 main_v113 (mulf : (⟨S8192x2048, .f32⟩ : BufTy).Contents (Elt F) → (⟨S8192x2048, .f32⟩ : BufTy).Contents (Elt F) → (⟨S8192x2048, .f32⟩ : BufTy).Contents (Elt F))
/-- Operation 140 of the reference. -/
abbrev op140 : HloOp τ sig (Elt F) :=
  unary main_arg10 main_v114 (broadcastInDim S1x2048 ![1] bcast_S2048_S1x2048_1 : (⟨S2048, .f32⟩ : BufTy).Contents (Elt F) → (⟨S1x2048, .f32⟩ : BufTy).Contents (Elt F))
/-- Operation 141 of the reference. -/
abbrev op141 : HloOp τ sig (Elt F) :=
  unary main_v114 main_v115 (broadcastInDim S8192x2048 ![0, 1] bcast_S1x2048_S8192x2048_0_1 : (⟨S1x2048, .f32⟩ : BufTy).Contents (Elt F) → (⟨S8192x2048, .f32⟩ : BufTy).Contents (Elt F))
/-- Operation 142 of the reference. -/
abbrev op142 : HloOp τ sig (Elt F) :=
  binary main_v113 main_v115 main_v116 (mulf : (⟨S8192x2048, .f32⟩ : BufTy).Contents (Elt F) → (⟨S8192x2048, .f32⟩ : BufTy).Contents (Elt F) → (⟨S8192x2048, .f32⟩ : BufTy).Contents (Elt F))
/-- Operation 143 of the reference. -/
abbrev op143 : HloOp τ sig (Elt F) :=
  unary main_arg11 main_v117 (broadcastInDim S1x2048 ![1] bcast_S2048_S1x2048_1 : (⟨S2048, .f32⟩ : BufTy).Contents (Elt F) → (⟨S1x2048, .f32⟩ : BufTy).Contents (Elt F))
/-- Operation 144 of the reference. -/
abbrev op144 : HloOp τ sig (Elt F) :=
  unary main_v117 main_v118 (broadcastInDim S8192x2048 ![0, 1] bcast_S1x2048_S8192x2048_0_1 : (⟨S1x2048, .f32⟩ : BufTy).Contents (Elt F) → (⟨S8192x2048, .f32⟩ : BufTy).Contents (Elt F))
/-- Operation 145 of the reference. -/
abbrev op145 : HloOp τ sig (Elt F) :=
  binary main_v116 main_v118 main_v119 (addf : (⟨S8192x2048, .f32⟩ : BufTy).Contents (Elt F) → (⟨S8192x2048, .f32⟩ : BufTy).Contents (Elt F) → (⟨S8192x2048, .f32⟩ : BufTy).Contents (Elt F))
/-- The operations of the reference up to its stage `Seqs`, from the stage before. -/
abbrev opsSeqs : List (HloOp τ sig (Elt F)) := [op0, op1, op2, op3, op4, op5, op6, op7, op8]
/-- The operations of the reference up to its stage `Cums`, from the stage before. -/
abbrev opsCums : List (HloOp τ sig (Elt F)) := [op9, op10, op11, op12, op13, op14]
/-- The operations of the reference up to its stage `Posns`, from the stage before. -/
abbrev opsPosns : List (HloOp τ sig (Elt F)) := [op15]
/-- The operations of the reference up to its stage `Mean2`, from the stage before. -/
abbrev opsMean2 : List (HloOp τ sig (Elt F)) := [op16, op17, op18, op19, op20, op21, op22, op23, op24, op25, op26, op27, op28, op29, op30, op31, op32, op33, op34]
/-- The operations of the reference up to its stage `Mean4`, from the stage before. -/
abbrev opsMean4 : List (HloOp τ sig (Elt F)) := [op35, op36, op37, op38, op39, op40, op41, op42, op43, op44, op45, op46, op47, op48, op49, op50, op51, op52, op53]
/-- The operations of the reference up to its stage `Mean8`, from the stage before. -/
abbrev opsMean8 : List (HloOp τ sig (Elt F)) := [op54, op55, op56, op57, op58, op59, op60, op61, op62, op63, op64, op65, op66, op67, op68, op69, op70, op71, op72]
/-- The operations of the reference up to its stage `Mean16`, from the stage before. -/
abbrev opsMean16 : List (HloOp τ sig (Elt F)) := [op73, op74, op75, op76, op77, op78, op79, op80, op81, op82, op83, op84, op85, op86, op87, op88, op89, op90, op91]
/-- The operations of the reference up to its stage `Stacked`, from the stage before. -/
abbrev opsStacked : List (HloOp τ sig (Elt F)) := [op92, op93, op94, op95, op96]
/-- The operations of the reference up to its stage `Pooled`, from the stage before. -/
abbrev opsPooled : List (HloOp τ sig (Elt F)) := [op97, op98, op99, op100, op101, op102, op103]
/-- The operations of the reference up to its stage `UpPool`, from the stage before. -/
abbrev opsUpPool : List (HloOp τ sig (Elt F)) := [op104, op105]
/-- The operations of the reference up to its stage `UpNsa`, from the stage before. -/
abbrev opsUpNsa : List (HloOp τ sig (Elt F)) := [op106, op107, op108]
/-- The operations of the reference up to its stage `Mixed`, from the stage before. -/
abbrev opsMixed : List (HloOp τ sig (Elt F)) := [op109, op110, op111, op112, op113, op114]
/-- The operations of the reference up to its stage `Resid`, from the stage before. -/
abbrev opsResid : List (HloOp τ sig (Elt F)) := [op115, op116]
/-- The operations of the reference up to its stage `RowMean`, from the stage before. -/
abbrev opsRowMean : List (HloOp τ sig (Elt F)) := [op117, op118, op119, op120, op121, op122]
/-- The operations of the reference up to its stage `Centred`, from the stage before. -/
abbrev opsCentred : List (HloOp τ sig (Elt F)) := [op123, op124]
/-- The operations of the reference up to its stage `RowVar`, from the stage before. -/
abbrev opsRowVar : List (HloOp τ sig (Elt F)) := [op125, op126, op127, op128, op129, op130, op131]
/-- The operations of the reference up to its stage `Normed`, from the stage before. -/
abbrev opsNormed : List (HloOp τ sig (Elt F)) := [op132, op133, op134, op135, op136, op137, op138, op139, op140, op141, op142, op143, op144, op145]
/-- The reference's operations, in order. -/
abbrev ops : List (HloOp τ sig (Elt F)) :=
  [op0, op1, op2, op3, op4, op5, op6, op7, op8, op9, op10, op11, op12, op13, op14, op15, op16, op17, op18, op19, op20, op21, op22, op23, op24, op25, op26, op27, op28, op29, op30, op31, op32, op33, op34, op35, op36, op37, op38, op39, op40, op41, op42, op43, op44, op45, op46, op47, op48, op49, op50, op51, op52, op53, op54, op55, op56, op57, op58, op59, op60, op61, op62, op63, op64, op65, op66, op67, op68, op69, op70, op71, op72, op73, op74, op75, op76, op77, op78, op79, op80, op81, op82, op83, op84, op85, op86, op87, op88, op89, op90, op91, op92, op93, op94, op95, op96, op97, op98, op99, op100, op101, op102, op103, op104, op105, op106, op107, op108, op109, op110, op111, op112, op113, op114, op115, op116, op117, op118, op119, op120, op121, op122, op123, op124, op125, op126, op127, op128, op129, op130, op131, op132, op133, op134, op135, op136, op137, op138, op139, op140, op141, op142, op143, op144, op145]

set_option maxRecDepth 8192 in
set_option maxHeartbeats 4000000 in
/-- The reference runs its operations one after the other. -/
theorem main_eq (c : Dev nD) : main (F := F) c = seq ops := rfl

/-- The reference keeps no scoped memory. -/
theorem scopedRefs_eq : (Finset.univ.filter fun b : Ref sig .tc => b.isScoped) = ∅ := by decide

/-- The reference keeps no scoped counter. -/
theorem scopedSems_eq : (Finset.univ.filter fun sm : SemLoc sig => sm.isScoped .tc) = ∅ := by decide

set_option maxRecDepth 8192 in
/-- Every operation touches only buffers of the core that runs it. -/
theorem ops_sub : (ops : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., reshape_bufs_sub .., nullary_bufs_sub .., unary_bufs_sub .., binary_bufs_sub .., nullary_bufs_sub .., unary_bufs_sub .., binary_bufs_sub .., nullary_bufs_sub .., unary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., binary_bufs_sub .., unary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., binary_bufs_sub .., unary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., binary_bufs_sub .., unary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., binary_bufs_sub .., unary_bufs_sub .., unary_bufs_sub .., unary_bufs_sub .., unary_bufs_sub .., nary_bufs_sub .., binary_bufs_sub .., unary_bufs_sub .., reshape_bufs_sub .., unary_bufs_sub .., unary_bufs_sub .., binary_bufs_sub .., reshape_bufs_sub .., binary_bufs_sub .., binary_bufs_sub .., unary_bufs_sub .., binary_bufs_sub .., binary_bufs_sub .., nullary_bufs_sub .., unary_bufs_sub .., binary_bufs_sub .., binary_bufs_sub .., binary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

end Cert.Proof.Ref

end
-- ==== Proof.RefStages.lean ====
/- The reference program, stage by stage, as functions of its arguments. -/
module

public import proofs.«01_k».proof.Proof.Gen.ReferenceIdeal
public import Idealize.ShloMosaic.Lib.StableHlo.Run

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The value of the stage `zPool` from the stages and arguments it reads. -/
def zPool (x1 : (⟨S8192x2048, .bf16⟩ : BufTy).Contents (Elt F)) :
    (⟨S8192x1024, .f32⟩ : BufTy).Contents (Elt F) :=
  extf .f32 (extractStridedSlice S8192x1024 ![0, 0] (x1) slices_S8192x2048_S8192x1024_0_0) bitsLt_bf16_f32

/-- The value of the stage `zNsa` from the stages and arguments it reads. -/
def zNsa (x1 : (⟨S8192x2048, .bf16⟩ : BufTy).Contents (Elt F)) :
    (⟨S8192x1024, .f32⟩ : BufTy).Contents (Elt F) :=
  extf .f32 (extractStridedSlice S8192x1024 ![0, 1024] (x1) slices_S8192x2048_S8192x1024_0_1024) bitsLt_bf16_f32

/-- The value of the stage `gateA` from the stages and arguments it reads. -/
def gateA (x2 : (⟨S8192x4608, .bf16⟩ : BufTy).Contents (Elt F)) :
    (⟨S8192x2048, .f32⟩ : BufTy).Contents (Elt F) :=
  extf .f32 (extractStridedSlice S8192x2048 ![0, 0] (x2) slices_S8192x4608_S8192x2048_0_0) bitsLt_bf16_f32

/-- The value of the stage `gateB` from the stages and arguments it reads. -/
def gateB (x2 : (⟨S8192x4608, .bf16⟩ : BufTy).Contents (Elt F)) :
    (⟨S8192x2048, .f32⟩ : BufTy).Contents (Elt F) :=
  extf .f32 (extractStridedSlice S8192x2048 ![0, 2048] (x2) slices_S8192x4608_S8192x2048_0_2048) bitsLt_bf16_f32

/-- The value of the stage `seqs` from the stages and arguments it reads. -/
def seqs (x0 : (⟨S8192x1024, .f32⟩ : BufTy).Contents (Elt F)) :
    (⟨S2x4096x1024, .f32⟩ : BufTy).Contents (Elt F) :=
  shapeCast _ (x0) shapeCasts_S8192x1024_S2x4096x1024

/-- The value of the stage `cums` from the stages and arguments it reads. -/
def cums (seqs_ : (⟨S2x4096x1024, .f32⟩ : BufTy).Contents (Elt F)) :
    (⟨S2x4097x1024, .f32⟩ : BufTy).Contents (Elt F) :=
  pad S2x4097x1024 ![0, 1, 0] ![0, 0, 0] ![0, 0, 0] (Host.reduceWindowAdd ![1, 4096, 1] ![1, 1, 1] ![0, 4095, 0] ![0, 0, 0] seqs_ (broadcastInDim S_ ![] bcast_S_S_ (constant S_ .f32 0x00000000#32)) reduceWindows_S2x4096x1024_S2x4096x1024_w1s1p0_0_w4096s1p4095_0_w1s1p0_0 h_S_) (sitofp .f32 (constantI S_ 32 0#32)) pads_S2x4096x1024_S2x4097x1024_000_100_000 h_S_

/-- The value of the stage `posns` from the stages and arguments it reads. -/
def posns :
    (⟨S4096, .i32⟩ : BufTy).Contents (Elt F) :=
  iotaInDim S4096 32 0

/-- The value of the stage `mean2` from the stages and arguments it reads. -/
def mean2 (cums_ : (⟨S2x4097x1024, .f32⟩ : BufTy).Contents (Elt F)) (posns_ : (⟨S4096, .i32⟩ : BufTy).Contents (Elt F)) (seqs_ : (⟨S2x4096x1024, .f32⟩ : BufTy).Contents (Elt F)) :
    (⟨S2x4096x256, .f32⟩ : BufTy).Contents (Elt F) :=
  subf (Host.divf (subf (extractStridedSlice S2x4096x256 ![0, 1, 0] (extractStridedSlice S2x4097x256 ![0, 0, 0] cums_ slices_S2x4097x1024_S2x4097x256_0_0_0) slices_S2x4097x256_S2x4096x256_0_1_0) (extractStridedSlice S2x4096x256 ![0, 1, 0] (pad S2x4099x256 ![0, 2, 0] ![0, 0, 0] ![0, 0, 0] (extractStridedSlice S2x4097x256 ![0, 0, 0] cums_ slices_S2x4097x1024_S2x4097x256_0_0_0) (sitofp .f32 (constantI S_ 32 0#32)) pads_S2x4097x256_S2x4099x256_000_200_000 h_S_) slices_S2x4099x256_S2x4096x256_0_1_0)) (broadcastInDim S2x4096x256 ![0, 1, 2] bcast_S1x4096x1_S2x4096x256_0_1_2 (broadcastInDim S1x4096x1 ![1] bcast_S4096_S1x4096x1_1 (sitofp .f32 (minsi (addi posns_ (broadcastInDim S4096 ![] bcast_S_S4096 (constantI S_ 32 1#32))) (broadcastInDim S4096 ![] bcast_S_S4096 (constantI S_ 32 2#32))))))) (extractStridedSlice S2x4096x256 ![0, 0, 0] seqs_ slices_S2x4096x1024_S2x4096x256_0_0_0)

/-- The value of the stage `mean4` from the stages and arguments it reads. -/
def mean4 (cums_ : (⟨S2x4097x1024, .f32⟩ : BufTy).Contents (Elt F)) (posns_ : (⟨S4096, .i32⟩ : BufTy).Contents (Elt F)) (seqs_ : (⟨S2x4096x1024, .f32⟩ : BufTy).Contents (Elt F)) :
    (⟨S2x4096x256, .f32⟩ : BufTy).Contents (Elt F) :=
  subf (Host.divf (subf (extractStridedSlice S2x4096x256 ![0, 1, 0] (extractStridedSlice S2x4097x256 ![0, 0, 256] cums_ slices_S2x4097x1024_S2x4097x256_0_0_256) slices_S2x4097x256_S2x4096x256_0_1_0) (extractStridedSlice S2x4096x256 ![0, 1, 0] (pad S2x4101x256 ![0, 4, 0] ![0, 0, 0] ![0, 0, 0] (extractStridedSlice S2x4097x256 ![0, 0, 256] cums_ slices_S2x4097x1024_S2x4097x256_0_0_256) (sitofp .f32 (constantI S_ 32 0#32)) pads_S2x4097x256_S2x4101x256_000_400_000 h_S_) slices_S2x4101x256_S2x4096x256_0_1_0)) (broadcastInDim S2x4096x256 ![0, 1, 2] bcast_S1x4096x1_S2x4096x256_0_1_2 (broadcastInDim S1x4096x1 ![1] bcast_S4096_S1x4096x1_1 (sitofp .f32 (minsi (addi posns_ (broadcastInDim S4096 ![] bcast_S_S4096 (constantI S_ 32 1#32))) (broadcastInDim S4096 ![] bcast_S_S4096 (constantI S_ 32 4#32))))))) (extractStridedSlice S2x4096x256 ![0, 0, 256] seqs_ slices_S2x4096x1024_S2x4096x256_0_0_256)

/-- The value of the stage `mean8` from the stages and arguments it reads. -/
def mean8 (cums_ : (⟨S2x4097x1024, .f32⟩ : BufTy).Contents (Elt F)) (posns_ : (⟨S4096, .i32⟩ : BufTy).Contents (Elt F)) (seqs_ : (⟨S2x4096x1024, .f32⟩ : BufTy).Contents (Elt F)) :
    (⟨S2x4096x256, .f32⟩ : BufTy).Contents (Elt F) :=
  subf (Host.divf (subf (extractStridedSlice S2x4096x256 ![0, 1, 0] (extractStridedSlice S2x4097x256 ![0, 0, 512] cums_ slices_S2x4097x1024_S2x4097x256_0_0_512) slices_S2x4097x256_S2x4096x256_0_1_0) (extractStridedSlice S2x4096x256 ![0, 1, 0] (pad S2x4105x256 ![0, 8, 0] ![0, 0, 0] ![0, 0, 0] (extractStridedSlice S2x4097x256 ![0, 0, 512] cums_ slices_S2x4097x1024_S2x4097x256_0_0_512) (sitofp .f32 (constantI S_ 32 0#32)) pads_S2x4097x256_S2x4105x256_000_800_000 h_S_) slices_S2x4105x256_S2x4096x256_0_1_0)) (broadcastInDim S2x4096x256 ![0, 1, 2] bcast_S1x4096x1_S2x4096x256_0_1_2 (broadcastInDim S1x4096x1 ![1] bcast_S4096_S1x4096x1_1 (sitofp .f32 (minsi (addi posns_ (broadcastInDim S4096 ![] bcast_S_S4096 (constantI S_ 32 1#32))) (broadcastInDim S4096 ![] bcast_S_S4096 (constantI S_ 32 8#32))))))) (extractStridedSlice S2x4096x256 ![0, 0, 512] seqs_ slices_S2x4096x1024_S2x4096x256_0_0_512)

/-- The value of the stage `mean16` from the stages and arguments it reads. -/
def mean16 (cums_ : (⟨S2x4097x1024, .f32⟩ : BufTy).Contents (Elt F)) (posns_ : (⟨S4096, .i32⟩ : BufTy).Contents (Elt F)) (seqs_ : (⟨S2x4096x1024, .f32⟩ : BufTy).Contents (Elt F)) :
    (⟨S2x4096x256, .f32⟩ : BufTy).Contents (Elt F) :=
  subf (Host.divf (subf (extractStridedSlice S2x4096x256 ![0, 1, 0] (extractStridedSlice S2x4097x256 ![0, 0, 768] cums_ slices_S2x4097x1024_S2x4097x256_0_0_768) slices_S2x4097x256_S2x4096x256_0_1_0) (extractStridedSlice S2x4096x256 ![0, 1, 0] (pad S2x4113x256 ![0, 16, 0] ![0, 0, 0] ![0, 0, 0] (extractStridedSlice S2x4097x256 ![0, 0, 768] cums_ slices_S2x4097x1024_S2x4097x256_0_0_768) (sitofp .f32 (constantI S_ 32 0#32)) pads_S2x4097x256_S2x4113x256_000_1600_000 h_S_) slices_S2x4113x256_S2x4096x256_0_1_0)) (broadcastInDim S2x4096x256 ![0, 1, 2] bcast_S1x4096x1_S2x4096x256_0_1_2 (broadcastInDim S1x4096x1 ![1] bcast_S4096_S1x4096x1_1 (sitofp .f32 (minsi (addi posns_ (broadcastInDim S4096 ![] bcast_S_S4096 (constantI S_ 32 1#32))) (broadcastInDim S4096 ![] bcast_S_S4096 (constantI S_ 32 16#32))))))) (extractStridedSlice S2x4096x256 ![0, 0, 768] seqs_ slices_S2x4096x1024_S2x4096x256_0_0_768)

/-- The value of the stage `stacked` from the stages and arguments it reads. -/
def stacked (mean2_ : (⟨S2x4096x256, .f32⟩ : BufTy).Contents (Elt F)) (mean4_ : (⟨S2x4096x256, .f32⟩ : BufTy).Contents (Elt F)) (mean8_ : (⟨S2x4096x256, .f32⟩ : BufTy).Contents (Elt F)) (mean16_ : (⟨S2x4096x256, .f32⟩ : BufTy).Contents (Elt F)) :
    (⟨S2x4096x4x256, .f32⟩ : BufTy).Contents (Elt F) :=
  (concatenate S2x4096x4x256 2 [⟨S2x4096x1x256, ((broadcastInDim S2x4096x1x256 ![0, 1, 3] bcast_S2x4096x256_S2x4096x1x256_0_1_3 mean2_) : (⟨S2x4096x1x256, .f32⟩ : BufTy).Contents (Elt F))⟩, ⟨S2x4096x1x256, ((broadcastInDim S2x4096x1x256 ![0, 1, 3] bcast_S2x4096x256_S2x4096x1x256_0_1_3 mean4_) : (⟨S2x4096x1x256, .f32⟩ : BufTy).Contents (Elt F))⟩, ⟨S2x4096x1x256, ((broadcastInDim S2x4096x1x256 ![0, 1, 3] bcast_S2x4096x256_S2x4096x1x256_0_1_3 mean8_) : (⟨S2x4096x1x256, .f32⟩ : BufTy).Contents (Elt F))⟩, ⟨S2x4096x1x256, ((broadcastInDim S2x4096x1x256 ![0, 1, 3] bcast_S2x4096x256_S2x4096x1x256_0_1_3 mean16_) : (⟨S2x4096x1x256, .f32⟩ : BufTy).Contents (Elt F))⟩] concatenates_S2x4096x1x256_S2x4096x1x256_S2x4096x1x256_S2x4096x1x256_S2x4096x4x256_d2 : (⟨S2x4096x4x256, .f32⟩ : BufTy).Contents (Elt F))

/-- The value of the stage `pooled` from the stages and arguments it reads. -/
def pooled (stacked_ : (⟨S2x4096x4x256, .f32⟩ : BufTy).Contents (Elt F)) (x5 : (⟨S4x256x256, .f32⟩ : BufTy).Contents (Elt F)) (x6 : (⟨S1024, .f32⟩ : BufTy).Contents (Elt F)) :
    (⟨S8192x1024, .f32⟩ : BufTy).Contents (Elt F) :=
  shapeCast _ (mulf (shapeCast _ (transpose S2x4096x4x256 [2, 3, 0, 1] (Host.dotGeneral dot_S4x256x256_S2x4096x4x256_S4x256x2x4096_1_3_2_01_0_2 none (x5) stacked_) transposes_S4x256x2x4096_S2x4096x4x256_2_3_0_1) shapeCasts_S2x4096x4x256_S2x4096x1024) (broadcastInDim S2x4096x1024 ![0, 1, 2] bcast_S1x1x1024_S2x4096x1024_0_1_2 (broadcastInDim S1x1x1024 ![2] bcast_S1024_S1x1x1024_2 (x6)))) shapeCasts_S2x4096x1024_S8192x1024

/-- The value of the stage `upPool` from the stages and arguments it reads. -/
def upPool (pooled_ : (⟨S8192x1024, .f32⟩ : BufTy).Contents (Elt F)) (zPool_ : (⟨S8192x1024, .f32⟩ : BufTy).Contents (Elt F)) (x7 : (⟨S1024x2048, .f32⟩ : BufTy).Contents (Elt F)) :
    (⟨S8192x2048, .f32⟩ : BufTy).Contents (Elt F) :=
  Host.dotGeneral dot_S8192x1024_S1024x2048_S8192x2048_1_0_0_1_n_n none (mulf pooled_ zPool_) (x7)

/-- The value of the stage `upNsa` from the stages and arguments it reads. -/
def upNsa (x3 : (⟨S8192x1024, .bf16⟩ : BufTy).Contents (Elt F)) (zNsa_ : (⟨S8192x1024, .f32⟩ : BufTy).Contents (Elt F)) (x8 : (⟨S1024x2048, .f32⟩ : BufTy).Contents (Elt F)) :
    (⟨S8192x2048, .f32⟩ : BufTy).Contents (Elt F) :=
  Host.dotGeneral dot_S8192x1024_S1024x2048_S8192x2048_1_0_0_1_n_n none (mulf (extf .f32 (x3) bitsLt_bf16_f32) zNsa_) (x8)

/-- The value of the stage `scaledX` from the stages and arguments it reads. -/
def scaledX (x4 : (⟨S8192x2048, .f32⟩ : BufTy).Contents (Elt F)) :
    (⟨S8192x2048, .f32⟩ : BufTy).Contents (Elt F) :=
  mulf (broadcastInDim S8192x2048 ![] bcast_S_S8192x2048 (constant S_ .f32 0x3F9837F0#32)) (x4)

/-- The value of the stage `mixed` from the stages and arguments it reads. -/
def mixed (gateA_ : (⟨S8192x2048, .f32⟩ : BufTy).Contents (Elt F)) (upPool_ : (⟨S8192x2048, .f32⟩ : BufTy).Contents (Elt F)) (gateB_ : (⟨S8192x2048, .f32⟩ : BufTy).Contents (Elt F)) (upNsa_ : (⟨S8192x2048, .f32⟩ : BufTy).Contents (Elt F)) :
    (⟨S8192x2048, .f32⟩ : BufTy).Contents (Elt F) :=
  addf (mulf gateA_ upPool_) (mulf gateB_ upNsa_)

/-- The value of the stage `resid` from the stages and arguments it reads. -/
def resid (scaledX_ : (⟨S8192x2048, .f32⟩ : BufTy).Contents (Elt F)) (mixed_ : (⟨S8192x2048, .f32⟩ : BufTy).Contents (Elt F)) (x9 : (⟨S2048x2048, .f32⟩ : BufTy).Contents (Elt F)) :
    (⟨S8192x2048, .f32⟩ : BufTy).Contents (Elt F) :=
  addf scaledX_ (Host.dotGeneral dot_S8192x2048_S2048x2048_S8192x2048_1_0_0_1_n_n none mixed_ (x9))

/-- The value of the stage `rowMean` from the stages and arguments it reads. -/
def rowMean (resid_ : (⟨S8192x2048, .f32⟩ : BufTy).Contents (Elt F)) :
    (⟨S8192x1, .f32⟩ : BufTy).Contents (Elt F) :=
  Host.divf (broadcastInDim S8192x1 ![0] bcast_S8192_S8192x1_0 (Host.reduceAdd resid_ (constant S_ .f32 0x00000000#32) reducesTo_S8192x2048_S8192_d1 h_S_)) (broadcastInDim S8192x1 ![] bcast_S_S8192x1 (constant S_ .f32 0x45000000#32))

/-- The value of the stage `centred` from the stages and arguments it reads. -/
def centred (resid_ : (⟨S8192x2048, .f32⟩ : BufTy).Contents (Elt F)) (rowMean_ : (⟨S8192x1, .f32⟩ : BufTy).Contents (Elt F)) :
    (⟨S8192x2048, .f32⟩ : BufTy).Contents (Elt F) :=
  subf resid_ (broadcastInDim S8192x2048 ![0, 1] bcast_S8192x1_S8192x2048_0_1 rowMean_)

/-- The value of the stage `rowVar` from the stages and arguments it reads. -/
def rowVar (centred_ : (⟨S8192x2048, .f32⟩ : BufTy).Contents (Elt F)) :
    (⟨S8192x1, .f32⟩ : BufTy).Contents (Elt F) :=
  Host.divf (broadcastInDim S8192x1 ![0] bcast_S8192_S8192x1_0 (Host.reduceAdd (mulf centred_ centred_) (constant S_ .f32 0x00000000#32) reducesTo_S8192x2048_S8192_d1 h_S_)) (broadcastInDim S8192x1 ![] bcast_S_S8192x1 (constant S_ .f32 0x45000000#32))

/-- The value of the stage `normed` from the stages and arguments it reads. -/
def normed (resid_ : (⟨S8192x2048, .f32⟩ : BufTy).Contents (Elt F)) (rowMean_ : (⟨S8192x1, .f32⟩ : BufTy).Contents (Elt F)) (rowVar_ : (⟨S8192x1, .f32⟩ : BufTy).Contents (Elt F)) (x10 : (⟨S2048, .f32⟩ : BufTy).Contents (Elt F)) (x11 : (⟨S2048, .f32⟩ : BufTy).Contents (Elt F)) :
    (⟨S8192x2048, .f32⟩ : BufTy).Contents (Elt F) :=
  addf (mulf (mulf (subf resid_ (broadcastInDim S8192x2048 ![0, 1] bcast_S8192x1_S8192x2048_0_1 rowMean_)) (broadcastInDim S8192x2048 ![0, 1] bcast_S8192x1_S8192x2048_0_1 (Host.rsqrt (addf rowVar_ (broadcastInDim S8192x1 ![] bcast_S_S8192x1 (constant S_ .f32 0x3727C5AC#32)))))) (broadcastInDim S8192x2048 ![0, 1] bcast_S1x2048_S8192x2048_0_1 (broadcastInDim S1x2048 ![1] bcast_S2048_S1x2048_1 (x10)))) (broadcastInDim S8192x2048 ![0, 1] bcast_S1x2048_S8192x2048_0_1 (broadcastInDim S1x2048 ![1] bcast_S2048_S1x2048_1 (x11)))

/-- The reference as a function of its arguments, stage by stage. -/
def refOut
    (x0 : (⟨S8192x1024, .f32⟩ : BufTy).Contents (Elt F))
    (x1 : (⟨S8192x2048, .bf16⟩ : BufTy).Contents (Elt F))
    (x2 : (⟨S8192x4608, .bf16⟩ : BufTy).Contents (Elt F))
    (x3 : (⟨S8192x1024, .bf16⟩ : BufTy).Contents (Elt F))
    (x4 : (⟨S8192x2048, .f32⟩ : BufTy).Contents (Elt F))
    (x5 : (⟨S4x256x256, .f32⟩ : BufTy).Contents (Elt F))
    (x6 : (⟨S1024, .f32⟩ : BufTy).Contents (Elt F))
    (x7 : (⟨S1024x2048, .f32⟩ : BufTy).Contents (Elt F))
    (x8 : (⟨S1024x2048, .f32⟩ : BufTy).Contents (Elt F))
    (x9 : (⟨S2048x2048, .f32⟩ : BufTy).Contents (Elt F))
    (x10 : (⟨S2048, .f32⟩ : BufTy).Contents (Elt F))
    (x11 : (⟨S2048, .f32⟩ : BufTy).Contents (Elt F)) :
    (⟨S8192x2048, .f32⟩ : BufTy).Contents (Elt F) :=
  let zPool_ := zPool (F := F) x1
  let zNsa_ := zNsa (F := F) x1
  let gateA_ := gateA (F := F) x2
  let gateB_ := gateB (F := F) x2
  let seqs_ := seqs (F := F) x0
  let cums_ := cums (F := F) seqs_
  let posns_ := posns (F := F)
  let mean2_ := mean2 (F := F) cums_ posns_ seqs_
  let mean4_ := mean4 (F := F) cums_ posns_ seqs_
  let mean8_ := mean8 (F := F) cums_ posns_ seqs_
  let mean16_ := mean16 (F := F) cums_ posns_ seqs_
  let stacked_ := stacked (F := F) mean2_ mean4_ mean8_ mean16_
  let pooled_ := pooled (F := F) stacked_ x5 x6
  let upPool_ := upPool (F := F) pooled_ zPool_ x7
  let upNsa_ := upNsa (F := F) x3 zNsa_ x8
  let scaledX_ := scaledX (F := F) x4
  let mixed_ := mixed (F := F) gateA_ upPool_ gateB_ upNsa_
  let resid_ := resid (F := F) scaledX_ mixed_ x9
  let rowMean_ := rowMean (F := F) resid_
  let centred_ := centred (F := F) resid_ rowMean_
  let rowVar_ := rowVar (F := F) centred_
  let normed_ := normed (F := F) resid_ rowMean_ rowVar_ x10 x11
  normed_

end Cert.Proof.Ref

end
-- ==== Proof.RefRun.lean ====
/- What the reference leaves in its result: the run read back stage by stage. -/
module

public import proofs.«01_k».proof.Proof.RefOps
public import proofs.«01_k».proof.Proof.RefStages
public import Idealize.ShloMosaic.Lib.StableHlo.Run
public import Idealize.ShloMosaic.Lib.StableHlo.RunRead
public import Idealize.ShloMosaic.Lib.Pipeline.Frame

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The buffers that the operations of the stage `Seqs` write. -/
abbrev wrSeqs : List (Ref sig .tc) := [main_v0, main_v1, main_v2, main_v3, main_v4, main_v5, main_v6, main_v7, main_v8]

/-- The stage `Seqs` leaves every buffer it does not write. -/
theorem keepSeqs (V : Valuation τ sig (Elt F)) {r : Ref sig .tc} (h : r ∉ wrSeqs) :
    after opsSeqs V (no_index (Proc.devRef .tc r)) = V (Proc.devRef .tc r) :=
  after_unwritten wrSeqs rfl h V

/-- The buffers that the operations of the stage `Cums` write. -/
abbrev wrCums : List (Ref sig .tc) := [main_call0_call0_cst, main_call0_call0_v0, main_v9, main_c, main_call1_v0, main_v10]

/-- The stage `Cums` leaves every buffer it does not write. -/
theorem keepCums (V : Valuation τ sig (Elt F)) {r : Ref sig .tc} (h : r ∉ wrCums) :
    after opsCums V (no_index (Proc.devRef .tc r)) = V (Proc.devRef .tc r) :=
  after_unwritten wrCums rfl h V

/-- The buffers that the operations of the stage `Posns` write. -/
abbrev wrPosns : List (Ref sig .tc) := [main_v11]

/-- The stage `Posns` leaves every buffer it does not write. -/
theorem keepPosns (V : Valuation τ sig (Elt F)) {r : Ref sig .tc} (h : r ∉ wrPosns) :
    after opsPosns V (no_index (Proc.devRef .tc r)) = V (Proc.devRef .tc r) :=
  after_unwritten wrPosns rfl h V

/-- The buffers that the operations of the stage `Mean2` write. -/
abbrev wrMean2 : List (Ref sig .tc) := [main_v12, main_v13, main_c_0, main_call2_v0, main_v14, main_v15, main_c_1, main_v16, main_v17, main_c_2, main_v18, main_v19, main_v20, main_v21, main_v22, main_v23, main_v24, main_v25, main_v26]

/-- The stage `Mean2` leaves every buffer it does not write. -/
theorem keepMean2 (V : Valuation τ sig (Elt F)) {r : Ref sig .tc} (h : r ∉ wrMean2) :
    after opsMean2 V (no_index (Proc.devRef .tc r)) = V (Proc.devRef .tc r) :=
  after_unwritten wrMean2 rfl h V

/-- The buffers that the operations of the stage `Mean4` write. -/
abbrev wrMean4 : List (Ref sig .tc) := [main_v27, main_v28, main_c_3, main_call3_v0, main_v29, main_v30, main_c_4, main_v31, main_v32, main_c_5, main_v33, main_v34, main_v35, main_v36, main_v37, main_v38, main_v39, main_v40, main_v41]

/-- The stage `Mean4` leaves every buffer it does not write. -/
theorem keepMean4 (V : Valuation τ sig (Elt F)) {r : Ref sig .tc} (h : r ∉ wrMean4) :
    after opsMean4 V (no_index (Proc.devRef .tc r)) = V (Proc.devRef .tc r) :=
  after_unwritten wrMean4 rfl h V

/-- The buffers that the operations of the stage `Mean8` write. -/
abbrev wrMean8 : List (Ref sig .tc) := [main_v42, main_v43, main_c_6, main_call4_v0, main_v44, main_v45, main_c_7, main_v46, main_v47, main_c_8, main_v48, main_v49, main_v50, main_v51, main_v52, main_v53, main_v54, main_v55, main_v56]

/-- The stage `Mean8` leaves every buffer it does not write. -/
theorem keepMean8 (V : Valuation τ sig (Elt F)) {r : Ref sig .tc} (h : r ∉ wrMean8) :
    after opsMean8 V (no_index (Proc.devRef .tc r)) = V (Proc.devRef .tc r) :=
  after_unwritten wrMean8 rfl h V

/-- The buffers that the operations of the stage `Mean16` write. -/
abbrev wrMean16 : List (Ref sig .tc) := [main_v57, main_v58, main_c_9, main_call5_v0, main_v59, main_v60, main_c_10, main_v61, main_v62, main_c_11, main_v63, main_v64, main_v65, main_v66, main_v67, main_v68, main_v69, main_v70, main_v71]

/-- The stage `Mean16` leaves every buffer it does not write. -/
theorem keepMean16 (V : Valuation τ sig (Elt F)) {r : Ref sig .tc} (h : r ∉ wrMean16) :
    after opsMean16 V (no_index (Proc.devRef .tc r)) = V (Proc.devRef .tc r) :=
  after_unwritten wrMean16 rfl h V

/-- The buffers that the operations of the stage `Stacked` write. -/
abbrev wrStacked : List (Ref sig .tc) := [main_v72, main_v73, main_v74, main_v75, main_v76]

/-- The stage `Stacked` leaves every buffer it does not write. -/
theorem keepStacked (V : Valuation τ sig (Elt F)) {r : Ref sig .tc} (h : r ∉ wrStacked) :
    after opsStacked V (no_index (Proc.devRef .tc r)) = V (Proc.devRef .tc r) :=
  after_unwritten wrStacked rfl h V

/-- The buffers that the operations of the stage `Pooled` write. -/
abbrev wrPooled : List (Ref sig .tc) := [main_v77, main_v78, main_v79, main_v80, main_v81, main_v82, main_v83]

/-- The stage `Pooled` leaves every buffer it does not write. -/
theorem keepPooled (V : Valuation τ sig (Elt F)) {r : Ref sig .tc} (h : r ∉ wrPooled) :
    after opsPooled V (no_index (Proc.devRef .tc r)) = V (Proc.devRef .tc r) :=
  after_unwritten wrPooled rfl h V

/-- The buffers that the operations of the stage `UpPool` write. -/
abbrev wrUpPool : List (Ref sig .tc) := [main_v84, main_v85]

/-- The stage `UpPool` leaves every buffer it does not write. -/
theorem keepUpPool (V : Valuation τ sig (Elt F)) {r : Ref sig .tc} (h : r ∉ wrUpPool) :
    after opsUpPool V (no_index (Proc.devRef .tc r)) = V (Proc.devRef .tc r) :=
  after_unwritten wrUpPool rfl h V

/-- The buffers that the operations of the stage `UpNsa` write. -/
abbrev wrUpNsa : List (Ref sig .tc) := [main_v86, main_v87, main_v88]

/-- The stage `UpNsa` leaves every buffer it does not write. -/
theorem keepUpNsa (V : Valuation τ sig (Elt F)) {r : Ref sig .tc} (h : r ∉ wrUpNsa) :
    after opsUpNsa V (no_index (Proc.devRef .tc r)) = V (Proc.devRef .tc r) :=
  after_unwritten wrUpNsa rfl h V

/-- The buffers that the operations of the stage `Mixed` write. -/
abbrev wrMixed : List (Ref sig .tc) := [main_cst, main_v89, main_v90, main_v91, main_v92, main_v93]

/-- The stage `Mixed` leaves every buffer it does not write. -/
theorem keepMixed (V : Valuation τ sig (Elt F)) {r : Ref sig .tc} (h : r ∉ wrMixed) :
    after opsMixed V (no_index (Proc.devRef .tc r)) = V (Proc.devRef .tc r) :=
  after_unwritten wrMixed rfl h V

/-- The buffers that the operations of the stage `Resid` write. -/
abbrev wrResid : List (Ref sig .tc) := [main_v94, main_v95]

/-- The stage `Resid` leaves every buffer it does not write. -/
theorem keepResid (V : Valuation τ sig (Elt F)) {r : Ref sig .tc} (h : r ∉ wrResid) :
    after opsResid V (no_index (Proc.devRef .tc r)) = V (Proc.devRef .tc r) :=
  after_unwritten wrResid rfl h V

/-- The buffers that the operations of the stage `RowMean` write. -/
abbrev wrRowMean : List (Ref sig .tc) := [main_cst_12, main_v96, main_v97, main_cst_13, main_v98, main_v99]

/-- The stage `RowMean` leaves every buffer it does not write. -/
theorem keepRowMean (V : Valuation τ sig (Elt F)) {r : Ref sig .tc} (h : r ∉ wrRowMean) :
    after opsRowMean V (no_index (Proc.devRef .tc r)) = V (Proc.devRef .tc r) :=
  after_unwritten wrRowMean rfl h V

/-- The buffers that the operations of the stage `Centred` write. -/
abbrev wrCentred : List (Ref sig .tc) := [main_v100, main_v101]

/-- The stage `Centred` leaves every buffer it does not write. -/
theorem keepCentred (V : Valuation τ sig (Elt F)) {r : Ref sig .tc} (h : r ∉ wrCentred) :
    after opsCentred V (no_index (Proc.devRef .tc r)) = V (Proc.devRef .tc r) :=
  after_unwritten wrCentred rfl h V

/-- The buffers that the operations of the stage `RowVar` write. -/
abbrev wrRowVar : List (Ref sig .tc) := [main_v102, main_cst_14, main_v103, main_v104, main_cst_15, main_v105, main_v106]

/-- The stage `RowVar` leaves every buffer it does not write. -/
theorem keepRowVar (V : Valuation τ sig (Elt F)) {r : Ref sig .tc} (h : r ∉ wrRowVar) :
    after opsRowVar V (no_index (Proc.devRef .tc r)) = V (Proc.devRef .tc r) :=
  after_unwritten wrRowVar rfl h V

/-- The buffers that the operations of the stage `Normed` write. -/
abbrev wrNormed : List (Ref sig .tc) := [main_v107, main_v108, main_cst_16, main_v109, main_v110, main_v111, main_v112, main_v113, main_v114, main_v115, main_v116, main_v117, main_v118, main_v119]

/-- The stage `Normed` leaves every buffer it does not write. -/
theorem keepNormed (V : Valuation τ sig (Elt F)) {r : Ref sig .tc} (h : r ∉ wrNormed) :
    after opsNormed V (no_index (Proc.devRef .tc r)) = V (Proc.devRef .tc r) :=
  after_unwritten wrNormed rfl h V

/-- What the operations of their group leave in the buffer of the stage `zPool`. -/
theorem read_zPool (V : Valuation τ sig (Elt F)) :
    after opsSeqs V (no_index (Proc.devRef .tc main_v1)) = zPool (F := F) (V (Proc.devRef .tc main_arg1)) := by
  after_reads_simp
  rfl

/-- What the operations of their group leave in the buffer of the stage `zNsa`. -/
theorem read_zNsa (V : Valuation τ sig (Elt F)) :
    after opsSeqs V (no_index (Proc.devRef .tc main_v3)) = zNsa (F := F) (V (Proc.devRef .tc main_arg1)) := by
  after_reads_simp
  rfl

/-- What the operations of their group leave in the buffer of the stage `gateA`. -/
theorem read_gateA (V : Valuation τ sig (Elt F)) :
    after opsSeqs V (no_index (Proc.devRef .tc main_v5)) = gateA (F := F) (V (Proc.devRef .tc main_arg2)) := by
  after_reads_simp
  rfl

/-- What the operations of their group leave in the buffer of the stage `gateB`. -/
theorem read_gateB (V : Valuation τ sig (Elt F)) :
    after opsSeqs V (no_index (Proc.devRef .tc main_v7)) = gateB (F := F) (V (Proc.devRef .tc main_arg2)) := by
  after_reads_simp
  rfl

/-- What the operations of their group leave in the buffer of the stage `seqs`. -/
theorem read_seqs (V : Valuation τ sig (Elt F)) :
    after opsSeqs V (no_index (Proc.devRef .tc main_v8)) = seqs (F := F) (V (Proc.devRef .tc main_arg0)) := by
  after_reads_simp
  rfl

/-- What the operations of their group leave in the buffer of the stage `cums`. -/
theorem read_cums (V : Valuation τ sig (Elt F)) :
    after opsCums V (no_index (Proc.devRef .tc main_v10)) = cums (F := F) (V (Proc.devRef .tc main_v8)) := by
  after_reads_simp
  rfl

/-- What the operations of their group leave in the buffer of the stage `posns`. -/
theorem read_posns (V : Valuation τ sig (Elt F)) :
    after opsPosns V (no_index (Proc.devRef .tc main_v11)) = posns (F := F)  := by
  after_reads_simp
  rfl

/-- What the operations of their group leave in the buffer of the stage `mean2`. -/
theorem read_mean2 (V : Valuation τ sig (Elt F)) :
    after opsMean2 V (no_index (Proc.devRef .tc main_v26)) = mean2 (F := F) (V (Proc.devRef .tc main_v10)) (V (Proc.devRef .tc main_v11)) (V (Proc.devRef .tc main_v8)) := by
  after_reads_simp
  rfl

/-- What the operations of their group leave in the buffer of the stage `mean4`. -/
theorem read_mean4 (V : Valuation τ sig (Elt F)) :
    after opsMean4 V (no_index (Proc.devRef .tc main_v41)) = mean4 (F := F) (V (Proc.devRef .tc main_v10)) (V (Proc.devRef .tc main_v11)) (V (Proc.devRef .tc main_v8)) := by
  after_reads_simp
  rfl

/-- What the operations of their group leave in the buffer of the stage `mean8`. -/
theorem read_mean8 (V : Valuation τ sig (Elt F)) :
    after opsMean8 V (no_index (Proc.devRef .tc main_v56)) = mean8 (F := F) (V (Proc.devRef .tc main_v10)) (V (Proc.devRef .tc main_v11)) (V (Proc.devRef .tc main_v8)) := by
  after_reads_simp
  rfl

/-- What the operations of their group leave in the buffer of the stage `mean16`. -/
theorem read_mean16 (V : Valuation τ sig (Elt F)) :
    after opsMean16 V (no_index (Proc.devRef .tc main_v71)) = mean16 (F := F) (V (Proc.devRef .tc main_v10)) (V (Proc.devRef .tc main_v11)) (V (Proc.devRef .tc main_v8)) := by
  after_reads_simp
  rfl

/-- What the operations of their group leave in the buffer of the stage `stacked`. -/
theorem read_stacked (V : Valuation τ sig (Elt F)) :
    after opsStacked V (no_index (Proc.devRef .tc main_v76)) = stacked (F := F) (V (Proc.devRef .tc main_v26)) (V (Proc.devRef .tc main_v41)) (V (Proc.devRef .tc main_v56)) (V (Proc.devRef .tc main_v71)) := by
  after_reads_simp
  rfl

/-- What the operations of their group leave in the buffer of the stage `pooled`. -/
theorem read_pooled (V : Valuation τ sig (Elt F)) :
    after opsPooled V (no_index (Proc.devRef .tc main_v83)) = pooled (F := F) (V (Proc.devRef .tc main_v76)) (V (Proc.devRef .tc main_arg5)) (V (Proc.devRef .tc main_arg6)) := by
  after_reads_simp
  rfl

/-- What the operations of their group leave in the buffer of the stage `upPool`. -/
theorem read_upPool (V : Valuation τ sig (Elt F)) :
    after opsUpPool V (no_index (Proc.devRef .tc main_v85)) = upPool (F := F) (V (Proc.devRef .tc main_v83)) (V (Proc.devRef .tc main_v1)) (V (Proc.devRef .tc main_arg7)) := by
  after_reads_simp
  rfl

/-- What the operations of their group leave in the buffer of the stage `upNsa`. -/
theorem read_upNsa (V : Valuation τ sig (Elt F)) :
    after opsUpNsa V (no_index (Proc.devRef .tc main_v88)) = upNsa (F := F) (V (Proc.devRef .tc main_arg3)) (V (Proc.devRef .tc main_v3)) (V (Proc.devRef .tc main_arg8)) := by
  after_reads_simp
  rfl

/-- What the operations of their group leave in the buffer of the stage `scaledX`. -/
theorem read_scaledX (V : Valuation τ sig (Elt F)) :
    after opsMixed V (no_index (Proc.devRef .tc main_v90)) = scaledX (F := F) (V (Proc.devRef .tc main_arg4)) := by
  after_reads_simp
  rfl

/-- What the operations of their group leave in the buffer of the stage `mixed`. -/
theorem read_mixed (V : Valuation τ sig (Elt F)) :
    after opsMixed V (no_index (Proc.devRef .tc main_v93)) = mixed (F := F) (V (Proc.devRef .tc main_v5)) (V (Proc.devRef .tc main_v85)) (V (Proc.devRef .tc main_v7)) (V (Proc.devRef .tc main_v88)) := by
  after_reads_simp
  rfl

/-- What the operations of their group leave in the buffer of the stage `resid`. -/
theorem read_resid (V : Valuation τ sig (Elt F)) :
    after opsResid V (no_index (Proc.devRef .tc main_v95)) = resid (F := F) (V (Proc.devRef .tc main_v90)) (V (Proc.devRef .tc main_v93)) (V (Proc.devRef .tc main_arg9)) := by
  after_reads_simp
  rfl

/-- What the operations of their group leave in the buffer of the stage `rowMean`. -/
theorem read_rowMean (V : Valuation τ sig (Elt F)) :
    after opsRowMean V (no_index (Proc.devRef .tc main_v99)) = rowMean (F := F) (V (Proc.devRef .tc main_v95)) := by
  after_reads_simp
  rfl

/-- What the operations of their group leave in the buffer of the stage `centred`. -/
theorem read_centred (V : Valuation τ sig (Elt F)) :
    after opsCentred V (no_index (Proc.devRef .tc main_v101)) = centred (F := F) (V (Proc.devRef .tc main_v95)) (V (Proc.devRef .tc main_v99)) := by
  after_reads_simp
  rfl

/-- What the operations of their group leave in the buffer of the stage `rowVar`. -/
theorem read_rowVar (V : Valuation τ sig (Elt F)) :
    after opsRowVar V (no_index (Proc.devRef .tc main_v106)) = rowVar (F := F) (V (Proc.devRef .tc main_v101)) := by
  after_reads_simp
  rfl

/-- What the operations of their group leave in the buffer of the stage `normed`. -/
theorem read_normed (V : Valuation τ sig (Elt F)) :
    after opsNormed V (no_index (Proc.devRef .tc main_v119)) = normed (F := F) (V (Proc.devRef .tc main_v95)) (V (Proc.devRef .tc main_v99)) (V (Proc.devRef .tc main_v106)) (V (Proc.devRef .tc main_arg10)) (V (Proc.devRef .tc main_arg11)) := by
  after_reads_simp
  rfl

/-- What the whole line leaves in the result buffer. -/
theorem read_ops (V : Valuation τ sig (Elt F)) :
    after ops V (Proc.devRef .tc main_v119) = refOut (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  have e : (ops : List (HloOp τ sig (Elt F))) = opsSeqs ++ (opsCums ++ (opsPosns ++ (opsMean2 ++ (opsMean4 ++ (opsMean8 ++ (opsMean16 ++ (opsStacked ++ (opsPooled ++ (opsUpPool ++ (opsUpNsa ++ (opsMixed ++ (opsResid ++ (opsRowMean ++ (opsCentred ++ (opsRowVar ++ (opsNormed)))))))))))))))) := rfl
  rw [e]
  simp only [StableHlo.after_append]
  simp (disch := decide) only [read_zPool, read_zNsa, read_gateA, read_gateB, read_seqs, read_cums, read_posns, read_mean2, read_mean4, read_mean8, read_mean16, read_stacked, read_pooled, read_upPool, read_upNsa, read_scaledX, read_mixed, read_resid, read_rowMean, read_centred, read_rowVar, read_normed, keepSeqs, keepCums, keepPosns, keepMean2, keepMean4, keepMean8, keepMean16, keepStacked, keepPooled, keepUpPool, keepUpNsa, keepMixed, keepResid, keepRowMean, keepCentred, keepRowVar, keepNormed]
  rfl

/-- The line, group by group. -/
theorem ops_eq : (ops : List (HloOp τ sig (Elt F))) = opsSeqs ++ (opsCums ++ (opsPosns ++ (opsMean2 ++ (opsMean4 ++ (opsMean8 ++ (opsMean16 ++ (opsStacked ++ (opsPooled ++ (opsUpPool ++ (opsUpNsa ++ (opsMixed ++ (opsResid ++ (opsRowMean ++ (opsCentred ++ (opsRowVar ++ (opsNormed)))))))))))))))) := rfl

/-- The line leaves argument 0. -/
theorem kept0 (V : Valuation τ sig (Elt F)) :
    after ops V (Proc.devRef .tc main_arg0) = V (Proc.devRef .tc main_arg0) := by
  rw [ops_eq]
  simp only [StableHlo.after_append]
  simp (disch := decide) only [keepSeqs, keepCums, keepPosns, keepMean2, keepMean4, keepMean8, keepMean16, keepStacked, keepPooled, keepUpPool, keepUpNsa, keepMixed, keepResid, keepRowMean, keepCentred, keepRowVar, keepNormed]

/-- The line leaves argument 1. -/
theorem kept1 (V : Valuation τ sig (Elt F)) :
    after ops V (Proc.devRef .tc main_arg1) = V (Proc.devRef .tc main_arg1) := by
  rw [ops_eq]
  simp only [StableHlo.after_append]
  simp (disch := decide) only [keepSeqs, keepCums, keepPosns, keepMean2, keepMean4, keepMean8, keepMean16, keepStacked, keepPooled, keepUpPool, keepUpNsa, keepMixed, keepResid, keepRowMean, keepCentred, keepRowVar, keepNormed]

/-- The line leaves argument 2. -/
theorem kept2 (V : Valuation τ sig (Elt F)) :
    after ops V (Proc.devRef .tc main_arg2) = V (Proc.devRef .tc main_arg2) := by
  rw [ops_eq]
  simp only [StableHlo.after_append]
  simp (disch := decide) only [keepSeqs, keepCums, keepPosns, keepMean2, keepMean4, keepMean8, keepMean16, keepStacked, keepPooled, keepUpPool, keepUpNsa, keepMixed, keepResid, keepRowMean, keepCentred, keepRowVar, keepNormed]

/-- The line leaves argument 3. -/
theorem kept3 (V : Valuation τ sig (Elt F)) :
    after ops V (Proc.devRef .tc main_arg3) = V (Proc.devRef .tc main_arg3) := by
  rw [ops_eq]
  simp only [StableHlo.after_append]
  simp (disch := decide) only [keepSeqs, keepCums, keepPosns, keepMean2, keepMean4, keepMean8, keepMean16, keepStacked, keepPooled, keepUpPool, keepUpNsa, keepMixed, keepResid, keepRowMean, keepCentred, keepRowVar, keepNormed]

/-- The line leaves argument 4. -/
theorem kept4 (V : Valuation τ sig (Elt F)) :
    after ops V (Proc.devRef .tc main_arg4) = V (Proc.devRef .tc main_arg4) := by
  rw [ops_eq]
  simp only [StableHlo.after_append]
  simp (disch := decide) only [keepSeqs, keepCums, keepPosns, keepMean2, keepMean4, keepMean8, keepMean16, keepStacked, keepPooled, keepUpPool, keepUpNsa, keepMixed, keepResid, keepRowMean, keepCentred, keepRowVar, keepNormed]

/-- The line leaves argument 5. -/
theorem kept5 (V : Valuation τ sig (Elt F)) :
    after ops V (Proc.devRef .tc main_arg5) = V (Proc.devRef .tc main_arg5) := by
  rw [ops_eq]
  simp only [StableHlo.after_append]
  simp (disch := decide) only [keepSeqs, keepCums, keepPosns, keepMean2, keepMean4, keepMean8, keepMean16, keepStacked, keepPooled, keepUpPool, keepUpNsa, keepMixed, keepResid, keepRowMean, keepCentred, keepRowVar, keepNormed]

/-- The line leaves argument 6. -/
theorem kept6 (V : Valuation τ sig (Elt F)) :
    after ops V (Proc.devRef .tc main_arg6) = V (Proc.devRef .tc main_arg6) := by
  rw [ops_eq]
  simp only [StableHlo.after_append]
  simp (disch := decide) only [keepSeqs, keepCums, keepPosns, keepMean2, keepMean4, keepMean8, keepMean16, keepStacked, keepPooled, keepUpPool, keepUpNsa, keepMixed, keepResid, keepRowMean, keepCentred, keepRowVar, keepNormed]

/-- The line leaves argument 7. -/
theorem kept7 (V : Valuation τ sig (Elt F)) :
    after ops V (Proc.devRef .tc main_arg7) = V (Proc.devRef .tc main_arg7) := by
  rw [ops_eq]
  simp only [StableHlo.after_append]
  simp (disch := decide) only [keepSeqs, keepCums, keepPosns, keepMean2, keepMean4, keepMean8, keepMean16, keepStacked, keepPooled, keepUpPool, keepUpNsa, keepMixed, keepResid, keepRowMean, keepCentred, keepRowVar, keepNormed]

/-- The line leaves argument 8. -/
theorem kept8 (V : Valuation τ sig (Elt F)) :
    after ops V (Proc.devRef .tc main_arg8) = V (Proc.devRef .tc main_arg8) := by
  rw [ops_eq]
  simp only [StableHlo.after_append]
  simp (disch := decide) only [keepSeqs, keepCums, keepPosns, keepMean2, keepMean4, keepMean8, keepMean16, keepStacked, keepPooled, keepUpPool, keepUpNsa, keepMixed, keepResid, keepRowMean, keepCentred, keepRowVar, keepNormed]

/-- The line leaves argument 9. -/
theorem kept9 (V : Valuation τ sig (Elt F)) :
    after ops V (Proc.devRef .tc main_arg9) = V (Proc.devRef .tc main_arg9) := by
  rw [ops_eq]
  simp only [StableHlo.after_append]
  simp (disch := decide) only [keepSeqs, keepCums, keepPosns, keepMean2, keepMean4, keepMean8, keepMean16, keepStacked, keepPooled, keepUpPool, keepUpNsa, keepMixed, keepResid, keepRowMean, keepCentred, keepRowVar, keepNormed]

/-- The line leaves argument 10. -/
theorem kept10 (V : Valuation τ sig (Elt F)) :
    after ops V (Proc.devRef .tc main_arg10) = V (Proc.devRef .tc main_arg10) := by
  rw [ops_eq]
  simp only [StableHlo.after_append]
  simp (disch := decide) only [keepSeqs, keepCums, keepPosns, keepMean2, keepMean4, keepMean8, keepMean16, keepStacked, keepPooled, keepUpPool, keepUpNsa, keepMixed, keepResid, keepRowMean, keepCentred, keepRowVar, keepNormed]

/-- The line leaves argument 11. -/
theorem kept11 (V : Valuation τ sig (Elt F)) :
    after ops V (Proc.devRef .tc main_arg11) = V (Proc.devRef .tc main_arg11) := by
  rw [ops_eq]
  simp only [StableHlo.after_append]
  simp (disch := decide) only [keepSeqs, keepCums, keepPosns, keepMean2, keepMean4, keepMean8, keepMean16, keepStacked, keepPooled, keepUpPool, keepUpNsa, keepMixed, keepResid, keepRowMean, keepCentred, keepRowVar, keepNormed]

/-- The reference ends with its result holding `refOut` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v119) = refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v119).trans (read_ops _), (h c main_arg0).trans (kept0 _), (h c main_arg1).trans (kept1 _), (h c main_arg2).trans (kept2 _), (h c main_arg3).trans (kept3 _), (h c main_arg4).trans (kept4 _), (h c main_arg5).trans (kept5 _), (h c main_arg6).trans (kept6 _), (h c main_arg7).trans (kept7 _), (h c main_arg8).trans (kept8 _), (h c main_arg9).trans (kept9 _), (h c main_arg10).trans (kept10 _), (h c main_arg11).trans (kept11 _)⟩)
    (run_seq scopedRefs_eq scopedSems_eq defs main (fun _ => ops) main_eq (fun _ => ops_sub) m ρ)

end Cert.Proof.Ref

end
-- ==== Proof.RefPrefix.lean ====
/- The reference's running sums over a sequence, and their differences as window sums. -/
module

public import proofs.«01_k».proof.Proof.RefStages
public import proofs.«01_k».proof.Proof.Spec
public import Idealize.ShloMosaic.Lib.Pointwise
public import Idealize.ShloMosaic.PureOps.Ideal

@[expose] public section

set_option maxRecDepth 16384

noncomputable section

namespace Cert.Proof

open Cert.ReferenceIdeal Cert.ReferenceIdeal.Gen
open Idealize.ShloMosaic Idealize.ShloMosaic.TcCoe

/-- Folding additions from a start is the start plus the sum. -/
theorem foldl_add_eq {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

/-- The rows of a window that ends at row `i`, those before the start counting nothing, are the rows up to `i`. -/
theorem sum_window (f : ℕ → EReal) (i : ℕ) (hi : i < 4096) :
    (∑ w : Fin 4096, if 4095 ≤ i + w.val then f (i + w.val - 4095) else 0) = ∑ t ∈ Finset.range (i + 1), f t := by
  rw [Fin.sum_univ_eq_sum_range (fun w => if 4095 ≤ i + w then f (i + w - 4095) else 0) 4096, ← Finset.sum_filter]
  refine Finset.sum_bij' (fun w _ => i + w - 4095) (fun t _ => t + 4095 - i) ?_ ?_ ?_ ?_ ?_
  · intro w hw
    simp only [Finset.mem_filter, Finset.mem_range] at hw ⊢
    omega
  · intro w hw
    simp only [Finset.mem_filter, Finset.mem_range] at hw ⊢
    omega
  · intro w hw
    simp only [Finset.mem_filter, Finset.mem_range] at hw
    omega
  · intro w hw
    simp only [Finset.mem_range] at hw
    omega
  · intro w hw
    rfl

/-- A sum of rows up to `i` is the sum up to `i - w` and the window of the last `w` rows. -/
theorem prefix_split (f : ℕ → EReal) (i w : ℕ) :
    ∑ t ∈ Finset.range (i + 1), f t
      = ∑ t ∈ Finset.range (i + 1 - w), f t + ∑ j ∈ Finset.range w, if j ≤ i then f (i - j) else 0 := by
  induction w with
  | zero => simp
  | succ w ih =>
    rw [ih, Finset.sum_range_succ (fun j => if j ≤ i then f (i - j) else 0), ← add_assoc, add_right_comm]
    congr 1
    split
    · next h =>
      have e : i + 1 - w = (i + 1 - (w + 1)) + 1 := by omega
      rw [e, Finset.sum_range_succ]
      congr 2
      omega
    · next h =>
      have e : i + 1 - w = i + 1 - (w + 1) := by omega
      rw [e, add_zero]

/-- A sum of finite numbers is finite. -/
theorem sum_finite (f : ℕ → EReal) (hf : ∀ t, ∃ a : ℝ, f t = a) (n : ℕ) : ∃ a : ℝ, ∑ t ∈ Finset.range n, f t = a := by
  choose g hg using hf
  refine ⟨∑ t ∈ Finset.range n, g t, ?_⟩
  induction n with
  | zero => simp
  | succ n ih => rw [Finset.sum_range_succ, Finset.sum_range_succ, ih, hg, EReal.coe_add]

/-- The difference of two running sums of finite numbers is the window between them. -/
theorem prefix_sub (f : ℕ → EReal) (hf : ∀ t, ∃ a : ℝ, f t = a) (i w : ℕ) :
    ∑ t ∈ Finset.range (i + 1), f t - ∑ t ∈ Finset.range (i + 1 - w), f t
      = ∑ j ∈ Finset.range w, if j ≤ i then f (i - j) else 0 := by
  rw [prefix_split f i w]
  obtain ⟨a, ha⟩ := sum_finite f hf (i + 1 - w)
  have hg : ∀ j, ∃ b : ℝ, (if j ≤ i then f (i - j) else 0) = (b : EReal) := fun j => by
    split
    · exact hf _
    · exact ⟨0, rfl⟩
  obtain ⟨b, hb⟩ := sum_finite _ hg w
  rw [ha, hb, ← EReal.coe_add, ← EReal.coe_sub, add_sub_cancel_left]

/-- A sum over a window is its start plus the sum over the window's positions. -/
theorem reduceWindow_add {s t u : Shape} (window strides lo hi : Fin s.rank → Nat) (x : FVec Ideal s .f32) (init : FVec Ideal u .f32)
    (h : s.ReduceWindows window strides lo hi t) (hu : 0 < u.numel) (v : EReal) (hv : ∀ k, init k = v) (j : t.Idx) :
    Host.reduceWindowAdd window strides lo hi x init h hu j
      = v + ∑ p : (⟨s.rank, window⟩ : Shape).Idx,
          if hin : ∀ a : Fin s.rank, lo a ≤ (j (a.cast h.1.symm)).val * strides a + (p a).val
              ∧ (j (a.cast h.1.symm)).val * strides a + (p a).val - lo a < s.size a
          then x (fun a => ⟨(j (a.cast h.1.symm)).val * strides a + (p a).val - lo a, (hin a).2⟩) else v := by
  show Host.reduceWindow (· + ·) window strides lo hi x (fun _ : (⟨0, ![]⟩ : Shape).Idx => init (Shape.Idx.first hu)) h (by decide) j = _
  unfold Host.reduceWindow
  dsimp only
  rw [hv, foldl_add_eq, ← List.ofFn_eq_map, List.sum_ofFn]
  congr 1
  convert Equiv.sum_comp (Shape.rowMajor (⟨s.rank, window⟩ : Shape)).symm (fun p : (⟨s.rank, window⟩ : Shape).Idx =>
          if hin : ∀ a : Fin s.rank, lo a ≤ (j (a.cast h.1.symm)).val * strides a + (p a).val
              ∧ (j (a.cast h.1.symm)).val * strides a + (p a).val - lo a < s.size a
          then x (fun a => ⟨(j (a.cast h.1.symm)).val * strides a + (p a).val - lo a, (hin a).2⟩) else v)

/-- The running sum at row `i` of a sequence. -/
theorem cumsum_apply (x : FVec Ideal S2x4096x1024 .f32) (b : Fin 2) (i : Fin 4096) (k : Fin 1024)
    (init : FVec Ideal S_ .f32) (h0 : ∀ j, init j = 0) :
    Host.reduceWindowAdd ![1, 4096, 1] ![1, 1, 1] ![0, 4095, 0] ![0, 0, 0] x init
      reduceWindows_S2x4096x1024_S2x4096x1024_w1s1p0_0_w4096s1p4095_0_w1s1p0_0 h_S_ (ix3 b i k)
      = ∑ t ∈ Finset.range (i.val + 1), if h : t < 4096 then x (ix3 b ⟨t, h⟩ k) else 0 := by
  refine (reduceWindow_add _ _ _ _ x init _ _ 0 h0 (ix3 b i k)).trans ?_
  refine (zero_add _).trans ?_
  refine (sum_idx3 (n0 := 1) (n1 := 4096) (n2 := 1) _).trans ?_
  rw [Fin.sum_univ_one]
  simp only [Fin.sum_univ_one]
  rw [← sum_window (fun t => if h : t < 4096 then x (ix3 b ⟨t, h⟩ k) else 0) i.val i.isLt]
  refine Finset.sum_congr rfl fun w _ => ?_
  by_cases hw : 4095 ≤ i.val + w.val
  · rw [if_pos hw, dif_pos (show i.val + w.val - 4095 < 4096 by omega)]
    have hin : ∀ a : Fin 3, (![0, 4095, 0] : Fin 3 → ℕ) a ≤ (ix3 b i k a).val * (![1, 1, 1] : Fin 3 → ℕ) a + (ix3 (n0 := 1) (n2 := 1) 0 w 0 a).val
        ∧ (ix3 b i k a).val * (![1, 1, 1] : Fin 3 → ℕ) a + (ix3 (n0 := 1) (n2 := 1) 0 w 0 a).val - (![0, 4095, 0] : Fin 3 → ℕ) a < S2x4096x1024.size a := by
      intro a
      match a with
      | ⟨0, _⟩ => exact ⟨Nat.zero_le _, show b.val * 1 + 0 - 0 < 2 by omega⟩
      | ⟨1, _⟩ => exact ⟨show 4095 ≤ i.val * 1 + w.val by omega, show i.val * 1 + w.val - 4095 < 4096 by omega⟩
      | ⟨2, _⟩ => exact ⟨Nat.zero_le _, show k.val * 1 + 0 - 0 < 1024 by omega⟩
    refine (dif_pos hin).trans (congrArg x (funext fun a => ?_))
    match a with
    | ⟨0, _⟩ => exact Fin.ext (show b.val * 1 + 0 - 0 = b.val by omega)
    | ⟨1, _⟩ => exact Fin.ext (show i.val * 1 + w.val - 4095 = i.val + w.val - 4095 by omega)
    | ⟨2, _⟩ => exact Fin.ext (show k.val * 1 + 0 - 0 = k.val by omega)
  · rw [if_neg hw]
    exact dif_neg fun hin => hw (by
      have h1 : 4095 ≤ i.val * 1 + w.val := (hin (1 : Fin 3)).1
      omega)

end Cert.Proof

end
-- ==== Proof.RefPool.lean ====
/- The reference's window means: differences of running sums, read as the plain window means. -/
module

public import proofs.«01_k».proof.Proof.RefPrefix

@[expose] public section

set_option maxRecDepth 16384

noncomputable section

namespace Cert.Proof

open Cert.ReferenceIdeal Cert.ReferenceIdeal.Gen Cert.Proof.Ref
open Idealize.ShloMosaic Idealize.ShloMosaic.TcCoe

variable (x0 : FVec Ideal S8192x1024 .f32)

/-- Row `t` of a batch's sequence, nothing past its end. -/
def seqRow (b : Fin 2) (k : Fin 1024) (t : ℕ) : EReal :=
  if h : t < 4096 then x0 (ix2 ⟨b.val * 4096 + t, by omega⟩ k) else 0

/-- The padding number of the running sums is zero. -/
theorem sitofp_zero : FloatOps.sitofp (F := Ideal) FTy.f32 0#32 = (0 : EReal) := by
  show ((((0#32 : BitVec 32).toInt : ℤ) : ℝ) : EReal) = 0
  simp

/-- The sequences are the rows of the flat array. -/
theorem seqs_apply (b : Fin 2) (i : Fin 4096) (k : Fin 1024) :
    seqs (F := Ideal) x0 (ix3 b i k) = seqRow x0 b k i.val := by
  unfold seqs seqRow
  rw [dif_pos i.isLt]
  pointwise

/-- The padded running sums at row `j` are the sums of the first `j` rows. -/
theorem cums_apply (b : Fin 2) (j : Fin 4097) (k : Fin 1024) :
    cums (F := Ideal) (seqs (F := Ideal) x0) (ix3 b j k) = ∑ t ∈ Finset.range j.val, seqRow x0 b k t := by
  have key : ∀ i : Fin 4096, Host.reduceWindowAdd (F := Ideal) ![1, 4096, 1] ![1, 1, 1] ![0, 4095, 0] ![0, 0, 0] (seqs (F := Ideal) x0)
      (broadcastInDim S_ ![] bcast_S_S_ (constant S_ .f32 0x00000000#32))
      reduceWindows_S2x4096x1024_S2x4096x1024_w1s1p0_0_w4096s1p4095_0_w1s1p0_0 h_S_ (ix3 b i k)
      = ∑ t ∈ Finset.range (i.val + 1), seqRow x0 b k t := fun i => by
    refine (cumsum_apply _ b i k _ fun _ => Ideal.ofBits_zero_f32).trans (Finset.sum_congr rfl fun t ht => ?_)
    have h : t < 4096 := by have := Finset.mem_range.1 ht; omega
    rw [dif_pos h]
    exact seqs_apply x0 b ⟨t, h⟩ k
  unfold cums
  generalize Host.reduceWindowAdd (F := Ideal) ![1, 4096, 1] ![1, 1, 1] ![0, 4095, 0] ![0, 0, 0] (seqs (F := Ideal) x0)
      (broadcastInDim S_ ![] bcast_S_S_ (constant S_ .f32 0x00000000#32))
      reduceWindows_S2x4096x1024_S2x4096x1024_w1s1p0_0_w4096s1p4095_0_w1s1p0_0 h_S_ = y at key ⊢
  pointwise
  split
  · next h =>
    refine (key ⟨j.val - 1, by omega⟩).trans ?_
    rw [show j.val - 1 + 1 = j.val by omega]
  · next h =>
    rw [show j.val = 0 by omega]
    simpa using sitofp_zero

/-- A difference of running sums over the count, less the row, is the window mean. -/
theorem mean_of_sums (hf : ∀ R ch, ∃ a : ℝ, x0 (ix2 R ch) = a) (b : Fin 2) (i : Fin 4096) (k : Fin 1024) (P Q C r : EReal)
    (hP : P = ∑ t ∈ Finset.range (i.val + 1), seqRow x0 b k t)
    (hQ : Q = ∑ t ∈ Finset.range (i.val + 1 - win k), seqRow x0 b k t)
    (hC : C = count (win k) (b.val * 4096 + i.val)) (hr : r = seqRow x0 b k i.val) :
    Ideal.div (P - Q) C - r = poolMean (fun R ch => x0 (ix2 R ch)) ⟨b.val * 4096 + i.val, by omega⟩ k := by
  subst hP hQ hC hr
  have hs : ∀ t, ∃ a : ℝ, seqRow x0 b k t = a := fun t => by
    unfold seqRow
    split
    · exact hf _ _
    · exact ⟨0, rfl⟩
  rw [prefix_sub _ hs]
  unfold poolMean
  have e1 : (∑ j ∈ Finset.range (win k), if j ≤ i.val then seqRow x0 b k (i.val - j) else 0)
      = winSum (fun R ch => x0 (ix2 R ch)) (win k) ⟨b.val * 4096 + i.val, by omega⟩ k := by
    unfold winSum
    refine Finset.sum_congr rfl fun j _ => ?_
    have hm : (b.val * 4096 + i.val) % 4096 = i.val := by omega
    by_cases hj : j ≤ i.val
    · rw [if_pos hj, if_pos (show j ≤ (b.val * 4096 + i.val) % 4096 by omega)]
      unfold seqRow
      rw [dif_pos (show i.val - j < 4096 by omega)]
      exact congrArg x0 (congrArg (fun z => ix2 z k) (Fin.ext (show b.val * 4096 + (i.val - j) = b.val * 4096 + i.val - j by omega)))
    · rw [if_neg hj, if_neg (show ¬ j ≤ (b.val * 4096 + i.val) % 4096 by omega)]
  rw [e1]
  unfold seqRow
  rw [dif_pos i.isLt]

/-- The running sum before the window, nothing where the window reaches past the start. -/
theorem before_window (b : Fin 2) (i : Fin 4096) (k : Fin 1024) (w n : ℕ) (z : EReal) (hz : z = 0) (hn : n = 4097)
    (p : 1 + i.val - w < n → 1 + i.val - w < 4097) :
    (if h : w ≤ 1 + i.val ∧ 1 + i.val - w < n then
      cums (F := Ideal) (seqs (F := Ideal) x0) (ix3 b ⟨1 + i.val - w, p h.2⟩ k) else z)
      = ∑ t ∈ Finset.range (i.val + 1 - w), seqRow x0 b k t := by
  subst hn
  split
  · next h =>
    refine (cums_apply x0 b _ k).trans ?_
    rw [show i.val + 1 - w = 1 + i.val - w by omega]
  · next h =>
    rw [show i.val + 1 - w = 0 by omega, hz]
    simp

variable (hf : ∀ R ch, ∃ a : ℝ, x0 (ix2 R ch) = a)
include hf

/-- The first group's window means. -/
theorem mean2_apply (b : Fin 2) (i : Fin 4096) (k : Fin 256) :
    mean2 (F := Ideal) (cums (F := Ideal) (seqs (F := Ideal) x0)) (posns (F := Ideal)) (seqs (F := Ideal) x0) (ix3 b i k)
      = poolMean (fun R ch => x0 (ix2 R ch)) ⟨b.val * 4096 + i.val, by omega⟩ ⟨k.val, by omega⟩ := by
  have hw : win ⟨k.val, by omega⟩ = 2 := by
    unfold win
    rw [show (k.val) / 256 = 0 by omega]
    rfl
  unfold mean2
  generalize hy : cums (F := Ideal) (seqs (F := Ideal) x0) = y
  generalize hz : seqs (F := Ideal) x0 = z
  pointwise
  refine mean_of_sums x0 hf b i ⟨k.val, by omega⟩ _ _ _ _ ?_ ?_ ?_ ?_
  · rw [← hy]
    refine (cums_apply x0 b ⟨1 + i.val, by omega⟩ ⟨k.val, by omega⟩).trans ?_
    rw [show i.val + 1 = 1 + i.val by omega]
  · rw [hw, ← hy]
    exact before_window x0 b i ⟨k.val, by omega⟩ 2 4097 _ sitofp_zero rfl id
  · exact (congrArg (fun n => FloatOps.sitofp (F := Ideal) FTy.f32 (IntOp.minsi (IntOp.addi (BitVec.ofNat 32 n) 1#32) 2#32))
      (show i.val = (b.val * 4096 + i.val) % 4096 by omega)).trans
      (congrArg (fun n => FloatOps.sitofp (F := Ideal) FTy.f32 (IntOp.minsi (IntOp.addi (BitVec.ofNat 32 ((b.val * 4096 + i.val) % 4096)) 1#32) (BitVec.ofNat 32 n))) hw.symm)
  · rw [← hz]
    exact seqs_apply x0 b i ⟨k.val, by omega⟩

/-- The second group's window means. -/
theorem mean4_apply (b : Fin 2) (i : Fin 4096) (k : Fin 256) :
    mean4 (F := Ideal) (cums (F := Ideal) (seqs (F := Ideal) x0)) (posns (F := Ideal)) (seqs (F := Ideal) x0) (ix3 b i k)
      = poolMean (fun R ch => x0 (ix2 R ch)) ⟨b.val * 4096 + i.val, by omega⟩ ⟨256 + k.val, by omega⟩ := by
  have hw : win ⟨256 + k.val, by omega⟩ = 4 := by
    unfold win
    rw [show (256 + k.val) / 256 = 1 by omega]
    rfl
  unfold mean4
  generalize hy : cums (F := Ideal) (seqs (F := Ideal) x0) = y
  generalize hz : seqs (F := Ideal) x0 = z
  pointwise
  refine mean_of_sums x0 hf b i ⟨256 + k.val, by omega⟩ _ _ _ _ ?_ ?_ ?_ ?_
  · rw [← hy]
    refine (cums_apply x0 b ⟨1 + i.val, by omega⟩ ⟨256 + k.val, by omega⟩).trans ?_
    rw [show i.val + 1 = 1 + i.val by omega]
  · rw [hw, ← hy]
    exact before_window x0 b i ⟨256 + k.val, by omega⟩ 4 4097 _ sitofp_zero rfl id
  · exact (congrArg (fun n => FloatOps.sitofp (F := Ideal) FTy.f32 (IntOp.minsi (IntOp.addi (BitVec.ofNat 32 n) 1#32) 4#32))
      (show i.val = (b.val * 4096 + i.val) % 4096 by omega)).trans
      (congrArg (fun n => FloatOps.sitofp (F := Ideal) FTy.f32 (IntOp.minsi (IntOp.addi (BitVec.ofNat 32 ((b.val * 4096 + i.val) % 4096)) 1#32) (BitVec.ofNat 32 n))) hw.symm)
  · rw [← hz]
    exact seqs_apply x0 b i ⟨256 + k.val, by omega⟩

/-- The third group's window means. -/
theorem mean8_apply (b : Fin 2) (i : Fin 4096) (k : Fin 256) :
    mean8 (F := Ideal) (cums (F := Ideal) (seqs (F := Ideal) x0)) (posns (F := Ideal)) (seqs (F := Ideal) x0) (ix3 b i k)
      = poolMean (fun R ch => x0 (ix2 R ch)) ⟨b.val * 4096 + i.val, by omega⟩ ⟨512 + k.val, by omega⟩ := by
  have hw : win ⟨512 + k.val, by omega⟩ = 8 := by
    unfold win
    rw [show (512 + k.val) / 256 = 2 by omega]
    rfl
  unfold mean8
  generalize hy : cums (F := Ideal) (seqs (F := Ideal) x0) = y
  generalize hz : seqs (F := Ideal) x0 = z
  pointwise
  refine mean_of_sums x0 hf b i ⟨512 + k.val, by omega⟩ _ _ _ _ ?_ ?_ ?_ ?_
  · rw [← hy]
    refine (cums_apply x0 b ⟨1 + i.val, by omega⟩ ⟨512 + k.val, by omega⟩).trans ?_
    rw [show i.val + 1 = 1 + i.val by omega]
  · rw [hw, ← hy]
    exact before_window x0 b i ⟨512 + k.val, by omega⟩ 8 4097 _ sitofp_zero rfl id
  · exact (congrArg (fun n => FloatOps.sitofp (F := Ideal) FTy.f32 (IntOp.minsi (IntOp.addi (BitVec.ofNat 32 n) 1#32) 8#32))
      (show i.val = (b.val * 4096 + i.val) % 4096 by omega)).trans
      (congrArg (fun n => FloatOps.sitofp (F := Ideal) FTy.f32 (IntOp.minsi (IntOp.addi (BitVec.ofNat 32 ((b.val * 4096 + i.val) % 4096)) 1#32) (BitVec.ofNat 32 n))) hw.symm)
  · rw [← hz]
    exact seqs_apply x0 b i ⟨512 + k.val, by omega⟩

/-- The fourth group's window means. -/
theorem mean16_apply (b : Fin 2) (i : Fin 4096) (k : Fin 256) :
    mean16 (F := Ideal) (cums (F := Ideal) (seqs (F := Ideal) x0)) (posns (F := Ideal)) (seqs (F := Ideal) x0) (ix3 b i k)
      = poolMean (fun R ch => x0 (ix2 R ch)) ⟨b.val * 4096 + i.val, by omega⟩ ⟨768 + k.val, by omega⟩ := by
  have hw : win ⟨768 + k.val, by omega⟩ = 16 := by
    unfold win
    rw [show (768 + k.val) / 256 = 3 by omega]
    rfl
  unfold mean16
  generalize hy : cums (F := Ideal) (seqs (F := Ideal) x0) = y
  generalize hz : seqs (F := Ideal) x0 = z
  pointwise
  refine mean_of_sums x0 hf b i ⟨768 + k.val, by omega⟩ _ _ _ _ ?_ ?_ ?_ ?_
  · rw [← hy]
    refine (cums_apply x0 b ⟨1 + i.val, by omega⟩ ⟨768 + k.val, by omega⟩).trans ?_
    rw [show i.val + 1 = 1 + i.val by omega]
  · rw [hw, ← hy]
    exact before_window x0 b i ⟨768 + k.val, by omega⟩ 16 4097 _ sitofp_zero rfl id
  · exact (congrArg (fun n => FloatOps.sitofp (F := Ideal) FTy.f32 (IntOp.minsi (IntOp.addi (BitVec.ofNat 32 n) 1#32) 16#32))
      (show i.val = (b.val * 4096 + i.val) % 4096 by omega)).trans
      (congrArg (fun n => FloatOps.sitofp (F := Ideal) FTy.f32 (IntOp.minsi (IntOp.addi (BitVec.ofNat 32 ((b.val * 4096 + i.val) % 4096)) 1#32) (BitVec.ofNat 32 n))) hw.symm)
  · rw [← hz]
    exact seqs_apply x0 b i ⟨768 + k.val, by omega⟩

end Cert.Proof

end
-- ==== Proof.RefValue.lean ====
/- The reference's result at an index, as the plain row function of the arguments. -/
module

public import proofs.«01_k».proof.Proof.RefPool

@[expose] public section

set_option maxRecDepth 16384

noncomputable section

namespace Cert.Proof

open Cert.ReferenceIdeal Cert.ReferenceIdeal.Gen Cert.Proof.Ref
open Idealize.ShloMosaic Idealize.ShloMosaic.TcCoe

/-- The four groups of means side by side. -/
theorem stacked_apply (m2 m4 m8 m16 : FVec Ideal S2x4096x256 .f32) (M : Fin 1024 → EReal) (b : Fin 2) (i : Fin 4096)
    (h2 : ∀ k : Fin 256, m2 (ix3 b i k) = M ⟨k.val, by omega⟩) (h4 : ∀ k : Fin 256, m4 (ix3 b i k) = M ⟨256 + k.val, by omega⟩)
    (h8 : ∀ k : Fin 256, m8 (ix3 b i k) = M ⟨512 + k.val, by omega⟩) (h16 : ∀ k : Fin 256, m16 (ix3 b i k) = M ⟨768 + k.val, by omega⟩)
    (g : Fin 4) (k : Fin 256) :
    stacked (F := Ideal) m2 m4 m8 m16 (ix4 b i g k) = M ⟨g.val * 256 + k.val, by omega⟩ := by
  unfold stacked
  pointwise
  match g with
  | ⟨0, _⟩ => exact (h2 k).trans (congrArg M (Fin.ext (show k.val = 0 * 256 + k.val by omega)))
  | ⟨1, _⟩ => exact (h4 k)
  | ⟨2, _⟩ => exact (h8 k)
  | ⟨3, _⟩ => exact (h16 k)

/-- The group products of the means, scaled. -/
theorem pooled_apply (st : FVec Ideal S2x4096x4x256 .f32) (w : FVec Ideal S4x256x256 .f32) (s : FVec Ideal S1024 .f32)
    (M : Fin 1024 → EReal) (r : Fin 8192)
    (h : ∀ (g : Fin 4) (k : Fin 256), st (ix4 ⟨r.val / 4096, by omega⟩ ⟨r.val % 4096, by omega⟩ g k) = M ⟨g.val * 256 + k.val, by omega⟩)
    (e : Fin 1024) :
    pooled (F := Ideal) st w s (ix2 r e) = poolMix M (fun g a b => w (ix3 g a b)) (fun e => s (ix1 e)) e := by
  unfold pooled poolMix
  pointwise
  refine congrArg (· * s (ix1 e)) (Finset.sum_congr rfl fun x _ => ?_)
  refine (mul_comm _ _).trans ?_
  exact congrArg (· * _) (h _ x)

/-- The merged up-projections at an index. -/
theorem mixed_apply (x1 : FVec Ideal S8192x2048 .bf16) (x2 : FVec Ideal S8192x4608 .bf16) (x3 : FVec Ideal S8192x1024 .bf16)
    (x7 x8 : FVec Ideal S1024x2048 .f32) (pooled_ : FVec Ideal S8192x1024 .f32) (y : Fin 1024 → EReal) (R : Fin 8192)
    (hy : ∀ e, pooled_ (ix2 R e) = y e) (d : Fin 2048) :
    mixed (F := Ideal) (gateA (F := Ideal) x2) (upPool (F := Ideal) pooled_ (zPool (F := Ideal) x1) x7) (gateB (F := Ideal) x2)
        (upNsa (F := Ideal) x3 (zNsa (F := Ideal) x1) x8) (ix2 R d)
      = merge y (fun e => x1 (ix2 R ⟨e.val, by omega⟩)) (fun e => x3 (ix2 R e)) (fun e => x1 (ix2 R ⟨1024 + e.val, by omega⟩))
        (fun d => x2 (ix2 R ⟨d.val, by omega⟩)) (fun d => x2 (ix2 R ⟨2048 + d.val, by omega⟩))
        (fun e d => x7 (ix2 e d)) (fun e d => x8 (ix2 e d)) d := by
  unfold mixed gateA gateB upPool upNsa zPool zNsa merge
  simp only [← hy]
  pointwise

/-- The residual sum at an index. -/
theorem resid_apply (x4 mixed_ : FVec Ideal S8192x2048 .f32) (x9 : FVec Ideal S2048x2048 .f32) (R : Fin 8192) (mix : Fin 2048 → EReal)
    (hm : ∀ d, mixed_ (ix2 R d) = mix d) (d : Fin 2048) :
    resid (F := Ideal) (scaledX (F := Ideal) x4) mixed_ x9 (ix2 R d)
      = residual (fun d => x4 (ix2 R d)) mix (fun e d => x9 (ix2 e d)) d := by
  unfold resid scaledX residual
  simp only [← hm]
  pointwise

/-- The layer norm at an index. -/
theorem normed_apply (rs : FVec Ideal S8192x2048 .f32) (x10 x11 : FVec Ideal S2048 .f32) (R : Fin 8192) (d : Fin 2048) :
    normed (F := Ideal) rs (rowMean (F := Ideal) rs) (rowVar (F := Ideal) (centred (F := Ideal) rs (rowMean (F := Ideal) rs))) x10 x11 (ix2 R d)
      = layerNorm (fun d => rs (ix2 R d)) (fun d => x10 (ix1 d)) (fun d => x11 (ix1 d)) d := by
  have hmu : rowMean (F := Ideal) rs (ix2 R 0) = rowMu (fun d => rs (ix2 R d)) := by
    unfold rowMean rowMu
    pointwise
  unfold layerNorm
  rw [← hmu]
  generalize rowMean (F := Ideal) rs = mu
  have hv : rowVar (F := Ideal) (centred (F := Ideal) rs mu) (ix2 R 0)
      = rowMu (fun k => (rs (ix2 R k) - mu (ix2 R 0)) * (rs (ix2 R k) - mu (ix2 R 0))) := by
    unfold rowVar centred rowMu
    pointwise
  rw [← hv]
  generalize rowVar (F := Ideal) (centred (F := Ideal) rs mu) = v
  unfold normed
  pointwise

/-- The reference's result at an index, for finite pooling inputs. -/
theorem ref_apply
    (x0 : FVec Ideal S8192x1024 .f32) (x1 : FVec Ideal S8192x2048 .bf16) (x2 : FVec Ideal S8192x4608 .bf16) (x3 : FVec Ideal S8192x1024 .bf16)
    (x4 : FVec Ideal S8192x2048 .f32) (x5 : FVec Ideal S4x256x256 .f32) (x6 : FVec Ideal S1024 .f32) (x7 x8 : FVec Ideal S1024x2048 .f32)
    (x9 : FVec Ideal S2048x2048 .f32) (x10 x11 : FVec Ideal S2048 .f32)
    (hf : ∀ R ch, ∃ a : ℝ, x0 (ix2 R ch) = a) (R : Fin 8192) (d : Fin 2048) :
    refOut (F := Ideal) x0 x1 x2 x3 x4 x5 x6 x7 x8 x9 x10 x11 (ix2 R d)
      = rowOut (fun ch => poolMean (fun R ch => x0 (ix2 R ch)) R ch) (fun e => x1 (ix2 R ⟨e.val, by omega⟩)) (fun e => x3 (ix2 R e))
        (fun e => x1 (ix2 R ⟨1024 + e.val, by omega⟩)) (fun d => x2 (ix2 R ⟨d.val, by omega⟩)) (fun d => x2 (ix2 R ⟨2048 + d.val, by omega⟩))
        (fun d => x4 (ix2 R d)) (fun g a b => x5 (ix3 g a b)) (fun e => x6 (ix1 e)) (fun e d => x7 (ix2 e d)) (fun e d => x8 (ix2 e d))
        (fun e d => x9 (ix2 e d)) (fun d => x10 (ix1 d)) (fun d => x11 (ix1 d)) d := by
  unfold refOut rowOut
  dsimp only
  refine (normed_apply _ x10 x11 R d).trans ?_
  refine congrArg (fun z => layerNorm z (fun d => x10 (ix1 d)) (fun d => x11 (ix1 d)) d) (funext fun k => ?_)
  refine resid_apply x4 _ x9 R _ (fun q => ?_) k
  refine mixed_apply x1 x2 x3 x7 x8 _ _ R (fun e => ?_) q
  have hR : (⟨R.val / 4096 * 4096 + R.val % 4096, by omega⟩ : Fin 8192) = R := Fin.ext (by show R.val / 4096 * 4096 + R.val % 4096 = R.val; omega)
  refine pooled_apply _ x5 x6 _ R (fun g k => ?_) e
  refine stacked_apply _ _ _ _ (fun ch => poolMean (fun R ch => x0 (ix2 R ch)) R ch) _ _ ?_ ?_ ?_ ?_ g k
  · exact fun k => (mean2_apply x0 hf _ _ k).trans (congrArg (fun r => poolMean (fun R ch => x0 (ix2 R ch)) r _) hR)
  · exact fun k => (mean4_apply x0 hf _ _ k).trans (congrArg (fun r => poolMean (fun R ch => x0 (ix2 R ch)) r _) hR)
  · exact fun k => (mean8_apply x0 hf _ _ k).trans (congrArg (fun r => poolMean (fun R ch => x0 (ix2 R ch)) r _) hR)
  · exact fun k => (mean16_apply x0 hf _ _ k).trans (congrArg (fun r => poolMean (fun R ch => x0 (ix2 R ch)) r _) hR)

end Cert.Proof

end
-- ==== Proof.TailClaim.lean ====
/- The claims about the layer's last stage: frames, and equality of the kernel's result with the reference's. -/
module

public import proofs.«01_k».proof.Defs
public import proofs.«01_k».proof.Proof.Gen.Pre_finite_u
public import proofs.«01_k».proof.Proof.KernelBlocks
public import proofs.«01_k».proof.Proof.RefRun
public import proofs.«01_k».proof.Proof.RefValue
public import Idealize.ShloMosaic.Lib.ReduceAll
public import Idealize.ShloMosaic.Lib.Quiescent
public import Idealize.ShloMosaic.Lib.KernelVsHost

@[expose] public section

set_option maxRecDepth 16384

noncomputable section

namespace Cert.Proof

open Idealize.ShloMosaic Idealize.ShloMosaic.TcCoe Idealize.SL.Sem

/-- There is one index of rank zero. -/
instance oneIndex : Subsingleton (Cert.Pre_finite_u.S_).Idx := ⟨fun a b => funext fun i => i.elim0⟩

/-- A number below infinity in absolute value is real. -/
theorem real_of_lt_inf (x : EReal)
    (h : FloatOps.cmpf (F := Ideal) (φ := FTy.f32) .olt (FloatOps.hostAbsf (F := Ideal) (φ := FTy.f32) x) (FloatOps.ofBits (F := Ideal) .f32 0x7F800000#32) = 1#1) :
    ∃ a : ℝ, x = a := by
  rw [← Ideal.xori_weird_eq_hostAbsf_olt_inf] at h
  have h' : IntOp.xori (BitVec.ofBool (decide ((x : EReal) = ⊤ ∨ (x : EReal) = ⊥))) 1#1 = 1#1 := h
  by_cases e : x = ⊤ ∨ x = ⊥
  · simp [e, IntOp.xori] at h'
  · push Not at e
    exact ⟨x.toReal, (EReal.coe_toReal e.1 e.2).symm⟩

/-- Under the precondition every pooling input is real. -/
theorem u_real (m : (ℓ : Loc Cert.KernelIdeal.nD Cert.KernelIdeal.τ Cert.KernelIdeal.sig) → Buf (Elt Ideal) ℓ)
    (h : Pre_KernelIdeal_finite_u m) (c : Dev Cert.KernelIdeal.nD) (R : Fin 8192) (ch : Fin 1024) :
    ∃ a : ℝ, m ((c.tc : Thread Cert.KernelIdeal.nD Cert.KernelIdeal.τ).loc Cert.KernelIdeal.main_arg0) (ix2 R ch) = (a : EReal) := by
  have e := congrFun (h c) (Shape.Idx.first Cert.Pre_finite_u.Gen.h_S_)
  exact real_of_lt_inf _ (Host.reduce_andi_all _ _ _ _ _ e (ix2 R ch))

/-- The reference leaves its arguments as they were. -/
theorem ref_frame : quiescent_ReferenceIdeal := fun m ρ _ =>
  (θ_run _ _ _).mono (fun r h => ⟨fun c => (h c).2, sem_eq_zero_of_no_sems (by decide) r.2⟩) (Cert.Proof.Ref.run m ρ)

/-- The kernel and the reference end with equal results and unchanged arguments. -/
theorem tail_equal : algebraic_KernelIdeal_ReferenceIdeal_pre_finite_u := by
  intro m g m' g' hp he
  refine ⟨fun c => (Cert.KernelIdeal.Gen.dats m 0 c).arrAt 15 Cert.KernelIdeal.cfg0.N, Cert.KernelIdeal.Value.run_blocks m g, ?_⟩
  refine (θ_run _ _ _).mono (fun _ h c => ⟨(h c).1.trans ?_, (h c).2⟩) (Cert.Proof.Ref.run m' g')
  obtain ⟨e0, e1, e2, e3, e4, e5, e6, e7, e8, e9, e10, e11⟩ := he c
  rw [e0, e1, e2, e3, e4, e5, e6, e7, e8, e9, e10, e11]
  funext i
  obtain ⟨R, d, rfl⟩ : ∃ R d, i = ix2 R d := ⟨_, _, eq_ix2 i⟩
  exact (ref_apply _ _ _ _ _ _ _ _ _ _ _ _ (u_real m hp c) R d).trans (result_apply m c R d).symm

end Cert.Proof

end
-- ==== Proof.ProjSpec.lean ====
/- What one projected column is, in plain words over the reals with infinities. -/
module

public import Idealize.ShloMosaic.PureOps.Ideal.Laws
public import Idealize.ShloMosaic.Lib.ValueIdx

@[expose] public section

noncomputable section

namespace Cert.Proof

open Idealize.ShloMosaic

/-- Column `n` of a row of the input projection: the row times the weight's column, plus the offset. -/
def lin (x : Fin 2048 → EReal) (w : Fin 2048 → EReal) (b : EReal) : EReal := (∑ k : Fin 2048, x k * w k) + b

end Cert.Proof

end
-- ==== Proof.ProjU.lean ====
/- The input projection's columns for the pooling branch: its frame's side condition, its blocks and its result. -/
module

public import proofs.«01_k».proof.Proof.ProjSpec
public import proofs.«01_k».proof.Proof.KernelOut
public import proofs.«01_k».proof.Proof.Gen.KernelUIdeal.Frame
public import Idealize.ShloMosaic.Lib.Pipeline.ValueKit.Geometry
public import Idealize.ShloMosaic.Lib.Pipeline.Value

@[expose] public section

set_option maxRecDepth 16384

noncomputable section

namespace Cert.Proof.ProjU

open Cert.KernelUIdeal Cert.KernelUIdeal.Gen
open Idealize.ShloMosaic Idealize.ShloMosaic.TcCoe Idealize.SL.Sem

/-- The row starts that the program writes into its table. -/
def starts : pre0.Contents (Elt Ideal) :=
  fun | ⟨0, _⟩ => fun x => lit0 (S2.rowMajor x) | ⟨_ + 1, h⟩ => absurd h (by simp)

/-- The table holds them when the call begins. -/
theorem tbl_eq (m : (ℓ : Loc nD τ sig) → Buf (Elt Ideal) ℓ) : tbl m = starts := by
  funext j x
  match j with
  | ⟨0, _⟩ => rfl

/-- Every weight block lies inside the weight, at a multiple of eight rows. -/
theorem ok (m : (ℓ : Loc nD τ sig) → Buf (Elt Ideal) ℓ) : Ok m := by
  unfold Ok; rw [tbl_eq]; decide +kernel

/-- The column of the projection that becomes column `q` of this result. -/
def src (q : ℕ) : ℕ := q

/-- The column of the projection where the tile of a point begins. -/
def col (t : ℕ) : ℕ := src (512 * (t % 2))

theorem src_lt (q : Fin 1024) : src q.val < 9752 := by simp only [src] <;> omega

theorem tr0 : ∀ t : Fin grid0.N, cc0_transform_0 (grid0.coords t) = ![t.val / 2, 0] := by decide +kernel
theorem tr1 : ∀ t : Fin grid0.N, cc0_transform_1 k0_off1_inb numel1_S1 starts (grid0.coords t) = ![col t.val, 0] := by decide +kernel
theorem tr2 : ∀ t : Fin grid0.N, cc0_transform_2 (grid0.coords t) = ![0, t.val % 2] := by decide +kernel
theorem tr3 : ∀ t : Fin grid0.N, cc0_transform_3 (grid0.coords t) = ![t.val / 2, t.val % 2] := by decide +kernel

variable (m : (ℓ : Loc nD τ sig) → Buf (Elt Ideal) ℓ) (c : Dev nD) (t : Fin (cfgM m (ok m)).N)

/-- Where each window stands at a point. -/
theorem at0 : (pcfg0.win (adm m (ok m)) 0).index t = ![t.val / 2, 0] := tr0 t
theorem at1 : (pcfg0.win (adm m (ok m)) 1).index t = ![col t.val, 0] := by
  refine Eq.trans ?_ (tr1 t)
  show cc0_transform_1 k0_off1_inb numel1_S1 (tbl m) (grid0.coords t) = _
  rw [tbl_eq]
theorem at2 : (pcfg0.win (adm m (ok m)) 2).index t = ![0, t.val % 2] := tr2 t
theorem at3 : (pcfg0.win (adm m (ok m)) 3).index t = ![t.val / 2, t.val % 2] := tr3 t

theorem pt_lt : t.val < 8 := t.isLt

theorem row_lt (r : Fin 2048) : 2048 * (t.val / 2) + r.val < 8192 := by have := pt_lt m t; omega

theorem tile_lt (n : Fin 512) : 512 * (t.val % 2) + n.val < 1024 := by omega

theorem col_eq (n : Fin 512) : col t.val + n.val = src (512 * (t.val % 2) + n.val) := by simp only [col, src] <;> omega

theorem col_lt (n : Fin 512) : col t.val + n.val < 9752 := col_eq m t n ▸ src_lt ⟨_, tile_lt m t n⟩

/-- A point's rows of the layer's input. -/
theorem blk0 (r : Fin 2048) (k : Fin 2048) : iblk m (ok m) c 0 t (ix2 r k)
    = m ((c : Thread nD τ).loc main_arg0) (ix2 ⟨2048 * (t.val / 2) + r.val, row_lt m t r⟩ k) := by
  refine Eq.trans ?_ (congrFun (show V m c main_v0 = m ((c : Thread nD τ).loc main_arg0) from rfl) _)
  blk_simp [iblk]
  refine congrArg _ ?_
  blk_ext
  · refine (congrArg (· * 2048 + r.val) (congrFun (at0 m t) 0)).trans ?_
    show t.val / 2 * 2048 + r.val = _
    omega
  · refine (congrArg (· * 2048 + k.val) (congrFun (at0 m t) 1)).trans ?_
    show 0 * 2048 + k.val = _
    omega

/-- A point's columns of the weight, as rows. -/
theorem blk1 (n : Fin 512) (k : Fin 2048) : iblk m (ok m) c 1 t (ix2 n k)
    = m ((c : Thread nD τ).loc main_arg1) (ix2 k ⟨col t.val + n.val, col_lt m t n⟩) := by
  have e : V m c main_v1 = transpose S9752x2048 [1, 0] (m ((c : Thread nD τ).loc main_arg1)) transposes_S2048x9752_S9752x2048_1_0 := rfl
  have h : ∀ (q : Fin 9752), V m c main_v1 (ix2 q k) = m ((c : Thread nD τ).loc main_arg1) (ix2 k q) := by
    intro q
    rw [e]
    pointwise
  refine Eq.trans ?_ (h _)
  blk_simp [iblk]
  refine congrArg _ ?_
  blk_ext
  · refine Eq.trans (b := (pcfg0.win (adm m (ok m)) 1).index t 0 + 1 * n.val) rfl ?_
    refine (congrArg (· + 1 * n.val) (congrFun (at1 m t) 0)).trans ?_
    show col t.val + 1 * n.val = _
    omega
  · refine Eq.trans (b := (pcfg0.win (adm m (ok m)) 1).index t 1 + 1 * k.val) rfl ?_
    refine (congrArg (· + 1 * k.val) (congrFun (at1 m t) 1)).trans ?_
    show 0 + 1 * k.val = _
    omega

/-- A point's part of the offsets. -/
theorem blk2 (n : Fin 512) : iblk m (ok m) c 2 t (ix2 0 n)
    = m ((c : Thread nD τ).loc main_arg2) (ix1 ⟨col t.val + n.val, col_lt m t n⟩) := by
  have h : ∀ q : Fin 1024, V m c main_v5 (ix2 0 q) = m ((c : Thread nD τ).loc main_arg2) (ix1 ⟨src q.val, src_lt q⟩) := by
    intro q
    have e : V m c main_v5 = concatenate S1x1024 1 [⟨S1x512, extractStridedSlice S1x512 ![0, 0] (broadcastInDim S1x9752 ![1] bcast_S9752_S1x9752_1 (m ((c : Thread nD τ).loc main_arg2))) slices_S1x9752_S1x512_0_0⟩, ⟨S1x512, extractStridedSlice S1x512 ![0, 512] (broadcastInDim S1x9752 ![1] bcast_S9752_S1x9752_1 (m ((c : Thread nD τ).loc main_arg2))) slices_S1x9752_S1x512_0_512⟩] concatenates_S1x512_S1x512_S1x1024_d1 := rfl
    rw [e]
    pointwise
    split_ifs <;> exact congrArg (fun z => m ((c : Thread nD τ).loc main_arg2) (ix1 z)) (Fin.ext (by simp only [src] <;> omega))
  refine Eq.trans ?_ ((h ⟨512 * (t.val % 2) + n.val, tile_lt m t n⟩).trans ?_)
  · blk_simp [iblk]
    refine congrArg _ ?_
    blk_ext
    · refine (congrArg (· * 1 + 0) (congrFun (at2 m t) 0)).trans ?_
      rfl
    · refine (congrArg (· * 512 + n.val) (congrFun (at2 m t) 1)).trans ?_
      show t.val % 2 * 512 + n.val = _
      omega
  · exact congrArg (fun z => m ((c : Thread nD τ).loc main_arg2) (ix1 z)) (Fin.ext (col_eq m t n).symm)

/-- What is applied to a projected column. -/
def act (z : EReal) : EReal := z

/-- A projected column of a row, the row read where it stands in its block. -/
theorem lin_ld (x0 : Vec Ideal S2048x2048 .bf16) (w : Fin 2048 → EReal) (b : EReal) (o : ℕ)
    (inb : ∀ a, ![o, 0] a + S512x2048.size a ≤ S2048x2048.size a) (R : Fin 2048) (r : Fin 512) (h : R.val = o + r.val) :
    lin (fun k => View.ld x0 (Rect.unit (s := S2048x2048) ![o, 0] S512x2048.size inb) (ix2 r k)) w b = lin (fun k => x0 (ix2 R k)) w b :=
  congrArg (fun f => lin f w b) (funext fun k => View.ld_unit_apply_of _ _ _ _ _ _ (Fin.forall_fin_two.mpr ⟨h, (Nat.zero_add _).symm⟩))

/-- What a grid point leaves at row `R` and column `d` of its block. -/
theorem out_apply (c : Dev nD) (i : grid0.Coords) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S2048x512 .f32) (harg6 : arg6.IsWhole)
    (x0 : Vec Ideal S2048x2048 .bf16) (x1 : Vec Ideal S512x2048 .f32) (x2 : Vec Ideal S1x512 .f32) (xt0 : TbBuf0 (F := Ideal) c tbM0_0)
    (R : Fin 2048) (d : Fin 512) :
    out0_A_3 c i arg3 harg3 arg4 harg4 arg5 harg5 arg6 harg6 x0 x1 x2 xt0 (ix2 R d)
      = act (lin (fun k => x0 (ix2 R k)) (fun k => x1 (ix2 d k)) (x2 (ix2 0 d))) := by
  unfold out0_A_3
  have hc := cover0_A_3 c i arg3 harg3 arg4 harg4 arg5 harg5 arg6 harg6 x0 x1 x2 xt0
  rw [View.read_writes_eq_canon _ _ _ hc]
  refine View.canon_eq_of_allAt _ _ _ (hc _) ?_
  clear hc
  unfold kernelRun0_A
  dsimp only
  sl_unfold_words
  simp only [View.readAt_eq_ld, harg3.read_unread, harg4.read_unread, harg5.read_unread,
    View.ld_unit_zero (S := S512x2048) hz, View.ld_unit_zero (S := S1x512) hz]
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro x hx
    obtain ⟨r, e, rfl⟩ : ∃ (r : Fin 512) (e : Fin 512), x = ix2 r e := ⟨_, _, eq_ix2 x⟩
    obtain rfl : d = e := Fin.ext ((hx 1).trans (Nat.zero_add _))
    rw [← lin_ld x0 _ _ 1536 inb_S2048x2048_S512x2048_1536_0 R r (hx 0)]
    generalize View.ld x0 _ = X
    unfold act lin
    simp only [k0_pay1, k0_pay2, k0_pay3, k0_pay4, k0_pay5, k0_pay6]
    pointwise
  · intro x hx
    obtain ⟨r, e, rfl⟩ : ∃ (r : Fin 512) (e : Fin 512), x = ix2 r e := ⟨_, _, eq_ix2 x⟩
    obtain rfl : d = e := Fin.ext ((hx 1).trans (Nat.zero_add _))
    rw [← lin_ld x0 _ _ 1024 inb_S2048x2048_S512x2048_1024_0 R r (hx 0)]
    generalize View.ld x0 _ = X
    unfold act lin
    simp only [k0_pay1, k0_pay2, k0_pay3, k0_pay4, k0_pay5, k0_pay6]
    pointwise
  · intro x hx
    obtain ⟨r, e, rfl⟩ : ∃ (r : Fin 512) (e : Fin 512), x = ix2 r e := ⟨_, _, eq_ix2 x⟩
    obtain rfl : d = e := Fin.ext ((hx 1).trans (Nat.zero_add _))
    rw [← lin_ld x0 _ _ 512 inb_S2048x2048_S512x2048_512_0 R r (hx 0)]
    generalize View.ld x0 _ = X
    unfold act lin
    simp only [k0_pay1, k0_pay2, k0_pay3, k0_pay4, k0_pay5, k0_pay6]
    pointwise
  · intro x hx
    obtain ⟨r, e, rfl⟩ : ∃ (r : Fin 512) (e : Fin 512), x = ix2 r e := ⟨_, _, eq_ix2 x⟩
    obtain rfl : d = e := Fin.ext ((hx 1).trans (Nat.zero_add _))
    rw [← lin_ld x0 _ _ 0 inb_S2048x2048_S512x2048_0_0 R r (hx 0)]
    generalize View.ld x0 _ = X
    unfold act lin
    simp only [k0_pay1, k0_pay2, k0_pay3, k0_pay4, k0_pay5, k0_pay6]
    pointwise

/-- Every point writes its block back. -/
theorem flushes : ((cfgM m (ok m)).win 3).flush t = true := flush0_3 (adm m (ok m)) t

/-- Distinct points write distinct blocks. -/
theorem apart : ∀ t t' : Fin (cfgM m (ok m)).N, ((cfgM m (ok m)).win 3).flush t = true → ((cfgM m (ok m)).win 3).flush t' = true → t ≠ t' →
    Disjoint (((cfgM m (ok m)).win 3).blk t).view.set (((cfgM m (ok m)).win 3).blk t').view.set := by
  intro t t' _ _ hne
  refine ((cfgM m (ok m)).win 3).disjoint_blk fun h => hne (Fin.ext ?_)
  have e := (at3 m t).symm.trans (h.trans (at3 m t'))
  have h0 : t.val / 2 = t'.val / 2 := congrFun e 0
  have h1 : t.val % 2 = t'.val % 2 := congrFun e 1
  omega

/-- The result at row `R` and column `q`, as a function of the arguments. -/
def projAt (m : (ℓ : Loc nD τ sig) → Buf (Elt Ideal) ℓ) (c : Dev nD) (R : Fin 8192) (q : Fin 1024) : EReal :=
  act (lin (fun k => m ((c : Thread nD τ).loc main_arg0) (ix2 R k)) (fun k => m ((c : Thread nD τ).loc main_arg1) (ix2 k ⟨src q.val, src_lt q⟩))
    (m ((c : Thread nD τ).loc main_arg2) (ix1 ⟨src q.val, src_lt q⟩)))

/-- The result array in the block of a point. -/
theorem result_at (r : Fin 2048) (d : Fin 512) : (dats m (ok m) 0 c).arrAt 3 (cfgM m (ok m)).N
      (ix2 ⟨2048 * (t.val / 2) + r.val, row_lt m t r⟩ ⟨512 * (t.val % 2) + d.val, tile_lt m t d⟩)
    = projAt m c ⟨2048 * (t.val / 2) + r.val, row_lt m t r⟩ ⟨512 * (t.val % 2) + d.val, tile_lt m t d⟩ := by
  have b := congrFun ((dats m (ok m) 0 c).read_blk_arrAt_eq_flushed 3 (apart m) (cfgM m (ok m)).N t t.isLt (flushes m t)) (ix2 r d)
  have f : (dats m (ok m) 0 c).flushed 3 t (ix2 r d) = outsAt0 m (ok m) c t (ix2 r d) := by
    show (dats m (ok m) 0 c).after 3 t _ = _
    rw [after0_3]
    rfl
  have e : (((cfgM m (ok m)).win 3).blk t).view.emb (ix2 r d)
      = ix2 ⟨2048 * (t.val / 2) + r.val, row_lt m t r⟩ ⟨512 * (t.val % 2) + d.val, tile_lt m t d⟩ := by
    blk_ext
    · refine (congrArg (· * 2048 + r.val) (congrFun (at3 m t) 0)).trans ?_
      show t.val / 2 * 2048 + r.val = _
      omega
    · refine (congrArg (· * 512 + d.val) (congrFun (at3 m t) 1)).trans ?_
      show t.val % 2 * 512 + d.val = _
      omega
  rw [f] at b
  generalize (dats m (ok m) 0 c).arrAt 3 (cfgM m (ok m)).N = A at b ⊢
  refine (congrArg A e.symm).trans (b.trans ?_)
  refine ((out_apply _ _ _ _ _ _ _ _ _ _ _ _ _ _ r d).trans ?_)
  unfold projAt
  simp only [blk0, blk1, blk2, col_eq]

/-- An equality at one place, taken to an equal place. -/
theorem moved {f g : Fin 8192 → Fin 1024 → EReal} {a R : Fin 8192} {b q : Fin 1024} (h : f a b = g a b) (e0 : a = R) (e1 : b = q) :
    f R q = g R q := by
  subst e0 e1
  exact h

/-- The result array at a row and column. -/
theorem result_apply (R : Fin 8192) (q : Fin 1024) : (dats m (ok m) 0 c).arrAt 3 (cfgM m (ok m)).N (ix2 R q) = projAt m c R q := by
  have h := result_at m c ⟨R.val / 2048 * 2 + q.val / 512, by show _ < 8; omega⟩ ⟨R.val % 2048, by omega⟩ ⟨q.val % 512, by omega⟩
  have e0 : (⟨2048 * ((R.val / 2048 * 2 + q.val / 512) / 2) + R.val % 2048, by omega⟩ : Fin 8192) = R := Fin.ext (by simp only []; omega)
  have e1 : (⟨512 * ((R.val / 2048 * 2 + q.val / 512) % 2) + q.val % 512, by omega⟩ : Fin 1024) = q := Fin.ext (by simp only []; omega)
  exact moved (f := fun a b => (dats m (ok m) 0 c).arrAt 3 (cfgM m (ok m)).N (ix2 a b)) (g := projAt m c) h e0 e1

/-- Every run of the kernel ends with the result array named, and its arguments as they were. -/
theorem run_result (ρ : Dev nD → PrngReg) : θ_run defs (onTc (τ := τ) (main (F := Ideal))) ⟨m, fun _ => 0, ρ⟩ fun r => ∀ c : Dev nD,
      r.2.mem ((c : Thread nD τ).loc main_v6) = (dats m (ok m) 0 c).arrAt 3 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ (ok m))

end Cert.Proof.ProjU

end
-- ==== Proof.ClaimU.lean ====
/- The claims about the projection to the pooling input: frames, and equality of the kernel's result with the reference's. -/
module

public import proofs.«01_k».proof.Defs
public import proofs.«01_k».proof.Proof.ProjU
public import proofs.«01_k».proof.Proof.Gen.KernelU.Frame
public import proofs.«01_k».proof.Proof.Gen.ReferenceUIdeal.Read
public import Idealize.ShloMosaic.Lib.Quiescent
public import Idealize.ShloMosaic.Lib.KernelVsHost
public import Idealize.ShloMosaic.Lib.IdealHost

@[expose] public section

set_option maxRecDepth 16384

noncomputable section

namespace Cert.Proof.ProjU

open Idealize.ShloMosaic Idealize.ShloMosaic.TcCoe Idealize.SL.Sem

section Machine

open Cert.KernelU Cert.KernelU.Gen

/-- The row starts that the program writes into its table. -/
def startsBits : pre0.Contents (Elt Bits) :=
  fun | ⟨0, _⟩ => fun x => lit0 (S2.rowMajor x) | ⟨_ + 1, h⟩ => absurd h (by simp)

/-- The table holds them when the call begins. -/
theorem tbl_eqBits (m : (ℓ : Loc nD τ sig) → Buf (Elt Bits) ℓ) : tbl m = startsBits := by
  funext j x
  match j with
  | ⟨0, _⟩ => rfl

/-- Every weight block lies inside the weight, at a multiple of eight rows. -/
theorem okBits (m : (ℓ : Loc nD τ sig) → Buf (Elt Bits) ℓ) : Ok m := by
  unfold Ok; rw [tbl_eqBits]; decide +kernel

end Machine

section Reference

open Cert.ReferenceUIdeal Cert.ReferenceUIdeal.Gen Cert.ReferenceUIdeal.Read
open Idealize.ShloMosaic.StableHlo

/-- An index with the row and column given is that row and column. -/
theorem at_idx {R : Fin 8192} {n : Fin 9752} (i : S8192x9752.Idx) (h0 : (i 0).val = R.val) (h1 : (i 1).val = n.val) : i = ix2 R n := by
  funext a
  match a with
  | ⟨0, _⟩ => exact Fin.ext h0
  | ⟨1, _⟩ => exact Fin.ext h1

variable (x0 : (⟨S8192x2048, .f32⟩ : BufTy).Contents (Elt Ideal)) (x1 : (⟨S2048x9752, .f32⟩ : BufTy).Contents (Elt Ideal))
  (x2 : (⟨S9752, .f32⟩ : BufTy).Contents (Elt Ideal))

/-- The reference's whole projection, at a row and column. -/
theorem linear_apply (R : Fin 8192) (n : Fin 9752) : val_main_v3 (F := Ideal) x0 x1 x2 (ix2 R n)
    = lin (fun k => x0 (ix2 R k)) (fun k => x1 (ix2 k n)) (x2 (ix1 n)) := by
  rw [val_main_v3_apply, val_main_v0_apply, val_main_v2_apply, val_main_v1_apply]
  refine congrArg₂ (· + ·) (Finset.sum_congr rfl fun k _ => congrArg₂ (· * ·) (congrArg x0 ?_) (congrArg x1 ?_)) (congrArg x2 ?_)
  · funext a
    match a with
    | ⟨0, _⟩ => rfl
    | ⟨1, _⟩ => rfl
  · funext a
    match a with
    | ⟨0, _⟩ => rfl
    | ⟨1, _⟩ => rfl
  · funext a
    match a with
    | ⟨0, _⟩ => rfl

/-- The reference's result at a row and column. -/
theorem ref_apply (R : Fin 8192) (q : Fin 1024) : val_main_v4 (F := Ideal) x0 x1 x2 (ix2 R q)
    = act (lin (fun k => x0 (ix2 R k)) (fun k => x1 (ix2 k ⟨src q.val, src_lt q⟩)) (x2 (ix1 ⟨src q.val, src_lt q⟩))) := by
  rw [val_main_v4_apply, at_idx (R := R) (n := ⟨src q.val, src_lt q⟩) (idx_main_v4 _) rfl rfl]
  exact linear_apply x0 x1 x2 R _

end Reference

/-- The kernel leaves its arguments as they were. -/
theorem frame : quiescent_KernelU := fun m ρ _ => Cert.KernelU.Gen.frame m ρ (okBits m)

/-- So does the kernel over the reals. -/
theorem frame_ideal : quiescent_KernelUIdeal := fun m ρ _ => Cert.KernelUIdeal.Gen.frame m ρ (ok m)

/-- So does the reference. -/
theorem frame_ref : quiescent_ReferenceUIdeal := fun m ρ _ =>
  (θ_run _ _ _).mono (fun r h => ⟨fun c => (h c).2, sem_eq_zero_of_no_sems (by decide) r.2⟩) (Cert.ReferenceUIdeal.Value.run m ρ)

/-- The kernel and the reference end with equal results and unchanged arguments. -/
theorem equal : algebraic_KernelUIdeal_ReferenceUIdeal := by
  intro m g m' g' _ he
  refine ⟨fun c => (Cert.KernelUIdeal.Gen.dats m (ok m) 0 c).arrAt 3 (Cert.KernelUIdeal.Gen.cfgM m (ok m)).N, run_result m g, ?_⟩
  refine (θ_run _ _ _).mono (fun _ h c => ⟨(h c).1.trans ?_, (h c).2⟩) (Cert.ReferenceUIdeal.Value.run m' g')
  obtain ⟨e0, e1, e2⟩ := he c
  rw [e0, e1, e2, Cert.ReferenceUIdeal.Read.val_main_v4_eq]
  funext i
  obtain ⟨R, d, rfl⟩ : ∃ R d, i = ix2 R d := ⟨_, _, eq_ix2 i⟩
  exact (ref_apply _ _ _ R d).trans (result_apply m c R d).symm

end Cert.Proof.ProjU

end
-- ==== Proof.ProjSilu.lean ====
/- The input projection's columns for the two SiLU gates: its frame's side condition, its blocks and its result. -/
module

public import proofs.«01_k».proof.Proof.ProjSpec
public import proofs.«01_k».proof.Proof.KernelOut
public import proofs.«01_k».proof.Proof.Gen.KernelSiluIdeal.Frame
public import Idealize.ShloMosaic.Lib.Pipeline.ValueKit.Geometry
public import Idealize.ShloMosaic.Lib.Pipeline.Value

@[expose] public section

set_option maxRecDepth 16384

noncomputable section

namespace Cert.Proof.ProjSilu

open Cert.KernelSiluIdeal Cert.KernelSiluIdeal.Gen
open Idealize.ShloMosaic Idealize.ShloMosaic.TcCoe Idealize.SL.Sem

/-- The row starts that the program writes into its table. -/
def starts : pre0.Contents (Elt Ideal) :=
  fun | ⟨0, _⟩ => fun x => lit0 (S4.rowMajor x) | ⟨_ + 1, h⟩ => absurd h (by simp)

/-- The table holds them when the call begins. -/
theorem tbl_eq (m : (ℓ : Loc nD τ sig) → Buf (Elt Ideal) ℓ) : tbl m = starts := by
  funext j x
  match j with
  | ⟨0, _⟩ => rfl

/-- Every weight block lies inside the weight, at a multiple of eight rows. -/
theorem ok (m : (ℓ : Loc nD τ sig) → Buf (Elt Ideal) ℓ) : Ok m := by
  unfold Ok; rw [tbl_eq]; decide +kernel

/-- The column of the projection that becomes column `q` of this result. -/
def src (q : ℕ) : ℕ := if q < 1024 then 1024 + q else 4632 + (q - 1024)

/-- The column of the projection where the tile of a point begins. -/
def col (t : ℕ) : ℕ := src (512 * (t % 4))

theorem src_lt (q : Fin 2048) : src q.val < 9752 := by simp only [src]; split_ifs <;> omega

theorem tr0 : ∀ t : Fin grid0.N, cc0_transform_0 (grid0.coords t) = ![t.val / 4, 0] := by decide +kernel
theorem tr1 : ∀ t : Fin grid0.N, cc0_transform_1 k0_off1_inb numel1_S1 starts (grid0.coords t) = ![col t.val, 0] := by decide +kernel
theorem tr2 : ∀ t : Fin grid0.N, cc0_transform_2 (grid0.coords t) = ![0, t.val % 4] := by decide +kernel
theorem tr3 : ∀ t : Fin grid0.N, cc0_transform_3 (grid0.coords t) = ![t.val / 4, t.val % 4] := by decide +kernel

variable (m : (ℓ : Loc nD τ sig) → Buf (Elt Ideal) ℓ) (c : Dev nD) (t : Fin (cfgM m (ok m)).N)

/-- Where each window stands at a point. -/
theorem at0 : (pcfg0.win (adm m (ok m)) 0).index t = ![t.val / 4, 0] := tr0 t
theorem at1 : (pcfg0.win (adm m (ok m)) 1).index t = ![col t.val, 0] := by
  refine Eq.trans ?_ (tr1 t)
  show cc0_transform_1 k0_off1_inb numel1_S1 (tbl m) (grid0.coords t) = _
  rw [tbl_eq]
theorem at2 : (pcfg0.win (adm m (ok m)) 2).index t = ![0, t.val % 4] := tr2 t
theorem at3 : (pcfg0.win (adm m (ok m)) 3).index t = ![t.val / 4, t.val % 4] := tr3 t

theorem pt_lt : t.val < 16 := t.isLt

theorem row_lt (r : Fin 2048) : 2048 * (t.val / 4) + r.val < 8192 := by have := pt_lt m t; omega

theorem tile_lt (n : Fin 512) : 512 * (t.val % 4) + n.val < 2048 := by omega

theorem col_eq (n : Fin 512) : col t.val + n.val = src (512 * (t.val % 4) + n.val) := by simp only [col, src]; split_ifs <;> omega

theorem col_lt (n : Fin 512) : col t.val + n.val < 9752 := col_eq m t n ▸ src_lt ⟨_, tile_lt m t n⟩

/-- A point's rows of the layer's input. -/
theorem blk0 (r : Fin 2048) (k : Fin 2048) : iblk m (ok m) c 0 t (ix2 r k)
    = m ((c : Thread nD τ).loc main_arg0) (ix2 ⟨2048 * (t.val / 4) + r.val, row_lt m t r⟩ k) := by
  refine Eq.trans ?_ (congrFun (show V m c main_v0 = m ((c : Thread nD τ).loc main_arg0) from rfl) _)
  blk_simp [iblk]
  refine congrArg _ ?_
  blk_ext
  · refine (congrArg (· * 2048 + r.val) (congrFun (at0 m t) 0)).trans ?_
    show t.val / 4 * 2048 + r.val = _
    omega
  · refine (congrArg (· * 2048 + k.val) (congrFun (at0 m t) 1)).trans ?_
    show 0 * 2048 + k.val = _
    omega

/-- A point's columns of the weight, as rows. -/
theorem blk1 (n : Fin 512) (k : Fin 2048) : iblk m (ok m) c 1 t (ix2 n k)
    = m ((c : Thread nD τ).loc main_arg1) (ix2 k ⟨col t.val + n.val, col_lt m t n⟩) := by
  have e : V m c main_v1 = transpose S9752x2048 [1, 0] (m ((c : Thread nD τ).loc main_arg1)) transposes_S2048x9752_S9752x2048_1_0 := rfl
  have h : ∀ (q : Fin 9752), V m c main_v1 (ix2 q k) = m ((c : Thread nD τ).loc main_arg1) (ix2 k q) := by
    intro q
    rw [e]
    pointwise
  refine Eq.trans ?_ (h _)
  blk_simp [iblk]
  refine congrArg _ ?_
  blk_ext
  · refine Eq.trans (b := (pcfg0.win (adm m (ok m)) 1).index t 0 + 1 * n.val) rfl ?_
    refine (congrArg (· + 1 * n.val) (congrFun (at1 m t) 0)).trans ?_
    show col t.val + 1 * n.val = _
    omega
  · refine Eq.trans (b := (pcfg0.win (adm m (ok m)) 1).index t 1 + 1 * k.val) rfl ?_
    refine (congrArg (· + 1 * k.val) (congrFun (at1 m t) 1)).trans ?_
    show 0 + 1 * k.val = _
    omega

/-- A point's part of the offsets. -/
theorem blk2 (n : Fin 512) : iblk m (ok m) c 2 t (ix2 0 n)
    = m ((c : Thread nD τ).loc main_arg2) (ix1 ⟨col t.val + n.val, col_lt m t n⟩) := by
  have h : ∀ q : Fin 2048, V m c main_v7 (ix2 0 q) = m ((c : Thread nD τ).loc main_arg2) (ix1 ⟨src q.val, src_lt q⟩) := by
    intro q
    have e : V m c main_v7 = concatenate S1x2048 1 [⟨S1x512, extractStridedSlice S1x512 ![0, 1024] (broadcastInDim S1x9752 ![1] bcast_S9752_S1x9752_1 (m ((c : Thread nD τ).loc main_arg2))) slices_S1x9752_S1x512_0_1024⟩, ⟨S1x512, extractStridedSlice S1x512 ![0, 1536] (broadcastInDim S1x9752 ![1] bcast_S9752_S1x9752_1 (m ((c : Thread nD τ).loc main_arg2))) slices_S1x9752_S1x512_0_1536⟩, ⟨S1x512, extractStridedSlice S1x512 ![0, 4632] (broadcastInDim S1x9752 ![1] bcast_S9752_S1x9752_1 (m ((c : Thread nD τ).loc main_arg2))) slices_S1x9752_S1x512_0_4632⟩, ⟨S1x512, extractStridedSlice S1x512 ![0, 5144] (broadcastInDim S1x9752 ![1] bcast_S9752_S1x9752_1 (m ((c : Thread nD τ).loc main_arg2))) slices_S1x9752_S1x512_0_5144⟩] concatenates_S1x512_S1x512_S1x512_S1x512_S1x2048_d1 := rfl
    rw [e]
    pointwise
    split_ifs <;> exact congrArg (fun z => m ((c : Thread nD τ).loc main_arg2) (ix1 z)) (Fin.ext (by simp only [src]; split_ifs <;> omega))
  refine Eq.trans ?_ ((h ⟨512 * (t.val % 4) + n.val, tile_lt m t n⟩).trans ?_)
  · blk_simp [iblk]
    refine congrArg _ ?_
    blk_ext
    · refine (congrArg (· * 1 + 0) (congrFun (at2 m t) 0)).trans ?_
      rfl
    · refine (congrArg (· * 512 + n.val) (congrFun (at2 m t) 1)).trans ?_
      show t.val % 4 * 512 + n.val = _
      omega
  · exact congrArg (fun z => m ((c : Thread nD τ).loc main_arg2) (ix1 z)) (Fin.ext (col_eq m t n).symm)

/-- What is applied to a projected column. -/
def act (z : EReal) : EReal := z * Ideal.logistic z

/-- A projected column of a row, the row read where it stands in its block. -/
theorem lin_ld (x0 : Vec Ideal S2048x2048 .bf16) (w : Fin 2048 → EReal) (b : EReal) (o : ℕ)
    (inb : ∀ a, ![o, 0] a + S512x2048.size a ≤ S2048x2048.size a) (R : Fin 2048) (r : Fin 512) (h : R.val = o + r.val) :
    lin (fun k => View.ld x0 (Rect.unit (s := S2048x2048) ![o, 0] S512x2048.size inb) (ix2 r k)) w b = lin (fun k => x0 (ix2 R k)) w b :=
  congrArg (fun f => lin f w b) (funext fun k => View.ld_unit_apply_of _ _ _ _ _ _ (Fin.forall_fin_two.mpr ⟨h, (Nat.zero_add _).symm⟩))

/-- What a grid point leaves at row `R` and column `d` of its block. -/
theorem out_apply (c : Dev nD) (i : grid0.Coords) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S2048x512 .bf16) (harg6 : arg6.IsWhole)
    (x0 : Vec Ideal S2048x2048 .bf16) (x1 : Vec Ideal S512x2048 .f32) (x2 : Vec Ideal S1x512 .f32) (xt0 : TbBuf0 (F := Ideal) c tbM0_0)
    (R : Fin 2048) (d : Fin 512) :
    out0_A_3 c i arg3 harg3 arg4 harg4 arg5 harg5 arg6 harg6 x0 x1 x2 xt0 (ix2 R d)
      = act (lin (fun k => x0 (ix2 R k)) (fun k => x1 (ix2 d k)) (x2 (ix2 0 d))) := by
  unfold out0_A_3
  have hc := cover0_A_3 c i arg3 harg3 arg4 harg4 arg5 harg5 arg6 harg6 x0 x1 x2 xt0
  rw [View.read_writes_eq_canon _ _ _ hc]
  refine View.canon_eq_of_allAt _ _ _ (hc _) ?_
  clear hc
  unfold kernelRun0_A
  dsimp only
  sl_unfold_words
  simp only [View.readAt_eq_ld, harg3.read_unread, harg4.read_unread, harg5.read_unread,
    View.ld_unit_zero (S := S512x2048) hz, View.ld_unit_zero (S := S1x512) hz]
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro x hx
    obtain ⟨r, e, rfl⟩ : ∃ (r : Fin 512) (e : Fin 512), x = ix2 r e := ⟨_, _, eq_ix2 x⟩
    obtain rfl : d = e := Fin.ext ((hx 1).trans (Nat.zero_add _))
    rw [← lin_ld x0 _ _ 1536 inb_S2048x2048_S512x2048_1536_0 R r (hx 0)]
    generalize View.ld x0 _ = X
    unfold act lin
    simp only [k0_pay1, k0_pay2, k0_pay3, k0_pay4, k0_pay5]
    pointwise
    rw [zero_sub]
    rfl
  · intro x hx
    obtain ⟨r, e, rfl⟩ : ∃ (r : Fin 512) (e : Fin 512), x = ix2 r e := ⟨_, _, eq_ix2 x⟩
    obtain rfl : d = e := Fin.ext ((hx 1).trans (Nat.zero_add _))
    rw [← lin_ld x0 _ _ 1024 inb_S2048x2048_S512x2048_1024_0 R r (hx 0)]
    generalize View.ld x0 _ = X
    unfold act lin
    simp only [k0_pay1, k0_pay2, k0_pay3, k0_pay4, k0_pay5]
    pointwise
    rw [zero_sub]
    rfl
  · intro x hx
    obtain ⟨r, e, rfl⟩ : ∃ (r : Fin 512) (e : Fin 512), x = ix2 r e := ⟨_, _, eq_ix2 x⟩
    obtain rfl : d = e := Fin.ext ((hx 1).trans (Nat.zero_add _))
    rw [← lin_ld x0 _ _ 512 inb_S2048x2048_S512x2048_512_0 R r (hx 0)]
    generalize View.ld x0 _ = X
    unfold act lin
    simp only [k0_pay1, k0_pay2, k0_pay3, k0_pay4, k0_pay5]
    pointwise
    rw [zero_sub]
    rfl
  · intro x hx
    obtain ⟨r, e, rfl⟩ : ∃ (r : Fin 512) (e : Fin 512), x = ix2 r e := ⟨_, _, eq_ix2 x⟩
    obtain rfl : d = e := Fin.ext ((hx 1).trans (Nat.zero_add _))
    rw [← lin_ld x0 _ _ 0 inb_S2048x2048_S512x2048_0_0 R r (hx 0)]
    generalize View.ld x0 _ = X
    unfold act lin
    simp only [k0_pay1, k0_pay2, k0_pay3, k0_pay4, k0_pay5]
    pointwise
    rw [zero_sub]
    rfl

/-- Every point writes its block back. -/
theorem flushes : ((cfgM m (ok m)).win 3).flush t = true := flush0_3 (adm m (ok m)) t

/-- Distinct points write distinct blocks. -/
theorem apart : ∀ t t' : Fin (cfgM m (ok m)).N, ((cfgM m (ok m)).win 3).flush t = true → ((cfgM m (ok m)).win 3).flush t' = true → t ≠ t' →
    Disjoint (((cfgM m (ok m)).win 3).blk t).view.set (((cfgM m (ok m)).win 3).blk t').view.set := by
  intro t t' _ _ hne
  refine ((cfgM m (ok m)).win 3).disjoint_blk fun h => hne (Fin.ext ?_)
  have e := (at3 m t).symm.trans (h.trans (at3 m t'))
  have h0 : t.val / 4 = t'.val / 4 := congrFun e 0
  have h1 : t.val % 4 = t'.val % 4 := congrFun e 1
  omega

/-- The result at row `R` and column `q`, as a function of the arguments. -/
def projAt (m : (ℓ : Loc nD τ sig) → Buf (Elt Ideal) ℓ) (c : Dev nD) (R : Fin 8192) (q : Fin 2048) : EReal :=
  act (lin (fun k => m ((c : Thread nD τ).loc main_arg0) (ix2 R k)) (fun k => m ((c : Thread nD τ).loc main_arg1) (ix2 k ⟨src q.val, src_lt q⟩))
    (m ((c : Thread nD τ).loc main_arg2) (ix1 ⟨src q.val, src_lt q⟩)))

/-- The result array in the block of a point. -/
theorem result_at (r : Fin 2048) (d : Fin 512) : (dats m (ok m) 0 c).arrAt 3 (cfgM m (ok m)).N
      (ix2 ⟨2048 * (t.val / 4) + r.val, row_lt m t r⟩ ⟨512 * (t.val % 4) + d.val, tile_lt m t d⟩)
    = projAt m c ⟨2048 * (t.val / 4) + r.val, row_lt m t r⟩ ⟨512 * (t.val % 4) + d.val, tile_lt m t d⟩ := by
  have b := congrFun ((dats m (ok m) 0 c).read_blk_arrAt_eq_flushed 3 (apart m) (cfgM m (ok m)).N t t.isLt (flushes m t)) (ix2 r d)
  have f : (dats m (ok m) 0 c).flushed 3 t (ix2 r d) = outsAt0 m (ok m) c t (ix2 r d) := by
    show (dats m (ok m) 0 c).after 3 t _ = _
    rw [after0_3]
    rfl
  have e : (((cfgM m (ok m)).win 3).blk t).view.emb (ix2 r d)
      = ix2 ⟨2048 * (t.val / 4) + r.val, row_lt m t r⟩ ⟨512 * (t.val % 4) + d.val, tile_lt m t d⟩ := by
    blk_ext
    · refine (congrArg (· * 2048 + r.val) (congrFun (at3 m t) 0)).trans ?_
      show t.val / 4 * 2048 + r.val = _
      omega
    · refine (congrArg (· * 512 + d.val) (congrFun (at3 m t) 1)).trans ?_
      show t.val % 4 * 512 + d.val = _
      omega
  rw [f] at b
  generalize (dats m (ok m) 0 c).arrAt 3 (cfgM m (ok m)).N = A at b ⊢
  refine (congrArg A e.symm).trans (b.trans ?_)
  refine ((out_apply _ _ _ _ _ _ _ _ _ _ _ _ _ _ r d).trans ?_)
  unfold projAt
  simp only [blk0, blk1, blk2, col_eq]

/-- An equality at one place, taken to an equal place. -/
theorem moved {f g : Fin 8192 → Fin 2048 → EReal} {a R : Fin 8192} {b q : Fin 2048} (h : f a b = g a b) (e0 : a = R) (e1 : b = q) :
    f R q = g R q := by
  subst e0 e1
  exact h

/-- The result array at a row and column. -/
theorem result_apply (R : Fin 8192) (q : Fin 2048) : (dats m (ok m) 0 c).arrAt 3 (cfgM m (ok m)).N (ix2 R q) = projAt m c R q := by
  have h := result_at m c ⟨R.val / 2048 * 4 + q.val / 512, by show _ < 16; omega⟩ ⟨R.val % 2048, by omega⟩ ⟨q.val % 512, by omega⟩
  have e0 : (⟨2048 * ((R.val / 2048 * 4 + q.val / 512) / 4) + R.val % 2048, by omega⟩ : Fin 8192) = R := Fin.ext (by simp only []; omega)
  have e1 : (⟨512 * ((R.val / 2048 * 4 + q.val / 512) % 4) + q.val % 512, by omega⟩ : Fin 2048) = q := Fin.ext (by simp only []; omega)
  exact moved (f := fun a b => (dats m (ok m) 0 c).arrAt 3 (cfgM m (ok m)).N (ix2 a b)) (g := projAt m c) h e0 e1

/-- Every run of the kernel ends with the result array named, and its arguments as they were. -/
theorem run_result (ρ : Dev nD → PrngReg) : θ_run defs (onTc (τ := τ) (main (F := Ideal))) ⟨m, fun _ => 0, ρ⟩ fun r => ∀ c : Dev nD,
      r.2.mem ((c : Thread nD τ).loc main_v8) = (dats m (ok m) 0 c).arrAt 3 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ (ok m))

end Cert.Proof.ProjSilu

end
-- ==== Proof.ClaimSilu.lean ====
/- The claims about the projection to the SiLU gates: frames, and equality of the kernel's result with the reference's. -/
module

public import proofs.«01_k».proof.Defs
public import proofs.«01_k».proof.Proof.ProjSilu
public import proofs.«01_k».proof.Proof.Gen.KernelSilu.Frame
public import proofs.«01_k».proof.Proof.Gen.ReferenceSiluIdeal.Read
public import Idealize.ShloMosaic.Lib.Quiescent
public import Idealize.ShloMosaic.Lib.KernelVsHost
public import Idealize.ShloMosaic.Lib.IdealHost

@[expose] public section

set_option maxRecDepth 16384

noncomputable section

namespace Cert.Proof.ProjSilu

open Idealize.ShloMosaic Idealize.ShloMosaic.TcCoe Idealize.SL.Sem

section Machine

open Cert.KernelSilu Cert.KernelSilu.Gen

/-- The row starts that the program writes into its table. -/
def startsBits : pre0.Contents (Elt Bits) :=
  fun | ⟨0, _⟩ => fun x => lit0 (S4.rowMajor x) | ⟨_ + 1, h⟩ => absurd h (by simp)

/-- The table holds them when the call begins. -/
theorem tbl_eqBits (m : (ℓ : Loc nD τ sig) → Buf (Elt Bits) ℓ) : tbl m = startsBits := by
  funext j x
  match j with
  | ⟨0, _⟩ => rfl

/-- Every weight block lies inside the weight, at a multiple of eight rows. -/
theorem okBits (m : (ℓ : Loc nD τ sig) → Buf (Elt Bits) ℓ) : Ok m := by
  unfold Ok; rw [tbl_eqBits]; decide +kernel

end Machine

section Reference

open Cert.ReferenceSiluIdeal Cert.ReferenceSiluIdeal.Gen Cert.ReferenceSiluIdeal.Read
open Idealize.ShloMosaic.StableHlo

/-- An index with the row and column given is that row and column. -/
theorem at_idx {R : Fin 8192} {n : Fin 9752} (i : S8192x9752.Idx) (h0 : (i 0).val = R.val) (h1 : (i 1).val = n.val) : i = ix2 R n := by
  funext a
  match a with
  | ⟨0, _⟩ => exact Fin.ext h0
  | ⟨1, _⟩ => exact Fin.ext h1

/-- The quotient that the reference spells out is the sigmoid. -/
theorem logistic_spelt (z : EReal) : FloatOps.hostDivf (F := Ideal) (φ := FTy.f32) (FloatOps.ofBits (F := Ideal) .f32 0x3F800000#32)
    (FloatOps.addf (F := Ideal) (φ := FTy.f32) (FloatOps.ofBits (F := Ideal) .f32 0x3F800000#32)
      (FloatOps.hostUnary (F := Ideal) (φ := FTy.f32) .exp (FloatOps.hostNegf (F := Ideal) (φ := FTy.f32) z))) = Ideal.logistic z := by
  show Ideal.div (Ideal.ofBits .f32 0x3F800000#32) (Ideal.ofBits .f32 0x3F800000#32 + Ideal.exp (-z)) = _
  simp only [Ideal.ofBits_one_f32]
  rfl

variable (x0 : (⟨S8192x2048, .f32⟩ : BufTy).Contents (Elt Ideal)) (x1 : (⟨S2048x9752, .f32⟩ : BufTy).Contents (Elt Ideal))
  (x2 : (⟨S9752, .f32⟩ : BufTy).Contents (Elt Ideal))

/-- The reference's whole projection, at a row and column. -/
theorem linear_apply (R : Fin 8192) (n : Fin 9752) : val_main_v3 (F := Ideal) x0 x1 x2 (ix2 R n)
    = lin (fun k => x0 (ix2 R k)) (fun k => x1 (ix2 k n)) (x2 (ix1 n)) := by
  rw [val_main_v3_apply, val_main_v0_apply, val_main_v2_apply, val_main_v1_apply]
  refine congrArg₂ (· + ·) (Finset.sum_congr rfl fun k _ => congrArg₂ (· * ·) (congrArg x0 ?_) (congrArg x1 ?_)) (congrArg x2 ?_)
  · funext a
    match a with
    | ⟨0, _⟩ => rfl
    | ⟨1, _⟩ => rfl
  · funext a
    match a with
    | ⟨0, _⟩ => rfl
    | ⟨1, _⟩ => rfl
  · funext a
    match a with
    | ⟨0, _⟩ => rfl

/-- The SiLU of one group of columns. -/
theorem left_apply (i : S8192x1024.Idx) : val_main_v5 (F := Ideal) x0 x1 x2 i = act (val_main_v3 (F := Ideal) x0 x1 x2 (idx_main_v4 i)) := by
  rw [val_main_v5_apply, val_main_call0_v5_apply, val_main_call0_v4_apply, val_main_call0_cst_0_apply, val_main_call0_v3_apply, val_main_call0_v2_apply, val_main_call0_cst_apply, val_main_call0_v1_apply, val_main_call0_v0_apply, val_main_v4_apply]
  generalize val_main_v3 (F := Ideal) x0 x1 x2 (idx_main_v4 i) = z
  exact congrArg (z * ·) (logistic_spelt z)

/-- The SiLU of one group of columns. -/
theorem right_apply (i : S8192x1024.Idx) : val_main_v7 (F := Ideal) x0 x1 x2 i = act (val_main_v3 (F := Ideal) x0 x1 x2 (idx_main_v6 i)) := by
  rw [val_main_v7_apply, val_main_call1_v5_apply, val_main_call1_v4_apply, val_main_call1_cst_0_apply, val_main_call1_v3_apply, val_main_call1_v2_apply, val_main_call1_cst_apply, val_main_call1_v1_apply, val_main_call1_v0_apply, val_main_v6_apply]
  generalize val_main_v3 (F := Ideal) x0 x1 x2 (idx_main_v6 i) = z
  exact congrArg (z * ·) (logistic_spelt z)

/-- The reference's result at a row and column. -/
theorem ref_apply (R : Fin 8192) (q : Fin 2048) : val_main_v9 (F := Ideal) x0 x1 x2 (ix2 R q)
    = act (lin (fun k => x0 (ix2 R k)) (fun k => x1 (ix2 k ⟨src q.val, src_lt q⟩)) (x2 (ix1 ⟨src q.val, src_lt q⟩))) := by
  show val_main_v8 (F := Ideal) x0 x1 x2 (ix2 R q) = _
  unfold val_main_v8
  by_cases h : q.val < 1024
  · rw [concatenate_pair_apply_left (1 : Fin 2) (val_main_v5 (F := Ideal) x0 x1 x2) (val_main_v7 (F := Ideal) x0 x1 x2) _ (ix2 R q) rfl
      (ix2 R ⟨q.val, h⟩) (fun b => by match b with | ⟨0, _⟩ => rfl | ⟨1, _⟩ => rfl), left_apply,
      at_idx (R := R) (n := ⟨src q.val, src_lt q⟩) (idx_main_v4 _) rfl (by show 1024 + q.val = src q.val; simp only [src, if_pos h])]
    exact congrArg act (linear_apply x0 x1 x2 R _)
  · rw [concatenate_pair_apply_right (1 : Fin 2) (val_main_v5 (F := Ideal) x0 x1 x2) (val_main_v7 (F := Ideal) x0 x1 x2) _ (ix2 R q) rfl rfl
      (ix2 R ⟨q.val - 1024, by omega⟩) (fun b hb => by match b with | ⟨0, _⟩ => rfl | ⟨1, _⟩ => exact absurd rfl hb)
      (by show q.val - 1024 + 1024 = q.val; omega), right_apply,
      at_idx (R := R) (n := ⟨src q.val, src_lt q⟩) (idx_main_v6 _) rfl (by show 4632 + (q.val - 1024) = src q.val; simp only [src, if_neg h])]
    exact congrArg act (linear_apply x0 x1 x2 R _)

end Reference

/-- The kernel leaves its arguments as they were. -/
theorem frame : quiescent_KernelSilu := fun m ρ _ => Cert.KernelSilu.Gen.frame m ρ (okBits m)

/-- So does the kernel over the reals. -/
theorem frame_ideal : quiescent_KernelSiluIdeal := fun m ρ _ => Cert.KernelSiluIdeal.Gen.frame m ρ (ok m)

/-- So does the reference. -/
theorem frame_ref : quiescent_ReferenceSiluIdeal := fun m ρ _ =>
  (θ_run _ _ _).mono (fun r h => ⟨fun c => (h c).2, sem_eq_zero_of_no_sems (by decide) r.2⟩) (Cert.ReferenceSiluIdeal.Value.run m ρ)

/-- The kernel and the reference end with equal results and unchanged arguments. -/
theorem equal : algebraic_KernelSiluIdeal_ReferenceSiluIdeal := by
  intro m g m' g' _ he
  refine ⟨fun c => (Cert.KernelSiluIdeal.Gen.dats m (ok m) 0 c).arrAt 3 (Cert.KernelSiluIdeal.Gen.cfgM m (ok m)).N, run_result m g, ?_⟩
  refine (θ_run _ _ _).mono (fun _ h c => ⟨(h c).1.trans ?_, (h c).2⟩) (Cert.ReferenceSiluIdeal.Value.run m' g')
  obtain ⟨e0, e1, e2⟩ := he c
  rw [e0, e1, e2, Cert.ReferenceSiluIdeal.Read.val_main_v9_eq]
  funext i
  obtain ⟨R, d, rfl⟩ : ∃ R d, i = ix2 R d := ⟨_, _, eq_ix2 i⟩
  exact (ref_apply _ _ _ R d).trans (result_apply m c R d).symm

end Cert.Proof.ProjSilu

end
-- ==== Proof.ProjQ.lean ====
/- The input projection's columns for the queries: its frame's side condition, its blocks and its result. -/
module

public import proofs.«01_k».proof.Proof.ProjSpec
public import proofs.«01_k».proof.Proof.KernelOut
public import proofs.«01_k».proof.Proof.Gen.KernelQIdeal.Frame
public import Idealize.ShloMosaic.Lib.Pipeline.ValueKit.Geometry
public import Idealize.ShloMosaic.Lib.Pipeline.Value

@[expose] public section

set_option maxRecDepth 16384

noncomputable section

namespace Cert.Proof.ProjQ

open Cert.KernelQIdeal Cert.KernelQIdeal.Gen
open Idealize.ShloMosaic Idealize.ShloMosaic.TcCoe Idealize.SL.Sem

/-- The row starts that the program writes into its table. -/
def starts : pre0.Contents (Elt Ideal) :=
  fun | ⟨0, _⟩ => fun x => lit0 (S2.rowMajor x) | ⟨_ + 1, h⟩ => absurd h (by simp)

/-- The table holds them when the call begins. -/
theorem tbl_eq (m : (ℓ : Loc nD τ sig) → Buf (Elt Ideal) ℓ) : tbl m = starts := by
  funext j x
  match j with
  | ⟨0, _⟩ => rfl

/-- Every weight block lies inside the weight, at a multiple of eight rows. -/
theorem ok (m : (ℓ : Loc nD τ sig) → Buf (Elt Ideal) ℓ) : Ok m := by
  unfold Ok; rw [tbl_eq]; decide +kernel

/-- The column of the projection that becomes column `q` of this result. -/
def src (q : ℕ) : ℕ := 2048 + q

/-- The column of the projection where the tile of a point begins. -/
def col (t : ℕ) : ℕ := src (512 * (t % 2))

theorem src_lt (q : Fin 1024) : src q.val < 9752 := by simp only [src] <;> omega

theorem tr0 : ∀ t : Fin grid0.N, cc0_transform_0 (grid0.coords t) = ![t.val / 2, 0] := by decide +kernel
theorem tr1 : ∀ t : Fin grid0.N, cc0_transform_1 k0_off1_inb numel1_S1 starts (grid0.coords t) = ![col t.val, 0] := by decide +kernel
theorem tr2 : ∀ t : Fin grid0.N, cc0_transform_2 (grid0.coords t) = ![0, t.val % 2] := by decide +kernel
theorem tr3 : ∀ t : Fin grid0.N, cc0_transform_3 (grid0.coords t) = ![t.val / 2, t.val % 2] := by decide +kernel

variable (m : (ℓ : Loc nD τ sig) → Buf (Elt Ideal) ℓ) (c : Dev nD) (t : Fin (cfgM m (ok m)).N)

/-- Where each window stands at a point. -/
theorem at0 : (pcfg0.win (adm m (ok m)) 0).index t = ![t.val / 2, 0] := tr0 t
theorem at1 : (pcfg0.win (adm m (ok m)) 1).index t = ![col t.val, 0] := by
  refine Eq.trans ?_ (tr1 t)
  show cc0_transform_1 k0_off1_inb numel1_S1 (tbl m) (grid0.coords t) = _
  rw [tbl_eq]
theorem at2 : (pcfg0.win (adm m (ok m)) 2).index t = ![0, t.val % 2] := tr2 t
theorem at3 : (pcfg0.win (adm m (ok m)) 3).index t = ![t.val / 2, t.val % 2] := tr3 t

theorem pt_lt : t.val < 8 := t.isLt

theorem row_lt (r : Fin 2048) : 2048 * (t.val / 2) + r.val < 8192 := by have := pt_lt m t; omega

theorem tile_lt (n : Fin 512) : 512 * (t.val % 2) + n.val < 1024 := by omega

theorem col_eq (n : Fin 512) : col t.val + n.val = src (512 * (t.val % 2) + n.val) := by simp only [col, src] <;> omega

theorem col_lt (n : Fin 512) : col t.val + n.val < 9752 := col_eq m t n ▸ src_lt ⟨_, tile_lt m t n⟩

/-- A point's rows of the layer's input. -/
theorem blk0 (r : Fin 2048) (k : Fin 2048) : iblk m (ok m) c 0 t (ix2 r k)
    = m ((c : Thread nD τ).loc main_arg0) (ix2 ⟨2048 * (t.val / 2) + r.val, row_lt m t r⟩ k) := by
  refine Eq.trans ?_ (congrFun (show V m c main_v0 = m ((c : Thread nD τ).loc main_arg0) from rfl) _)
  blk_simp [iblk]
  refine congrArg _ ?_
  blk_ext
  · refine (congrArg (· * 2048 + r.val) (congrFun (at0 m t) 0)).trans ?_
    show t.val / 2 * 2048 + r.val = _
    omega
  · refine (congrArg (· * 2048 + k.val) (congrFun (at0 m t) 1)).trans ?_
    show 0 * 2048 + k.val = _
    omega

/-- A point's columns of the weight, as rows. -/
theorem blk1 (n : Fin 512) (k : Fin 2048) : iblk m (ok m) c 1 t (ix2 n k)
    = m ((c : Thread nD τ).loc main_arg1) (ix2 k ⟨col t.val + n.val, col_lt m t n⟩) := by
  have e : V m c main_v1 = transpose S9752x2048 [1, 0] (m ((c : Thread nD τ).loc main_arg1)) transposes_S2048x9752_S9752x2048_1_0 := rfl
  have h : ∀ (q : Fin 9752), V m c main_v1 (ix2 q k) = m ((c : Thread nD τ).loc main_arg1) (ix2 k q) := by
    intro q
    rw [e]
    pointwise
  refine Eq.trans ?_ (h _)
  blk_simp [iblk]
  refine congrArg _ ?_
  blk_ext
  · refine Eq.trans (b := (pcfg0.win (adm m (ok m)) 1).index t 0 + 1 * n.val) rfl ?_
    refine (congrArg (· + 1 * n.val) (congrFun (at1 m t) 0)).trans ?_
    show col t.val + 1 * n.val = _
    omega
  · refine Eq.trans (b := (pcfg0.win (adm m (ok m)) 1).index t 1 + 1 * k.val) rfl ?_
    refine (congrArg (· + 1 * k.val) (congrFun (at1 m t) 1)).trans ?_
    show 0 + 1 * k.val = _
    omega

/-- A point's part of the offsets. -/
theorem blk2 (n : Fin 512) : iblk m (ok m) c 2 t (ix2 0 n)
    = m ((c : Thread nD τ).loc main_arg2) (ix1 ⟨col t.val + n.val, col_lt m t n⟩) := by
  have h : ∀ q : Fin 1024, V m c main_v5 (ix2 0 q) = m ((c : Thread nD τ).loc main_arg2) (ix1 ⟨src q.val, src_lt q⟩) := by
    intro q
    have e : V m c main_v5 = concatenate S1x1024 1 [⟨S1x512, extractStridedSlice S1x512 ![0, 2048] (broadcastInDim S1x9752 ![1] bcast_S9752_S1x9752_1 (m ((c : Thread nD τ).loc main_arg2))) slices_S1x9752_S1x512_0_2048⟩, ⟨S1x512, extractStridedSlice S1x512 ![0, 2560] (broadcastInDim S1x9752 ![1] bcast_S9752_S1x9752_1 (m ((c : Thread nD τ).loc main_arg2))) slices_S1x9752_S1x512_0_2560⟩] concatenates_S1x512_S1x512_S1x1024_d1 := rfl
    rw [e]
    pointwise
    split_ifs <;> exact congrArg (fun z => m ((c : Thread nD τ).loc main_arg2) (ix1 z)) (Fin.ext (by simp only [src] <;> omega))
  refine Eq.trans ?_ ((h ⟨512 * (t.val % 2) + n.val, tile_lt m t n⟩).trans ?_)
  · blk_simp [iblk]
    refine congrArg _ ?_
    blk_ext
    · refine (congrArg (· * 1 + 0) (congrFun (at2 m t) 0)).trans ?_
      rfl
    · refine (congrArg (· * 512 + n.val) (congrFun (at2 m t) 1)).trans ?_
      show t.val % 2 * 512 + n.val = _
      omega
  · exact congrArg (fun z => m ((c : Thread nD τ).loc main_arg2) (ix1 z)) (Fin.ext (col_eq m t n).symm)

/-- What is applied to a projected column. -/
def act (z : EReal) : EReal := z * Ideal.ofBits .f32 1040356334#32

/-- A projected column of a row, the row read where it stands in its block. -/
theorem lin_ld (x0 : Vec Ideal S2048x2048 .bf16) (w : Fin 2048 → EReal) (b : EReal) (o : ℕ)
    (inb : ∀ a, ![o, 0] a + S512x2048.size a ≤ S2048x2048.size a) (R : Fin 2048) (r : Fin 512) (h : R.val = o + r.val) :
    lin (fun k => View.ld x0 (Rect.unit (s := S2048x2048) ![o, 0] S512x2048.size inb) (ix2 r k)) w b = lin (fun k => x0 (ix2 R k)) w b :=
  congrArg (fun f => lin f w b) (funext fun k => View.ld_unit_apply_of _ _ _ _ _ _ (Fin.forall_fin_two.mpr ⟨h, (Nat.zero_add _).symm⟩))

/-- What a grid point leaves at row `R` and column `d` of its block. -/
theorem out_apply (c : Dev nD) (i : grid0.Coords) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S2048x512 .bf16) (harg6 : arg6.IsWhole)
    (x0 : Vec Ideal S2048x2048 .bf16) (x1 : Vec Ideal S512x2048 .f32) (x2 : Vec Ideal S1x512 .f32) (xt0 : TbBuf0 (F := Ideal) c tbM0_0)
    (R : Fin 2048) (d : Fin 512) :
    out0_A_3 c i arg3 harg3 arg4 harg4 arg5 harg5 arg6 harg6 x0 x1 x2 xt0 (ix2 R d)
      = act (lin (fun k => x0 (ix2 R k)) (fun k => x1 (ix2 d k)) (x2 (ix2 0 d))) := by
  unfold out0_A_3
  have hc := cover0_A_3 c i arg3 harg3 arg4 harg4 arg5 harg5 arg6 harg6 x0 x1 x2 xt0
  rw [View.read_writes_eq_canon _ _ _ hc]
  refine View.canon_eq_of_allAt _ _ _ (hc _) ?_
  clear hc
  unfold kernelRun0_A
  dsimp only
  sl_unfold_words
  simp only [View.readAt_eq_ld, harg3.read_unread, harg4.read_unread, harg5.read_unread,
    View.ld_unit_zero (S := S512x2048) hz, View.ld_unit_zero (S := S1x512) hz]
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro x hx
    obtain ⟨r, e, rfl⟩ : ∃ (r : Fin 512) (e : Fin 512), x = ix2 r e := ⟨_, _, eq_ix2 x⟩
    obtain rfl : d = e := Fin.ext ((hx 1).trans (Nat.zero_add _))
    rw [← lin_ld x0 _ _ 1536 inb_S2048x2048_S512x2048_1536_0 R r (hx 0)]
    generalize View.ld x0 _ = X
    unfold act lin
    simp only [k0_pay1, k0_pay2, k0_pay3, k0_pay4, k0_pay5, k0_pay6]
    pointwise
  · intro x hx
    obtain ⟨r, e, rfl⟩ : ∃ (r : Fin 512) (e : Fin 512), x = ix2 r e := ⟨_, _, eq_ix2 x⟩
    obtain rfl : d = e := Fin.ext ((hx 1).trans (Nat.zero_add _))
    rw [← lin_ld x0 _ _ 1024 inb_S2048x2048_S512x2048_1024_0 R r (hx 0)]
    generalize View.ld x0 _ = X
    unfold act lin
    simp only [k0_pay1, k0_pay2, k0_pay3, k0_pay4, k0_pay5, k0_pay6]
    pointwise
  · intro x hx
    obtain ⟨r, e, rfl⟩ : ∃ (r : Fin 512) (e : Fin 512), x = ix2 r e := ⟨_, _, eq_ix2 x⟩
    obtain rfl : d = e := Fin.ext ((hx 1).trans (Nat.zero_add _))
    rw [← lin_ld x0 _ _ 512 inb_S2048x2048_S512x2048_512_0 R r (hx 0)]
    generalize View.ld x0 _ = X
    unfold act lin
    simp only [k0_pay1, k0_pay2, k0_pay3, k0_pay4, k0_pay5, k0_pay6]
    pointwise
  · intro x hx
    obtain ⟨r, e, rfl⟩ : ∃ (r : Fin 512) (e : Fin 512), x = ix2 r e := ⟨_, _, eq_ix2 x⟩
    obtain rfl : d = e := Fin.ext ((hx 1).trans (Nat.zero_add _))
    rw [← lin_ld x0 _ _ 0 inb_S2048x2048_S512x2048_0_0 R r (hx 0)]
    generalize View.ld x0 _ = X
    unfold act lin
    simp only [k0_pay1, k0_pay2, k0_pay3, k0_pay4, k0_pay5, k0_pay6]
    pointwise

/-- Every point writes its block back. -/
theorem flushes : ((cfgM m (ok m)).win 3).flush t = true := flush0_3 (adm m (ok m)) t

/-- Distinct points write distinct blocks. -/
theorem apart : ∀ t t' : Fin (cfgM m (ok m)).N, ((cfgM m (ok m)).win 3).flush t = true → ((cfgM m (ok m)).win 3).flush t' = true → t ≠ t' →
    Disjoint (((cfgM m (ok m)).win 3).blk t).view.set (((cfgM m (ok m)).win 3).blk t').view.set := by
  intro t t' _ _ hne
  refine ((cfgM m (ok m)).win 3).disjoint_blk fun h => hne (Fin.ext ?_)
  have e := (at3 m t).symm.trans (h.trans (at3 m t'))
  have h0 : t.val / 2 = t'.val / 2 := congrFun e 0
  have h1 : t.val % 2 = t'.val % 2 := congrFun e 1
  omega

/-- The result at row `R` and column `q`, as a function of the arguments. -/
def projAt (m : (ℓ : Loc nD τ sig) → Buf (Elt Ideal) ℓ) (c : Dev nD) (R : Fin 8192) (q : Fin 1024) : EReal :=
  act (lin (fun k => m ((c : Thread nD τ).loc main_arg0) (ix2 R k)) (fun k => m ((c : Thread nD τ).loc main_arg1) (ix2 k ⟨src q.val, src_lt q⟩))
    (m ((c : Thread nD τ).loc main_arg2) (ix1 ⟨src q.val, src_lt q⟩)))

/-- The result array in the block of a point. -/
theorem result_at (r : Fin 2048) (d : Fin 512) : (dats m (ok m) 0 c).arrAt 3 (cfgM m (ok m)).N
      (ix2 ⟨2048 * (t.val / 2) + r.val, row_lt m t r⟩ ⟨512 * (t.val % 2) + d.val, tile_lt m t d⟩)
    = projAt m c ⟨2048 * (t.val / 2) + r.val, row_lt m t r⟩ ⟨512 * (t.val % 2) + d.val, tile_lt m t d⟩ := by
  have b := congrFun ((dats m (ok m) 0 c).read_blk_arrAt_eq_flushed 3 (apart m) (cfgM m (ok m)).N t t.isLt (flushes m t)) (ix2 r d)
  have f : (dats m (ok m) 0 c).flushed 3 t (ix2 r d) = outsAt0 m (ok m) c t (ix2 r d) := by
    show (dats m (ok m) 0 c).after 3 t _ = _
    rw [after0_3]
    rfl
  have e : (((cfgM m (ok m)).win 3).blk t).view.emb (ix2 r d)
      = ix2 ⟨2048 * (t.val / 2) + r.val, row_lt m t r⟩ ⟨512 * (t.val % 2) + d.val, tile_lt m t d⟩ := by
    blk_ext
    · refine (congrArg (· * 2048 + r.val) (congrFun (at3 m t) 0)).trans ?_
      show t.val / 2 * 2048 + r.val = _
      omega
    · refine (congrArg (· * 512 + d.val) (congrFun (at3 m t) 1)).trans ?_
      show t.val % 2 * 512 + d.val = _
      omega
  rw [f] at b
  generalize (dats m (ok m) 0 c).arrAt 3 (cfgM m (ok m)).N = A at b ⊢
  refine (congrArg A e.symm).trans (b.trans ?_)
  refine ((out_apply _ _ _ _ _ _ _ _ _ _ _ _ _ _ r d).trans ?_)
  unfold projAt
  simp only [blk0, blk1, blk2, col_eq]

/-- An equality at one place, taken to an equal place. -/
theorem moved {f g : Fin 8192 → Fin 1024 → EReal} {a R : Fin 8192} {b q : Fin 1024} (h : f a b = g a b) (e0 : a = R) (e1 : b = q) :
    f R q = g R q := by
  subst e0 e1
  exact h

/-- The result array at a row and column. -/
theorem result_apply (R : Fin 8192) (q : Fin 1024) : (dats m (ok m) 0 c).arrAt 3 (cfgM m (ok m)).N (ix2 R q) = projAt m c R q := by
  have h := result_at m c ⟨R.val / 2048 * 2 + q.val / 512, by show _ < 8; omega⟩ ⟨R.val % 2048, by omega⟩ ⟨q.val % 512, by omega⟩
  have e0 : (⟨2048 * ((R.val / 2048 * 2 + q.val / 512) / 2) + R.val % 2048, by omega⟩ : Fin 8192) = R := Fin.ext (by simp only []; omega)
  have e1 : (⟨512 * ((R.val / 2048 * 2 + q.val / 512) % 2) + q.val % 512, by omega⟩ : Fin 1024) = q := Fin.ext (by simp only []; omega)
  exact moved (f := fun a b => (dats m (ok m) 0 c).arrAt 3 (cfgM m (ok m)).N (ix2 a b)) (g := projAt m c) h e0 e1

/-- Every run of the kernel ends with the result array named, and its arguments as they were. -/
theorem run_result (ρ : Dev nD → PrngReg) : θ_run defs (onTc (τ := τ) (main (F := Ideal))) ⟨m, fun _ => 0, ρ⟩ fun r => ∀ c : Dev nD,
      r.2.mem ((c : Thread nD τ).loc main_v6) = (dats m (ok m) 0 c).arrAt 3 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ (ok m))

end Cert.Proof.ProjQ

end
-- ==== Proof.ClaimQ.lean ====
/- The claims about the projection to the queries: frames, and equality of the kernel's result with the reference's. -/
module

public import proofs.«01_k».proof.Defs
public import proofs.«01_k».proof.Proof.ProjQ
public import proofs.«01_k».proof.Proof.Gen.KernelQ.Frame
public import proofs.«01_k».proof.Proof.Gen.ReferenceQIdeal.Read
public import Idealize.ShloMosaic.Lib.Quiescent
public import Idealize.ShloMosaic.Lib.KernelVsHost
public import Idealize.ShloMosaic.Lib.IdealHost

@[expose] public section

set_option maxRecDepth 16384

noncomputable section

namespace Cert.Proof.ProjQ

open Idealize.ShloMosaic Idealize.ShloMosaic.TcCoe Idealize.SL.Sem

section Machine

open Cert.KernelQ Cert.KernelQ.Gen

/-- The row starts that the program writes into its table. -/
def startsBits : pre0.Contents (Elt Bits) :=
  fun | ⟨0, _⟩ => fun x => lit0 (S2.rowMajor x) | ⟨_ + 1, h⟩ => absurd h (by simp)

/-- The table holds them when the call begins. -/
theorem tbl_eqBits (m : (ℓ : Loc nD τ sig) → Buf (Elt Bits) ℓ) : tbl m = startsBits := by
  funext j x
  match j with
  | ⟨0, _⟩ => rfl

/-- Every weight block lies inside the weight, at a multiple of eight rows. -/
theorem okBits (m : (ℓ : Loc nD τ sig) → Buf (Elt Bits) ℓ) : Ok m := by
  unfold Ok; rw [tbl_eqBits]; decide +kernel

end Machine

section Reference

open Cert.ReferenceQIdeal Cert.ReferenceQIdeal.Gen Cert.ReferenceQIdeal.Read
open Idealize.ShloMosaic.StableHlo

/-- An index with the row and column given is that row and column. -/
theorem at_idx {R : Fin 8192} {n : Fin 9752} (i : S8192x9752.Idx) (h0 : (i 0).val = R.val) (h1 : (i 1).val = n.val) : i = ix2 R n := by
  funext a
  match a with
  | ⟨0, _⟩ => exact Fin.ext h0
  | ⟨1, _⟩ => exact Fin.ext h1

variable (x0 : (⟨S8192x2048, .f32⟩ : BufTy).Contents (Elt Ideal)) (x1 : (⟨S2048x9752, .f32⟩ : BufTy).Contents (Elt Ideal))
  (x2 : (⟨S9752, .f32⟩ : BufTy).Contents (Elt Ideal))

/-- The reference's whole projection, at a row and column. -/
theorem linear_apply (R : Fin 8192) (n : Fin 9752) : val_main_v3 (F := Ideal) x0 x1 x2 (ix2 R n)
    = lin (fun k => x0 (ix2 R k)) (fun k => x1 (ix2 k n)) (x2 (ix1 n)) := by
  rw [val_main_v3_apply, val_main_v0_apply, val_main_v2_apply, val_main_v1_apply]
  refine congrArg₂ (· + ·) (Finset.sum_congr rfl fun k _ => congrArg₂ (· * ·) (congrArg x0 ?_) (congrArg x1 ?_)) (congrArg x2 ?_)
  · funext a
    match a with
    | ⟨0, _⟩ => rfl
    | ⟨1, _⟩ => rfl
  · funext a
    match a with
    | ⟨0, _⟩ => rfl
    | ⟨1, _⟩ => rfl
  · funext a
    match a with
    | ⟨0, _⟩ => rfl

/-- The reference's result at a row and column. -/
theorem ref_apply (R : Fin 8192) (q : Fin 1024) : val_main_v7 (F := Ideal) x0 x1 x2 (ix2 R q)
    = act (lin (fun k => x0 (ix2 R k)) (fun k => x1 (ix2 k ⟨src q.val, src_lt q⟩)) (x2 (ix1 ⟨src q.val, src_lt q⟩))) := by
  rw [val_main_v7_apply, val_main_v6_apply, val_main_v5_apply, val_main_cst_apply, val_main_v4_apply, at_idx (R := R) (n := ⟨src q.val, src_lt q⟩) (idx_main_v4 _) rfl rfl]
  exact congrArg (· * Ideal.ofBits .f32 1040356334#32) (linear_apply x0 x1 x2 R _)

end Reference

/-- The kernel leaves its arguments as they were. -/
theorem frame : quiescent_KernelQ := fun m ρ _ => Cert.KernelQ.Gen.frame m ρ (okBits m)

/-- So does the kernel over the reals. -/
theorem frame_ideal : quiescent_KernelQIdeal := fun m ρ _ => Cert.KernelQIdeal.Gen.frame m ρ (ok m)

/-- So does the reference. -/
theorem frame_ref : quiescent_ReferenceQIdeal := fun m ρ _ =>
  (θ_run _ _ _).mono (fun r h => ⟨fun c => (h c).2, sem_eq_zero_of_no_sems (by decide) r.2⟩) (Cert.ReferenceQIdeal.Value.run m ρ)

/-- The kernel and the reference end with equal results and unchanged arguments. -/
theorem equal : algebraic_KernelQIdeal_ReferenceQIdeal := by
  intro m g m' g' _ he
  refine ⟨fun c => (Cert.KernelQIdeal.Gen.dats m (ok m) 0 c).arrAt 3 (Cert.KernelQIdeal.Gen.cfgM m (ok m)).N, run_result m g, ?_⟩
  refine (θ_run _ _ _).mono (fun _ h c => ⟨(h c).1.trans ?_, (h c).2⟩) (Cert.ReferenceQIdeal.Value.run m' g')
  obtain ⟨e0, e1, e2⟩ := he c
  rw [e0, e1, e2, Cert.ReferenceQIdeal.Read.val_main_v7_eq]
  funext i
  obtain ⟨R, d, rfl⟩ : ∃ R d, i = ix2 R d := ⟨_, _, eq_ix2 i⟩
  exact (ref_apply _ _ _ R d).trans (result_apply m c R d).symm

end Cert.Proof.ProjQ

end
-- ==== Proof.ProjSig.lean ====
/- The input projection's columns for the sigmoid gates: its frame's side condition, its blocks and its result. -/
module

public import proofs.«01_k».proof.Proof.ProjSpec
public import proofs.«01_k».proof.Proof.KernelOut
public import proofs.«01_k».proof.Proof.Gen.KernelSigIdeal.Frame
public import Idealize.ShloMosaic.Lib.Pipeline.ValueKit.Geometry
public import Idealize.ShloMosaic.Lib.Pipeline.Value

@[expose] public section

set_option maxRecDepth 16384

noncomputable section

namespace Cert.Proof.ProjSig

open Cert.KernelSigIdeal Cert.KernelSigIdeal.Gen
open Idealize.ShloMosaic Idealize.ShloMosaic.TcCoe Idealize.SL.Sem

/-- The row starts that the program writes into its table. -/
def starts : pre0.Contents (Elt Ideal) :=
  fun | ⟨0, _⟩ => fun x => lit0 (S9.rowMajor x) | ⟨_ + 1, h⟩ => absurd h (by simp)

/-- The table holds them when the call begins. -/
theorem tbl_eq (m : (ℓ : Loc nD τ sig) → Buf (Elt Ideal) ℓ) : tbl m = starts := by
  funext j x
  match j with
  | ⟨0, _⟩ => rfl

/-- Every weight block lies inside the weight, at a multiple of eight rows. -/
theorem ok (m : (ℓ : Loc nD τ sig) → Buf (Elt Ideal) ℓ) : Ok m := by
  unfold Ok; rw [tbl_eq]; decide +kernel

/-- The column of the projection that becomes column `q` of this result. -/
def src (q : ℕ) : ℕ := if q < 4096 then 5656 + q else 4608 + (q - 4096)

/-- The column of the projection where the tile of a point begins. -/
def col (t : ℕ) : ℕ := src (512 * (t % 9))

theorem src_lt (q : Fin 4608) : src q.val < 9752 := by simp only [src]; split_ifs <;> omega

theorem tr0 : ∀ t : Fin grid0.N, cc0_transform_0 (grid0.coords t) = ![t.val / 9, 0] := by decide +kernel
theorem tr1 : ∀ t : Fin grid0.N, cc0_transform_1 k0_off1_inb numel1_S1 starts (grid0.coords t) = ![col t.val, 0] := by decide +kernel
theorem tr2 : ∀ t : Fin grid0.N, cc0_transform_2 (grid0.coords t) = ![0, t.val % 9] := by decide +kernel
theorem tr3 : ∀ t : Fin grid0.N, cc0_transform_3 (grid0.coords t) = ![t.val / 9, t.val % 9] := by decide +kernel

variable (m : (ℓ : Loc nD τ sig) → Buf (Elt Ideal) ℓ) (c : Dev nD) (t : Fin (cfgM m (ok m)).N)

/-- Where each window stands at a point. -/
theorem at0 : (pcfg0.win (adm m (ok m)) 0).index t = ![t.val / 9, 0] := tr0 t
theorem at1 : (pcfg0.win (adm m (ok m)) 1).index t = ![col t.val, 0] := by
  refine Eq.trans ?_ (tr1 t)
  show cc0_transform_1 k0_off1_inb numel1_S1 (tbl m) (grid0.coords t) = _
  rw [tbl_eq]
theorem at2 : (pcfg0.win (adm m (ok m)) 2).index t = ![0, t.val % 9] := tr2 t
theorem at3 : (pcfg0.win (adm m (ok m)) 3).index t = ![t.val / 9, t.val % 9] := tr3 t

theorem pt_lt : t.val < 36 := t.isLt

theorem row_lt (r : Fin 2048) : 2048 * (t.val / 9) + r.val < 8192 := by have := pt_lt m t; omega

theorem tile_lt (n : Fin 512) : 512 * (t.val % 9) + n.val < 4608 := by omega

theorem col_eq (n : Fin 512) : col t.val + n.val = src (512 * (t.val % 9) + n.val) := by simp only [col, src]; split_ifs <;> omega

theorem col_lt (n : Fin 512) : col t.val + n.val < 9752 := col_eq m t n ▸ src_lt ⟨_, tile_lt m t n⟩

/-- A point's rows of the layer's input. -/
theorem blk0 (r : Fin 2048) (k : Fin 2048) : iblk m (ok m) c 0 t (ix2 r k)
    = m ((c : Thread nD τ).loc main_arg0) (ix2 ⟨2048 * (t.val / 9) + r.val, row_lt m t r⟩ k) := by
  refine Eq.trans ?_ (congrFun (show V m c main_v0 = m ((c : Thread nD τ).loc main_arg0) from rfl) _)
  blk_simp [iblk]
  refine congrArg _ ?_
  blk_ext
  · refine (congrArg (· * 2048 + r.val) (congrFun (at0 m t) 0)).trans ?_
    show t.val / 9 * 2048 + r.val = _
    omega
  · refine (congrArg (· * 2048 + k.val) (congrFun (at0 m t) 1)).trans ?_
    show 0 * 2048 + k.val = _
    omega

/-- A point's columns of the weight, as rows. -/
theorem blk1 (n : Fin 512) (k : Fin 2048) : iblk m (ok m) c 1 t (ix2 n k)
    = m ((c : Thread nD τ).loc main_arg1) (ix2 k ⟨col t.val + n.val, col_lt m t n⟩) := by
  have e : V m c main_v1 = transpose S9752x2048 [1, 0] (m ((c : Thread nD τ).loc main_arg1)) transposes_S2048x9752_S9752x2048_1_0 := rfl
  have h : ∀ (q : Fin 9752), V m c main_v1 (ix2 q k) = m ((c : Thread nD τ).loc main_arg1) (ix2 k q) := by
    intro q
    rw [e]
    pointwise
  refine Eq.trans ?_ (h _)
  blk_simp [iblk]
  refine congrArg _ ?_
  blk_ext
  · refine Eq.trans (b := (pcfg0.win (adm m (ok m)) 1).index t 0 + 1 * n.val) rfl ?_
    refine (congrArg (· + 1 * n.val) (congrFun (at1 m t) 0)).trans ?_
    show col t.val + 1 * n.val = _
    omega
  · refine Eq.trans (b := (pcfg0.win (adm m (ok m)) 1).index t 1 + 1 * k.val) rfl ?_
    refine (congrArg (· + 1 * k.val) (congrFun (at1 m t) 1)).trans ?_
    show 0 + 1 * k.val = _
    omega

/-- A point's part of the offsets. -/
theorem blk2 (n : Fin 512) : iblk m (ok m) c 2 t (ix2 0 n)
    = m ((c : Thread nD τ).loc main_arg2) (ix1 ⟨col t.val + n.val, col_lt m t n⟩) := by
  have h : ∀ q : Fin 4608, V m c main_v12 (ix2 0 q) = m ((c : Thread nD τ).loc main_arg2) (ix1 ⟨src q.val, src_lt q⟩) := by
    intro q
    have e : V m c main_v12 = concatenate S1x4608 1 [⟨S1x512, extractStridedSlice S1x512 ![0, 5656] (broadcastInDim S1x9752 ![1] bcast_S9752_S1x9752_1 (m ((c : Thread nD τ).loc main_arg2))) slices_S1x9752_S1x512_0_5656⟩, ⟨S1x512, extractStridedSlice S1x512 ![0, 6168] (broadcastInDim S1x9752 ![1] bcast_S9752_S1x9752_1 (m ((c : Thread nD τ).loc main_arg2))) slices_S1x9752_S1x512_0_6168⟩, ⟨S1x512, extractStridedSlice S1x512 ![0, 6680] (broadcastInDim S1x9752 ![1] bcast_S9752_S1x9752_1 (m ((c : Thread nD τ).loc main_arg2))) slices_S1x9752_S1x512_0_6680⟩, ⟨S1x512, extractStridedSlice S1x512 ![0, 7192] (broadcastInDim S1x9752 ![1] bcast_S9752_S1x9752_1 (m ((c : Thread nD τ).loc main_arg2))) slices_S1x9752_S1x512_0_7192⟩, ⟨S1x512, extractStridedSlice S1x512 ![0, 7704] (broadcastInDim S1x9752 ![1] bcast_S9752_S1x9752_1 (m ((c : Thread nD τ).loc main_arg2))) slices_S1x9752_S1x512_0_7704⟩, ⟨S1x512, extractStridedSlice S1x512 ![0, 8216] (broadcastInDim S1x9752 ![1] bcast_S9752_S1x9752_1 (m ((c : Thread nD τ).loc main_arg2))) slices_S1x9752_S1x512_0_8216⟩, ⟨S1x512, extractStridedSlice S1x512 ![0, 8728] (broadcastInDim S1x9752 ![1] bcast_S9752_S1x9752_1 (m ((c : Thread nD τ).loc main_arg2))) slices_S1x9752_S1x512_0_8728⟩, ⟨S1x512, extractStridedSlice S1x512 ![0, 9240] (broadcastInDim S1x9752 ![1] bcast_S9752_S1x9752_1 (m ((c : Thread nD τ).loc main_arg2))) slices_S1x9752_S1x512_0_9240⟩, ⟨S1x512, extractStridedSlice S1x512 ![0, 4608] (broadcastInDim S1x9752 ![1] bcast_S9752_S1x9752_1 (m ((c : Thread nD τ).loc main_arg2))) slices_S1x9752_S1x512_0_4608⟩] concatenates_S1x512_S1x512_S1x512_S1x512_S1x512_S1x512_S1x512_S1x512_S1x512_S1x4608_d1 := rfl
    rw [e]
    pointwise
    split_ifs <;> exact congrArg (fun z => m ((c : Thread nD τ).loc main_arg2) (ix1 z)) (Fin.ext (by simp only [src]; split_ifs <;> omega))
  refine Eq.trans ?_ ((h ⟨512 * (t.val % 9) + n.val, tile_lt m t n⟩).trans ?_)
  · blk_simp [iblk]
    refine congrArg _ ?_
    blk_ext
    · refine (congrArg (· * 1 + 0) (congrFun (at2 m t) 0)).trans ?_
      rfl
    · refine (congrArg (· * 512 + n.val) (congrFun (at2 m t) 1)).trans ?_
      show t.val % 9 * 512 + n.val = _
      omega
  · exact congrArg (fun z => m ((c : Thread nD τ).loc main_arg2) (ix1 z)) (Fin.ext (col_eq m t n).symm)

/-- What is applied to a projected column. -/
def act (z : EReal) : EReal := Ideal.logistic z

/-- A projected column of a row, the row read where it stands in its block. -/
theorem lin_ld (x0 : Vec Ideal S2048x2048 .bf16) (w : Fin 2048 → EReal) (b : EReal) (o : ℕ)
    (inb : ∀ a, ![o, 0] a + S512x2048.size a ≤ S2048x2048.size a) (R : Fin 2048) (r : Fin 512) (h : R.val = o + r.val) :
    lin (fun k => View.ld x0 (Rect.unit (s := S2048x2048) ![o, 0] S512x2048.size inb) (ix2 r k)) w b = lin (fun k => x0 (ix2 R k)) w b :=
  congrArg (fun f => lin f w b) (funext fun k => View.ld_unit_apply_of _ _ _ _ _ _ (Fin.forall_fin_two.mpr ⟨h, (Nat.zero_add _).symm⟩))

/-- What a grid point leaves at row `R` and column `d` of its block. -/
theorem out_apply (c : Dev nD) (i : grid0.Coords) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S2048x512 .bf16) (harg6 : arg6.IsWhole)
    (x0 : Vec Ideal S2048x2048 .bf16) (x1 : Vec Ideal S512x2048 .f32) (x2 : Vec Ideal S1x512 .f32) (xt0 : TbBuf0 (F := Ideal) c tbM0_0)
    (R : Fin 2048) (d : Fin 512) :
    out0_A_3 c i arg3 harg3 arg4 harg4 arg5 harg5 arg6 harg6 x0 x1 x2 xt0 (ix2 R d)
      = act (lin (fun k => x0 (ix2 R k)) (fun k => x1 (ix2 d k)) (x2 (ix2 0 d))) := by
  unfold out0_A_3
  have hc := cover0_A_3 c i arg3 harg3 arg4 harg4 arg5 harg5 arg6 harg6 x0 x1 x2 xt0
  rw [View.read_writes_eq_canon _ _ _ hc]
  refine View.canon_eq_of_allAt _ _ _ (hc _) ?_
  clear hc
  unfold kernelRun0_A
  dsimp only
  sl_unfold_words
  simp only [View.readAt_eq_ld, harg3.read_unread, harg4.read_unread, harg5.read_unread,
    View.ld_unit_zero (S := S512x2048) hz, View.ld_unit_zero (S := S1x512) hz]
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro x hx
    obtain ⟨r, e, rfl⟩ : ∃ (r : Fin 512) (e : Fin 512), x = ix2 r e := ⟨_, _, eq_ix2 x⟩
    obtain rfl : d = e := Fin.ext ((hx 1).trans (Nat.zero_add _))
    rw [← lin_ld x0 _ _ 1536 inb_S2048x2048_S512x2048_1536_0 R r (hx 0)]
    generalize View.ld x0 _ = X
    unfold act lin
    simp only [k0_pay1, k0_pay2, k0_pay3, k0_pay4, k0_pay5]
    pointwise
    rw [zero_sub]
    rfl
  · intro x hx
    obtain ⟨r, e, rfl⟩ : ∃ (r : Fin 512) (e : Fin 512), x = ix2 r e := ⟨_, _, eq_ix2 x⟩
    obtain rfl : d = e := Fin.ext ((hx 1).trans (Nat.zero_add _))
    rw [← lin_ld x0 _ _ 1024 inb_S2048x2048_S512x2048_1024_0 R r (hx 0)]
    generalize View.ld x0 _ = X
    unfold act lin
    simp only [k0_pay1, k0_pay2, k0_pay3, k0_pay4, k0_pay5]
    pointwise
    rw [zero_sub]
    rfl
  · intro x hx
    obtain ⟨r, e, rfl⟩ : ∃ (r : Fin 512) (e : Fin 512), x = ix2 r e := ⟨_, _, eq_ix2 x⟩
    obtain rfl : d = e := Fin.ext ((hx 1).trans (Nat.zero_add _))
    rw [← lin_ld x0 _ _ 512 inb_S2048x2048_S512x2048_512_0 R r (hx 0)]
    generalize View.ld x0 _ = X
    unfold act lin
    simp only [k0_pay1, k0_pay2, k0_pay3, k0_pay4, k0_pay5]
    pointwise
    rw [zero_sub]
    rfl
  · intro x hx
    obtain ⟨r, e, rfl⟩ : ∃ (r : Fin 512) (e : Fin 512), x = ix2 r e := ⟨_, _, eq_ix2 x⟩
    obtain rfl : d = e := Fin.ext ((hx 1).trans (Nat.zero_add _))
    rw [← lin_ld x0 _ _ 0 inb_S2048x2048_S512x2048_0_0 R r (hx 0)]
    generalize View.ld x0 _ = X
    unfold act lin
    simp only [k0_pay1, k0_pay2, k0_pay3, k0_pay4, k0_pay5]
    pointwise
    rw [zero_sub]
    rfl

/-- Every point writes its block back. -/
theorem flushes : ((cfgM m (ok m)).win 3).flush t = true := flush0_3 (adm m (ok m)) t

/-- Distinct points write distinct blocks. -/
theorem apart : ∀ t t' : Fin (cfgM m (ok m)).N, ((cfgM m (ok m)).win 3).flush t = true → ((cfgM m (ok m)).win 3).flush t' = true → t ≠ t' →
    Disjoint (((cfgM m (ok m)).win 3).blk t).view.set (((cfgM m (ok m)).win 3).blk t').view.set := by
  intro t t' _ _ hne
  refine ((cfgM m (ok m)).win 3).disjoint_blk fun h => hne (Fin.ext ?_)
  have e := (at3 m t).symm.trans (h.trans (at3 m t'))
  have h0 : t.val / 9 = t'.val / 9 := congrFun e 0
  have h1 : t.val % 9 = t'.val % 9 := congrFun e 1
  omega

/-- The result at row `R` and column `q`, as a function of the arguments. -/
def projAt (m : (ℓ : Loc nD τ sig) → Buf (Elt Ideal) ℓ) (c : Dev nD) (R : Fin 8192) (q : Fin 4608) : EReal :=
  act (lin (fun k => m ((c : Thread nD τ).loc main_arg0) (ix2 R k)) (fun k => m ((c : Thread nD τ).loc main_arg1) (ix2 k ⟨src q.val, src_lt q⟩))
    (m ((c : Thread nD τ).loc main_arg2) (ix1 ⟨src q.val, src_lt q⟩)))

/-- The result array in the block of a point. -/
theorem result_at (r : Fin 2048) (d : Fin 512) : (dats m (ok m) 0 c).arrAt 3 (cfgM m (ok m)).N
      (ix2 ⟨2048 * (t.val / 9) + r.val, row_lt m t r⟩ ⟨512 * (t.val % 9) + d.val, tile_lt m t d⟩)
    = projAt m c ⟨2048 * (t.val / 9) + r.val, row_lt m t r⟩ ⟨512 * (t.val % 9) + d.val, tile_lt m t d⟩ := by
  have b := congrFun ((dats m (ok m) 0 c).read_blk_arrAt_eq_flushed 3 (apart m) (cfgM m (ok m)).N t t.isLt (flushes m t)) (ix2 r d)
  have f : (dats m (ok m) 0 c).flushed 3 t (ix2 r d) = outsAt0 m (ok m) c t (ix2 r d) := by
    show (dats m (ok m) 0 c).after 3 t _ = _
    rw [after0_3]
    rfl
  have e : (((cfgM m (ok m)).win 3).blk t).view.emb (ix2 r d)
      = ix2 ⟨2048 * (t.val / 9) + r.val, row_lt m t r⟩ ⟨512 * (t.val % 9) + d.val, tile_lt m t d⟩ := by
    blk_ext
    · refine (congrArg (· * 2048 + r.val) (congrFun (at3 m t) 0)).trans ?_
      show t.val / 9 * 2048 + r.val = _
      omega
    · refine (congrArg (· * 512 + d.val) (congrFun (at3 m t) 1)).trans ?_
      show t.val % 9 * 512 + d.val = _
      omega
  rw [f] at b
  generalize (dats m (ok m) 0 c).arrAt 3 (cfgM m (ok m)).N = A at b ⊢
  refine (congrArg A e.symm).trans (b.trans ?_)
  refine ((out_apply _ _ _ _ _ _ _ _ _ _ _ _ _ _ r d).trans ?_)
  unfold projAt
  simp only [blk0, blk1, blk2, col_eq]

/-- An equality at one place, taken to an equal place. -/
theorem moved {f g : Fin 8192 → Fin 4608 → EReal} {a R : Fin 8192} {b q : Fin 4608} (h : f a b = g a b) (e0 : a = R) (e1 : b = q) :
    f R q = g R q := by
  subst e0 e1
  exact h

/-- The result array at a row and column. -/
theorem result_apply (R : Fin 8192) (q : Fin 4608) : (dats m (ok m) 0 c).arrAt 3 (cfgM m (ok m)).N (ix2 R q) = projAt m c R q := by
  have h := result_at m c ⟨R.val / 2048 * 9 + q.val / 512, by show _ < 36; omega⟩ ⟨R.val % 2048, by omega⟩ ⟨q.val % 512, by omega⟩
  have e0 : (⟨2048 * ((R.val / 2048 * 9 + q.val / 512) / 9) + R.val % 2048, by omega⟩ : Fin 8192) = R := Fin.ext (by simp only []; omega)
  have e1 : (⟨512 * ((R.val / 2048 * 9 + q.val / 512) % 9) + q.val % 512, by omega⟩ : Fin 4608) = q := Fin.ext (by simp only []; omega)
  exact moved (f := fun a b => (dats m (ok m) 0 c).arrAt 3 (cfgM m (ok m)).N (ix2 a b)) (g := projAt m c) h e0 e1

/-- Every run of the kernel ends with the result array named, and its arguments as they were. -/
theorem run_result (ρ : Dev nD → PrngReg) : θ_run defs (onTc (τ := τ) (main (F := Ideal))) ⟨m, fun _ => 0, ρ⟩ fun r => ∀ c : Dev nD,
      r.2.mem ((c : Thread nD τ).loc main_v13) = (dats m (ok m) 0 c).arrAt 3 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ (ok m))

end Cert.Proof.ProjSig

end
-- ==== Proof.ClaimSig.lean ====
/- The claims about the projection to the sigmoid gates: frames, and equality of the kernel's result with the reference's. -/
module

public import proofs.«01_k».proof.Defs
public import proofs.«01_k».proof.Proof.ProjSig
public import proofs.«01_k».proof.Proof.Gen.KernelSig.Frame
public import proofs.«01_k».proof.Proof.Gen.ReferenceSigIdeal.Read
public import Idealize.ShloMosaic.Lib.Quiescent
public import Idealize.ShloMosaic.Lib.KernelVsHost
public import Idealize.ShloMosaic.Lib.IdealHost

@[expose] public section

set_option maxRecDepth 16384

noncomputable section

namespace Cert.Proof.ProjSig

open Idealize.ShloMosaic Idealize.ShloMosaic.TcCoe Idealize.SL.Sem

section Machine

open Cert.KernelSig Cert.KernelSig.Gen

/-- The row starts that the program writes into its table. -/
def startsBits : pre0.Contents (Elt Bits) :=
  fun | ⟨0, _⟩ => fun x => lit0 (S9.rowMajor x) | ⟨_ + 1, h⟩ => absurd h (by simp)

/-- The table holds them when the call begins. -/
theorem tbl_eqBits (m : (ℓ : Loc nD τ sig) → Buf (Elt Bits) ℓ) : tbl m = startsBits := by
  funext j x
  match j with
  | ⟨0, _⟩ => rfl

/-- Every weight block lies inside the weight, at a multiple of eight rows. -/
theorem okBits (m : (ℓ : Loc nD τ sig) → Buf (Elt Bits) ℓ) : Ok m := by
  unfold Ok; rw [tbl_eqBits]; decide +kernel

end Machine

section Reference

open Cert.ReferenceSigIdeal Cert.ReferenceSigIdeal.Gen Cert.ReferenceSigIdeal.Read
open Idealize.ShloMosaic.StableHlo

/-- An index with the row and column given is that row and column. -/
theorem at_idx {R : Fin 8192} {n : Fin 9752} (i : S8192x9752.Idx) (h0 : (i 0).val = R.val) (h1 : (i 1).val = n.val) : i = ix2 R n := by
  funext a
  match a with
  | ⟨0, _⟩ => exact Fin.ext h0
  | ⟨1, _⟩ => exact Fin.ext h1

/-- The quotient that the reference spells out is the sigmoid. -/
theorem logistic_spelt (z : EReal) : FloatOps.hostDivf (F := Ideal) (φ := FTy.f32) (FloatOps.ofBits (F := Ideal) .f32 0x3F800000#32)
    (FloatOps.addf (F := Ideal) (φ := FTy.f32) (FloatOps.ofBits (F := Ideal) .f32 0x3F800000#32)
      (FloatOps.hostUnary (F := Ideal) (φ := FTy.f32) .exp (FloatOps.hostNegf (F := Ideal) (φ := FTy.f32) z))) = Ideal.logistic z := by
  show Ideal.div (Ideal.ofBits .f32 0x3F800000#32) (Ideal.ofBits .f32 0x3F800000#32 + Ideal.exp (-z)) = _
  simp only [Ideal.ofBits_one_f32]
  rfl

variable (x0 : (⟨S8192x2048, .f32⟩ : BufTy).Contents (Elt Ideal)) (x1 : (⟨S2048x9752, .f32⟩ : BufTy).Contents (Elt Ideal))
  (x2 : (⟨S9752, .f32⟩ : BufTy).Contents (Elt Ideal))

/-- The reference's whole projection, at a row and column. -/
theorem linear_apply (R : Fin 8192) (n : Fin 9752) : val_main_v3 (F := Ideal) x0 x1 x2 (ix2 R n)
    = lin (fun k => x0 (ix2 R k)) (fun k => x1 (ix2 k n)) (x2 (ix1 n)) := by
  rw [val_main_v3_apply, val_main_v0_apply, val_main_v2_apply, val_main_v1_apply]
  refine congrArg₂ (· + ·) (Finset.sum_congr rfl fun k _ => congrArg₂ (· * ·) (congrArg x0 ?_) (congrArg x1 ?_)) (congrArg x2 ?_)
  · funext a
    match a with
    | ⟨0, _⟩ => rfl
    | ⟨1, _⟩ => rfl
  · funext a
    match a with
    | ⟨0, _⟩ => rfl
    | ⟨1, _⟩ => rfl
  · funext a
    match a with
    | ⟨0, _⟩ => rfl

/-- The sigmoid of one group of columns. -/
theorem left_apply (i : S8192x4096.Idx) : val_main_v10 (F := Ideal) x0 x1 x2 i = act (val_main_v3 (F := Ideal) x0 x1 x2 (idx_main_v4 i)) := by
  rw [val_main_v10_apply, val_main_v9_apply, val_main_cst_0_apply, val_main_v8_apply, val_main_v7_apply, val_main_cst_apply, val_main_v6_apply, val_main_v5_apply, val_main_v4_apply]
  generalize val_main_v3 (F := Ideal) x0 x1 x2 (idx_main_v4 i) = z
  exact logistic_spelt z

/-- The sigmoid of one group of columns. -/
theorem right_apply (i : S8192x512.Idx) : val_main_v17 (F := Ideal) x0 x1 x2 i = act (val_main_v3 (F := Ideal) x0 x1 x2 (idx_main_v11 i)) := by
  rw [val_main_v17_apply, val_main_v16_apply, val_main_cst_2_apply, val_main_v15_apply, val_main_v14_apply, val_main_cst_1_apply, val_main_v13_apply, val_main_v12_apply, val_main_v11_apply]
  generalize val_main_v3 (F := Ideal) x0 x1 x2 (idx_main_v11 i) = z
  exact logistic_spelt z

/-- The reference's result at a row and column. -/
theorem ref_apply (R : Fin 8192) (q : Fin 4608) : val_main_v19 (F := Ideal) x0 x1 x2 (ix2 R q)
    = act (lin (fun k => x0 (ix2 R k)) (fun k => x1 (ix2 k ⟨src q.val, src_lt q⟩)) (x2 (ix1 ⟨src q.val, src_lt q⟩))) := by
  show val_main_v18 (F := Ideal) x0 x1 x2 (ix2 R q) = _
  unfold val_main_v18
  by_cases h : q.val < 4096
  · rw [concatenate_pair_apply_left (1 : Fin 2) (val_main_v10 (F := Ideal) x0 x1 x2) (val_main_v17 (F := Ideal) x0 x1 x2) _ (ix2 R q) rfl
      (ix2 R ⟨q.val, h⟩) (fun b => by match b with | ⟨0, _⟩ => rfl | ⟨1, _⟩ => rfl), left_apply,
      at_idx (R := R) (n := ⟨src q.val, src_lt q⟩) (idx_main_v4 _) rfl (by show 5656 + q.val = src q.val; simp only [src, if_pos h])]
    exact congrArg act (linear_apply x0 x1 x2 R _)
  · rw [concatenate_pair_apply_right (1 : Fin 2) (val_main_v10 (F := Ideal) x0 x1 x2) (val_main_v17 (F := Ideal) x0 x1 x2) _ (ix2 R q) rfl rfl
      (ix2 R ⟨q.val - 4096, by omega⟩) (fun b hb => by match b with | ⟨0, _⟩ => rfl | ⟨1, _⟩ => exact absurd rfl hb)
      (by show q.val - 4096 + 4096 = q.val; omega), right_apply,
      at_idx (R := R) (n := ⟨src q.val, src_lt q⟩) (idx_main_v11 _) rfl (by show 4608 + (q.val - 4096) = src q.val; simp only [src, if_neg h])]
    exact congrArg act (linear_apply x0 x1 x2 R _)

end Reference

/-- The kernel leaves its arguments as they were. -/
theorem frame : quiescent_KernelSig := fun m ρ _ => Cert.KernelSig.Gen.frame m ρ (okBits m)

/-- So does the kernel over the reals. -/
theorem frame_ideal : quiescent_KernelSigIdeal := fun m ρ _ => Cert.KernelSigIdeal.Gen.frame m ρ (ok m)

/-- So does the reference. -/
theorem frame_ref : quiescent_ReferenceSigIdeal := fun m ρ _ =>
  (θ_run _ _ _).mono (fun r h => ⟨fun c => (h c).2, sem_eq_zero_of_no_sems (by decide) r.2⟩) (Cert.ReferenceSigIdeal.Value.run m ρ)

/-- The kernel and the reference end with equal results and unchanged arguments. -/
theorem equal : algebraic_KernelSigIdeal_ReferenceSigIdeal := by
  intro m g m' g' _ he
  refine ⟨fun c => (Cert.KernelSigIdeal.Gen.dats m (ok m) 0 c).arrAt 3 (Cert.KernelSigIdeal.Gen.cfgM m (ok m)).N, run_result m g, ?_⟩
  refine (θ_run _ _ _).mono (fun _ h c => ⟨(h c).1.trans ?_, (h c).2⟩) (Cert.ReferenceSigIdeal.Value.run m' g')
  obtain ⟨e0, e1, e2⟩ := he c
  rw [e0, e1, e2, Cert.ReferenceSigIdeal.Read.val_main_v19_eq]
  funext i
  obtain ⟨R, d, rfl⟩ : ∃ R d, i = ix2 R d := ⟨_, _, eq_ix2 i⟩
  exact (ref_apply _ _ _ R d).trans (result_apply m c R d).symm

end Cert.Proof.ProjSig

end
-- ==== Proof.KvKit.lean ====
/- The projection to the keys and values, launched: its memory when the call begins, its tables, its blocks. -/
module

public import proofs.«01_k».proof.Proof.Gen.KernelKvIdeal.Launch
public import proofs.«01_k».proof.Proof.Gen.KernelKvIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Proof.Kv

open Cert.KernelKvIdeal Cert.KernelKvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A core's buffers when the call begins: what the lines before it make of the launch memory. -/
abbrev V (c : Dev nD) (b : Ref sig .tc) : Buf (Elt F) ((c : Thread nD τ).loc b) := StableHlo.after hostOps0 (fun b => m (c, b)) b

theorem fresh_ops : (hostOps0 : List (HloOp τ sig (Elt F))).Forall fun op => op.fresh = ∅ := by
  simp only [List.Forall]; repeat' constructor

set_option maxHeartbeats 800000 in
/-- The program is those lines and then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh_ops main_chain

/-- Argument 0 is as launched when the call begins. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, Finset.mem_singleton]
    repeat' apply And.intro
    all_goals exact StableHlo.devRef_ne_of_ne (by decide)))

/-- Argument 1 is as launched when the call begins. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, Finset.mem_singleton]
    repeat' apply And.intro
    all_goals exact StableHlo.devRef_ne_of_ne (by decide)))

/-- Argument 2 is as launched when the call begins. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, Finset.mem_singleton]
    repeat' apply And.intro
    all_goals exact StableHlo.devRef_ne_of_ne (by decide)))

/-- The table's contents when the call begins. -/
def tbl : pre0.Contents (Elt F) := fun j => V m (0 : Dev nD) (pre0.ref j)

/-- There is one device, so every device's table holds them. -/
theorem V_pre (c : Dev nD) (j : Fin 1) : V m c (pre0.ref j) = tbl m j := by
  obtain rfl : c = 0 := Subsingleton.elim _ _; rfl

/-- Every weight block that the table names lies inside the weight, at a multiple of eight rows. -/
abbrev Ok : Prop := ok0 (F := F) (tbl m)

/-- The pipeline at these contents. -/
abbrev adm (hO : Ok m) : (pcfg0 (F := F)).Adm := ⟨tbl m, hO⟩
abbrev cfgM (hO : Ok m) : Pipeline.Cfg sig Λ₀ := cfg0 (adm m hO)

/-- Window `w`'s block at a point, as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The buffer of input 0 holds its block at every point. -/
theorem before_in0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The buffer of input 1 holds its block at every point. -/
theorem before_in1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The buffer of input 2 holds its block at every point. -/
theorem before_in2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The frame's statement, from a run whose arrays are those the call finds. -/
theorem frame_of (ρ : Dev nD → PrngReg) (hO : Ok m) (dats : (p : Fin 1) → (c : Dev nD) → Dat τ (Elt F) Unit ℕ (UR sig nD τ) ℕ ((Pipeline.pin pcfgs fun _ => adm m hO) p) c)
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

/-- The body's first case is taken at the points of tile 0, -/
theorem cond1 : ∀ t : Fin grid0.N, k0_cond1 (grid0.coords t) = 1#1 ↔ t.val % 3 = 0 := by decide +kernel
/-- its second at those of tile 1, -/
theorem cond2 : ∀ t : Fin grid0.N, k0_cond2 (grid0.coords t) = 1#1 ↔ t.val % 3 = 1 := by decide +kernel
/-- and its third at those of tile 2. -/
theorem cond3 : ∀ t : Fin grid0.N, k0_cond3 (grid0.coords t) = 1#1 ↔ t.val % 3 = 2 := by decide +kernel

end Cert.Proof.Kv

end
-- ==== Proof.KvRun0.lean ====
/- The body at the points of tile 0: a run of the program's lines, which finds what they leave in two results. -/
module

public import proofs.«01_k».proof.Proof.KvKit

@[expose] public section

set_option maxRecDepth 16384

noncomputable section

namespace Cert.Proof.Kv

open Cert.KernelKvIdeal Cert.KernelKvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point of tile 0 the body stores into two results: what it leaves there, as the pieces stored, last first, and
    the proof that it runs so, its inputs kept. -/
def run0 (c : Dev nD) (i : grid0.Coords) (arg2 : Memref sig .tc .smem S3 .i32) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole)
    (hc1 : k0_cond1 i = 1#1) (hc2 : ¬k0_cond2 i = 1#1) (hc3 : ¬k0_cond3 i = 1#1)
    (x0 : Vec F S2048x2048 .bf16) (x1 : Vec F S512x2048 .f32) (x2 : Vec F S1x512 .f32) :
    { L : List (View.Piece (Elt F) S4096x128 .f32) × List (View.Piece (Elt F) S4096x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc0_proj_kv i arg2 harg2 arg3 harg3 arg4 harg4 arg5 harg5 arg6 harg6 arg7 harg7 arg8 harg8 arg9 harg9 arg10 harg10 arg11 harg11) K } := by
  refine ⟨⟨?_, ?_⟩, fun E K => ?run⟩
  case run =>
    simp only [cc0_proj_kv_eq_skeleton]; unfold cc0_proj_kv_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg3.eq_unread hf0; obtain rfl := harg4.eq_unread hf1; obtain rfl := harg5.eq_unread hf2
    sl_exec (disch := first | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact H4

end Cert.Proof.Kv

end
-- ==== Proof.KvRun1.lean ====
/- The body at the points of tile 1: a run of the program's lines, which finds what they leave in two results. -/
module

public import proofs.«01_k».proof.Proof.KvRun0

@[expose] public section

set_option maxRecDepth 16384

noncomputable section

namespace Cert.Proof.Kv

open Cert.KernelKvIdeal Cert.KernelKvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point of tile 1 the body stores into two results: what it leaves there, as the pieces stored, last first, and
    the proof that it runs so, its inputs kept. -/
def run1 (c : Dev nD) (i : grid0.Coords) (arg2 : Memref sig .tc .smem S3 .i32) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole)
    (hc1 : ¬k0_cond1 i = 1#1) (hc2 : k0_cond2 i = 1#1) (hc3 : ¬k0_cond3 i = 1#1)
    (x0 : Vec F S2048x2048 .bf16) (x1 : Vec F S512x2048 .f32) (x2 : Vec F S1x512 .f32) :
    { L : List (View.Piece (Elt F) S4096x128 .f32) × List (View.Piece (Elt F) S4096x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2)) -∗ K ⟨⟩))
          ⊢ wp frame (wpE (defs₀ (F := F)) Variants.none c none) E (cc0_proj_kv i arg2 harg2 arg3 harg3 arg4 harg4 arg5 harg5 arg6 harg6 arg7 harg7 arg8 harg8 arg9 harg9 arg10 harg10 arg11 harg11) K } := by
  refine ⟨⟨?_, ?_⟩, fun E K => ?run⟩
  case run =>
    simp only [cc0_proj_kv_eq_skeleton]; unfold cc0_proj_kv_skel
    simp only [k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg3.eq_unread hf0; obtain rfl := harg4.eq_unread hf1; obtain rfl := harg5.eq_unread hf2
    sl_exec (disch := first | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact H4

end Cert.Proof.Kv

end
-- ==== Proof.KvRun2.lean ====
/- The body at the points of tile 2: a run of the program's lines, which finds what they leave in two results. -/
module

public import proofs.«01_k».proof.Proof.KvRun1

@[expose] public section

set_option maxRecDepth 16384

noncomputable section

namespace Cert.Proof.Kv

open Cert.KernelKvIdeal Cert.KernelKvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point of tile 2 the body stores into two results: what it leaves there, as the pieces stored, last first, and
    the proof that it runs so, its inputs kept. -/
def run2 (c : Dev nD) (i : grid0.Coords) (arg2 : Memref sig .tc .smem S3 .i32) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole)
    (hc1 : ¬k0_cond1 i = 1#1) (hc2 : ¬k0_cond2 i = 1#1) (hc3 : k0_cond3 i = 1#1)
    (x0 : Vec F S2048x2048 .bf16) (x1 : Vec F S512x2048 .f32) (x2 : Vec F S1x512 .f32) :
    { L : List (View.Piece (Elt F) S4096x128 .f32) × List (View.Piece (Elt F) S4096x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2
                ∗ (∃ f, arg10.view.loc (c : Thread nD τ) ↦[arg10.view.set]{fullShare} arg10.view.writes (Elt F) f L.1)
                ∗ (∃ f, arg11.view.loc (c : Thread nD τ) ↦[arg11.view.set]{fullShare} arg11.view.writes (Elt F) f L.2)) -∗ K ⟨⟩))
          ⊢ wp frame (wpE (defs₀ (F := F)) Variants.none c none) E (cc0_proj_kv i arg2 harg2 arg3 harg3 arg4 harg4 arg5 harg5 arg6 harg6 arg7 harg7 arg8 harg8 arg9 harg9 arg10 harg10 arg11 harg11) K } := by
  refine ⟨⟨?_, ?_⟩, fun E K => ?run⟩
  case run =>
    simp only [cc0_proj_kv_eq_skeleton]; unfold cc0_proj_kv_skel
    simp only [k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg3.eq_unread hf0; obtain rfl := harg4.eq_unread hf1; obtain rfl := harg5.eq_unread hf2
    sl_exec (disch := first | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact H4

end Cert.Proof.Kv

end
-- ==== Proof.KvCover.lean ====
/- The strided pieces that a point stores into a result cover its block, row by row. -/
module

public import proofs.«01_k».proof.Proof.KvRun2

@[expose] public section

set_option maxRecDepth 16384

noncomputable section

namespace Cert.Proof.Kv

open Cert.KernelKvIdeal Cert.KernelKvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A place in the first piece of a list, or in one of the rest, is in one of the list. -/
theorem cov_cons {y : S4096x128.Idx} (p : View.Piece (Elt F) S4096x128 .f32) (L : List (View.Piece (Elt F) S4096x128 .f32))
    (h : y ∈ p.1.set ∨ ∃ q ∈ L, y ∈ q.1.set) : ∃ q ∈ p :: L, y ∈ q.1.set := by
  rcases h with h | ⟨q, hq, h⟩
  · exact ⟨p, List.mem_cons_self, h⟩
  · exact ⟨q, List.mem_cons_of_mem _ hq, h⟩

/-- The rectangle of every second row from row `1024 b + h`, 512 of them, holds the rows of its parity in its part. -/
theorem in_piece (o b h : ℕ) (ho : o = 1024 * b + h) (inb) (pos) (y : S4096x128.Idx) (e : (y 0).val / 1024 = b ∧ (y 0).val % 2 = h) :
    y ∈ (⟨(⟨![o, 0], S512x128.size, ![2, 1], inb⟩ : LoadRect S4096x128), pos⟩ : Rect S4096x128).set := by
  refine (LoadRect.mem_set _).mpr (Fin.forall_fin_two.mpr ⟨⟨(y 0).val % 1024 / 2, ?_, ?_⟩, ⟨(y 1).val, ?_, ?_⟩⟩)
  · show _ < 512
    omega
  · show (y 0).val = o + 2 * _
    omega
  · exact (y 1).isLt
  · show (y 1).val = 0 + 1 * (y 1).val
    omega

/-- At tile 0 the first result's pieces cover it. -/
theorem cover0_1 (c : Dev nD) (i : grid0.Coords) (arg2 : Memref sig .tc .smem S3 .i32) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (hc1 : k0_cond1 i = 1#1) (hc2 : ¬k0_cond2 i = 1#1) (hc3 : ¬k0_cond3 i = 1#1)
    (x0 : Vec F S2048x2048 .bf16) (x1 : Vec F S512x2048 .f32) (x2 : Vec F S1x512 .f32) (y : S4096x128.Idx) :
    ∃ q ∈ (run0 c i arg2 harg2 arg3 harg3 arg4 harg4 arg5 harg5 arg6 harg6 arg7 harg7 arg8 harg8 arg9 harg9 arg10 harg10 arg11 harg11 hc1 hc2 hc3 x0 x1 x2).1.1, y ∈ q.1.set := by
  have hy : (y 0).val < 4096 := (y 0).isLt
  unfold run0
  dsimp only
  refine cov_cons _ _ ?_
  by_cases e31 : (y 0).val / 1024 = 3 ∧ (y 0).val % 2 = 1
  · exact .inl (in_piece 3073 3 1 rfl _ _ y e31)
  right
  refine cov_cons _ _ ?_
  by_cases e30 : (y 0).val / 1024 = 3 ∧ (y 0).val % 2 = 0
  · exact .inl (in_piece 3072 3 0 rfl _ _ y e30)
  right
  refine cov_cons _ _ ?_
  by_cases e21 : (y 0).val / 1024 = 2 ∧ (y 0).val % 2 = 1
  · exact .inl (in_piece 2049 2 1 rfl _ _ y e21)
  right
  refine cov_cons _ _ ?_
  by_cases e20 : (y 0).val / 1024 = 2 ∧ (y 0).val % 2 = 0
  · exact .inl (in_piece 2048 2 0 rfl _ _ y e20)
  right
  refine cov_cons _ _ ?_
  by_cases e11 : (y 0).val / 1024 = 1 ∧ (y 0).val % 2 = 1
  · exact .inl (in_piece 1025 1 1 rfl _ _ y e11)
  right
  refine cov_cons _ _ ?_
  by_cases e10 : (y 0).val / 1024 = 1 ∧ (y 0).val % 2 = 0
  · exact .inl (in_piece 1024 1 0 rfl _ _ y e10)
  right
  refine cov_cons _ _ ?_
  by_cases e01 : (y 0).val / 1024 = 0 ∧ (y 0).val % 2 = 1
  · exact .inl (in_piece 1 0 1 rfl _ _ y e01)
  right
  refine cov_cons _ _ ?_
  by_cases e00 : (y 0).val / 1024 = 0 ∧ (y 0).val % 2 = 0
  · exact .inl (in_piece 0 0 0 rfl _ _ y e00)
  right
  exfalso
  omega

/-- At tile 0 the second result's pieces cover it. -/
theorem cover0_2 (c : Dev nD) (i : grid0.Coords) (arg2 : Memref sig .tc .smem S3 .i32) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (hc1 : k0_cond1 i = 1#1) (hc2 : ¬k0_cond2 i = 1#1) (hc3 : ¬k0_cond3 i = 1#1)
    (x0 : Vec F S2048x2048 .bf16) (x1 : Vec F S512x2048 .f32) (x2 : Vec F S1x512 .f32) (y : S4096x128.Idx) :
    ∃ q ∈ (run0 c i arg2 harg2 arg3 harg3 arg4 harg4 arg5 harg5 arg6 harg6 arg7 harg7 arg8 harg8 arg9 harg9 arg10 harg10 arg11 harg11 hc1 hc2 hc3 x0 x1 x2).1.2, y ∈ q.1.set := by
  have hy : (y 0).val < 4096 := (y 0).isLt
  unfold run0
  dsimp only
  refine cov_cons _ _ ?_
  by_cases e31 : (y 0).val / 1024 = 3 ∧ (y 0).val % 2 = 1
  · exact .inl (in_piece 3073 3 1 rfl _ _ y e31)
  right
  refine cov_cons _ _ ?_
  by_cases e30 : (y 0).val / 1024 = 3 ∧ (y 0).val % 2 = 0
  · exact .inl (in_piece 3072 3 0 rfl _ _ y e30)
  right
  refine cov_cons _ _ ?_
  by_cases e21 : (y 0).val / 1024 = 2 ∧ (y 0).val % 2 = 1
  · exact .inl (in_piece 2049 2 1 rfl _ _ y e21)
  right
  refine cov_cons _ _ ?_
  by_cases e20 : (y 0).val / 1024 = 2 ∧ (y 0).val % 2 = 0
  · exact .inl (in_piece 2048 2 0 rfl _ _ y e20)
  right
  refine cov_cons _ _ ?_
  by_cases e11 : (y 0).val / 1024 = 1 ∧ (y 0).val % 2 = 1
  · exact .inl (in_piece 1025 1 1 rfl _ _ y e11)
  right
  refine cov_cons _ _ ?_
  by_cases e10 : (y 0).val / 1024 = 1 ∧ (y 0).val % 2 = 0
  · exact .inl (in_piece 1024 1 0 rfl _ _ y e10)
  right
  refine cov_cons _ _ ?_
  by_cases e01 : (y 0).val / 1024 = 0 ∧ (y 0).val % 2 = 1
  · exact .inl (in_piece 1 0 1 rfl _ _ y e01)
  right
  refine cov_cons _ _ ?_
  by_cases e00 : (y 0).val / 1024 = 0 ∧ (y 0).val % 2 = 0
  · exact .inl (in_piece 0 0 0 rfl _ _ y e00)
  right
  exfalso
  omega

/-- At tile 1 the first result's pieces cover it. -/
theorem cover1_1 (c : Dev nD) (i : grid0.Coords) (arg2 : Memref sig .tc .smem S3 .i32) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (hc1 : ¬k0_cond1 i = 1#1) (hc2 : k0_cond2 i = 1#1) (hc3 : ¬k0_cond3 i = 1#1)
    (x0 : Vec F S2048x2048 .bf16) (x1 : Vec F S512x2048 .f32) (x2 : Vec F S1x512 .f32) (y : S4096x128.Idx) :
    ∃ q ∈ (run1 c i arg2 harg2 arg3 harg3 arg4 harg4 arg5 harg5 arg6 harg6 arg7 harg7 arg8 harg8 arg9 harg9 arg10 harg10 arg11 harg11 hc1 hc2 hc3 x0 x1 x2).1.1, y ∈ q.1.set := by
  have hy : (y 0).val < 4096 := (y 0).isLt
  unfold run1
  dsimp only
  refine cov_cons _ _ ?_
  by_cases e31 : (y 0).val / 1024 = 3 ∧ (y 0).val % 2 = 1
  · exact .inl (in_piece 3073 3 1 rfl _ _ y e31)
  right
  refine cov_cons _ _ ?_
  by_cases e30 : (y 0).val / 1024 = 3 ∧ (y 0).val % 2 = 0
  · exact .inl (in_piece 3072 3 0 rfl _ _ y e30)
  right
  refine cov_cons _ _ ?_
  by_cases e21 : (y 0).val / 1024 = 2 ∧ (y 0).val % 2 = 1
  · exact .inl (in_piece 2049 2 1 rfl _ _ y e21)
  right
  refine cov_cons _ _ ?_
  by_cases e20 : (y 0).val / 1024 = 2 ∧ (y 0).val % 2 = 0
  · exact .inl (in_piece 2048 2 0 rfl _ _ y e20)
  right
  refine cov_cons _ _ ?_
  by_cases e11 : (y 0).val / 1024 = 1 ∧ (y 0).val % 2 = 1
  · exact .inl (in_piece 1025 1 1 rfl _ _ y e11)
  right
  refine cov_cons _ _ ?_
  by_cases e10 : (y 0).val / 1024 = 1 ∧ (y 0).val % 2 = 0
  · exact .inl (in_piece 1024 1 0 rfl _ _ y e10)
  right
  refine cov_cons _ _ ?_
  by_cases e01 : (y 0).val / 1024 = 0 ∧ (y 0).val % 2 = 1
  · exact .inl (in_piece 1 0 1 rfl _ _ y e01)
  right
  refine cov_cons _ _ ?_
  by_cases e00 : (y 0).val / 1024 = 0 ∧ (y 0).val % 2 = 0
  · exact .inl (in_piece 0 0 0 rfl _ _ y e00)
  right
  exfalso
  omega

/-- At tile 1 the second result's pieces cover it. -/
theorem cover1_2 (c : Dev nD) (i : grid0.Coords) (arg2 : Memref sig .tc .smem S3 .i32) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (hc1 : ¬k0_cond1 i = 1#1) (hc2 : k0_cond2 i = 1#1) (hc3 : ¬k0_cond3 i = 1#1)
    (x0 : Vec F S2048x2048 .bf16) (x1 : Vec F S512x2048 .f32) (x2 : Vec F S1x512 .f32) (y : S4096x128.Idx) :
    ∃ q ∈ (run1 c i arg2 harg2 arg3 harg3 arg4 harg4 arg5 harg5 arg6 harg6 arg7 harg7 arg8 harg8 arg9 harg9 arg10 harg10 arg11 harg11 hc1 hc2 hc3 x0 x1 x2).1.2, y ∈ q.1.set := by
  have hy : (y 0).val < 4096 := (y 0).isLt
  unfold run1
  dsimp only
  refine cov_cons _ _ ?_
  by_cases e31 : (y 0).val / 1024 = 3 ∧ (y 0).val % 2 = 1
  · exact .inl (in_piece 3073 3 1 rfl _ _ y e31)
  right
  refine cov_cons _ _ ?_
  by_cases e30 : (y 0).val / 1024 = 3 ∧ (y 0).val % 2 = 0
  · exact .inl (in_piece 3072 3 0 rfl _ _ y e30)
  right
  refine cov_cons _ _ ?_
  by_cases e21 : (y 0).val / 1024 = 2 ∧ (y 0).val % 2 = 1
  · exact .inl (in_piece 2049 2 1 rfl _ _ y e21)
  right
  refine cov_cons _ _ ?_
  by_cases e20 : (y 0).val / 1024 = 2 ∧ (y 0).val % 2 = 0
  · exact .inl (in_piece 2048 2 0 rfl _ _ y e20)
  right
  refine cov_cons _ _ ?_
  by_cases e11 : (y 0).val / 1024 = 1 ∧ (y 0).val % 2 = 1
  · exact .inl (in_piece 1025 1 1 rfl _ _ y e11)
  right
  refine cov_cons _ _ ?_
  by_cases e10 : (y 0).val / 1024 = 1 ∧ (y 0).val % 2 = 0
  · exact .inl (in_piece 1024 1 0 rfl _ _ y e10)
  right
  refine cov_cons _ _ ?_
  by_cases e01 : (y 0).val / 1024 = 0 ∧ (y 0).val % 2 = 1
  · exact .inl (in_piece 1 0 1 rfl _ _ y e01)
  right
  refine cov_cons _ _ ?_
  by_cases e00 : (y 0).val / 1024 = 0 ∧ (y 0).val % 2 = 0
  · exact .inl (in_piece 0 0 0 rfl _ _ y e00)
  right
  exfalso
  omega

/-- At tile 2 the first result's pieces cover it. -/
theorem cover2_1 (c : Dev nD) (i : grid0.Coords) (arg2 : Memref sig .tc .smem S3 .i32) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (hc1 : ¬k0_cond1 i = 1#1) (hc2 : ¬k0_cond2 i = 1#1) (hc3 : k0_cond3 i = 1#1)
    (x0 : Vec F S2048x2048 .bf16) (x1 : Vec F S512x2048 .f32) (x2 : Vec F S1x512 .f32) (y : S4096x128.Idx) :
    ∃ q ∈ (run2 c i arg2 harg2 arg3 harg3 arg4 harg4 arg5 harg5 arg6 harg6 arg7 harg7 arg8 harg8 arg9 harg9 arg10 harg10 arg11 harg11 hc1 hc2 hc3 x0 x1 x2).1.1, y ∈ q.1.set := by
  have hy : (y 0).val < 4096 := (y 0).isLt
  unfold run2
  dsimp only
  refine cov_cons _ _ ?_
  by_cases e31 : (y 0).val / 1024 = 3 ∧ (y 0).val % 2 = 1
  · exact .inl (in_piece 3073 3 1 rfl _ _ y e31)
  right
  refine cov_cons _ _ ?_
  by_cases e30 : (y 0).val / 1024 = 3 ∧ (y 0).val % 2 = 0
  · exact .inl (in_piece 3072 3 0 rfl _ _ y e30)
  right
  refine cov_cons _ _ ?_
  by_cases e21 : (y 0).val / 1024 = 2 ∧ (y 0).val % 2 = 1
  · exact .inl (in_piece 2049 2 1 rfl _ _ y e21)
  right
  refine cov_cons _ _ ?_
  by_cases e20 : (y 0).val / 1024 = 2 ∧ (y 0).val % 2 = 0
  · exact .inl (in_piece 2048 2 0 rfl _ _ y e20)
  right
  refine cov_cons _ _ ?_
  by_cases e11 : (y 0).val / 1024 = 1 ∧ (y 0).val % 2 = 1
  · exact .inl (in_piece 1025 1 1 rfl _ _ y e11)
  right
  refine cov_cons _ _ ?_
  by_cases e10 : (y 0).val / 1024 = 1 ∧ (y 0).val % 2 = 0
  · exact .inl (in_piece 1024 1 0 rfl _ _ y e10)
  right
  refine cov_cons _ _ ?_
  by_cases e01 : (y 0).val / 1024 = 0 ∧ (y 0).val % 2 = 1
  · exact .inl (in_piece 1 0 1 rfl _ _ y e01)
  right
  refine cov_cons _ _ ?_
  by_cases e00 : (y 0).val / 1024 = 0 ∧ (y 0).val % 2 = 0
  · exact .inl (in_piece 0 0 0 rfl _ _ y e00)
  right
  exfalso
  omega

/-- At tile 2 the second result's pieces cover it. -/
theorem cover2_2 (c : Dev nD) (i : grid0.Coords) (arg2 : Memref sig .tc .smem S3 .i32) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (hc1 : ¬k0_cond1 i = 1#1) (hc2 : ¬k0_cond2 i = 1#1) (hc3 : k0_cond3 i = 1#1)
    (x0 : Vec F S2048x2048 .bf16) (x1 : Vec F S512x2048 .f32) (x2 : Vec F S1x512 .f32) (y : S4096x128.Idx) :
    ∃ q ∈ (run2 c i arg2 harg2 arg3 harg3 arg4 harg4 arg5 harg5 arg6 harg6 arg7 harg7 arg8 harg8 arg9 harg9 arg10 harg10 arg11 harg11 hc1 hc2 hc3 x0 x1 x2).1.2, y ∈ q.1.set := by
  have hy : (y 0).val < 4096 := (y 0).isLt
  unfold run2
  dsimp only
  refine cov_cons _ _ ?_
  by_cases e31 : (y 0).val / 1024 = 3 ∧ (y 0).val % 2 = 1
  · exact .inl (in_piece 3073 3 1 rfl _ _ y e31)
  right
  refine cov_cons _ _ ?_
  by_cases e30 : (y 0).val / 1024 = 3 ∧ (y 0).val % 2 = 0
  · exact .inl (in_piece 3072 3 0 rfl _ _ y e30)
  right
  refine cov_cons _ _ ?_
  by_cases e21 : (y 0).val / 1024 = 2 ∧ (y 0).val % 2 = 1
  · exact .inl (in_piece 2049 2 1 rfl _ _ y e21)
  right
  refine cov_cons _ _ ?_
  by_cases e20 : (y 0).val / 1024 = 2 ∧ (y 0).val % 2 = 0
  · exact .inl (in_piece 2048 2 0 rfl _ _ y e20)
  right
  refine cov_cons _ _ ?_
  by_cases e11 : (y 0).val / 1024 = 1 ∧ (y 0).val % 2 = 1
  · exact .inl (in_piece 1025 1 1 rfl _ _ y e11)
  right
  refine cov_cons _ _ ?_
  by_cases e10 : (y 0).val / 1024 = 1 ∧ (y 0).val % 2 = 0
  · exact .inl (in_piece 1024 1 0 rfl _ _ y e10)
  right
  refine cov_cons _ _ ?_
  by_cases e01 : (y 0).val / 1024 = 0 ∧ (y 0).val % 2 = 1
  · exact .inl (in_piece 1 0 1 rfl _ _ y e01)
  right
  refine cov_cons _ _ ?_
  by_cases e00 : (y 0).val / 1024 = 0 ∧ (y 0).val % 2 = 0
  · exact .inl (in_piece 0 0 0 rfl _ _ y e00)
  right
  exfalso
  omega

end Cert.Proof.Kv

end
-- ==== Proof.KvFrame.lean ====
/- The projection to the keys and values, run: what its results hold point by point, and its frame. -/
module

public import proofs.«01_k».proof.Proof.KvCover
public import Idealize.ShloMosaic.Lib.Claim

@[expose] public section

set_option maxRecDepth 16384

noncomputable section

namespace Cert.Proof.Kv

open Cert.KernelKvIdeal Cert.KernelKvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer window 0 is on at a point, -/
abbrev ms0 (hO : Ok m) (t : Fin (cfgM m hO).N) : Memref sig .tc .vmem S2048x2048 .bf16 := spec0_0.stage ((cfgM m hO).slots t 0)
/-- a whole one. -/
abbrev hs0 (hO : Ok m) (t : Fin (cfgM m hO).N) : (ms0 m hO t).IsWhole := hstage0_0 (((cfgM m hO).slots t 0).cast nbuf0_0)
/-- The buffer window 1 is on at a point, -/
abbrev ms1 (hO : Ok m) (t : Fin (cfgM m hO).N) : Memref sig .tc .vmem S512x2048 .f32 := spec0_1.stage ((cfgM m hO).slots t 1)
/-- a whole one. -/
abbrev hs1 (hO : Ok m) (t : Fin (cfgM m hO).N) : (ms1 m hO t).IsWhole := hstage0_1 (((cfgM m hO).slots t 1).cast nbuf0_1)
/-- The buffer window 2 is on at a point, -/
abbrev ms2 (hO : Ok m) (t : Fin (cfgM m hO).N) : Memref sig .tc .vmem S1x512 .f32 := spec0_2.stage ((cfgM m hO).slots t 2)
/-- a whole one. -/
abbrev hs2 (hO : Ok m) (t : Fin (cfgM m hO).N) : (ms2 m hO t).IsWhole := hstage0_2 (((cfgM m hO).slots t 2).cast nbuf0_2)
/-- The buffer window 3 is on at a point, -/
abbrev ms3 (hO : Ok m) (t : Fin (cfgM m hO).N) : Memref sig .tc .vmem S4096x128 .f32 := spec0_3.stage ((cfgM m hO).slots t 3)
/-- a whole one. -/
abbrev hs3 (hO : Ok m) (t : Fin (cfgM m hO).N) : (ms3 m hO t).IsWhole := hstage0_3 (((cfgM m hO).slots t 3).cast nbuf0_3)
/-- The buffer window 4 is on at a point, -/
abbrev ms4 (hO : Ok m) (t : Fin (cfgM m hO).N) : Memref sig .tc .vmem S4096x128 .f32 := spec0_4.stage ((cfgM m hO).slots t 4)
/-- a whole one. -/
abbrev hs4 (hO : Ok m) (t : Fin (cfgM m hO).N) : (ms4 m hO t).IsWhole := hstage0_4 (((cfgM m hO).slots t 4).cast nbuf0_4)
/-- The buffer window 5 is on at a point, -/
abbrev ms5 (hO : Ok m) (t : Fin (cfgM m hO).N) : Memref sig .tc .vmem S4096x128 .f32 := spec0_5.stage ((cfgM m hO).slots t 5)
/-- a whole one. -/
abbrev hs5 (hO : Ok m) (t : Fin (cfgM m hO).N) : (ms5 m hO t).IsWhole := hstage0_5 (((cfgM m hO).slots t 5).cast nbuf0_5)
/-- The buffer window 6 is on at a point, -/
abbrev ms6 (hO : Ok m) (t : Fin (cfgM m hO).N) : Memref sig .tc .vmem S4096x128 .f32 := spec0_6.stage ((cfgM m hO).slots t 6)
/-- a whole one. -/
abbrev hs6 (hO : Ok m) (t : Fin (cfgM m hO).N) : (ms6 m hO t).IsWhole := hstage0_6 (((cfgM m hO).slots t 6).cast nbuf0_6)
/-- The buffer window 7 is on at a point, -/
abbrev ms7 (hO : Ok m) (t : Fin (cfgM m hO).N) : Memref sig .tc .vmem S4096x128 .f32 := spec0_7.stage ((cfgM m hO).slots t 7)
/-- a whole one. -/
abbrev hs7 (hO : Ok m) (t : Fin (cfgM m hO).N) : (ms7 m hO t).IsWhole := hstage0_7 (((cfgM m hO).slots t 7).cast nbuf0_7)
/-- The buffer window 8 is on at a point, -/
abbrev ms8 (hO : Ok m) (t : Fin (cfgM m hO).N) : Memref sig .tc .vmem S4096x128 .f32 := spec0_8.stage ((cfgM m hO).slots t 8)
/-- a whole one. -/
abbrev hs8 (hO : Ok m) (t : Fin (cfgM m hO).N) : (ms8 m hO t).IsWhole := hstage0_8 (((cfgM m hO).slots t 8).cast nbuf0_8)

/-- The body as the pipeline calls it at a point. -/
abbrev bodyAt (hO : Ok m) (t : Fin (cfgM m hO).N) : Prog (TpuEff nD τ sig (Elt F) Λ₀ .tc) PUnit :=
  cc0_proj_kv (grid0.coords t) (Memref.whole main_c) (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t)

/-- A buffer through which a result's contents are stated: which one does not matter. -/
abbrev VO : View sig .tc .vmem S4096x128 .f32 := (Memref.whole cc0_stg3_0 : Memref sig .tc .vmem S4096x128 .f32).view

/-- What a list of pieces leaves. -/
abbrev left (L : List (View.Piece (Elt F) S4096x128 .f32)) : Vec F S4096x128 .f32 := VO.read (Elt F) (VO.writes (Elt F) VO.junk L)

/-- The run at a point of tile 0. -/
def runAt0 (hO : Ok m) (c : Dev nD) (t : Fin (cfgM m hO).N) (h : t.val % 3 = 0) :=
  run0 c (grid0.coords t) (Memref.whole main_c) (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t)
    ((cond1 t).mpr h) (fun e => by have := (cond2 t).mp e; omega) (fun e => by have := (cond3 t).mp e; omega) (iblk m hO c 0 t) (iblk m hO c 1 t) (iblk m hO c 2 t)

/-- Its pieces cover each of its two results, -/
theorem coverAt0_1 (hO : Ok m) (c : Dev nD) (t : Fin (cfgM m hO).N) (h : t.val % 3 = 0) (y : S4096x128.Idx) :
    ∃ q ∈ (runAt0 m hO c t h).1.1, y ∈ q.1.set := by
  unfold runAt0
  exact cover0_1 c (grid0.coords t) _ _ _ _ _ _ _ _ _ _ _ _ _ _ _ _ _ _ _ _ _ _ _ _ _ _ y
/-- the second too. -/
theorem coverAt0_2 (hO : Ok m) (c : Dev nD) (t : Fin (cfgM m hO).N) (h : t.val % 3 = 0) (y : S4096x128.Idx) :
    ∃ q ∈ (runAt0 m hO c t h).1.2, y ∈ q.1.set := by
  unfold runAt0
  exact cover0_2 c (grid0.coords t) _ _ _ _ _ _ _ _ _ _ _ _ _ _ _ _ _ _ _ _ _ _ _ _ _ _ y

/-- What it leaves in its two results. -/
def outs0 (hO : Ok m) (c : Dev nD) (t : Fin (cfgM m hO).N) (h : t.val % 3 = 0) : Vec F S4096x128 .f32 × Vec F S4096x128 .f32 :=
  (left (runAt0 m hO c t h).1.1, left (runAt0 m hO c t h).1.2)

theorem outs0_congr (hO : Ok m) (c : Dev nD) {t t' : Fin (cfgM m hO).N} (e : t = t') (h : t.val % 3 = 0) (h' : t'.val % 3 = 0) :
    outs0 m hO c t h = outs0 m hO c t' h' := by subst e; rfl

theorem pt0 (hO : Ok m) (t : Fin (cfgM m hO).N) : 3 * (t.val / 3) + 0 < (cfgM m hO).N := by
  have h : t.val < 12 := t.isLt
  show _ < 12
  omega

/-- The point of tile 0 with a point's rows. -/
def own0 (hO : Ok m) (t : Fin (cfgM m hO).N) : Fin (cfgM m hO).N := ⟨3 * (t.val / 3) + 0, pt0 m hO t⟩

theorem own0_mod (hO : Ok m) (t : Fin (cfgM m hO).N) : (own0 m hO t).val % 3 = 0 := by
  show (3 * (t.val / 3) + 0) % 3 = 0
  omega

/-- What the two results of tile 0 hold from that point on, while the rows stay. -/
def outAt0 (hO : Ok m) (c : Dev nD) (t : Fin (cfgM m hO).N) : Vec F S4096x128 .f32 × Vec F S4096x128 .f32 :=
  outs0 m hO c (own0 m hO t) (own0_mod m hO t)

theorem outAt0_own (hO : Ok m) (c : Dev nD) (t : Fin (cfgM m hO).N) (h : t.val % 3 = 0) : outAt0 m hO c t = outs0 m hO c t h :=
  outs0_congr m hO c (Fin.ext (by show 3 * (t.val / 3) + 0 = t.val; omega)) _ _

theorem outAt0_same (hO : Ok m) (c : Dev nD) (t t' : Fin (cfgM m hO).N) (h : t.val / 3 = t'.val / 3) : outAt0 m hO c t = outAt0 m hO c t' :=
  outs0_congr m hO c (Fin.ext (by show 3 * (t.val / 3) + 0 = 3 * (t'.val / 3) + 0; rw [h])) _ _

/-- The run at a point of tile 1. -/
def runAt1 (hO : Ok m) (c : Dev nD) (t : Fin (cfgM m hO).N) (h : t.val % 3 = 1) :=
  run1 c (grid0.coords t) (Memref.whole main_c) (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t)
    (fun e => by have := (cond1 t).mp e; omega) ((cond2 t).mpr h) (fun e => by have := (cond3 t).mp e; omega) (iblk m hO c 0 t) (iblk m hO c 1 t) (iblk m hO c 2 t)

/-- Its pieces cover each of its two results, -/
theorem coverAt1_1 (hO : Ok m) (c : Dev nD) (t : Fin (cfgM m hO).N) (h : t.val % 3 = 1) (y : S4096x128.Idx) :
    ∃ q ∈ (runAt1 m hO c t h).1.1, y ∈ q.1.set := by
  unfold runAt1
  exact cover1_1 c (grid0.coords t) _ _ _ _ _ _ _ _ _ _ _ _ _ _ _ _ _ _ _ _ _ _ _ _ _ _ y
/-- the second too. -/
theorem coverAt1_2 (hO : Ok m) (c : Dev nD) (t : Fin (cfgM m hO).N) (h : t.val % 3 = 1) (y : S4096x128.Idx) :
    ∃ q ∈ (runAt1 m hO c t h).1.2, y ∈ q.1.set := by
  unfold runAt1
  exact cover1_2 c (grid0.coords t) _ _ _ _ _ _ _ _ _ _ _ _ _ _ _ _ _ _ _ _ _ _ _ _ _ _ y

/-- What it leaves in its two results. -/
def outs1 (hO : Ok m) (c : Dev nD) (t : Fin (cfgM m hO).N) (h : t.val % 3 = 1) : Vec F S4096x128 .f32 × Vec F S4096x128 .f32 :=
  (left (runAt1 m hO c t h).1.1, left (runAt1 m hO c t h).1.2)

theorem outs1_congr (hO : Ok m) (c : Dev nD) {t t' : Fin (cfgM m hO).N} (e : t = t') (h : t.val % 3 = 1) (h' : t'.val % 3 = 1) :
    outs1 m hO c t h = outs1 m hO c t' h' := by subst e; rfl

theorem pt1 (hO : Ok m) (t : Fin (cfgM m hO).N) : 3 * (t.val / 3) + 1 < (cfgM m hO).N := by
  have h : t.val < 12 := t.isLt
  show _ < 12
  omega

/-- The point of tile 1 with a point's rows. -/
def own1 (hO : Ok m) (t : Fin (cfgM m hO).N) : Fin (cfgM m hO).N := ⟨3 * (t.val / 3) + 1, pt1 m hO t⟩

theorem own1_mod (hO : Ok m) (t : Fin (cfgM m hO).N) : (own1 m hO t).val % 3 = 1 := by
  show (3 * (t.val / 3) + 1) % 3 = 1
  omega

/-- What the two results of tile 1 hold from that point on, while the rows stay. -/
def outAt1 (hO : Ok m) (c : Dev nD) (t : Fin (cfgM m hO).N) : Vec F S4096x128 .f32 × Vec F S4096x128 .f32 :=
  outs1 m hO c (own1 m hO t) (own1_mod m hO t)

theorem outAt1_own (hO : Ok m) (c : Dev nD) (t : Fin (cfgM m hO).N) (h : t.val % 3 = 1) : outAt1 m hO c t = outs1 m hO c t h :=
  outs1_congr m hO c (Fin.ext (by show 3 * (t.val / 3) + 1 = t.val; omega)) _ _

theorem outAt1_same (hO : Ok m) (c : Dev nD) (t t' : Fin (cfgM m hO).N) (h : t.val / 3 = t'.val / 3) : outAt1 m hO c t = outAt1 m hO c t' :=
  outs1_congr m hO c (Fin.ext (by show 3 * (t.val / 3) + 1 = 3 * (t'.val / 3) + 1; rw [h])) _ _

/-- The run at a point of tile 2. -/
def runAt2 (hO : Ok m) (c : Dev nD) (t : Fin (cfgM m hO).N) (h : t.val % 3 = 2) :=
  run2 c (grid0.coords t) (Memref.whole main_c) (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t)
    (fun e => by have := (cond1 t).mp e; omega) (fun e => by have := (cond2 t).mp e; omega) ((cond3 t).mpr h) (iblk m hO c 0 t) (iblk m hO c 1 t) (iblk m hO c 2 t)

/-- Its pieces cover each of its two results, -/
theorem coverAt2_1 (hO : Ok m) (c : Dev nD) (t : Fin (cfgM m hO).N) (h : t.val % 3 = 2) (y : S4096x128.Idx) :
    ∃ q ∈ (runAt2 m hO c t h).1.1, y ∈ q.1.set := by
  unfold runAt2
  exact cover2_1 c (grid0.coords t) _ _ _ _ _ _ _ _ _ _ _ _ _ _ _ _ _ _ _ _ _ _ _ _ _ _ y
/-- the second too. -/
theorem coverAt2_2 (hO : Ok m) (c : Dev nD) (t : Fin (cfgM m hO).N) (h : t.val % 3 = 2) (y : S4096x128.Idx) :
    ∃ q ∈ (runAt2 m hO c t h).1.2, y ∈ q.1.set := by
  unfold runAt2
  exact cover2_2 c (grid0.coords t) _ _ _ _ _ _ _ _ _ _ _ _ _ _ _ _ _ _ _ _ _ _ _ _ _ _ y

/-- What it leaves in its two results. -/
def outs2 (hO : Ok m) (c : Dev nD) (t : Fin (cfgM m hO).N) (h : t.val % 3 = 2) : Vec F S4096x128 .f32 × Vec F S4096x128 .f32 :=
  (left (runAt2 m hO c t h).1.1, left (runAt2 m hO c t h).1.2)

theorem outs2_congr (hO : Ok m) (c : Dev nD) {t t' : Fin (cfgM m hO).N} (e : t = t') (h : t.val % 3 = 2) (h' : t'.val % 3 = 2) :
    outs2 m hO c t h = outs2 m hO c t' h' := by subst e; rfl

theorem pt2 (hO : Ok m) (t : Fin (cfgM m hO).N) : 3 * (t.val / 3) + 2 < (cfgM m hO).N := by
  have h : t.val < 12 := t.isLt
  show _ < 12
  omega

/-- The point of tile 2 with a point's rows. -/
def own2 (hO : Ok m) (t : Fin (cfgM m hO).N) : Fin (cfgM m hO).N := ⟨3 * (t.val / 3) + 2, pt2 m hO t⟩

theorem own2_mod (hO : Ok m) (t : Fin (cfgM m hO).N) : (own2 m hO t).val % 3 = 2 := by
  show (3 * (t.val / 3) + 2) % 3 = 2
  omega

/-- What the two results of tile 2 hold from that point on, while the rows stay. -/
def outAt2 (hO : Ok m) (c : Dev nD) (t : Fin (cfgM m hO).N) : Vec F S4096x128 .f32 × Vec F S4096x128 .f32 :=
  outs2 m hO c (own2 m hO t) (own2_mod m hO t)

theorem outAt2_own (hO : Ok m) (c : Dev nD) (t : Fin (cfgM m hO).N) (h : t.val % 3 = 2) : outAt2 m hO c t = outs2 m hO c t h :=
  outs2_congr m hO c (Fin.ext (by show 3 * (t.val / 3) + 2 = t.val; omega)) _ _

theorem outAt2_same (hO : Ok m) (c : Dev nD) (t t' : Fin (cfgM m hO).N) (h : t.val / 3 = t'.val / 3) : outAt2 m hO c t = outAt2 m hO c t' :=
  outs2_congr m hO c (Fin.ext (by show 3 * (t.val / 3) + 2 = 3 * (t'.val / 3) + 2; rw [h])) _ _

/-- The data of the pipeline: its arrays as the call finds them, and what each window's buffer holds after each point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outAt0 m hO c t).1
    | ⟨4, _⟩ => (outAt0 m hO c t).2
    | ⟨5, _⟩ => (outAt1 m hO c t).1
    | ⟨6, _⟩ => (outAt1 m hO c t).2
    | ⟨7, _⟩ => (outAt2 m hO c t).1
    | ⟨8, _⟩ => (outAt2 m hO c t).2
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = (outAt0 m hO c t).1 := by dsimp only [dats]; try rfl
theorem after4 (hO : Ok m) (c : Dev nD) (t : Fin (cfgM m hO).N) : (dats m hO 0 c).after 4 t = (outAt0 m hO c t).2 := by dsimp only [dats]; try rfl
theorem after5 (hO : Ok m) (c : Dev nD) (t : Fin (cfgM m hO).N) : (dats m hO 0 c).after 5 t = (outAt1 m hO c t).1 := by dsimp only [dats]; try rfl
theorem after6 (hO : Ok m) (c : Dev nD) (t : Fin (cfgM m hO).N) : (dats m hO 0 c).after 6 t = (outAt1 m hO c t).2 := by dsimp only [dats]; try rfl
theorem after7 (hO : Ok m) (c : Dev nD) (t : Fin (cfgM m hO).N) : (dats m hO 0 c).after 7 t = (outAt2 m hO c t).1 := by dsimp only [dats]; try rfl
theorem after8 (hO : Ok m) (c : Dev nD) (t : Fin (cfgM m hO).N) : (dats m hO 0 c).after 8 t = (outAt2 m hO c t).2 := by dsimp only [dats]; try rfl
theorem before0 (hO : Ok m) (c : Dev nD) (t : Fin (cfgM m hO).N) (d) : (dats m hO 0 c).before 0 t d = iblk m hO c 0 t :=
  before_in0 m hO (dats m hO 0 c) (A_eq m hO c 0) (after0 m hO c) t d
theorem before1 (hO : Ok m) (c : Dev nD) (t : Fin (cfgM m hO).N) (d) : (dats m hO 0 c).before 1 t d = iblk m hO c 1 t :=
  before_in1 m hO (dats m hO 0 c) (A_eq m hO c 1) (after1 m hO c) t d
theorem before2 (hO : Ok m) (c : Dev nD) (t : Fin (cfgM m hO).N) (d) : (dats m hO 0 c).before 2 t d = iblk m hO c 2 t :=
  before_in2 m hO (dats m hO 0 c) (A_eq m hO c 2) (after2 m hO c) t d

/-- Window 3 is written back after the points of tile 2, -/
theorem flush3 (hO : Ok m) : ∀ t : Fin (cfgM m hO).N, ((cfgM m hO).win 3).flush t = decide (t.val % 3 = 2) :=
  (by decide +kernel : ∀ t : Fin grid0.N, Pipeline.Window.flushOf grid0 true cc0_transform_3 t = decide (t.val % 3 = 2))
/-- and left alone but at those of tile 0. -/
theorem idle3 (hO : Ok m) : ∀ t : Fin (cfgM m hO).N, (cfgM m hO).idle 3 ((cfgM m hO).grid.coords t) = !decide (t.val % 3 = 0) :=
  (by decide +kernel : ∀ t : Fin grid0.N, idle0 3 (grid0.coords t) = !decide (t.val % 3 = 0))
/-- From the point after tile 0 on, until it is written back, its buffer holds what that tile left. -/
theorem fresh3 (hO : Ok m) : ∀ n, n ≤ (cfgM m hO).N → (cfgM m hO).fresh 3 n = decide (n % 3 ≤ 0) :=
  (cfgM m hO).fresh_tab 3 (fun n => decide (n % 3 ≤ 0)) rfl fun t => by
    rw [flush3 m hO t, idle3 m hO t]
    have h : t.val % 3 = 0 ∨ t.val % 3 = 1 ∨ t.val % 3 = 2 := by omega
    rcases h with h | h | h
    · rw [h, show (t.val + 1) % 3 = 1 by omega]; rfl
    · rw [h, show (t.val + 1) % 3 = 2 by omega]; rfl
    · rw [h, show (t.val + 1) % 3 = 0 by omega]; rfl
/-- So at a point of tile 2 it is found as it is to be left. -/
theorem held3 (hO : Ok m) (c : Dev nD) (t : Fin (cfgM m hO).N) (h : t.val % 3 = 2) (d) :
    (dats m hO 0 c).before 3 t d = (dats m hO 0 c).after 3 t := by
  refine ((dats m hO 0 c).before_out_traj 3 rfl (fun _ _ => rfl) ?_ t.val t rfl d).trans ?_
  · intro t h0 hi hf
    have h1 : ¬ t.val % 3 ≤ 0 := of_decide_eq_false ((fresh3 m hO t.val t.isLt.le).symm.trans hf)
    rw [after3, after3]
    refine congrArg Prod.fst (outAt0_same m hO c t ⟨t.val - 1, by have := t.isLt; omega⟩ ?_)
    show t.val / 3 = (t.val - 1) / 3
    omega
  · rw [fresh3 m hO t.val t.isLt.le, h]
    refine (if_neg (by decide)).trans ?_
    rw [after3, after3]
    refine congrArg Prod.fst (outAt0_same m hO c ⟨t.val - 1, by have := t.isLt; omega⟩ t ?_)
    show (t.val - 1) / 3 = t.val / 3
    omega

/-- Window 4 is written back after the points of tile 2, -/
theorem flush4 (hO : Ok m) : ∀ t : Fin (cfgM m hO).N, ((cfgM m hO).win 4).flush t = decide (t.val % 3 = 2) :=
  (by decide +kernel : ∀ t : Fin grid0.N, Pipeline.Window.flushOf grid0 true cc0_transform_4 t = decide (t.val % 3 = 2))
/-- and left alone but at those of tile 0. -/
theorem idle4 (hO : Ok m) : ∀ t : Fin (cfgM m hO).N, (cfgM m hO).idle 4 ((cfgM m hO).grid.coords t) = !decide (t.val % 3 = 0) :=
  (by decide +kernel : ∀ t : Fin grid0.N, idle0 4 (grid0.coords t) = !decide (t.val % 3 = 0))
/-- From the point after tile 0 on, until it is written back, its buffer holds what that tile left. -/
theorem fresh4 (hO : Ok m) : ∀ n, n ≤ (cfgM m hO).N → (cfgM m hO).fresh 4 n = decide (n % 3 ≤ 0) :=
  (cfgM m hO).fresh_tab 4 (fun n => decide (n % 3 ≤ 0)) rfl fun t => by
    rw [flush4 m hO t, idle4 m hO t]
    have h : t.val % 3 = 0 ∨ t.val % 3 = 1 ∨ t.val % 3 = 2 := by omega
    rcases h with h | h | h
    · rw [h, show (t.val + 1) % 3 = 1 by omega]; rfl
    · rw [h, show (t.val + 1) % 3 = 2 by omega]; rfl
    · rw [h, show (t.val + 1) % 3 = 0 by omega]; rfl
/-- So at a point of tile 2 it is found as it is to be left. -/
theorem held4 (hO : Ok m) (c : Dev nD) (t : Fin (cfgM m hO).N) (h : t.val % 3 = 2) (d) :
    (dats m hO 0 c).before 4 t d = (dats m hO 0 c).after 4 t := by
  refine ((dats m hO 0 c).before_out_traj 4 rfl (fun _ _ => rfl) ?_ t.val t rfl d).trans ?_
  · intro t h0 hi hf
    have h1 : ¬ t.val % 3 ≤ 0 := of_decide_eq_false ((fresh4 m hO t.val t.isLt.le).symm.trans hf)
    rw [after4, after4]
    refine congrArg Prod.snd (outAt0_same m hO c t ⟨t.val - 1, by have := t.isLt; omega⟩ ?_)
    show t.val / 3 = (t.val - 1) / 3
    omega
  · rw [fresh4 m hO t.val t.isLt.le, h]
    refine (if_neg (by decide)).trans ?_
    rw [after4, after4]
    refine congrArg Prod.snd (outAt0_same m hO c ⟨t.val - 1, by have := t.isLt; omega⟩ t ?_)
    show (t.val - 1) / 3 = t.val / 3
    omega

/-- Window 5 is written back after the points of tile 2, -/
theorem flush5 (hO : Ok m) : ∀ t : Fin (cfgM m hO).N, ((cfgM m hO).win 5).flush t = decide (t.val % 3 = 2) :=
  (by decide +kernel : ∀ t : Fin grid0.N, Pipeline.Window.flushOf grid0 true cc0_transform_5 t = decide (t.val % 3 = 2))
/-- and left alone but at those of tile 1. -/
theorem idle5 (hO : Ok m) : ∀ t : Fin (cfgM m hO).N, (cfgM m hO).idle 5 ((cfgM m hO).grid.coords t) = !decide (t.val % 3 = 1) :=
  (by decide +kernel : ∀ t : Fin grid0.N, idle0 5 (grid0.coords t) = !decide (t.val % 3 = 1))
/-- From the point after tile 1 on, until it is written back, its buffer holds what that tile left. -/
theorem fresh5 (hO : Ok m) : ∀ n, n ≤ (cfgM m hO).N → (cfgM m hO).fresh 5 n = decide (n % 3 ≤ 1) :=
  (cfgM m hO).fresh_tab 5 (fun n => decide (n % 3 ≤ 1)) rfl fun t => by
    rw [flush5 m hO t, idle5 m hO t]
    have h : t.val % 3 = 0 ∨ t.val % 3 = 1 ∨ t.val % 3 = 2 := by omega
    rcases h with h | h | h
    · rw [h, show (t.val + 1) % 3 = 1 by omega]; rfl
    · rw [h, show (t.val + 1) % 3 = 2 by omega]; rfl
    · rw [h, show (t.val + 1) % 3 = 0 by omega]; rfl
/-- So at a point of tile 2 it is found as it is to be left. -/
theorem held5 (hO : Ok m) (c : Dev nD) (t : Fin (cfgM m hO).N) (h : t.val % 3 = 2) (d) :
    (dats m hO 0 c).before 5 t d = (dats m hO 0 c).after 5 t := by
  refine ((dats m hO 0 c).before_out_traj 5 rfl (fun _ _ => rfl) ?_ t.val t rfl d).trans ?_
  · intro t h0 hi hf
    have h1 : ¬ t.val % 3 ≤ 1 := of_decide_eq_false ((fresh5 m hO t.val t.isLt.le).symm.trans hf)
    rw [after5, after5]
    refine congrArg Prod.fst (outAt1_same m hO c t ⟨t.val - 1, by have := t.isLt; omega⟩ ?_)
    show t.val / 3 = (t.val - 1) / 3
    omega
  · rw [fresh5 m hO t.val t.isLt.le, h]
    refine (if_neg (by decide)).trans ?_
    rw [after5, after5]
    refine congrArg Prod.fst (outAt1_same m hO c ⟨t.val - 1, by have := t.isLt; omega⟩ t ?_)
    show (t.val - 1) / 3 = t.val / 3
    omega

/-- Window 6 is written back after the points of tile 2, -/
theorem flush6 (hO : Ok m) : ∀ t : Fin (cfgM m hO).N, ((cfgM m hO).win 6).flush t = decide (t.val % 3 = 2) :=
  (by decide +kernel : ∀ t : Fin grid0.N, Pipeline.Window.flushOf grid0 true cc0_transform_6 t = decide (t.val % 3 = 2))
/-- and left alone but at those of tile 1. -/
theorem idle6 (hO : Ok m) : ∀ t : Fin (cfgM m hO).N, (cfgM m hO).idle 6 ((cfgM m hO).grid.coords t) = !decide (t.val % 3 = 1) :=
  (by decide +kernel : ∀ t : Fin grid0.N, idle0 6 (grid0.coords t) = !decide (t.val % 3 = 1))
/-- From the point after tile 1 on, until it is written back, its buffer holds what that tile left. -/
theorem fresh6 (hO : Ok m) : ∀ n, n ≤ (cfgM m hO).N → (cfgM m hO).fresh 6 n = decide (n % 3 ≤ 1) :=
  (cfgM m hO).fresh_tab 6 (fun n => decide (n % 3 ≤ 1)) rfl fun t => by
    rw [flush6 m hO t, idle6 m hO t]
    have h : t.val % 3 = 0 ∨ t.val % 3 = 1 ∨ t.val % 3 = 2 := by omega
    rcases h with h | h | h
    · rw [h, show (t.val + 1) % 3 = 1 by omega]; rfl
    · rw [h, show (t.val + 1) % 3 = 2 by omega]; rfl
    · rw [h, show (t.val + 1) % 3 = 0 by omega]; rfl
/-- So at a point of tile 2 it is found as it is to be left. -/
theorem held6 (hO : Ok m) (c : Dev nD) (t : Fin (cfgM m hO).N) (h : t.val % 3 = 2) (d) :
    (dats m hO 0 c).before 6 t d = (dats m hO 0 c).after 6 t := by
  refine ((dats m hO 0 c).before_out_traj 6 rfl (fun _ _ => rfl) ?_ t.val t rfl d).trans ?_
  · intro t h0 hi hf
    have h1 : ¬ t.val % 3 ≤ 1 := of_decide_eq_false ((fresh6 m hO t.val t.isLt.le).symm.trans hf)
    rw [after6, after6]
    refine congrArg Prod.snd (outAt1_same m hO c t ⟨t.val - 1, by have := t.isLt; omega⟩ ?_)
    show t.val / 3 = (t.val - 1) / 3
    omega
  · rw [fresh6 m hO t.val t.isLt.le, h]
    refine (if_neg (by decide)).trans ?_
    rw [after6, after6]
    refine congrArg Prod.snd (outAt1_same m hO c ⟨t.val - 1, by have := t.isLt; omega⟩ t ?_)
    show (t.val - 1) / 3 = t.val / 3
    omega

/-- Window 7 is written back after the points of tile 2, -/
theorem flush7 (hO : Ok m) : ∀ t : Fin (cfgM m hO).N, ((cfgM m hO).win 7).flush t = decide (t.val % 3 = 2) :=
  (by decide +kernel : ∀ t : Fin grid0.N, Pipeline.Window.flushOf grid0 true cc0_transform_7 t = decide (t.val % 3 = 2))
/-- and left alone but at those of tile 2. -/
theorem idle7 (hO : Ok m) : ∀ t : Fin (cfgM m hO).N, (cfgM m hO).idle 7 ((cfgM m hO).grid.coords t) = !decide (t.val % 3 = 2) :=
  (by decide +kernel : ∀ t : Fin grid0.N, idle0 7 (grid0.coords t) = !decide (t.val % 3 = 2))

/-- Window 8 is written back after the points of tile 2, -/
theorem flush8 (hO : Ok m) : ∀ t : Fin (cfgM m hO).N, ((cfgM m hO).win 8).flush t = decide (t.val % 3 = 2) :=
  (by decide +kernel : ∀ t : Fin grid0.N, Pipeline.Window.flushOf grid0 true cc0_transform_8 t = decide (t.val % 3 = 2))
/-- and left alone but at those of tile 2. -/
theorem idle8 (hO : Ok m) : ∀ t : Fin (cfgM m hO).N, (cfgM m hO).idle 8 ((cfgM m hO).grid.coords t) = !decide (t.val % 3 = 2) :=
  (by decide +kernel : ∀ t : Fin grid0.N, idle0 8 (grid0.coords t) = !decide (t.val % 3 = 2))

/-- A window that the body stores into at a point is left at what the data says, -/
theorem leaves_stored (hO : Ok m) (c : Dev nD) (w : Fin (cfgM m hO).W) (t : Fin (cfgM m hO).N)
    (hi : (cfgM m hO).idle w ((cfgM m hO).grid.coords t) = false) : (dats m hO 0 c).leavesExact w t
      = owns (c : Thread nD τ) (((cfgM m hO).win w).stage ((cfgM m hO).slots t w)) fullShare ((dats m hO 0 c).after w t) := by
  unfold Dat.leavesExact; rw [hi]

/-- and so is one that is written back there. -/
theorem leaves_flushed (hO : Ok m) (c : Dev nD) (w : Fin (cfgM m hO).W) (t : Fin (cfgM m hO).N)
    (hf : ((cfgM m hO).win w).flush t = true) : (dats m hO 0 c).leavesExact w t
      = owns (c : Thread nD τ) (((cfgM m hO).win w).stage ((cfgM m hO).slots t w)) fullShare ((dats m hO 0 c).after w t) := by
  unfold Dat.leavesExact; rw [hf]
  cases (cfgM m hO).idle w ((cfgM m hO).grid.coords t) <;> rfl

/-- What the body is called with at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d))
    ∗ (∃ d, owns (c : Thread nD τ) (ms8 m hO t) fullShare ((dats m hO 0 c).before 8 t d)))

/-- and what it is to return. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t)

set_option maxHeartbeats 1000000 in
/-- The body at a point of tile 0. -/
theorem sound0 (hO : Ok m) (c : Dev nD) (t : Fin (cfgM m hO).N) (h : t.val % 3 = 0) :
    bodyPre m hO c t ⊢ wp frame (wpE (defs₀ (F := F)) Variants.none c none) Set.univ (bodyAt m hO t) (fun _ => bodyPost m hO c t) := by
  unfold bodyPre bodyPost bodyAt
  simp only [before0, before1, before2]
  rw [show (dats m hO 0 c).Φ t.succ = (dats m hO 0 c).Φ t.castSucc from rfl,
    show (dats m hO 0 c).owesAt () t.succ = (dats m hO 0 c).owesAt () t.castSucc from rfl, after0, after1, after2]
  rw [leaves_stored m hO c 3 t (by rw [idle3, h]; rfl)]
  rw [leaves_stored m hO c 4 t (by rw [idle4, h]; rfl)]
  rw [(dats m hO 0 c).leavesExact_idle 5 t (by rw [idle5, h]; rfl) (by rw [flush5, h]; rfl)]
  rw [(dats m hO 0 c).leavesExact_idle 6 t (by rw [idle6, h]; rfl) (by rw [flush6, h]; rfl)]
  rw [(dats m hO 0 c).leavesExact_idle 7 t (by rw [idle7, h]; rfl) (by rw [flush7, h]; rfl)]
  rw [(dats m hO 0 c).leavesExact_idle 8 t (by rw [idle8, h]; rfl) (by rw [flush8, h]; rfl)]
  rw [after3, after4, outAt0_own m hO c t h]
  unfold outs0 left
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runAt0 m hO c t h).2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover (ms3 m hO t).view e3 VO VO.junk (runAt0 m hO c t h).1.1 (coverAt0_1 m hO c t h)
  isplitl [H4]
  · unfold owns; iexists _; isplitr
    swap; · iexact H4
    ipureintro; exact View.read_writes_of_cover (ms4 m hO t).view e4 VO VO.junk (runAt0 m hO c t h).1.2 (coverAt0_2 m hO c t h)
  isplitl [H5]; · iexists _; iexact H5
  isplitl [H6]; · iexists _; iexact H6
  isplitl [H7]; · iexists _; iexact H7
  iexists _; iexact H8

set_option maxHeartbeats 1000000 in
/-- The body at a point of tile 1. -/
theorem sound1 (hO : Ok m) (c : Dev nD) (t : Fin (cfgM m hO).N) (h : t.val % 3 = 1) :
    bodyPre m hO c t ⊢ wp frame (wpE (defs₀ (F := F)) Variants.none c none) Set.univ (bodyAt m hO t) (fun _ => bodyPost m hO c t) := by
  unfold bodyPre bodyPost bodyAt
  simp only [before0, before1, before2]
  rw [show (dats m hO 0 c).Φ t.succ = (dats m hO 0 c).Φ t.castSucc from rfl,
    show (dats m hO 0 c).owesAt () t.succ = (dats m hO 0 c).owesAt () t.castSucc from rfl, after0, after1, after2]
  rw [(dats m hO 0 c).leavesExact_idle 3 t (by rw [idle3, h]; rfl) (by rw [flush3, h]; rfl)]
  rw [(dats m hO 0 c).leavesExact_idle 4 t (by rw [idle4, h]; rfl) (by rw [flush4, h]; rfl)]
  rw [leaves_stored m hO c 5 t (by rw [idle5, h]; rfl)]
  rw [leaves_stored m hO c 6 t (by rw [idle6, h]; rfl)]
  rw [(dats m hO 0 c).leavesExact_idle 7 t (by rw [idle7, h]; rfl) (by rw [flush7, h]; rfl)]
  rw [(dats m hO 0 c).leavesExact_idle 8 t (by rw [idle8, h]; rfl) (by rw [flush8, h]; rfl)]
  rw [after5, after6, outAt1_own m hO c t h]
  unfold outs1 left
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runAt1 m hO c t h).2 Set.univ _)
  isplitl [H0]; · iexact H0
  isplitl [H1]; · iexact H1
  isplitl [H2]; · iexact H2
  isplitl [H5]; · iexists _; iexact H5
  isplitl [H6]; · iexists _; iexact H6
  iintro ⟨H0, H1, H2, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexists _; iexact H3
  isplitl [H4]; · iexists _; iexact H4
  isplitl [H5]
  · unfold owns; iexists _; isplitr
    swap; · iexact H5
    ipureintro; exact View.read_writes_of_cover (ms5 m hO t).view e5 VO VO.junk (runAt1 m hO c t h).1.1 (coverAt1_1 m hO c t h)
  isplitl [H6]
  · unfold owns; iexists _; isplitr
    swap; · iexact H6
    ipureintro; exact View.read_writes_of_cover (ms6 m hO t).view e6 VO VO.junk (runAt1 m hO c t h).1.2 (coverAt1_2 m hO c t h)
  isplitl [H7]; · iexists _; iexact H7
  iexists _; iexact H8

set_option maxHeartbeats 1000000 in
/-- The body at a point of tile 2. -/
theorem sound2 (hO : Ok m) (c : Dev nD) (t : Fin (cfgM m hO).N) (h : t.val % 3 = 2) :
    bodyPre m hO c t ⊢ wp frame (wpE (defs₀ (F := F)) Variants.none c none) Set.univ (bodyAt m hO t) (fun _ => bodyPost m hO c t) := by
  unfold bodyPre bodyPost bodyAt
  simp only [before0, before1, before2]
  rw [show (dats m hO 0 c).Φ t.succ = (dats m hO 0 c).Φ t.castSucc from rfl,
    show (dats m hO 0 c).owesAt () t.succ = (dats m hO 0 c).owesAt () t.castSucc from rfl, after0, after1, after2]
  rw [leaves_flushed m hO c 3 t (by rw [flush3, h]; rfl)]
  rw [leaves_flushed m hO c 4 t (by rw [flush4, h]; rfl)]
  rw [leaves_flushed m hO c 5 t (by rw [flush5, h]; rfl)]
  rw [leaves_flushed m hO c 6 t (by rw [flush6, h]; rfl)]
  rw [leaves_stored m hO c 7 t (by rw [idle7, h]; rfl)]
  rw [leaves_stored m hO c 8 t (by rw [idle8, h]; rfl)]
  simp only [held3 m hO c t h, held4 m hO c t h, held5 m hO c t h, held6 m hO c t h]
  rw [after7, after8, outAt2_own m hO c t h]
  unfold outs2 left
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runAt2 m hO c t h).2 Set.univ _)
  isplitl [H0]; · iexact H0
  isplitl [H1]; · iexact H1
  isplitl [H2]; · iexact H2
  isplitl [H7]; · iexists _; iexact H7
  isplitl [H8]; · iexists _; iexact H8
  iintro ⟨H0, H1, H2, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover (ms7 m hO t).view e7 VO VO.junk (runAt2 m hO c t h).1.1 (coverAt2_1 m hO c t h)
  unfold owns; iexists _; isplitr
  swap; · iexact H8
  ipureintro; exact View.read_writes_of_cover (ms8 m hO t).view e8 VO VO.junk (runAt2 m hO c t h).1.2 (coverAt2_2 m hO c t h)

/-- The body at any point. -/
theorem sound (hO : Ok m) (c : Dev nD) (t : Fin (cfgM m hO).N) :
    bodyPre m hO c t ⊢ wp frame (wpE (defs₀ (F := F)) Variants.none c none) Set.univ (bodyAt m hO t) (fun _ => bodyPost m hO c t) := by
  have h : t.val % 3 = 0 ∨ t.val % 3 = 1 ∨ t.val % 3 = 2 := by omega
  rcases h with h | h | h
  · exact sound0 m hO c t h
  · exact sound1 m hO c t h
  · exact sound2 m hO c t h

/-- The pipeline's call of its body at a point is that body. -/
theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- What the pipeline asks of its body. -/
theorem obligation (hO : Ok m) (c : Dev nD) : BodyObligation (dats (F := F) m hO 0 c) (defs₀ (F := F)) Variants.none () Set.univ := fun t => by
  rw [bigSep_W0, bigSep_W0, body_row m hO]
  exact triple_restated (sound m hO c t) rfl .rfl fun _ => .rfl

set_option backward.isDefEq.respectTransparency.types false in
/-- Every run ends with each array at what the data says, the rest untouched and no semaphore raised. -/
theorem run_all (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The part of that about the arrays. -/
theorem run_arrays (hO : Ok m) : θ_run defs (onTc (τ := τ) (main (F := F))) (s₀ m ρ)
    (Pipeline.FramePost (Pipeline.pin pcfgs fun _ => adm m hO) (dats m hO) 0 (V m)) :=
  (θ_run defs _ _).mono (fun _ h => h.1) (run_all m ρ hO)

/-- The frame: the arguments end as they were, and no semaphore is raised. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ hO (dats m hO) (run_arrays m ρ hO)) ((θ_run defs _ _).mono (fun _ h => h.2) (run_all m ρ hO))

end Cert.Proof.Kv

end
-- ==== Proof.KvPieces.lean ====
/- What a point of the projection to the keys and values leaves in its results, at a row and column. -/
module

public import proofs.«01_k».proof.Proof.ProjSpec
public import proofs.«01_k».proof.Proof.KernelOut
public import proofs.«01_k».proof.Proof.KvFrame
public import Idealize.ShloMosaic.Lib.Pipeline.ValueKit.Geometry
public import Idealize.ShloMosaic.Lib.Pipeline.Value

@[expose] public section

set_option maxRecDepth 16384

noncomputable section

namespace Cert.Proof.Kv

open Cert.KernelKvIdeal Cert.KernelKvIdeal.Gen
open Idealize.ShloMosaic Idealize.ShloMosaic.TcCoe Idealize.SL.Sem

/-- The column of a tile that a result's row and column come from: the tile's half `p`, the row's head, the column. -/
def sub (p : Fin 2) (R : ℕ) (d : Fin 128) : Fin 512 := ⟨256 * p.val + 128 * (R % 2) + d.val, by omega⟩

/-- What a tile's half `p` holds at a row and column, of the blocks of input, weight and offsets: rows in pairs, one per head. -/
def tileAt (x0 : Vec Ideal S2048x2048 .bf16) (x1 : Vec Ideal S512x2048 .f32) (x2 : Vec Ideal S1x512 .f32) (p : Fin 2) (R : Fin 4096) (d : Fin 128) : EReal :=
  lin (fun k => x0 (ix2 ⟨R.val / 2, by omega⟩ k)) (fun k => x1 (ix2 (sub p R.val d) k)) (x2 (ix2 0 (sub p R.val d)))

/-- A slice of the projected rows, at a row and column. -/
theorem slice_apply (X : Vec Ideal S512x2048 .bf16) (x1 : Vec Ideal S512x2048 .f32) (x2 : Vec Ideal S1x512 .f32) (q : ℕ)
    (sl : S512x512.Slices ![0, q] S512x128) (r : Fin 512) (e : Fin 128) (n : Fin 512) (hn : n.val = q + e.val) :
    extractStridedSlice S512x128 ![0, q] (k0_pay5 (F := Ideal) (k0_pay1 x1) X x2) sl (ix2 r e)
      = lin (fun k => X (ix2 r k)) (fun k => x1 (ix2 n k)) (x2 (ix2 0 n)) := by
  refine (extractStridedSlice_apply (s := S512x512) ![0, q] _ sl (ix2 r e) (ix2 r n) (fun a => ?_)).trans ?_
  · match a with
    | ⟨0, _⟩ => exact (Nat.zero_add _).symm
    | ⟨1, _⟩ => exact hn
  unfold lin
  simp only [k0_pay5, k0_pay1]
  pointwise

/-- One stored piece: rows `512 b` on of the block, at one head, in every second row of the result. -/
theorem piece (x0 : Vec Ideal S2048x2048 .bf16) (x1 : Vec Ideal S512x2048 .f32) (x2 : Vec Ideal S1x512 .f32) (p : Fin 2) (R : Fin 4096) (d : Fin 128)
    (b h o ox q : ℕ) (hh : h < 2) (ho : o = 1024 * b + h) (hx : ox = 512 * b) (hq : q = 256 * p.val + 128 * h)
    (inb) (pos) (inx : ∀ a, ![ox, 0] a + S512x2048.size a ≤ S2048x2048.size a) (sl : S512x512.Slices ![0, q] S512x128) :
    View.RectAt (Val := Elt Ideal) (e := .f32) (ix2 R d) (⟨(⟨![o, 0], S512x128.size, ![2, 1], inb⟩ : LoadRect S4096x128), pos⟩ : Rect S4096x128)
      (extractStridedSlice S512x128 ![0, q]
        (k0_pay5 (F := Ideal) (k0_pay1 x1) (View.ld x0 (Rect.unit (s := S2048x2048) ![ox, 0] S512x2048.size inx)) x2) sl) (tileAt x0 x1 x2 p R d) := by
  intro (x : S512x128.Idx) e
  obtain ⟨r, f, rfl⟩ : ∃ (r : Fin 512) (f : Fin 128), x = ix2 r f := ⟨_, _, eq_ix2 x⟩
  have e0 : o + 2 * r.val = R.val := congrArg (fun y : S4096x128.Idx => (y 0).val) e
  have e1 : 0 + 1 * f.val = d.val := congrArg (fun y : S4096x128.Idx => (y 1).val) e
  refine (slice_apply _ x1 x2 q sl r f (sub p R.val d) (by show 256 * p.val + 128 * (R.val % 2) + d.val = q + f.val; omega)).trans ?_
  unfold tileAt
  refine congrArg (fun g => lin g _ _) (funext fun k => ?_)
  exact View.ld_unit_apply_of _ _ _ _ _ _ (Fin.forall_fin_two.mpr ⟨by show R.val / 2 = ox + r.val; omega, (Nat.zero_add _).symm⟩)

/-- All the pieces that a point stores into one result, four blocks of rows by two heads, are right where they lie. -/
theorem pieces (x0 : Vec Ideal S2048x2048 .bf16) (x1 : Vec Ideal S512x2048 .f32) (x2 : Vec Ideal S1x512 .f32) (p : Fin 2) (R : Fin 4096) (d : Fin 128)
    (q0 q1 : ℕ) (h0 : q0 = 256 * p.val + 128 * 0) (h1 : q1 = 256 * p.val + 128 * 1)
    (sl0 : S512x512.Slices ![0, q0] S512x128) (sl1 : S512x512.Slices ![0, q1] S512x128) :
    View.AllAt (Val := Elt Ideal) (e := .f32) [⟨(⟨(⟨![3073, 0], S512x128.size, ![2, 1], inb_S4096x128_S512x128_3073_0_s_2_1⟩ : LoadRect S4096x128), spos_2_1⟩ : Rect S4096x128),
      extractStridedSlice S512x128 ![0, q1] (k0_pay5 (F := Ideal) (k0_pay1 x1) (View.ld x0 (Rect.unit (s := S2048x2048) ![1536, 0] S512x2048.size inb_S2048x2048_S512x2048_1536_0)) x2) sl1⟩,
      ⟨(⟨(⟨![3072, 0], S512x128.size, ![2, 1], inb_S4096x128_S512x128_3072_0_s_2_1⟩ : LoadRect S4096x128), spos_2_1⟩ : Rect S4096x128),
      extractStridedSlice S512x128 ![0, q0] (k0_pay5 (F := Ideal) (k0_pay1 x1) (View.ld x0 (Rect.unit (s := S2048x2048) ![1536, 0] S512x2048.size inb_S2048x2048_S512x2048_1536_0)) x2) sl0⟩,
      ⟨(⟨(⟨![2049, 0], S512x128.size, ![2, 1], inb_S4096x128_S512x128_2049_0_s_2_1⟩ : LoadRect S4096x128), spos_2_1⟩ : Rect S4096x128),
      extractStridedSlice S512x128 ![0, q1] (k0_pay5 (F := Ideal) (k0_pay1 x1) (View.ld x0 (Rect.unit (s := S2048x2048) ![1024, 0] S512x2048.size inb_S2048x2048_S512x2048_1024_0)) x2) sl1⟩,
      ⟨(⟨(⟨![2048, 0], S512x128.size, ![2, 1], inb_S4096x128_S512x128_2048_0_s_2_1⟩ : LoadRect S4096x128), spos_2_1⟩ : Rect S4096x128),
      extractStridedSlice S512x128 ![0, q0] (k0_pay5 (F := Ideal) (k0_pay1 x1) (View.ld x0 (Rect.unit (s := S2048x2048) ![1024, 0] S512x2048.size inb_S2048x2048_S512x2048_1024_0)) x2) sl0⟩,
      ⟨(⟨(⟨![1025, 0], S512x128.size, ![2, 1], inb_S4096x128_S512x128_1025_0_s_2_1⟩ : LoadRect S4096x128), spos_2_1⟩ : Rect S4096x128),
      extractStridedSlice S512x128 ![0, q1] (k0_pay5 (F := Ideal) (k0_pay1 x1) (View.ld x0 (Rect.unit (s := S2048x2048) ![512, 0] S512x2048.size inb_S2048x2048_S512x2048_512_0)) x2) sl1⟩,
      ⟨(⟨(⟨![1024, 0], S512x128.size, ![2, 1], inb_S4096x128_S512x128_1024_0_s_2_1⟩ : LoadRect S4096x128), spos_2_1⟩ : Rect S4096x128),
      extractStridedSlice S512x128 ![0, q0] (k0_pay5 (F := Ideal) (k0_pay1 x1) (View.ld x0 (Rect.unit (s := S2048x2048) ![512, 0] S512x2048.size inb_S2048x2048_S512x2048_512_0)) x2) sl0⟩,
      ⟨(⟨(⟨![1, 0], S512x128.size, ![2, 1], inb_S4096x128_S512x128_1_0_s_2_1⟩ : LoadRect S4096x128), spos_2_1⟩ : Rect S4096x128),
      extractStridedSlice S512x128 ![0, q1] (k0_pay5 (F := Ideal) (k0_pay1 x1) (View.ld x0 (Rect.unit (s := S2048x2048) ![0, 0] S512x2048.size inb_S2048x2048_S512x2048_0_0)) x2) sl1⟩,
      ⟨(⟨(⟨![0, 0], S512x128.size, ![2, 1], inb_S4096x128_S512x128_0_0_s_2_1⟩ : LoadRect S4096x128), spos_2_1⟩ : Rect S4096x128),
      extractStridedSlice S512x128 ![0, q0] (k0_pay5 (F := Ideal) (k0_pay1 x1) (View.ld x0 (Rect.unit (s := S2048x2048) ![0, 0] S512x2048.size inb_S2048x2048_S512x2048_0_0)) x2) sl0⟩] (ix2 R d) (tileAt x0 x1 x2 p R d) := by
  refine View.allAt_cons _ _ _ (piece x0 x1 x2 p R d 3 1 3073 1536 q1 (by omega) rfl rfl h1 _ _ _ _) ?_
  refine View.allAt_cons _ _ _ (piece x0 x1 x2 p R d 3 0 3072 1536 q0 (by omega) rfl rfl h0 _ _ _ _) ?_
  refine View.allAt_cons _ _ _ (piece x0 x1 x2 p R d 2 1 2049 1024 q1 (by omega) rfl rfl h1 _ _ _ _) ?_
  refine View.allAt_cons _ _ _ (piece x0 x1 x2 p R d 2 0 2048 1024 q0 (by omega) rfl rfl h0 _ _ _ _) ?_
  refine View.allAt_cons _ _ _ (piece x0 x1 x2 p R d 1 1 1025 512 q1 (by omega) rfl rfl h1 _ _ _ _) ?_
  refine View.allAt_cons _ _ _ (piece x0 x1 x2 p R d 1 0 1024 512 q0 (by omega) rfl rfl h0 _ _ _ _) ?_
  refine View.allAt_cons _ _ _ (piece x0 x1 x2 p R d 0 1 1 0 q1 (by omega) rfl rfl h1 _ _ _ _) ?_
  refine View.allAt_cons _ _ _ (piece x0 x1 x2 p R d 0 0 0 0 q0 (by omega) rfl rfl h0 _ _ _ _) ?_
  exact View.allAt_nil _ _

/-- Every piece that a point of tile 0 stores into its first result is right where it lies. -/
theorem pieces0_1 (c : Dev nD) (i : grid0.Coords) (arg2 : Memref sig .tc .smem S3 .i32) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (hc1 : k0_cond1 i = 1#1) (hc2 : ¬k0_cond2 i = 1#1) (hc3 : ¬k0_cond3 i = 1#1)
    (x0 : Vec Ideal S2048x2048 .bf16) (x1 : Vec Ideal S512x2048 .f32) (x2 : Vec Ideal S1x512 .f32) (R : Fin 4096) (d : Fin 128) :
    View.AllAt (run0 c i arg2 harg2 arg3 harg3 arg4 harg4 arg5 harg5 arg6 harg6 arg7 harg7 arg8 harg8 arg9 harg9 arg10 harg10 arg11 harg11 hc1 hc2 hc3 x0 x1 x2).1.1 (ix2 R d) (tileAt x0 x1 x2 0 R d) := by
  unfold run0
  dsimp only
  sl_unfold_words
  simp only [View.readAt_eq_ld, harg3.read_unread, harg4.read_unread, harg5.read_unread,
    View.ld_unit_zero (S := S512x2048) hz, View.ld_unit_zero (S := S1x512) hz]
  exact pieces x0 x1 x2 0 R d 0 128 rfl rfl slices_S512x512_o0_0_S512x128 slices_S512x512_o0_128_S512x128

/-- Every piece that a point of tile 0 stores into its second result is right where it lies. -/
theorem pieces0_2 (c : Dev nD) (i : grid0.Coords) (arg2 : Memref sig .tc .smem S3 .i32) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (hc1 : k0_cond1 i = 1#1) (hc2 : ¬k0_cond2 i = 1#1) (hc3 : ¬k0_cond3 i = 1#1)
    (x0 : Vec Ideal S2048x2048 .bf16) (x1 : Vec Ideal S512x2048 .f32) (x2 : Vec Ideal S1x512 .f32) (R : Fin 4096) (d : Fin 128) :
    View.AllAt (run0 c i arg2 harg2 arg3 harg3 arg4 harg4 arg5 harg5 arg6 harg6 arg7 harg7 arg8 harg8 arg9 harg9 arg10 harg10 arg11 harg11 hc1 hc2 hc3 x0 x1 x2).1.2 (ix2 R d) (tileAt x0 x1 x2 1 R d) := by
  unfold run0
  dsimp only
  sl_unfold_words
  simp only [View.readAt_eq_ld, harg3.read_unread, harg4.read_unread, harg5.read_unread,
    View.ld_unit_zero (S := S512x2048) hz, View.ld_unit_zero (S := S1x512) hz]
  exact pieces x0 x1 x2 1 R d 256 384 rfl rfl slices_S512x512_o0_256_S512x128 slices_S512x512_o0_384_S512x128

/-- Every piece that a point of tile 1 stores into its first result is right where it lies. -/
theorem pieces1_1 (c : Dev nD) (i : grid0.Coords) (arg2 : Memref sig .tc .smem S3 .i32) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (hc1 : ¬k0_cond1 i = 1#1) (hc2 : k0_cond2 i = 1#1) (hc3 : ¬k0_cond3 i = 1#1)
    (x0 : Vec Ideal S2048x2048 .bf16) (x1 : Vec Ideal S512x2048 .f32) (x2 : Vec Ideal S1x512 .f32) (R : Fin 4096) (d : Fin 128) :
    View.AllAt (run1 c i arg2 harg2 arg3 harg3 arg4 harg4 arg5 harg5 arg6 harg6 arg7 harg7 arg8 harg8 arg9 harg9 arg10 harg10 arg11 harg11 hc1 hc2 hc3 x0 x1 x2).1.1 (ix2 R d) (tileAt x0 x1 x2 0 R d) := by
  unfold run1
  dsimp only
  sl_unfold_words
  simp only [View.readAt_eq_ld, harg3.read_unread, harg4.read_unread, harg5.read_unread,
    View.ld_unit_zero (S := S512x2048) hz, View.ld_unit_zero (S := S1x512) hz]
  exact pieces x0 x1 x2 0 R d 0 128 rfl rfl slices_S512x512_o0_0_S512x128 slices_S512x512_o0_128_S512x128

/-- Every piece that a point of tile 1 stores into its second result is right where it lies. -/
theorem pieces1_2 (c : Dev nD) (i : grid0.Coords) (arg2 : Memref sig .tc .smem S3 .i32) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (hc1 : ¬k0_cond1 i = 1#1) (hc2 : k0_cond2 i = 1#1) (hc3 : ¬k0_cond3 i = 1#1)
    (x0 : Vec Ideal S2048x2048 .bf16) (x1 : Vec Ideal S512x2048 .f32) (x2 : Vec Ideal S1x512 .f32) (R : Fin 4096) (d : Fin 128) :
    View.AllAt (run1 c i arg2 harg2 arg3 harg3 arg4 harg4 arg5 harg5 arg6 harg6 arg7 harg7 arg8 harg8 arg9 harg9 arg10 harg10 arg11 harg11 hc1 hc2 hc3 x0 x1 x2).1.2 (ix2 R d) (tileAt x0 x1 x2 1 R d) := by
  unfold run1
  dsimp only
  sl_unfold_words
  simp only [View.readAt_eq_ld, harg3.read_unread, harg4.read_unread, harg5.read_unread,
    View.ld_unit_zero (S := S512x2048) hz, View.ld_unit_zero (S := S1x512) hz]
  exact pieces x0 x1 x2 1 R d 256 384 rfl rfl slices_S512x512_o0_256_S512x128 slices_S512x512_o0_384_S512x128

/-- Every piece that a point of tile 2 stores into its first result is right where it lies. -/
theorem pieces2_1 (c : Dev nD) (i : grid0.Coords) (arg2 : Memref sig .tc .smem S3 .i32) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (hc1 : ¬k0_cond1 i = 1#1) (hc2 : ¬k0_cond2 i = 1#1) (hc3 : k0_cond3 i = 1#1)
    (x0 : Vec Ideal S2048x2048 .bf16) (x1 : Vec Ideal S512x2048 .f32) (x2 : Vec Ideal S1x512 .f32) (R : Fin 4096) (d : Fin 128) :
    View.AllAt (run2 c i arg2 harg2 arg3 harg3 arg4 harg4 arg5 harg5 arg6 harg6 arg7 harg7 arg8 harg8 arg9 harg9 arg10 harg10 arg11 harg11 hc1 hc2 hc3 x0 x1 x2).1.1 (ix2 R d) (tileAt x0 x1 x2 0 R d) := by
  unfold run2
  dsimp only
  sl_unfold_words
  simp only [View.readAt_eq_ld, harg3.read_unread, harg4.read_unread, harg5.read_unread,
    View.ld_unit_zero (S := S512x2048) hz, View.ld_unit_zero (S := S1x512) hz]
  exact pieces x0 x1 x2 0 R d 0 128 rfl rfl slices_S512x512_o0_0_S512x128 slices_S512x512_o0_128_S512x128

/-- Every piece that a point of tile 2 stores into its second result is right where it lies. -/
theorem pieces2_2 (c : Dev nD) (i : grid0.Coords) (arg2 : Memref sig .tc .smem S3 .i32) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (hc1 : ¬k0_cond1 i = 1#1) (hc2 : ¬k0_cond2 i = 1#1) (hc3 : k0_cond3 i = 1#1)
    (x0 : Vec Ideal S2048x2048 .bf16) (x1 : Vec Ideal S512x2048 .f32) (x2 : Vec Ideal S1x512 .f32) (R : Fin 4096) (d : Fin 128) :
    View.AllAt (run2 c i arg2 harg2 arg3 harg3 arg4 harg4 arg5 harg5 arg6 harg6 arg7 harg7 arg8 harg8 arg9 harg9 arg10 harg10 arg11 harg11 hc1 hc2 hc3 x0 x1 x2).1.2 (ix2 R d) (tileAt x0 x1 x2 1 R d) := by
  unfold run2
  dsimp only
  sl_unfold_words
  simp only [View.readAt_eq_ld, harg3.read_unread, harg4.read_unread, harg5.read_unread,
    View.ld_unit_zero (S := S512x2048) hz, View.ld_unit_zero (S := S1x512) hz]
  exact pieces x0 x1 x2 1 R d 256 384 rfl rfl slices_S512x512_o0_256_S512x128 slices_S512x512_o0_384_S512x128

/-- So that result at a point of tile 0, at a row and column. -/
theorem outs0_1 (m : (ℓ : Loc nD τ sig) → Buf (Elt Ideal) ℓ) (hO : Ok m) (c : Dev nD) (t : Fin (cfgM m hO).N) (h : t.val % 3 = 0) (R : Fin 4096) (d : Fin 128) :
    (outs0 m hO c t h).1 (ix2 R d) = tileAt (iblk m hO c 0 t) (iblk m hO c 1 t) (iblk m hO c 2 t) 0 R d := by
  show left (runAt0 m hO c t h).1.1 (ix2 R d) = _
  unfold left
  rw [View.read_writes_eq_canon _ _ _ (coverAt0_1 m hO c t h)]
  refine View.canon_eq_of_allAt _ _ _ (coverAt0_1 m hO c t h _) ?_
  unfold runAt0
  exact pieces0_1 _ _ _ _ _ _ _ _ _ _ _ _ _ _ _ _ _ _ _ _ _ _ _ _ _ _ _ _ _ _

/-- So that result at a point of tile 0, at a row and column. -/
theorem outs0_2 (m : (ℓ : Loc nD τ sig) → Buf (Elt Ideal) ℓ) (hO : Ok m) (c : Dev nD) (t : Fin (cfgM m hO).N) (h : t.val % 3 = 0) (R : Fin 4096) (d : Fin 128) :
    (outs0 m hO c t h).2 (ix2 R d) = tileAt (iblk m hO c 0 t) (iblk m hO c 1 t) (iblk m hO c 2 t) 1 R d := by
  show left (runAt0 m hO c t h).1.2 (ix2 R d) = _
  unfold left
  rw [View.read_writes_eq_canon _ _ _ (coverAt0_2 m hO c t h)]
  refine View.canon_eq_of_allAt _ _ _ (coverAt0_2 m hO c t h _) ?_
  unfold runAt0
  exact pieces0_2 _ _ _ _ _ _ _ _ _ _ _ _ _ _ _ _ _ _ _ _ _ _ _ _ _ _ _ _ _ _

/-- So that result at a point of tile 1, at a row and column. -/
theorem outs1_1 (m : (ℓ : Loc nD τ sig) → Buf (Elt Ideal) ℓ) (hO : Ok m) (c : Dev nD) (t : Fin (cfgM m hO).N) (h : t.val % 3 = 1) (R : Fin 4096) (d : Fin 128) :
    (outs1 m hO c t h).1 (ix2 R d) = tileAt (iblk m hO c 0 t) (iblk m hO c 1 t) (iblk m hO c 2 t) 0 R d := by
  show left (runAt1 m hO c t h).1.1 (ix2 R d) = _
  unfold left
  rw [View.read_writes_eq_canon _ _ _ (coverAt1_1 m hO c t h)]
  refine View.canon_eq_of_allAt _ _ _ (coverAt1_1 m hO c t h _) ?_
  unfold runAt1
  exact pieces1_1 _ _ _ _ _ _ _ _ _ _ _ _ _ _ _ _ _ _ _ _ _ _ _ _ _ _ _ _ _ _

/-- So that result at a point of tile 1, at a row and column. -/
theorem outs1_2 (m : (ℓ : Loc nD τ sig) → Buf (Elt Ideal) ℓ) (hO : Ok m) (c : Dev nD) (t : Fin (cfgM m hO).N) (h : t.val % 3 = 1) (R : Fin 4096) (d : Fin 128) :
    (outs1 m hO c t h).2 (ix2 R d) = tileAt (iblk m hO c 0 t) (iblk m hO c 1 t) (iblk m hO c 2 t) 1 R d := by
  show left (runAt1 m hO c t h).1.2 (ix2 R d) = _
  unfold left
  rw [View.read_writes_eq_canon _ _ _ (coverAt1_2 m hO c t h)]
  refine View.canon_eq_of_allAt _ _ _ (coverAt1_2 m hO c t h _) ?_
  unfold runAt1
  exact pieces1_2 _ _ _ _ _ _ _ _ _ _ _ _ _ _ _ _ _ _ _ _ _ _ _ _ _ _ _ _ _ _

/-- So that result at a point of tile 2, at a row and column. -/
theorem outs2_1 (m : (ℓ : Loc nD τ sig) → Buf (Elt Ideal) ℓ) (hO : Ok m) (c : Dev nD) (t : Fin (cfgM m hO).N) (h : t.val % 3 = 2) (R : Fin 4096) (d : Fin 128) :
    (outs2 m hO c t h).1 (ix2 R d) = tileAt (iblk m hO c 0 t) (iblk m hO c 1 t) (iblk m hO c 2 t) 0 R d := by
  show left (runAt2 m hO c t h).1.1 (ix2 R d) = _
  unfold left
  rw [View.read_writes_eq_canon _ _ _ (coverAt2_1 m hO c t h)]
  refine View.canon_eq_of_allAt _ _ _ (coverAt2_1 m hO c t h _) ?_
  unfold runAt2
  exact pieces2_1 _ _ _ _ _ _ _ _ _ _ _ _ _ _ _ _ _ _ _ _ _ _ _ _ _ _ _ _ _ _

/-- So that result at a point of tile 2, at a row and column. -/
theorem outs2_2 (m : (ℓ : Loc nD τ sig) → Buf (Elt Ideal) ℓ) (hO : Ok m) (c : Dev nD) (t : Fin (cfgM m hO).N) (h : t.val % 3 = 2) (R : Fin 4096) (d : Fin 128) :
    (outs2 m hO c t h).2 (ix2 R d) = tileAt (iblk m hO c 0 t) (iblk m hO c 1 t) (iblk m hO c 2 t) 1 R d := by
  show left (runAt2 m hO c t h).1.2 (ix2 R d) = _
  unfold left
  rw [View.read_writes_eq_canon _ _ _ (coverAt2_2 m hO c t h)]
  refine View.canon_eq_of_allAt _ _ _ (coverAt2_2 m hO c t h _) ?_
  unfold runAt2
  exact pieces2_2 _ _ _ _ _ _ _ _ _ _ _ _ _ _ _ _ _ _ _ _ _ _ _ _ _ _ _ _ _ _

end Cert.Proof.Kv

end
-- ==== Proof.KvValue.lean ====
/- The keys' and values' projection over the reals: its frame's side condition, its blocks and its six results. -/
module

public import proofs.«01_k».proof.Proof.KvPieces

@[expose] public section

set_option maxRecDepth 16384

noncomputable section

namespace Cert.Proof.Kv

open Cert.KernelKvIdeal Cert.KernelKvIdeal.Gen
open Idealize.ShloMosaic Idealize.ShloMosaic.TcCoe Idealize.SL.Sem

/-- The row starts that the program writes into its table. -/
def starts : pre0.Contents (Elt Ideal) :=
  fun | ⟨0, _⟩ => fun x => lit0 (S3.rowMajor x) | ⟨_ + 1, h⟩ => absurd h (by simp)

/-- The table holds them when the call begins. -/
theorem tbl_eq (m : (ℓ : Loc nD τ sig) → Buf (Elt Ideal) ℓ) : tbl m = starts := by
  funext j x
  match j with
  | ⟨0, _⟩ => rfl

/-- Every weight block lies inside the weight, at a multiple of eight rows. -/
theorem ok (m : (ℓ : Loc nD τ sig) → Buf (Elt Ideal) ℓ) : Ok m := by
  unfold Ok; rw [tbl_eq]; decide +kernel

/-- The column of the projection where the tile of a point begins. -/
def col (t : ℕ) : ℕ := 3072 + 512 * (t % 3)

theorem tr0 : ∀ t : Fin grid0.N, cc0_transform_0 (grid0.coords t) = ![t.val / 3, 0] := by decide +kernel
theorem tr1 : ∀ t : Fin grid0.N, cc0_transform_1 k0_off1_inb numel1_S1 starts (grid0.coords t) = ![col t.val, 0] := by decide +kernel
theorem tr2 : ∀ t : Fin grid0.N, cc0_transform_2 (grid0.coords t) = ![0, t.val % 3] := by decide +kernel

variable (m : (ℓ : Loc nD τ sig) → Buf (Elt Ideal) ℓ) (c : Dev nD) (t : Fin (cfgM m (ok m)).N)

/-- Where each window stands at a point: -/
theorem at0 : (pcfg0.win (adm m (ok m)) 0).index t = ![t.val / 3, 0] := tr0 t
theorem at1 : (pcfg0.win (adm m (ok m)) 1).index t = ![col t.val, 0] := by
  refine Eq.trans ?_ (tr1 t)
  show cc0_transform_1 k0_off1_inb numel1_S1 (tbl m) (grid0.coords t) = _
  rw [tbl_eq]
theorem at2 : (pcfg0.win (adm m (ok m)) 2).index t = ![0, t.val % 3] := tr2 t

/-- the six results at the rows of the point's group of three. -/
theorem at3 : (pcfg0.win (adm m (ok m)) 3).index t = ![t.val / 3, 0] :=
  (by decide +kernel : ∀ t : Fin grid0.N, cc0_transform_3 (grid0.coords t) = ![t.val / 3, 0]) t
theorem at4 : (pcfg0.win (adm m (ok m)) 4).index t = ![t.val / 3, 0] :=
  (by decide +kernel : ∀ t : Fin grid0.N, cc0_transform_4 (grid0.coords t) = ![t.val / 3, 0]) t
theorem at5 : (pcfg0.win (adm m (ok m)) 5).index t = ![t.val / 3, 0] :=
  (by decide +kernel : ∀ t : Fin grid0.N, cc0_transform_5 (grid0.coords t) = ![t.val / 3, 0]) t
theorem at6 : (pcfg0.win (adm m (ok m)) 6).index t = ![t.val / 3, 0] :=
  (by decide +kernel : ∀ t : Fin grid0.N, cc0_transform_6 (grid0.coords t) = ![t.val / 3, 0]) t
theorem at7 : (pcfg0.win (adm m (ok m)) 7).index t = ![t.val / 3, 0] :=
  (by decide +kernel : ∀ t : Fin grid0.N, cc0_transform_7 (grid0.coords t) = ![t.val / 3, 0]) t
theorem at8 : (pcfg0.win (adm m (ok m)) 8).index t = ![t.val / 3, 0] :=
  (by decide +kernel : ∀ t : Fin grid0.N, cc0_transform_8 (grid0.coords t) = ![t.val / 3, 0]) t

theorem pt_lt : t.val < 12 := t.isLt

theorem row_lt (r : Fin 2048) : 2048 * (t.val / 3) + r.val < 8192 := by have := pt_lt m t; omega

theorem out_lt (r : Fin 4096) : 4096 * (t.val / 3) + r.val < 16384 := by have := pt_lt m t; omega

theorem tile_lt (n : Fin 512) : 512 * (t.val % 3) + n.val < 1536 := by omega

theorem col_lt (n : Fin 512) : col t.val + n.val < 9752 := by unfold col; omega

/-- A point's rows of the layer's input. -/
theorem blk0 (r : Fin 2048) (k : Fin 2048) : iblk m (ok m) c 0 t (ix2 r k)
    = m ((c : Thread nD τ).loc main_arg0) (ix2 ⟨2048 * (t.val / 3) + r.val, row_lt m t r⟩ k) := by
  refine Eq.trans ?_ (congrFun (show V m c main_v0 = m ((c : Thread nD τ).loc main_arg0) from rfl) _)
  blk_simp [iblk]
  refine congrArg _ ?_
  blk_ext
  · refine (congrArg (· * 2048 + r.val) (congrFun (at0 m t) 0)).trans ?_
    show t.val / 3 * 2048 + r.val = _
    omega
  · refine (congrArg (· * 2048 + k.val) (congrFun (at0 m t) 1)).trans ?_
    show 0 * 2048 + k.val = _
    omega

/-- A point's columns of the weight, as rows. -/
theorem blk1 (n : Fin 512) (k : Fin 2048) : iblk m (ok m) c 1 t (ix2 n k)
    = m ((c : Thread nD τ).loc main_arg1) (ix2 k ⟨col t.val + n.val, col_lt m t n⟩) := by
  have e : V m c main_v1 = transpose S9752x2048 [1, 0] (m ((c : Thread nD τ).loc main_arg1)) transposes_S2048x9752_S9752x2048_1_0 := rfl
  have h : ∀ (q : Fin 9752), V m c main_v1 (ix2 q k) = m ((c : Thread nD τ).loc main_arg1) (ix2 k q) := by
    intro q
    rw [e]
    pointwise
  refine Eq.trans ?_ (h _)
  blk_simp [iblk]
  refine congrArg _ ?_
  blk_ext
  · refine Eq.trans (b := (pcfg0.win (adm m (ok m)) 1).index t 0 + 1 * n.val) rfl ?_
    refine (congrArg (· + 1 * n.val) (congrFun (at1 m t) 0)).trans ?_
    show col t.val + 1 * n.val = _
    omega
  · refine Eq.trans (b := (pcfg0.win (adm m (ok m)) 1).index t 1 + 1 * k.val) rfl ?_
    refine (congrArg (· + 1 * k.val) (congrFun (at1 m t) 1)).trans ?_
    show 0 + 1 * k.val = _
    omega

/-- A point's part of the offsets. -/
theorem blk2 (n : Fin 512) : iblk m (ok m) c 2 t (ix2 0 n)
    = m ((c : Thread nD τ).loc main_arg2) (ix1 ⟨col t.val + n.val, col_lt m t n⟩) := by
  have h : ∀ q : Fin 1536, V m c main_v3 (ix2 0 q) = m ((c : Thread nD τ).loc main_arg2) (ix1 ⟨3072 + q.val, by omega⟩) := by
    intro q
    have e : V m c main_v3 = extractStridedSlice S1x1536 ![0, 3072]
      (broadcastInDim S1x9752 ![1] bcast_S9752_S1x9752_1 (m ((c : Thread nD τ).loc main_arg2))) slices_S1x9752_S1x1536_0_3072 := rfl
    rw [e]
    pointwise
  refine Eq.trans ?_ ((h ⟨512 * (t.val % 3) + n.val, tile_lt m t n⟩).trans ?_)
  · blk_simp [iblk]
    refine congrArg _ ?_
    blk_ext
    · refine (congrArg (· * 1 + 0) (congrFun (at2 m t) 0)).trans ?_
      rfl
    · refine (congrArg (· * 512 + n.val) (congrFun (at2 m t) 1)).trans ?_
      show t.val % 3 * 512 + n.val = _
      omega
  · exact congrArg (fun z => m ((c : Thread nD τ).loc main_arg2) (ix1 z)) (Fin.ext (Nat.add_assoc _ _ _).symm)

theorem sub_lt (j : Fin 6) (R : ℕ) (d : Fin 128) : 3072 + 256 * j.val + 128 * (R % 2) + d.val < 9752 := by omega

/-- The `j`-th of the six results at a row and column, as a function of the arguments: rows in pairs, one per head. -/
def rowAt (j : Fin 6) (R : Fin 16384) (d : Fin 128) : EReal :=
  lin (fun k => m ((c : Thread nD τ).loc main_arg0) (ix2 ⟨R.val / 2, by omega⟩ k))
    (fun k => m ((c : Thread nD τ).loc main_arg1) (ix2 k ⟨3072 + 256 * j.val + 128 * (R.val % 2) + d.val, sub_lt j R.val d⟩))
    (m ((c : Thread nD τ).loc main_arg2) (ix1 ⟨3072 + 256 * j.val + 128 * (R.val % 2) + d.val, sub_lt j R.val d⟩))

/-- What a point's tile holds, in terms of the arguments. -/
theorem tile_eq (p : Fin 2) (j : Fin 6) (hj : j.val = 2 * (t.val % 3) + p.val) (r : Fin 4096) (R : Fin 16384) (hR : R.val = 4096 * (t.val / 3) + r.val) (d : Fin 128) :
    tileAt (iblk m (ok m) c 0 t) (iblk m (ok m) c 1 t) (iblk m (ok m) c 2 t) p r d = rowAt m c j R d := by
  have e0 : (⟨2048 * (t.val / 3) + r.val / 2, row_lt m t ⟨r.val / 2, by omega⟩⟩ : Fin 8192) = ⟨R.val / 2, by omega⟩ :=
    Fin.ext (by show 2048 * (t.val / 3) + r.val / 2 = R.val / 2; omega)
  have e1 : (⟨col t.val + (sub p r.val d).val, col_lt m t _⟩ : Fin 9752)
      = ⟨3072 + 256 * j.val + 128 * (R.val % 2) + d.val, sub_lt j R.val d⟩ :=
    Fin.ext (by show 3072 + 512 * (t.val % 3) + (256 * p.val + 128 * (r.val % 2) + d.val) = 3072 + 256 * j.val + 128 * (R.val % 2) + d.val; omega)
  unfold tileAt rowAt
  simp only [blk0 m c t, blk1 m c t, blk2 m c t]
  rw [e0, e1]

/-- A result array that is right in every block is right everywhere. -/
theorem everywhere (A : S16384x128.Idx → EReal) (j : Fin 6)
    (h : ∀ (t : Fin (cfgM m (ok m)).N), t.val % 3 = 2 → ∀ (r : Fin 4096) (d : Fin 128),
      A (ix2 ⟨4096 * (t.val / 3) + r.val, out_lt m t r⟩ d) = rowAt m c j ⟨4096 * (t.val / 3) + r.val, out_lt m t r⟩ d)
    (R : Fin 16384) (d : Fin 128) : A (ix2 R d) = rowAt m c j R d := by
  have e : (⟨4096 * ((3 * (R.val / 4096) + 2) / 3) + R.val % 4096, by omega⟩ : Fin 16384) = R := Fin.ext (by simp only []; omega)
  have h := h ⟨3 * (R.val / 4096) + 2, by show _ < 12; omega⟩ (by simp only []; omega) ⟨R.val % 4096, by omega⟩ d
  exact e ▸ h

/-- The first result: the points that write it back write distinct blocks, -/
theorem apart3 : ∀ t t' : Fin (cfgM m (ok m)).N, ((cfgM m (ok m)).win 3).flush t = true → ((cfgM m (ok m)).win 3).flush t' = true → t ≠ t' →
    Disjoint (((cfgM m (ok m)).win 3).blk t).view.set (((cfgM m (ok m)).win 3).blk t').view.set := by
  intro t t' f f' hne
  rw [flush3] at f f'
  have f := of_decide_eq_true f
  have f' := of_decide_eq_true f'
  refine ((cfgM m (ok m)).win 3).disjoint_blk fun h => hne (Fin.ext ?_)
  have h0 : t.val / 3 = t'.val / 3 := congrFun ((at3 m t).symm.trans (h.trans (at3 m t'))) 0
  omega
/-- so it is the projection, at a row and column. -/
theorem result3 (R : Fin 16384) (d : Fin 128) : (dats m (ok m) 0 c).arrAt 3 (cfgM m (ok m)).N (ix2 R d) = rowAt m c 0 R d := by
  refine everywhere m c ((dats m (ok m) 0 c).arrAt 3 (cfgM m (ok m)).N) 0 (fun t ht r d => ?_) R d
  have b := congrFun ((dats m (ok m) 0 c).read_blk_arrAt_eq_flushed 3 (apart3 m) (cfgM m (ok m)).N t t.isLt
    ((flush3 m (ok m) t).trans (decide_eq_true ht))) (ix2 r d)
  have f : (dats m (ok m) 0 c).flushed 3 t (ix2 r d) = (outAt0 m (ok m) c t).1 (ix2 r d) := by
    show (dats m (ok m) 0 c).after 3 t _ = _
    rw [after3]
    rfl
  have e : (((cfgM m (ok m)).win 3).blk t).view.emb (ix2 r d) = ix2 ⟨4096 * (t.val / 3) + r.val, out_lt m t r⟩ d := by
    blk_ext
    · refine (congrArg (· * 4096 + r.val) (congrFun (at3 m t) 0)).trans ?_
      show t.val / 3 * 4096 + r.val = _
      omega
    · refine (congrArg (· * 128 + d.val) (congrFun (at3 m t) 1)).trans ?_
      show 0 * 128 + d.val = _
      omega
  rw [f] at b
  generalize (dats m (ok m) 0 c).arrAt 3 (cfgM m (ok m)).N = A at b ⊢
  refine (congrArg A e.symm).trans (b.trans ?_)
  refine (outs0_1 m (ok m) c (own0 m (ok m) t) (own0_mod m (ok m) t) r d).trans ?_
  refine tile_eq m c (own0 m (ok m) t) 0 0 ?_ r _ ?_ d
  · rw [own0_mod m (ok m) t]; rfl
  · show 4096 * (t.val / 3) + r.val = 4096 * ((3 * (t.val / 3) + 0) / 3) + r.val
    omega

/-- The second result: the points that write it back write distinct blocks, -/
theorem apart4 : ∀ t t' : Fin (cfgM m (ok m)).N, ((cfgM m (ok m)).win 4).flush t = true → ((cfgM m (ok m)).win 4).flush t' = true → t ≠ t' →
    Disjoint (((cfgM m (ok m)).win 4).blk t).view.set (((cfgM m (ok m)).win 4).blk t').view.set := by
  intro t t' f f' hne
  rw [flush4] at f f'
  have f := of_decide_eq_true f
  have f' := of_decide_eq_true f'
  refine ((cfgM m (ok m)).win 4).disjoint_blk fun h => hne (Fin.ext ?_)
  have h0 : t.val / 3 = t'.val / 3 := congrFun ((at4 m t).symm.trans (h.trans (at4 m t'))) 0
  omega
/-- so it is the projection, at a row and column. -/
theorem result4 (R : Fin 16384) (d : Fin 128) : (dats m (ok m) 0 c).arrAt 4 (cfgM m (ok m)).N (ix2 R d) = rowAt m c 1 R d := by
  refine everywhere m c ((dats m (ok m) 0 c).arrAt 4 (cfgM m (ok m)).N) 1 (fun t ht r d => ?_) R d
  have b := congrFun ((dats m (ok m) 0 c).read_blk_arrAt_eq_flushed 4 (apart4 m) (cfgM m (ok m)).N t t.isLt
    ((flush4 m (ok m) t).trans (decide_eq_true ht))) (ix2 r d)
  have f : (dats m (ok m) 0 c).flushed 4 t (ix2 r d) = (outAt0 m (ok m) c t).2 (ix2 r d) := by
    show (dats m (ok m) 0 c).after 4 t _ = _
    rw [after4]
    rfl
  have e : (((cfgM m (ok m)).win 4).blk t).view.emb (ix2 r d) = ix2 ⟨4096 * (t.val / 3) + r.val, out_lt m t r⟩ d := by
    blk_ext
    · refine (congrArg (· * 4096 + r.val) (congrFun (at4 m t) 0)).trans ?_
      show t.val / 3 * 4096 + r.val = _
      omega
    · refine (congrArg (· * 128 + d.val) (congrFun (at4 m t) 1)).trans ?_
      show 0 * 128 + d.val = _
      omega
  rw [f] at b
  generalize (dats m (ok m) 0 c).arrAt 4 (cfgM m (ok m)).N = A at b ⊢
  refine (congrArg A e.symm).trans (b.trans ?_)
  refine (outs0_2 m (ok m) c (own0 m (ok m) t) (own0_mod m (ok m) t) r d).trans ?_
  refine tile_eq m c (own0 m (ok m) t) 1 1 ?_ r _ ?_ d
  · rw [own0_mod m (ok m) t]; rfl
  · show 4096 * (t.val / 3) + r.val = 4096 * ((3 * (t.val / 3) + 0) / 3) + r.val
    omega

/-- The third result: the points that write it back write distinct blocks, -/
theorem apart5 : ∀ t t' : Fin (cfgM m (ok m)).N, ((cfgM m (ok m)).win 5).flush t = true → ((cfgM m (ok m)).win 5).flush t' = true → t ≠ t' →
    Disjoint (((cfgM m (ok m)).win 5).blk t).view.set (((cfgM m (ok m)).win 5).blk t').view.set := by
  intro t t' f f' hne
  rw [flush5] at f f'
  have f := of_decide_eq_true f
  have f' := of_decide_eq_true f'
  refine ((cfgM m (ok m)).win 5).disjoint_blk fun h => hne (Fin.ext ?_)
  have h0 : t.val / 3 = t'.val / 3 := congrFun ((at5 m t).symm.trans (h.trans (at5 m t'))) 0
  omega
/-- so it is the projection, at a row and column. -/
theorem result5 (R : Fin 16384) (d : Fin 128) : (dats m (ok m) 0 c).arrAt 5 (cfgM m (ok m)).N (ix2 R d) = rowAt m c 2 R d := by
  refine everywhere m c ((dats m (ok m) 0 c).arrAt 5 (cfgM m (ok m)).N) 2 (fun t ht r d => ?_) R d
  have b := congrFun ((dats m (ok m) 0 c).read_blk_arrAt_eq_flushed 5 (apart5 m) (cfgM m (ok m)).N t t.isLt
    ((flush5 m (ok m) t).trans (decide_eq_true ht))) (ix2 r d)
  have f : (dats m (ok m) 0 c).flushed 5 t (ix2 r d) = (outAt1 m (ok m) c t).1 (ix2 r d) := by
    show (dats m (ok m) 0 c).after 5 t _ = _
    rw [after5]
    rfl
  have e : (((cfgM m (ok m)).win 5).blk t).view.emb (ix2 r d) = ix2 ⟨4096 * (t.val / 3) + r.val, out_lt m t r⟩ d := by
    blk_ext
    · refine (congrArg (· * 4096 + r.val) (congrFun (at5 m t) 0)).trans ?_
      show t.val / 3 * 4096 + r.val = _
      omega
    · refine (congrArg (· * 128 + d.val) (congrFun (at5 m t) 1)).trans ?_
      show 0 * 128 + d.val = _
      omega
  rw [f] at b
  generalize (dats m (ok m) 0 c).arrAt 5 (cfgM m (ok m)).N = A at b ⊢
  refine (congrArg A e.symm).trans (b.trans ?_)
  refine (outs1_1 m (ok m) c (own1 m (ok m) t) (own1_mod m (ok m) t) r d).trans ?_
  refine tile_eq m c (own1 m (ok m) t) 0 2 ?_ r _ ?_ d
  · rw [own1_mod m (ok m) t]; rfl
  · show 4096 * (t.val / 3) + r.val = 4096 * ((3 * (t.val / 3) + 1) / 3) + r.val
    omega

/-- The fourth result: the points that write it back write distinct blocks, -/
theorem apart6 : ∀ t t' : Fin (cfgM m (ok m)).N, ((cfgM m (ok m)).win 6).flush t = true → ((cfgM m (ok m)).win 6).flush t' = true → t ≠ t' →
    Disjoint (((cfgM m (ok m)).win 6).blk t).view.set (((cfgM m (ok m)).win 6).blk t').view.set := by
  intro t t' f f' hne
  rw [flush6] at f f'
  have f := of_decide_eq_true f
  have f' := of_decide_eq_true f'
  refine ((cfgM m (ok m)).win 6).disjoint_blk fun h => hne (Fin.ext ?_)
  have h0 : t.val / 3 = t'.val / 3 := congrFun ((at6 m t).symm.trans (h.trans (at6 m t'))) 0
  omega
/-- so it is the projection, at a row and column. -/
theorem result6 (R : Fin 16384) (d : Fin 128) : (dats m (ok m) 0 c).arrAt 6 (cfgM m (ok m)).N (ix2 R d) = rowAt m c 3 R d := by
  refine everywhere m c ((dats m (ok m) 0 c).arrAt 6 (cfgM m (ok m)).N) 3 (fun t ht r d => ?_) R d
  have b := congrFun ((dats m (ok m) 0 c).read_blk_arrAt_eq_flushed 6 (apart6 m) (cfgM m (ok m)).N t t.isLt
    ((flush6 m (ok m) t).trans (decide_eq_true ht))) (ix2 r d)
  have f : (dats m (ok m) 0 c).flushed 6 t (ix2 r d) = (outAt1 m (ok m) c t).2 (ix2 r d) := by
    show (dats m (ok m) 0 c).after 6 t _ = _
    rw [after6]
    rfl
  have e : (((cfgM m (ok m)).win 6).blk t).view.emb (ix2 r d) = ix2 ⟨4096 * (t.val / 3) + r.val, out_lt m t r⟩ d := by
    blk_ext
    · refine (congrArg (· * 4096 + r.val) (congrFun (at6 m t) 0)).trans ?_
      show t.val / 3 * 4096 + r.val = _
      omega
    · refine (congrArg (· * 128 + d.val) (congrFun (at6 m t) 1)).trans ?_
      show 0 * 128 + d.val = _
      omega
  rw [f] at b
  generalize (dats m (ok m) 0 c).arrAt 6 (cfgM m (ok m)).N = A at b ⊢
  refine (congrArg A e.symm).trans (b.trans ?_)
  refine (outs1_2 m (ok m) c (own1 m (ok m) t) (own1_mod m (ok m) t) r d).trans ?_
  refine tile_eq m c (own1 m (ok m) t) 1 3 ?_ r _ ?_ d
  · rw [own1_mod m (ok m) t]; rfl
  · show 4096 * (t.val / 3) + r.val = 4096 * ((3 * (t.val / 3) + 1) / 3) + r.val
    omega

/-- The fifth result: the points that write it back write distinct blocks, -/
theorem apart7 : ∀ t t' : Fin (cfgM m (ok m)).N, ((cfgM m (ok m)).win 7).flush t = true → ((cfgM m (ok m)).win 7).flush t' = true → t ≠ t' →
    Disjoint (((cfgM m (ok m)).win 7).blk t).view.set (((cfgM m (ok m)).win 7).blk t').view.set := by
  intro t t' f f' hne
  rw [flush7] at f f'
  have f := of_decide_eq_true f
  have f' := of_decide_eq_true f'
  refine ((cfgM m (ok m)).win 7).disjoint_blk fun h => hne (Fin.ext ?_)
  have h0 : t.val / 3 = t'.val / 3 := congrFun ((at7 m t).symm.trans (h.trans (at7 m t'))) 0
  omega
/-- so it is the projection, at a row and column. -/
theorem result7 (R : Fin 16384) (d : Fin 128) : (dats m (ok m) 0 c).arrAt 7 (cfgM m (ok m)).N (ix2 R d) = rowAt m c 4 R d := by
  refine everywhere m c ((dats m (ok m) 0 c).arrAt 7 (cfgM m (ok m)).N) 4 (fun t ht r d => ?_) R d
  have b := congrFun ((dats m (ok m) 0 c).read_blk_arrAt_eq_flushed 7 (apart7 m) (cfgM m (ok m)).N t t.isLt
    ((flush7 m (ok m) t).trans (decide_eq_true ht))) (ix2 r d)
  have f : (dats m (ok m) 0 c).flushed 7 t (ix2 r d) = (outAt2 m (ok m) c t).1 (ix2 r d) := by
    show (dats m (ok m) 0 c).after 7 t _ = _
    rw [after7]
    rfl
  have e : (((cfgM m (ok m)).win 7).blk t).view.emb (ix2 r d) = ix2 ⟨4096 * (t.val / 3) + r.val, out_lt m t r⟩ d := by
    blk_ext
    · refine (congrArg (· * 4096 + r.val) (congrFun (at7 m t) 0)).trans ?_
      show t.val / 3 * 4096 + r.val = _
      omega
    · refine (congrArg (· * 128 + d.val) (congrFun (at7 m t) 1)).trans ?_
      show 0 * 128 + d.val = _
      omega
  rw [f] at b
  generalize (dats m (ok m) 0 c).arrAt 7 (cfgM m (ok m)).N = A at b ⊢
  refine (congrArg A e.symm).trans (b.trans ?_)
  refine (outs2_1 m (ok m) c (own2 m (ok m) t) (own2_mod m (ok m) t) r d).trans ?_
  refine tile_eq m c (own2 m (ok m) t) 0 4 ?_ r _ ?_ d
  · rw [own2_mod m (ok m) t]; rfl
  · show 4096 * (t.val / 3) + r.val = 4096 * ((3 * (t.val / 3) + 2) / 3) + r.val
    omega

/-- The sixth result: the points that write it back write distinct blocks, -/
theorem apart8 : ∀ t t' : Fin (cfgM m (ok m)).N, ((cfgM m (ok m)).win 8).flush t = true → ((cfgM m (ok m)).win 8).flush t' = true → t ≠ t' →
    Disjoint (((cfgM m (ok m)).win 8).blk t).view.set (((cfgM m (ok m)).win 8).blk t').view.set := by
  intro t t' f f' hne
  rw [flush8] at f f'
  have f := of_decide_eq_true f
  have f' := of_decide_eq_true f'
  refine ((cfgM m (ok m)).win 8).disjoint_blk fun h => hne (Fin.ext ?_)
  have h0 : t.val / 3 = t'.val / 3 := congrFun ((at8 m t).symm.trans (h.trans (at8 m t'))) 0
  omega
/-- so it is the projection, at a row and column. -/
theorem result8 (R : Fin 16384) (d : Fin 128) : (dats m (ok m) 0 c).arrAt 8 (cfgM m (ok m)).N (ix2 R d) = rowAt m c 5 R d := by
  refine everywhere m c ((dats m (ok m) 0 c).arrAt 8 (cfgM m (ok m)).N) 5 (fun t ht r d => ?_) R d
  have b := congrFun ((dats m (ok m) 0 c).read_blk_arrAt_eq_flushed 8 (apart8 m) (cfgM m (ok m)).N t t.isLt
    ((flush8 m (ok m) t).trans (decide_eq_true ht))) (ix2 r d)
  have f : (dats m (ok m) 0 c).flushed 8 t (ix2 r d) = (outAt2 m (ok m) c t).2 (ix2 r d) := by
    show (dats m (ok m) 0 c).after 8 t _ = _
    rw [after8]
    rfl
  have e : (((cfgM m (ok m)).win 8).blk t).view.emb (ix2 r d) = ix2 ⟨4096 * (t.val / 3) + r.val, out_lt m t r⟩ d := by
    blk_ext
    · refine (congrArg (· * 4096 + r.val) (congrFun (at8 m t) 0)).trans ?_
      show t.val / 3 * 4096 + r.val = _
      omega
    · refine (congrArg (· * 128 + d.val) (congrFun (at8 m t) 1)).trans ?_
      show 0 * 128 + d.val = _
      omega
  rw [f] at b
  generalize (dats m (ok m) 0 c).arrAt 8 (cfgM m (ok m)).N = A at b ⊢
  refine (congrArg A e.symm).trans (b.trans ?_)
  refine (outs2_2 m (ok m) c (own2 m (ok m) t) (own2_mod m (ok m) t) r d).trans ?_
  refine tile_eq m c (own2 m (ok m) t) 1 5 ?_ r _ ?_ d
  · rw [own2_mod m (ok m) t]; rfl
  · show 4096 * (t.val / 3) + r.val = 4096 * ((3 * (t.val / 3) + 2) / 3) + r.val
    omega

/-- Every run of the kernel ends with the result arrays named, and its arguments as they were. -/
theorem run_result (ρ : Dev nD → PrngReg) : θ_run defs (onTc (τ := τ) (main (F := Ideal))) ⟨m, fun _ => 0, ρ⟩ fun r => ∀ c : Dev nD,
      r.2.mem ((c : Thread nD τ).loc main_v4_0) = (dats m (ok m) 0 c).arrAt 3 (cfgM m (ok m)).N
      ∧ r.2.mem ((c : Thread nD τ).loc main_v4_1) = (dats m (ok m) 0 c).arrAt 4 (cfgM m (ok m)).N
      ∧ r.2.mem ((c : Thread nD τ).loc main_v4_2) = (dats m (ok m) 0 c).arrAt 5 (cfgM m (ok m)).N
      ∧ r.2.mem ((c : Thread nD τ).loc main_v4_3) = (dats m (ok m) 0 c).arrAt 6 (cfgM m (ok m)).N
      ∧ r.2.mem ((c : Thread nD τ).loc main_v4_4) = (dats m (ok m) 0 c).arrAt 7 (cfgM m (ok m)).N
      ∧ r.2.mem ((c : Thread nD τ).loc main_v4_5) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4, (h c).1 5, (h c).1 6, (h c).1 7, (h c).1 8,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_arrays m ρ (ok m))

end Cert.Proof.Kv

end
-- ==== Proof.ClaimKv.lean ====
/- The claims about the keys' and values' projection: frames, and equality of the kernel's six results with the reference's. -/
module

public import proofs.«01_k».proof.Defs
public import proofs.«01_k».proof.Proof.KvValue
public import proofs.«01_k».proof.Proof.Gen.KernelKv
public import proofs.«01_k».proof.Proof.Gen.ReferenceKvIdeal.Read
public import Idealize.ShloMosaic.Lib.Quiescent
public import Idealize.ShloMosaic.Lib.KernelVsHost
public import Idealize.ShloMosaic.Lib.IdealHost

@[expose] public section

set_option maxRecDepth 16384

noncomputable section

namespace Cert.Proof.Kv

open Idealize.ShloMosaic Idealize.ShloMosaic.TcCoe Idealize.SL.Sem

section Machine

open Cert.KernelKvIdeal Cert.KernelKvIdeal.Gen

/-- The row starts that the program writes into its table. -/
def startsBits : pre0.Contents (Elt Bits) :=
  fun | ⟨0, _⟩ => fun x => lit0 (S3.rowMajor x) | ⟨_ + 1, h⟩ => absurd h (by simp)

/-- The table holds them when the call begins. -/
theorem tbl_eqBits (m : (ℓ : Loc nD τ sig) → Buf (Elt Bits) ℓ) : tbl m = startsBits := by
  funext j x
  match j with
  | ⟨0, _⟩ => rfl

/-- Every weight block lies inside the weight, at a multiple of eight rows. -/
theorem okBits (m : (ℓ : Loc nD τ sig) → Buf (Elt Bits) ℓ) : Ok m := by
  unfold Ok; rw [tbl_eqBits]; decide +kernel

end Machine

section Reference

open Cert.ReferenceKvIdeal Cert.ReferenceKvIdeal.Gen Cert.ReferenceKvIdeal.Read
open Idealize.ShloMosaic.StableHlo

/-- An index with the row and column given is that row and column. -/
theorem at_idx {R : Fin 8192} {n : Fin 9752} (i : S8192x9752.Idx) (h0 : (i 0).val = R.val) (h1 : (i 1).val = n.val) : i = ix2 R n := by
  funext a
  match a with
  | ⟨0, _⟩ => exact Fin.ext h0
  | ⟨1, _⟩ => exact Fin.ext h1

variable (x0 : (⟨S8192x2048, .f32⟩ : BufTy).Contents (Elt Ideal)) (x1 : (⟨S2048x9752, .f32⟩ : BufTy).Contents (Elt Ideal))
  (x2 : (⟨S9752, .f32⟩ : BufTy).Contents (Elt Ideal))

/-- The reference's whole projection, at a row and column. -/
theorem linear_apply (R : Fin 8192) (n : Fin 9752) : val_main_v3 (F := Ideal) x0 x1 x2 (ix2 R n)
    = lin (fun k => x0 (ix2 R k)) (fun k => x1 (ix2 k n)) (x2 (ix1 n)) := by
  rw [val_main_v3_apply, val_main_v0_apply, val_main_v2_apply, val_main_v1_apply]
  refine congrArg₂ (· + ·) (Finset.sum_congr rfl fun k _ => congrArg₂ (· * ·) (congrArg x0 ?_) (congrArg x1 ?_)) (congrArg x2 ?_)
  · funext a
    match a with
    | ⟨0, _⟩ => rfl
    | ⟨1, _⟩ => rfl
  · funext a
    match a with
    | ⟨0, _⟩ => rfl
    | ⟨1, _⟩ => rfl
  · funext a
    match a with
    | ⟨0, _⟩ => rfl

/-- An index of the split columns with its four parts given is those parts. -/
theorem at_split {R : Fin 8192} {j : Fin 6} {g : Fin 2} {d : Fin 128} (i : S8192x6x2x128.Idx) (h0 : (i 0).val = R.val) (h1 : (i 1).val = j.val)
    (h2 : (i 2).val = g.val) (h3 : (i 3).val = d.val) : i = ix4 R j g d := by
  funext a
  match a with
  | ⟨0, _⟩ => exact Fin.ext h0
  | ⟨1, _⟩ => exact Fin.ext h1
  | ⟨2, _⟩ => exact Fin.ext h2
  | ⟨3, _⟩ => exact Fin.ext h3

/-- The projection's columns of keys and values, split into the six results, the heads and the heads' columns. -/
theorem split_apply (R : Fin 8192) (j : Fin 6) (g : Fin 2) (d : Fin 128) (n : Fin 9752) (hn : n.val = 3072 + 256 * j.val + 128 * g.val + d.val) :
    val_main_v5 (F := Ideal) x0 x1 x2 (ix4 R j g d) = lin (fun k => x0 (ix2 R k)) (fun k => x1 (ix2 k n)) (x2 (ix1 n)) := by
  rw [val_main_v5_apply, val_main_v4_apply, at_idx (R := R) (n := n) (idx_main_v4 _)
    (by show (((R.val * 6 + j.val) * 2 + g.val) * 128 + d.val) / 1536 = R.val; omega)
    (by show 3072 + (((R.val * 6 + j.val) * 2 + g.val) * 128 + d.val) % 1536 = n.val; omega)]
  exact linear_apply x0 x1 x2 R n

/-- The row, head and column of a split index that lies in a result's row and column. -/
theorem parts (R : Fin 16384) (d : Fin 128) :
    ((R.val * 128 + d.val) / 256 * 2 + (R.val * 128 + d.val) / 128 % 2) * 128 + (R.val * 128 + d.val) % 128 = R.val * 128 + d.val := by omega

/-- The `j`-th result at a row and column, as a function of the arguments. -/
def refAt (j : Fin 6) (R : Fin 16384) (d : Fin 128) : EReal :=
  lin (fun k => x0 (ix2 ⟨R.val / 2, by omega⟩ k)) (fun k => x1 (ix2 k ⟨3072 + 256 * j.val + 128 * (R.val % 2) + d.val, sub_lt j R.val d⟩))
    (x2 (ix1 ⟨3072 + 256 * j.val + 128 * (R.val % 2) + d.val, sub_lt j R.val d⟩))

/-- The split columns where a result's row and column come from. -/
theorem from_split (j : Fin 6) (R : Fin 16384) (d : Fin 128) (i : S8192x6x2x128.Idx) (h0 : (i 0).val = R.val / 2) (h1 : (i 1).val = j.val)
    (h2 : (i 2).val = R.val % 2) (h3 : (i 3).val = d.val) : val_main_v5 (F := Ideal) x0 x1 x2 i = refAt x0 x1 x2 j R d := by
  rw [at_split (R := ⟨R.val / 2, by omega⟩) (j := j) (g := ⟨R.val % 2, by omega⟩) (d := d) i h0 h1 h2 h3]
  exact split_apply x0 x1 x2 _ _ _ _ _ rfl

/-- The reference's first result at a row and column. -/
theorem ref0 (R : Fin 16384) (d : Fin 128) : val_main_v8 (F := Ideal) x0 x1 x2 (ix2 R d) = refAt x0 x1 x2 0 R d := by
  rw [val_main_v8_apply, val_main_v7_apply, val_main_v6_apply]
  have e := parts R d
  refine from_split x0 x1 x2 0 R d _ ?_ rfl ?_ ?_
  · show (((R.val * 128 + d.val) / 256 * 2 + (R.val * 128 + d.val) / 128 % 2) * 128 + (R.val * 128 + d.val) % 128) / 256 = R.val / 2
    omega
  · show (((R.val * 128 + d.val) / 256 * 2 + (R.val * 128 + d.val) / 128 % 2) * 128 + (R.val * 128 + d.val) % 128) / 128 % 2 = R.val % 2
    omega
  · show (((R.val * 128 + d.val) / 256 * 2 + (R.val * 128 + d.val) / 128 % 2) * 128 + (R.val * 128 + d.val) % 128) % 128 = d.val
    omega

/-- The reference's second result at a row and column. -/
theorem ref1 (R : Fin 16384) (d : Fin 128) : val_main_v11 (F := Ideal) x0 x1 x2 (ix2 R d) = refAt x0 x1 x2 1 R d := by
  rw [val_main_v11_apply, val_main_v10_apply, val_main_v9_apply]
  have e := parts R d
  refine from_split x0 x1 x2 1 R d _ ?_ rfl ?_ ?_
  · show (((R.val * 128 + d.val) / 256 * 2 + (R.val * 128 + d.val) / 128 % 2) * 128 + (R.val * 128 + d.val) % 128) / 256 = R.val / 2
    omega
  · show (((R.val * 128 + d.val) / 256 * 2 + (R.val * 128 + d.val) / 128 % 2) * 128 + (R.val * 128 + d.val) % 128) / 128 % 2 = R.val % 2
    omega
  · show (((R.val * 128 + d.val) / 256 * 2 + (R.val * 128 + d.val) / 128 % 2) * 128 + (R.val * 128 + d.val) % 128) % 128 = d.val
    omega

/-- The reference's third result at a row and column. -/
theorem ref2 (R : Fin 16384) (d : Fin 128) : val_main_v14 (F := Ideal) x0 x1 x2 (ix2 R d) = refAt x0 x1 x2 2 R d := by
  rw [val_main_v14_apply, val_main_v13_apply, val_main_v12_apply]
  have e := parts R d
  refine from_split x0 x1 x2 2 R d _ ?_ rfl ?_ ?_
  · show (((R.val * 128 + d.val) / 256 * 2 + (R.val * 128 + d.val) / 128 % 2) * 128 + (R.val * 128 + d.val) % 128) / 256 = R.val / 2
    omega
  · show (((R.val * 128 + d.val) / 256 * 2 + (R.val * 128 + d.val) / 128 % 2) * 128 + (R.val * 128 + d.val) % 128) / 128 % 2 = R.val % 2
    omega
  · show (((R.val * 128 + d.val) / 256 * 2 + (R.val * 128 + d.val) / 128 % 2) * 128 + (R.val * 128 + d.val) % 128) % 128 = d.val
    omega

/-- The reference's fourth result at a row and column. -/
theorem ref3 (R : Fin 16384) (d : Fin 128) : val_main_v17 (F := Ideal) x0 x1 x2 (ix2 R d) = refAt x0 x1 x2 3 R d := by
  rw [val_main_v17_apply, val_main_v16_apply, val_main_v15_apply]
  have e := parts R d
  refine from_split x0 x1 x2 3 R d _ ?_ rfl ?_ ?_
  · show (((R.val * 128 + d.val) / 256 * 2 + (R.val * 128 + d.val) / 128 % 2) * 128 + (R.val * 128 + d.val) % 128) / 256 = R.val / 2
    omega
  · show (((R.val * 128 + d.val) / 256 * 2 + (R.val * 128 + d.val) / 128 % 2) * 128 + (R.val * 128 + d.val) % 128) / 128 % 2 = R.val % 2
    omega
  · show (((R.val * 128 + d.val) / 256 * 2 + (R.val * 128 + d.val) / 128 % 2) * 128 + (R.val * 128 + d.val) % 128) % 128 = d.val
    omega

/-- The reference's fifth result at a row and column. -/
theorem ref4 (R : Fin 16384) (d : Fin 128) : val_main_v20 (F := Ideal) x0 x1 x2 (ix2 R d) = refAt x0 x1 x2 4 R d := by
  rw [val_main_v20_apply, val_main_v19_apply, val_main_v18_apply]
  have e := parts R d
  refine from_split x0 x1 x2 4 R d _ ?_ rfl ?_ ?_
  · show (((R.val * 128 + d.val) / 256 * 2 + (R.val * 128 + d.val) / 128 % 2) * 128 + (R.val * 128 + d.val) % 128) / 256 = R.val / 2
    omega
  · show (((R.val * 128 + d.val) / 256 * 2 + (R.val * 128 + d.val) / 128 % 2) * 128 + (R.val * 128 + d.val) % 128) / 128 % 2 = R.val % 2
    omega
  · show (((R.val * 128 + d.val) / 256 * 2 + (R.val * 128 + d.val) / 128 % 2) * 128 + (R.val * 128 + d.val) % 128) % 128 = d.val
    omega

/-- The reference's sixth result at a row and column. -/
theorem ref5 (R : Fin 16384) (d : Fin 128) : val_main_v23 (F := Ideal) x0 x1 x2 (ix2 R d) = refAt x0 x1 x2 5 R d := by
  rw [val_main_v23_apply, val_main_v22_apply, val_main_v21_apply]
  have e := parts R d
  refine from_split x0 x1 x2 5 R d _ ?_ rfl ?_ ?_
  · show (((R.val * 128 + d.val) / 256 * 2 + (R.val * 128 + d.val) / 128 % 2) * 128 + (R.val * 128 + d.val) % 128) / 256 = R.val / 2
    omega
  · show (((R.val * 128 + d.val) / 256 * 2 + (R.val * 128 + d.val) / 128 % 2) * 128 + (R.val * 128 + d.val) % 128) / 128 % 2 = R.val % 2
    omega
  · show (((R.val * 128 + d.val) / 256 * 2 + (R.val * 128 + d.val) / 128 % 2) * 128 + (R.val * 128 + d.val) % 128) % 128 = d.val
    omega

end Reference

/-- The kernel on machine words is the same program as the one over the reals, read at machine words: what is asked of its
    frame is one statement. -/
theorem same_text : quiescent_KernelKv = ∀ (m : (ℓ : Loc Cert.KernelKvIdeal.nD Cert.KernelKvIdeal.τ Cert.KernelKvIdeal.sig) → Buf (Elt Bits) ℓ)
      (g : Dev Cert.KernelKvIdeal.nD → PrngReg), True →
    θ_run (Cert.KernelKvIdeal.defs (F := Bits)) (onTc (τ := Cert.KernelKvIdeal.τ) (Cert.KernelKvIdeal.main (F := Bits))) ⟨m, fun _ => 0, g⟩ (fun r =>
      (∀ c : Dev Cert.KernelKvIdeal.nD,
        r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
        ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
        ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ r.2.sem = fun _ => 0) := by
  sl_kernel_rfl

/-- The kernel leaves its arguments as they were. -/
theorem frame_kernel : quiescent_KernelKv := same_text.mpr fun m ρ _ => Kv.frame m ρ (okBits m)

/-- So does the kernel over the reals. -/
theorem frame_ideal : quiescent_KernelKvIdeal := fun m ρ _ => Kv.frame m ρ (ok m)

/-- So does the reference. -/
theorem frame_ref : quiescent_ReferenceKvIdeal := fun m ρ _ =>
  (θ_run _ _ _).mono (fun r h => ⟨fun c => (h c).2.2.2.2.2.2, sem_eq_zero_of_no_sems (by decide) r.2⟩) (Cert.ReferenceKvIdeal.Value.run m ρ)

/-- Two arrays that agree at every row and column are one. -/
theorem same_array {A B : Cert.KernelKvIdeal.S16384x128.Idx → EReal} (f : Fin 16384 → Fin 128 → EReal)
    (hA : ∀ R d, A (ix2 R d) = f R d) (hB : ∀ R d, B (ix2 R d) = f R d) : A = B := by
  funext i
  obtain ⟨R, d, rfl⟩ : ∃ R d, i = ix2 R d := ⟨_, _, eq_ix2 i⟩
  exact (hA R d).trans (hB R d).symm

/-- The kernel and the reference end with equal results and unchanged arguments. -/
theorem equal : algebraic_KernelKvIdeal_ReferenceKvIdeal := by
  intro m g m' g' _ he
  refine ⟨fun c => (dats m (ok m) 0 c).arrAt 3 (cfgM m (ok m)).N,
    fun c => (dats m (ok m) 0 c).arrAt 4 (cfgM m (ok m)).N,
    fun c => (dats m (ok m) 0 c).arrAt 5 (cfgM m (ok m)).N,
    fun c => (dats m (ok m) 0 c).arrAt 6 (cfgM m (ok m)).N,
    fun c => (dats m (ok m) 0 c).arrAt 7 (cfgM m (ok m)).N,
    fun c => (dats m (ok m) 0 c).arrAt 8 (cfgM m (ok m)).N, run_result m g, ?_⟩
  refine (θ_run _ _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.ReferenceKvIdeal.Value.run m' g')
  all_goals obtain ⟨e0, e1, e2⟩ := he c
  · rw [e0, e1, e2, Cert.ReferenceKvIdeal.Read.val_main_v8_eq]
    exact same_array _ (ref0 _ _ _) (result3 m c)
  · rw [e0, e1, e2, Cert.ReferenceKvIdeal.Read.val_main_v11_eq]
    exact same_array _ (ref1 _ _ _) (result4 m c)
  · rw [e0, e1, e2, Cert.ReferenceKvIdeal.Read.val_main_v14_eq]
    exact same_array _ (ref2 _ _ _) (result5 m c)
  · rw [e0, e1, e2, Cert.ReferenceKvIdeal.Read.val_main_v17_eq]
    exact same_array _ (ref3 _ _ _) (result6 m c)
  · rw [e0, e1, e2, Cert.ReferenceKvIdeal.Read.val_main_v20_eq]
    exact same_array _ (ref4 _ _ _) (result7 m c)
  · rw [e0, e1, e2, Cert.ReferenceKvIdeal.Read.val_main_v23_eq]
    exact same_array _ (ref5 _ _ _) (result8 m c)

end Cert.Proof.Kv

end
-- ==== Proof.ScmpSpec.lean ====
/- The compressed branch's attention over 512 blocks as plain sums over the extended reals, and the order of the blocks in a chunk. -/
module

public import Idealize.ShloMosaic.PureOps
public import Idealize.ShloMosaic.PureOps.Ideal.Laws
public import Idealize.ShloMosaic.Lib.ValueIdx
public import Idealize.ShloMosaic.Lib.Pointwise

@[expose] public section

noncomputable section

namespace Cert.Proof.Scmp

open Idealize.ShloMosaic

/-- The greatest score. -/
def top (f : Fin 512 → EReal) : EReal := Finset.univ.sup f

/-- A score's weight, by the greatest score's: a power of two. -/
def expo (f : Fin 512 → EReal) (n : Fin 512) : EReal := Ideal.exp2 (f n - top f)

/-- The divisor: the sum of the weights, or one when nothing is left of them. -/
def guard (l : EReal) : EReal := if 0 < l then l else 1

/-- A block's share. -/
def soft (f : Fin 512 → EReal) (n : Fin 512) : EReal := Ideal.div (expo f n) (guard (∑ k, expo f k))

/-- The values weighted by their blocks' shares. -/
def attend (f v : Fin 512 → EReal) : EReal := ∑ n, soft f n * v n

/-- A block's shares over the four heads of a group. -/
def heads (f : Fin 4 → Fin 512 → EReal) (n : Fin 512) : EReal := soft (f 0) n + soft (f 1) n + soft (f 2) n + soft (f 3) n

/-- Where block `n` stands: in each chunk of 256 the even blocks come before the odd ones. -/
def lane : Fin 512 ≃ Fin 512 where
  toFun n := ⟨n.val / 256 * 256 + n.val % 2 * 128 + n.val % 256 / 2, by omega⟩
  invFun n := ⟨n.val / 256 * 256 + n.val % 128 * 2 + n.val % 256 / 128, by omega⟩
  left_inv := by unfold Function.LeftInverse; decide +kernel
  right_inv := by unfold Function.RightInverse Function.LeftInverse; decide +kernel

theorem lane_val (n : Fin 512) : (lane n).val = n.val / 256 * 256 + n.val % 2 * 128 + n.val % 256 / 2 := rfl

/-- The greatest score does not depend on the order. -/
theorem top_lane (f : Fin 512 → EReal) : top (fun n => f (lane n)) = top f := by
  unfold top
  rw [Finset.sup_univ_eq_iSup, Finset.sup_univ_eq_iSup]
  exact lane.iSup_comp (g := f)

/-- Nor do the weights, but for their own order. -/
theorem expo_lane (f : Fin 512 → EReal) (n : Fin 512) : expo (fun n => f (lane n)) n = expo f (lane n) := by
  unfold expo
  rw [top_lane]

/-- Nor do the shares. -/
theorem soft_lane (f : Fin 512 → EReal) (n : Fin 512) : soft (fun n => f (lane n)) n = soft f (lane n) := by
  unfold soft
  simp only [expo_lane]
  rw [Equiv.sum_comp lane (expo f)]

/-- And the weighted values not at all. -/
theorem attend_lane (f v : Fin 512 → EReal) : attend (fun n => f (lane n)) (fun n => v (lane n)) = attend f v := by
  unfold attend
  simp only [soft_lane]
  exact Equiv.sum_comp lane (fun n => soft f n * v n)

/-- Two to a power is the base-two exponential. -/
theorem pow_two (x : EReal) : Ideal.pow ((2 : ℝ) : EReal) x = Ideal.exp2 x := by
  induction x using EReal.rec with
  | bot => simp
  | coe r => simp
  | top => simp

end Cert.Proof.Scmp

end
-- ==== Proof.ScmpBlock.lean ====
/- What the compressed branch's kernel computes for one sequence and one group of heads, read at an index. -/
module

public import proofs.«01_k».proof.Proof.Gen.KernelScmpIdeal.Skeleton
public import proofs.«01_k».proof.Proof.ScmpSpec

@[expose] public section

set_option maxRecDepth 16384

noncomputable section

namespace Cert.Proof.Scmp

open Cert.KernelScmpIdeal Cert.KernelScmpIdeal.Gen
open Idealize.ShloMosaic Idealize.ShloMosaic.TcCoe

/-- The four heads' queries of a group over twelve rows of zeros. -/
def stack (a b c d : FVec Ideal S1x128 .f32) : FVec Ideal S16x128 .bf16 :=
  truncf .bf16 (concatenate S16x128 0 [⟨S1x128, a⟩, ⟨S1x128, b⟩, ⟨S1x128, c⟩, ⟨S1x128, d⟩,
    ⟨S12x128, broadcast S12x128 (Scalar.ofBits .f32 0x00000000#32)⟩] concatenates_S1x128_S1x128_S1x128_S1x128_S12x128_S16x128_d0) bitsLt_bf16_f32

/-- The first group's queries. -/
def q0 (v : Vec Ideal S1x1024 .f32) : FVec Ideal S16x128 .bf16 :=
  stack (extractStridedSlice S1x128 ![0, 0] v slices_S1x1024_o0_0_S1x128) (extractStridedSlice S1x128 ![0, 128] v slices_S1x1024_o0_128_S1x128)
    (extractStridedSlice S1x128 ![0, 256] v slices_S1x1024_o0_256_S1x128) (extractStridedSlice S1x128 ![0, 384] v slices_S1x1024_o0_384_S1x128)

/-- The second group's queries. -/
def q1 (v : Vec Ideal S1x1024 .f32) : FVec Ideal S16x128 .bf16 :=
  stack (extractStridedSlice S1x128 ![0, 512] v slices_S1x1024_o0_512_S1x128) (extractStridedSlice S1x128 ![0, 640] v slices_S1x1024_o0_640_S1x128)
    (extractStridedSlice S1x128 ![0, 768] v slices_S1x1024_o0_768_S1x128) (extractStridedSlice S1x128 ![0, 896] v slices_S1x1024_o0_896_S1x128)

/-- The first group's half of a sequence's keys or values. -/
def k0 (v : Vec Ideal S1x512x256 .f32) : FVec Ideal S512x128 .bf16 :=
  truncf .bf16 (extractStridedSlice S512x128 ![0, 0] (shapeCast S512x256 v shapeCasts_S1x512x256_S512x256) slices_S512x256_o0_0_S512x128) bitsLt_bf16_f32

/-- The second group's half. -/
def k1 (v : Vec Ideal S1x512x256 .f32) : FVec Ideal S512x128 .bf16 :=
  truncf .bf16 (extractStridedSlice S512x128 ![0, 128] (shapeCast S512x256 v shapeCasts_S1x512x256_S512x256) slices_S512x256_o0_128_S512x128) bitsLt_bf16_f32

variable (w : IVec S1x512 1) (hw : ∀ n, w (ix2 0 n) = 1#1)

/-- The masked scores. -/
def scores (q : FVec Ideal S16x128 .bf16) (k : FVec Ideal S512x128 .bf16) : FVec Ideal S16x512 .f32 :=
  select (broadcastTo S16x512 (shapeCast S1x512 w shapeCasts_S1x512_S1x512) broadcasts_S1x512_S16x512)
    (matmul dot_S16x128_S512x128_S16x512_1_1_0_0_n_n none q k (constant S16x512 .f32 0x00000000#32))
    (broadcast S16x512 (Scalar.ofBits .f32 0xF149F2CA#32))

/-- The masked weights. -/
def weights (s : FVec Ideal S16x512 .f32) : FVec Ideal S16x512 .f32 :=
  select (broadcastTo S16x512 (shapeCast S1x512 w shapeCasts_S1x512_S1x512) broadcasts_S1x512_S16x512)
    (exp2 (subf s (broadcastTo S16x512 (shapeCast S16x1 (multiReduction .maximumf [1] S16 s 0xFF800000#32 reduces_S16x512_S16 (.inl rfl) rfl) shapeCasts_S16_S16x1) broadcasts_S16x1_S16x512)))
    (broadcast S16x512 (Scalar.ofBits .f32 0x00000000#32))

/-- The shares. -/
def shares (e : FVec Ideal S16x512 .f32) : FVec Ideal S16x512 .f32 :=
  have l : FVec Ideal S16x1 .f32 := shapeCast S16x1 (multiReduction .add [1] S16 e 0x00000000#32 reduces_S16x512_S16 (.inl rfl) rfl) shapeCasts_S16_S16x1
  divf e (broadcastTo S16x512 (select (cmpf .ogt l (broadcast S16x1 (Scalar.ofBits .f32 0x00000000#32))) l (broadcast S16x1 (Scalar.ofBits .f32 0x3F800000#32))) broadcasts_S16x1_S16x512)

/-- The shares of a group. -/
def probs (q : FVec Ideal S16x128 .bf16) (k : FVec Ideal S512x128 .bf16) : FVec Ideal S16x512 .f32 := shares (weights w (scores w q k))

/-- The weighted values. -/
def mixed (p : FVec Ideal S16x512 .f32) (v : FVec Ideal S512x128 .bf16) : FVec Ideal S4x128 .f32 :=
  extractStridedSlice S4x128 ![0, 0] (matmul dot_S16x512_S512x128_S16x128_1_0_0_1_n_n none (truncf .bf16 p bitsLt_bf16_f32) v (constant S16x128 .f32 0x00000000#32)) slices_S16x128_o0_0_S4x128

/-- The two groups' heads one above the other. -/
def both (a b : FVec Ideal S4x128 .f32) : FVec Ideal S1x8x128 .f32 :=
  shapeCast S1x8x128 (concatenate S8x128 0 [⟨S4x128, a⟩, ⟨S4x128, b⟩] concatenates_S4x128_S4x128_S8x128_d0) shapeCasts_S8x128_S1x8x128

/-- A chunk of 256 lanes and its copy turned by half, added. -/
def turned (x : FVec Ideal S1x256 .f32) : FVec Ideal S1x256 .f32 := addf x (dynamicRotate 1 128#32 none x rotates_S1x256_d1)

/-- The four heads' shares added. -/
def headSum (p : FVec Ideal S16x512 .f32) : FVec Ideal S1x512 .f32 :=
  addf (addf (addf (extractStridedSlice S1x512 ![0, 0] p slices_S16x512_o0_0_S1x512) (extractStridedSlice S1x512 ![1, 0] p slices_S16x512_o1_0_S1x512))
    (extractStridedSlice S1x512 ![2, 0] p slices_S16x512_o2_0_S1x512)) (extractStridedSlice S1x512 ![3, 0] p slices_S16x512_o3_0_S1x512)

/-- The selection blocks' scores. -/
def blocks (p : FVec Ideal S16x512 .f32) : FVec Ideal S1x1x512 .f32 :=
  shapeCast S1x1x512 (concatenate S1x512 1 [⟨S1x256, turned (extractStridedSlice S1x256 ![0, 0] (headSum p) slices_S1x512_o0_0_S1x256)⟩,
    ⟨S1x256, turned (extractStridedSlice S1x256 ![0, 256] (headSum p) slices_S1x512_o0_256_S1x256)⟩] concatenates_S1x256_S1x256_S1x512_d1) shapeCasts_S1x512_S1x1x512

/-- Every block of the 512 ends before the query, so the mask lets every lane through. -/
theorem mask_true : ∀ n : Fin 512, k0_pay6 (k0_pay5 k0_pay3 k0_pay4 128#32 0#32) 32#32 (ix2 0 n) = 1#1 := by
  intro n
  unfold k0_pay6 k0_pay5 k0_pay3 k0_pay4
  pointwise
  revert n
  decide +kernel

/-- The word of minus infinity. -/
theorem negInf : Ideal.ofBits FTy.f32 0xFF800000#32 = ⊥ := by
  simp [Ideal.ofBits, Ideal.ieee]

include hw

/-- The scores, at a head and a lane. -/
theorem scores_apply (q : FVec Ideal S16x128 .bf16) (k : FVec Ideal S512x128 .bf16) (r : Fin 16) (n : Fin 512) :
    scores w q k (ix2 r n) = ∑ x, q (ix2 r x) * k (ix2 n x) := by
  unfold scores
  pointwise
  rw [hw]
  rfl

/-- The weights, at a head and a lane. -/
theorem weights_apply (s : FVec Ideal S16x512 .f32) (r : Fin 16) (n : Fin 512) :
    weights w s (ix2 r n) = expo (fun n => s (ix2 r n)) n := by
  unfold weights
  pointwise
  rw [hw, negInf]
  rfl

omit hw

/-- The shares, at a head and a lane. -/
theorem shares_apply (e : FVec Ideal S16x512 .f32) (r : Fin 16) (n : Fin 512) :
    shares e (ix2 r n) = Ideal.div (e (ix2 r n)) (guard (∑ k, e (ix2 r k))) := by
  unfold shares
  pointwise
  rfl

include hw in
/-- A group's shares are those of its scores. -/
theorem probs_apply (q : FVec Ideal S16x128 .bf16) (k : FVec Ideal S512x128 .bf16) (r : Fin 16) (n : Fin 512) :
    probs w q k (ix2 r n) = soft (fun n => ∑ x, q (ix2 r x) * k (ix2 n x)) n := by
  unfold probs soft
  simp only [shares_apply, weights_apply w hw, scores_apply w hw]

/-- The weighted values, at a head and a column. -/
theorem mixed_apply (p : FVec Ideal S16x512 .f32) (v : FVec Ideal S512x128 .bf16) (h : Fin 4) (x : Fin 128) :
    mixed p v (ix2 h x) = ∑ n, p (ix2 ⟨h.val, by omega⟩ n) * v (ix2 n x) := by
  unfold mixed
  pointwise

/-- The heads one above the other, at a head and a column. -/
theorem both_apply (a b : FVec Ideal S4x128 .f32) (h : Fin 8) (x : Fin 128) :
    both a b (ix3 0 h x) = if h' : h.val < 4 then a (ix2 ⟨h.val, h'⟩ x) else b (ix2 ⟨h.val - 4, by omega⟩ x) := by
  unfold both
  pointwise

/-- The four heads' shares added, at a lane. -/
theorem headSum_apply (p : FVec Ideal S16x512 .f32) (n : Fin 512) :
    headSum p (ix2 0 n) = p (ix2 0 n) + p (ix2 1 n) + p (ix2 2 n) + p (ix2 3 n) := by
  unfold headSum
  pointwise

/-- The other lane of the same selection block. -/
def turn (n : Fin 512) : Fin 512 := ⟨n.val / 256 * 256 + (n.val + 128) % 256, by omega⟩

/-- The selection blocks' scores, at a lane. -/
theorem blocks_apply (p : FVec Ideal S16x512 .f32) (n : Fin 512) : blocks p (ix3 0 0 n) = headSum p (ix2 0 n) + headSum p (ix2 0 (turn n)) := by
  unfold blocks turned turn
  generalize headSum p = s
  pointwise
  split
  · refine congrArg₂ (· + ·) (congrArg s ?_) (congrArg s ?_) <;> refine congrArg (ix2 0) (Fin.ext ?_) <;> simp only [] <;> omega
  · refine congrArg₂ (· + ·) (congrArg s ?_) (congrArg s ?_) <;> refine congrArg (ix2 0) (Fin.ext ?_) <;> simp only [] <;> omega

/-- The first group's queries, at a head and a column. -/
theorem q0_apply (v : Vec Ideal S1x1024 .f32) (h : Fin 4) (x : Fin 128) :
    q0 v (ix2 ⟨h.val, by omega⟩ x) = v (ix2 0 ⟨128 * h.val + x.val, by omega⟩) := by
  unfold q0 stack
  pointwise
  split_ifs <;> first | omega | (refine congrArg v (congrArg₂ ix2 (Fin.ext ?_) (Fin.ext ?_)) <;> simp <;> omega)

/-- The second group's queries, at a head and a column. -/
theorem q1_apply (v : Vec Ideal S1x1024 .f32) (h : Fin 4) (x : Fin 128) :
    q1 v (ix2 ⟨h.val, by omega⟩ x) = v (ix2 0 ⟨512 + (128 * h.val + x.val), by omega⟩) := by
  unfold q1 stack
  pointwise
  split_ifs <;> first | omega | (refine congrArg v (congrArg₂ ix2 (Fin.ext ?_) (Fin.ext ?_)) <;> simp <;> omega)

/-- The first group's half, at a lane and a column. -/
theorem k0_apply (v : Vec Ideal S1x512x256 .f32) (n : Fin 512) (x : Fin 128) : k0 v (ix2 n x) = v (ix3 0 n ⟨x.val, by omega⟩) := by
  unfold k0
  pointwise

/-- The second group's half, at a lane and a column. -/
theorem k1_apply (v : Vec Ideal S1x512x256 .f32) (n : Fin 512) (x : Fin 128) : k1 v (ix2 n x) = v (ix3 0 n ⟨128 + x.val, by omega⟩) := by
  unfold k1
  pointwise

/-- A head's score of a lane: heads 0 to 3 take the first half of the keys, heads 4 to 7 the second. -/
def scoreOf (q : Fin 1024 → EReal) (k : Fin 512 → Fin 256 → EReal) (h : Fin 8) (n : Fin 512) : EReal :=
  ∑ x : Fin 128, q ⟨128 * h.val + x.val, by omega⟩ * k n ⟨h.val / 4 * 128 + x.val, by omega⟩

/-- A head's output. -/
def outOf (q : Fin 1024 → EReal) (k v : Fin 512 → Fin 256 → EReal) (h : Fin 8) (x : Fin 128) : EReal :=
  attend (scoreOf q k h) fun n => v n ⟨h.val / 4 * 128 + x.val, by omega⟩

/-- A group's selection block scores, over its lanes. -/
def blocksOf (q : Fin 1024 → EReal) (k : Fin 512 → Fin 256 → EReal) (g : Fin 2) (n : Fin 512) : EReal :=
  heads (fun j => scoreOf q k ⟨4 * g.val + j.val, by omega⟩) n + heads (fun j => scoreOf q k ⟨4 * g.val + j.val, by omega⟩) (turn n)

variable (q : Vec Ideal S1x1024 .f32) (k v : Vec Ideal S1x512x256 .f32)

include hw in
/-- The first group's shares. -/
theorem probs0 (h : Fin 4) (n : Fin 512) : probs w (q0 q) (k0 k) (ix2 ⟨h.val, by omega⟩ n)
    = soft (scoreOf (fun x => q (ix2 0 x)) (fun n x => k (ix3 0 n x)) ⟨h.val, by omega⟩) n := by
  rw [probs_apply w hw]
  refine congrArg (fun f => soft f n) (funext fun n => Finset.sum_congr rfl fun x _ => ?_)
  rw [q0_apply, k0_apply]
  refine congrArg₂ (· * ·) rfl (congrArg (fun z => k (ix3 0 n z)) (Fin.ext ?_))
  simp only []
  omega

include hw in
/-- The second group's shares. -/
theorem probs1 (h : Fin 4) (n : Fin 512) : probs w (q1 q) (k1 k) (ix2 ⟨h.val, by omega⟩ n)
    = soft (scoreOf (fun x => q (ix2 0 x)) (fun n x => k (ix3 0 n x)) ⟨4 + h.val, by omega⟩) n := by
  rw [probs_apply w hw]
  refine congrArg (fun f => soft f n) (funext fun n => Finset.sum_congr rfl fun x _ => ?_)
  rw [q1_apply, k1_apply]
  refine congrArg₂ (· * ·) (congrArg (fun z => q (ix2 0 z)) (Fin.ext ?_)) (congrArg (fun z => k (ix3 0 n z)) (Fin.ext ?_)) <;>
    simp only [] <;> omega

include hw in
/-- A sequence's output, at a head and a column. -/
theorem out_eq (h : Fin 8) (x : Fin 128) : both (mixed (probs w (q0 q) (k0 k)) (k0 v)) (mixed (probs w (q1 q) (k1 k)) (k1 v)) (ix3 0 h x)
    = outOf (fun x => q (ix2 0 x)) (fun n x => k (ix3 0 n x)) (fun n x => v (ix3 0 n x)) h x := by
  rw [both_apply]
  unfold outOf attend
  split <;> rename_i h'
  · rw [mixed_apply]
    refine Finset.sum_congr rfl fun n _ => congrArg₂ (· * ·) (probs0 w hw q k ⟨h.val, h'⟩ n) ((k0_apply v n x).trans (congrArg (fun z => v (ix3 0 n z)) (Fin.ext ?_)))
    simp only []
    omega
  · rw [mixed_apply]
    refine Finset.sum_congr rfl fun n _ => congrArg₂ (· * ·) ((probs1 w hw q k ⟨h.val - 4, by omega⟩ n).trans (congrArg (fun z => soft (scoreOf _ _ z) n) (Fin.ext ?_))) ((k1_apply v n x).trans (congrArg (fun z => v (ix3 0 n z)) (Fin.ext ?_))) <;>
      simp only [] <;> omega

include hw in
/-- The first group's selection block scores. -/
theorem blocks0_eq (n : Fin 512) : blocks (probs w (q0 q) (k0 k)) (ix3 0 0 n)
    = blocksOf (fun x => q (ix2 0 x)) (fun n x => k (ix3 0 n x)) 0 n := by
  rw [blocks_apply, headSum_apply, headSum_apply]
  have e := probs0 w hw q k
  exact congrArg₂ (· + ·) (congrArg₂ (· + ·) (congrArg₂ (· + ·) (congrArg₂ (· + ·) (e 0 _) (e 1 _)) (e 2 _)) (e 3 _))
    (congrArg₂ (· + ·) (congrArg₂ (· + ·) (congrArg₂ (· + ·) (e 0 _) (e 1 _)) (e 2 _)) (e 3 _))

include hw in
/-- The second group's selection block scores. -/
theorem blocks1_eq (n : Fin 512) : blocks (probs w (q1 q) (k1 k)) (ix3 0 0 n)
    = blocksOf (fun x => q (ix2 0 x)) (fun n x => k (ix3 0 n x)) 1 n := by
  rw [blocks_apply, headSum_apply, headSum_apply]
  have e := probs1 w hw q k
  exact congrArg₂ (· + ·) (congrArg₂ (· + ·) (congrArg₂ (· + ·) (congrArg₂ (· + ·) (e 0 _) (e 1 _)) (e 2 _)) (e 3 _))
    (congrArg₂ (· + ·) (congrArg₂ (· + ·) (congrArg₂ (· + ·) (e 0 _) (e 1 _)) (e 2 _)) (e 3 _))

end Cert.Proof.Scmp

end
-- ==== Proof.ScmpOut.lean ====
/- The blocks that a grid point of the compressed branch's kernel leaves: each of its four sequences, at a head and a column. -/
module

public import proofs.«01_k».proof.Proof.ScmpBlock
public import proofs.«01_k».proof.Proof.Gen.KernelScmpIdeal.Value
public import Idealize.ShloMosaic.Lib.Pipeline.ValueKit.Tiles

@[expose] public section

set_option maxRecDepth 16384

noncomputable section

namespace Cert.Proof.Scmp

open Cert.KernelScmpIdeal Cert.KernelScmpIdeal.Gen
open Idealize.ShloMosaic Idealize.ShloMosaic.TcCoe

/-- The mask of the lanes. -/
def mask : IVec S1x512 1 := k0_pay6 (k0_pay5 k0_pay3 k0_pay4 128#32 0#32) 32#32

variable (i : grid0.Coords) (x0 : Vec Ideal S32x1024 .f32) (x1 x2 : Vec Ideal S4x512x256 .f32)

/-- The queries of a point's sequence, as loaded. -/
def ldQ (s : Fin 4) : Vec Ideal S1x1024 .f32 :=
  View.ld x0 (Rect.unit (s := S32x1024) (k0_off1 i (BitVec.ofNat 32 s.val)) S1x1024.size (k0_off1_inb i s))

theorem ldQ_apply (s : Fin 4) (x : Fin 1024) :
    ldQ i x0 s (ix2 0 x) = x0 (ix2 ⟨4 * (i 0).val + s.val, by have : (i 0).val < 8 := (i 0).isLt; omega⟩ x) := by
  unfold ldQ
  refine View.ld_unit_apply_of _ _ _ _ _ _ ?_
  have e := congrFun (k0_off1_eq i s)
  exact fun q => match q with
    | ⟨0, _⟩ => (congrArg (· + 0) (e 0)).symm
    | ⟨1, _⟩ => ((congrArg (· + x.val) (e 1)).trans (Nat.zero_add _)).symm

/-- The keys or values of a point's sequence, as loaded. -/
theorem ld_apply (X : Vec Ideal S4x512x256 .f32) (o : ℕ) (inb : ∀ a, ![o, 0, 0] a + S1x512x256.size a ≤ S4x512x256.size a) (s : Fin 4) (h : s.val = o)
    (n : Fin 512) (x : Fin 256) : View.ld X (Rect.unit (s := S4x512x256) ![o, 0, 0] S1x512x256.size inb) (ix3 0 n x) = X (ix3 s n x) :=
  View.ld_unit_apply_of _ _ _ _ _ _ fun q => match q with
    | ⟨0, _⟩ => h
    | ⟨1, _⟩ => (Nat.zero_add n.val).symm
    | ⟨2, _⟩ => (Nat.zero_add x.val).symm

/-- A point's sequence. -/
def seqOf (s : Fin 4) : Fin 32 := ⟨4 * (i 0).val + s.val, by have : (i 0).val < 8 := (i 0).isLt; omega⟩

/-- The output of a point's sequence, computed from what is loaded. -/
theorem out_ld (P : Vec Ideal S1x8x128 .f32) (o : ℕ) (inb : ∀ a, ![o, 0, 0] a + S1x512x256.size a ≤ S4x512x256.size a) (s : Fin 4) (hs : s.val = o)
    (K V : Vec Ideal S1x512x256 .f32)
    (hK : K = View.ld x1 (Rect.unit (s := S4x512x256) ![o, 0, 0] S1x512x256.size inb)) (hV : V = View.ld x2 (Rect.unit (s := S4x512x256) ![o, 0, 0] S1x512x256.size inb))
    (hP : P = both (mixed (probs mask (q0 (ldQ i x0 s)) (k0 K)) (k0 V)) (mixed (probs mask (q1 (ldQ i x0 s)) (k1 K)) (k1 V)))
    (h : Fin 8) (x : Fin 128) :
    P (ix3 0 h x) = outOf (fun x => x0 (ix2 (seqOf i s) x)) (fun n x => x1 (ix3 s n x)) (fun n x => x2 (ix3 s n x)) h x := by
  have eK : ∀ n x, K (ix3 0 n x) = x1 (ix3 s n x) := fun n x => by rw [hK]; exact ld_apply x1 o inb s hs n x
  have eV : ∀ n x, V (ix3 0 n x) = x2 (ix3 s n x) := fun n x => by rw [hV]; exact ld_apply x2 o inb s hs n x
  rw [hP, out_eq mask mask_true]
  simp only [eK, eV, ldQ_apply]
  rfl

/-- A group's selection block scores, likewise. -/
theorem blocks_ld (P : Vec Ideal S1x1x512 .f32) (o : ℕ) (inb : ∀ a, ![o, 0, 0] a + S1x512x256.size a ≤ S4x512x256.size a) (s : Fin 4) (hs : s.val = o)
    (K : Vec Ideal S1x512x256 .f32) (hK : K = View.ld x1 (Rect.unit (s := S4x512x256) ![o, 0, 0] S1x512x256.size inb)) (g : Fin 2)
    (hP : g = 0 ∧ P = blocks (probs mask (q0 (ldQ i x0 s)) (k0 K)) ∨ g = 1 ∧ P = blocks (probs mask (q1 (ldQ i x0 s)) (k1 K))) (n : Fin 512) :
    P (ix3 0 0 n) = blocksOf (fun x => x0 (ix2 (seqOf i s) x)) (fun n x => x1 (ix3 s n x)) g n := by
  have eK : ∀ n x, K (ix3 0 n x) = x1 (ix3 s n x) := fun n x => by rw [hK]; exact ld_apply x1 o inb s hs n x
  rcases hP with ⟨rfl, rfl⟩ | ⟨rfl, rfl⟩
  · rw [blocks0_eq mask mask_true]
    simp only [eK, ldQ_apply]
    rfl
  · rw [blocks1_eq mask mask_true]
    simp only [eK, ldQ_apply]
    rfl

/-- What a grid point leaves of the outputs. -/
theorem out3_apply (c : Dev nD) (arg1 : Memref sig .tc .vmem S32x1024 .f32) (harg1 : arg1.IsWhole) (arg2 : Memref sig .tc .vmem S4x512x256 .f32) (harg2 : arg2.IsWhole) (arg3 : Memref sig .tc .vmem S4x512x256 .f32) (harg3 : arg3.IsWhole) (arg4 : Memref sig .tc .vmem S4x8x128 .f32) (harg4 : arg4.IsWhole) (arg5 : Memref sig .tc .vmem S4x2x512 .f32) (harg5 : arg5.IsWhole) (s : Fin 4) (h : Fin 8) (x : Fin 128) :
    out0_A_3 c i arg1 harg1 arg2 harg2 arg3 harg3 arg4 harg4 arg5 harg5 x0 x1 x2 (ix3 s h x)
      = outOf (fun x => x0 (ix2 (seqOf i s) x)) (fun n x => x1 (ix3 s n x)) (fun n x => x2 (ix3 s n x)) h x := by
  unfold out0_A_3
  have hc := cover0_A_3 c i arg1 harg1 arg2 harg2 arg3 harg3 arg4 harg4 arg5 harg5 x0 x1 x2
  rw [View.read_writes_eq_canon _ _ _ hc]
  refine View.canon_eq_of_allAt _ _ _ (hc _) ?_
  clear hc
  unfold kernelRun0_A
  dsimp only
  sl_unfold_words
  simp only [View.readAt_eq_ld, harg1.read_unread, harg2.read_unread, harg3.read_unread]
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro y hy
    obtain ⟨z, h', x', rfl⟩ : ∃ (z : Fin 1) (h' : Fin 8) (x' : Fin 128), y = ix3 z h' x' := ⟨_, _, _, eq_ix3 y⟩
    obtain rfl : s = 3 := Fin.ext ((hy 0).trans (congrArg (3 + ·) (Fin.val_eq_zero z)))
    obtain rfl : z = 0 := Subsingleton.elim _ _
    obtain rfl : h = h' := Fin.ext ((hy 1).trans (Nat.zero_add _))
    obtain rfl : x = x' := Fin.ext ((hy 2).trans (Nat.zero_add _))
    exact out_ld i x0 x1 x2 _ 3 inb_S4x512x256_S1x512x256_3_0_0 3 rfl _ _ rfl rfl rfl h x
  · intro y hy
    obtain ⟨z, h', x', rfl⟩ : ∃ (z : Fin 1) (h' : Fin 8) (x' : Fin 128), y = ix3 z h' x' := ⟨_, _, _, eq_ix3 y⟩
    obtain rfl : s = 2 := Fin.ext ((hy 0).trans (congrArg (2 + ·) (Fin.val_eq_zero z)))
    obtain rfl : z = 0 := Subsingleton.elim _ _
    obtain rfl : h = h' := Fin.ext ((hy 1).trans (Nat.zero_add _))
    obtain rfl : x = x' := Fin.ext ((hy 2).trans (Nat.zero_add _))
    exact out_ld i x0 x1 x2 _ 2 inb_S4x512x256_S1x512x256_2_0_0 2 rfl _ _ rfl rfl rfl h x
  · intro y hy
    obtain ⟨z, h', x', rfl⟩ : ∃ (z : Fin 1) (h' : Fin 8) (x' : Fin 128), y = ix3 z h' x' := ⟨_, _, _, eq_ix3 y⟩
    obtain rfl : s = 1 := Fin.ext ((hy 0).trans (congrArg (1 + ·) (Fin.val_eq_zero z)))
    obtain rfl : z = 0 := Subsingleton.elim _ _
    obtain rfl : h = h' := Fin.ext ((hy 1).trans (Nat.zero_add _))
    obtain rfl : x = x' := Fin.ext ((hy 2).trans (Nat.zero_add _))
    exact out_ld i x0 x1 x2 _ 1 inb_S4x512x256_S1x512x256_1_0_0 1 rfl _ _ rfl rfl rfl h x
  · intro y hy
    obtain ⟨z, h', x', rfl⟩ : ∃ (z : Fin 1) (h' : Fin 8) (x' : Fin 128), y = ix3 z h' x' := ⟨_, _, _, eq_ix3 y⟩
    obtain rfl : s = 0 := Fin.ext ((hy 0).trans (congrArg (0 + ·) (Fin.val_eq_zero z)))
    obtain rfl : z = 0 := Subsingleton.elim _ _
    obtain rfl : h = h' := Fin.ext ((hy 1).trans (Nat.zero_add _))
    obtain rfl : x = x' := Fin.ext ((hy 2).trans (Nat.zero_add _))
    exact out_ld i x0 x1 x2 _ 0 inb_S4x512x256_S1x512x256_0_0_0 0 rfl _ _ rfl rfl rfl h x

/-- What a grid point leaves of the selection blocks' scores. -/
theorem out4_apply (c : Dev nD) (arg1 : Memref sig .tc .vmem S32x1024 .f32) (harg1 : arg1.IsWhole) (arg2 : Memref sig .tc .vmem S4x512x256 .f32) (harg2 : arg2.IsWhole) (arg3 : Memref sig .tc .vmem S4x512x256 .f32) (harg3 : arg3.IsWhole) (arg4 : Memref sig .tc .vmem S4x8x128 .f32) (harg4 : arg4.IsWhole) (arg5 : Memref sig .tc .vmem S4x2x512 .f32) (harg5 : arg5.IsWhole) (s : Fin 4) (g : Fin 2) (n : Fin 512) :
    out0_A_4 c i arg1 harg1 arg2 harg2 arg3 harg3 arg4 harg4 arg5 harg5 x0 x1 x2 (ix3 s g n)
      = blocksOf (fun x => x0 (ix2 (seqOf i s) x)) (fun n x => x1 (ix3 s n x)) g n := by
  unfold out0_A_4
  have hc := cover0_A_4 c i arg1 harg1 arg2 harg2 arg3 harg3 arg4 harg4 arg5 harg5 x0 x1 x2
  rw [View.read_writes_eq_canon _ _ _ hc]
  refine View.canon_eq_of_allAt _ _ _ (hc _) ?_
  clear hc
  unfold kernelRun0_A
  dsimp only
  sl_unfold_words
  simp only [View.readAt_eq_ld, harg1.read_unread, harg2.read_unread, harg3.read_unread]
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))
  · intro y hy
    obtain ⟨z, z', n', rfl⟩ : ∃ (z z' : Fin 1) (n' : Fin 512), y = ix3 z z' n' := ⟨_, _, _, eq_ix3 y⟩
    obtain rfl : s = 3 := Fin.ext ((hy 0).trans (congrArg (3 + ·) (Fin.val_eq_zero z)))
    obtain rfl : g = 1 := Fin.ext ((hy 1).trans (congrArg (1 + ·) (Fin.val_eq_zero z')))
    obtain rfl : z = 0 := Subsingleton.elim _ _
    obtain rfl : z' = 0 := Subsingleton.elim _ _
    obtain rfl : n = n' := Fin.ext ((hy 2).trans (Nat.zero_add _))
    exact blocks_ld i x0 x1 _ 3 inb_S4x512x256_S1x512x256_3_0_0 3 rfl _ rfl 1 (.inr ⟨rfl, rfl⟩) n
  · intro y hy
    obtain ⟨z, z', n', rfl⟩ : ∃ (z z' : Fin 1) (n' : Fin 512), y = ix3 z z' n' := ⟨_, _, _, eq_ix3 y⟩
    obtain rfl : s = 3 := Fin.ext ((hy 0).trans (congrArg (3 + ·) (Fin.val_eq_zero z)))
    obtain rfl : g = 0 := Fin.ext ((hy 1).trans (congrArg (0 + ·) (Fin.val_eq_zero z')))
    obtain rfl : z = 0 := Subsingleton.elim _ _
    obtain rfl : z' = 0 := Subsingleton.elim _ _
    obtain rfl : n = n' := Fin.ext ((hy 2).trans (Nat.zero_add _))
    exact blocks_ld i x0 x1 _ 3 inb_S4x512x256_S1x512x256_3_0_0 3 rfl _ rfl 0 (.inl ⟨rfl, rfl⟩) n
  · intro y hy
    obtain ⟨z, z', n', rfl⟩ : ∃ (z z' : Fin 1) (n' : Fin 512), y = ix3 z z' n' := ⟨_, _, _, eq_ix3 y⟩
    obtain rfl : s = 2 := Fin.ext ((hy 0).trans (congrArg (2 + ·) (Fin.val_eq_zero z)))
    obtain rfl : g = 1 := Fin.ext ((hy 1).trans (congrArg (1 + ·) (Fin.val_eq_zero z')))
    obtain rfl : z = 0 := Subsingleton.elim _ _
    obtain rfl : z' = 0 := Subsingleton.elim _ _
    obtain rfl : n = n' := Fin.ext ((hy 2).trans (Nat.zero_add _))
    exact blocks_ld i x0 x1 _ 2 inb_S4x512x256_S1x512x256_2_0_0 2 rfl _ rfl 1 (.inr ⟨rfl, rfl⟩) n
  · intro y hy
    obtain ⟨z, z', n', rfl⟩ : ∃ (z z' : Fin 1) (n' : Fin 512), y = ix3 z z' n' := ⟨_, _, _, eq_ix3 y⟩
    obtain rfl : s = 2 := Fin.ext ((hy 0).trans (congrArg (2 + ·) (Fin.val_eq_zero z)))
    obtain rfl : g = 0 := Fin.ext ((hy 1).trans (congrArg (0 + ·) (Fin.val_eq_zero z')))
    obtain rfl : z = 0 := Subsingleton.elim _ _
    obtain rfl : z' = 0 := Subsingleton.elim _ _
    obtain rfl : n = n' := Fin.ext ((hy 2).trans (Nat.zero_add _))
    exact blocks_ld i x0 x1 _ 2 inb_S4x512x256_S1x512x256_2_0_0 2 rfl _ rfl 0 (.inl ⟨rfl, rfl⟩) n
  · intro y hy
    obtain ⟨z, z', n', rfl⟩ : ∃ (z z' : Fin 1) (n' : Fin 512), y = ix3 z z' n' := ⟨_, _, _, eq_ix3 y⟩
    obtain rfl : s = 1 := Fin.ext ((hy 0).trans (congrArg (1 + ·) (Fin.val_eq_zero z)))
    obtain rfl : g = 1 := Fin.ext ((hy 1).trans (congrArg (1 + ·) (Fin.val_eq_zero z')))
    obtain rfl : z = 0 := Subsingleton.elim _ _
    obtain rfl : z' = 0 := Subsingleton.elim _ _
    obtain rfl : n = n' := Fin.ext ((hy 2).trans (Nat.zero_add _))
    exact blocks_ld i x0 x1 _ 1 inb_S4x512x256_S1x512x256_1_0_0 1 rfl _ rfl 1 (.inr ⟨rfl, rfl⟩) n
  · intro y hy
    obtain ⟨z, z', n', rfl⟩ : ∃ (z z' : Fin 1) (n' : Fin 512), y = ix3 z z' n' := ⟨_, _, _, eq_ix3 y⟩
    obtain rfl : s = 1 := Fin.ext ((hy 0).trans (congrArg (1 + ·) (Fin.val_eq_zero z)))
    obtain rfl : g = 0 := Fin.ext ((hy 1).trans (congrArg (0 + ·) (Fin.val_eq_zero z')))
    obtain rfl : z = 0 := Subsingleton.elim _ _
    obtain rfl : z' = 0 := Subsingleton.elim _ _
    obtain rfl : n = n' := Fin.ext ((hy 2).trans (Nat.zero_add _))
    exact blocks_ld i x0 x1 _ 1 inb_S4x512x256_S1x512x256_1_0_0 1 rfl _ rfl 0 (.inl ⟨rfl, rfl⟩) n
  · intro y hy
    obtain ⟨z, z', n', rfl⟩ : ∃ (z z' : Fin 1) (n' : Fin 512), y = ix3 z z' n' := ⟨_, _, _, eq_ix3 y⟩
    obtain rfl : s = 0 := Fin.ext ((hy 0).trans (congrArg (0 + ·) (Fin.val_eq_zero z)))
    obtain rfl : g = 1 := Fin.ext ((hy 1).trans (congrArg (1 + ·) (Fin.val_eq_zero z')))
    obtain rfl : z = 0 := Subsingleton.elim _ _
    obtain rfl : z' = 0 := Subsingleton.elim _ _
    obtain rfl : n = n' := Fin.ext ((hy 2).trans (Nat.zero_add _))
    exact blocks_ld i x0 x1 _ 0 inb_S4x512x256_S1x512x256_0_0_0 0 rfl _ rfl 1 (.inr ⟨rfl, rfl⟩) n
  · intro y hy
    obtain ⟨z, z', n', rfl⟩ : ∃ (z z' : Fin 1) (n' : Fin 512), y = ix3 z z' n' := ⟨_, _, _, eq_ix3 y⟩
    obtain rfl : s = 0 := Fin.ext ((hy 0).trans (congrArg (0 + ·) (Fin.val_eq_zero z)))
    obtain rfl : g = 0 := Fin.ext ((hy 1).trans (congrArg (0 + ·) (Fin.val_eq_zero z')))
    obtain rfl : z = 0 := Subsingleton.elim _ _
    obtain rfl : z' = 0 := Subsingleton.elim _ _
    obtain rfl : n = n' := Fin.ext ((hy 2).trans (Nat.zero_add _))
    exact blocks_ld i x0 x1 _ 0 inb_S4x512x256_S1x512x256_0_0_0 0 rfl _ rfl 0 (.inl ⟨rfl, rfl⟩) n

end Cert.Proof.Scmp

end
-- ==== Proof.ScmpPlaces.lean ====
/- The compressed branch's kernel's blocks at the places of its arguments, and its two result arrays read at an index. -/
module

public import proofs.«01_k».proof.Proof.ScmpOut
public import Idealize.ShloMosaic.Lib.Pipeline.ValueKit.Geometry

@[expose] public section

set_option maxRecDepth 16384

noncomputable section

namespace Cert.Proof.Scmp

open Cert.KernelScmpIdeal Cert.KernelScmpIdeal.Gen
open Idealize.ShloMosaic Idealize.ShloMosaic.TcCoe

variable (m : (ℓ : Loc nD τ sig) → Buf (Elt Ideal) ℓ) (c : Dev nD) (t : Fin cfg0.N)

/-- A grid point's coordinate is its number. -/
theorem coord_eq : ∀ t : Fin cfg0.N, (grid0.coords t 0).val = t.val := (by decide +kernel : ∀ t : Fin grid0.N, _)

theorem at0 : ∀ t : Fin cfg0.N, win0_0.index t = ![0, 0] := (by decide +kernel : ∀ t : Fin grid0.N, _)
theorem at1 : ∀ t : Fin cfg0.N, win0_1.index t = ![t.val, 0, 0] := (by decide +kernel : ∀ t : Fin grid0.N, _)
theorem at2 : ∀ t : Fin cfg0.N, win0_2.index t = ![t.val, 0, 0] := (by decide +kernel : ∀ t : Fin grid0.N, _)
theorem at3 : ∀ t : Fin cfg0.N, win0_3.index t = ![t.val, 0, 0] := (by decide +kernel : ∀ t : Fin grid0.N, _)
theorem at4 : ∀ t : Fin cfg0.N, win0_4.index t = ![t.val, 0, 0] := (by decide +kernel : ∀ t : Fin grid0.N, _)

theorem pt_lt : t.val < 8 := t.isLt

/-- The sequence that a point takes at one of its four places. -/
def seqAt (s : Fin 4) : Fin 32 := ⟨4 * t.val + s.val, by have := pt_lt t; omega⟩

theorem seqOf_eq (s : Fin 4) : seqOf (grid0.coords t) s = seqAt t s := Fin.ext (by simp only [seqOf, seqAt, coord_eq])

/-- The queries, whole at every point. -/
theorem blk0 (b : Fin 32) (x : Fin 1024) : iblk m c 0 t (ix2 b x) = m ((c : Thread nD τ).loc main_arg0) (ix2 b x) := by
  refine Eq.trans ?_ (congrFun (V_main_arg0 m c) _)
  blk_simp [iblk, at0]
  refine congrArg _ ?_
  blk_ext [at0]

/-- A point's four sequences of keys. -/
theorem blk1 (s : Fin 4) (n : Fin 512) (x : Fin 256) : iblk m c 1 t (ix3 s n x) = m ((c : Thread nD τ).loc main_arg1) (ix3 (seqAt t s) n x) := by
  refine Eq.trans ?_ (congrFun (V_main_arg1 m c) _)
  unfold seqAt
  blk_simp [iblk, at1]
  refine congrArg _ ?_
  blk_ext [at1]

/-- A point's four sequences of values. -/
theorem blk2 (s : Fin 4) (n : Fin 512) (x : Fin 256) : iblk m c 2 t (ix3 s n x) = m ((c : Thread nD τ).loc main_arg2) (ix3 (seqAt t s) n x) := by
  refine Eq.trans ?_ (congrFun (V_main_arg2 m c) _)
  unfold seqAt
  blk_simp [iblk, at2]
  refine congrArg _ ?_
  blk_ext [at2]

/-- The first result's value for sequence `b` at a head and a column, as a function of the arguments. -/
def outAt (q : S32x1024.Idx → EReal) (k v : S32x512x256.Idx → EReal) (b : Fin 32) (h : Fin 8) (x : Fin 128) : EReal :=
  outOf (fun x => q (ix2 b x)) (fun n x => k (ix3 b n x)) (fun n x => v (ix3 b n x)) h x

/-- The second result's value for sequence `b` at a group and a lane, likewise. -/
def blocksAt (q : S32x1024.Idx → EReal) (k : S32x512x256.Idx → EReal) (b : Fin 32) (g : Fin 2) (n : Fin 512) : EReal :=
  blocksOf (fun x => q (ix2 b x)) (fun n x => k (ix3 b n x)) g n

/-- The kernel's first result in the sequences of a point. -/
theorem result3_at (s : Fin 4) (h : Fin 8) (x : Fin 128) : (dats m 0 c).arrAt 3 cfg0.N (ix3 (seqAt t s) h x)
    = outAt (m ((c : Thread nD τ).loc main_arg0)) (m ((c : Thread nD τ).loc main_arg1)) (m ((c : Thread nD τ).loc main_arg2)) (seqAt t s) h x := by
  have b := congrFun (Cert.KernelScmpIdeal.Value.blocks3 m c t (flush0_3 t)) (ix3 s h x)
  rw [Cert.KernelScmpIdeal.Value.flushed3_A] at b
  have e : ((cfg0.win 3).blk t).view.emb (ix3 s h x) = ix3 (seqAt t s) h x := by
    unfold seqAt
    blk_ext [at3]
  have b' : (dats m 0 c).arrAt 3 cfg0.N (((cfg0.win 3).blk t).view.emb (ix3 s h x)) = _ := b
  rw [e] at b'
  refine b'.trans ((out3_apply (grid0.coords t) _ _ _ c _ _ _ _ _ _ _ _ _ _ s h x).trans ?_)
  unfold outAt
  simp only [blk0, blk1, blk2, seqOf_eq]

/-- The kernel's second result in the sequences of a point. -/
theorem result4_at (s : Fin 4) (g : Fin 2) (n : Fin 512) : (dats m 0 c).arrAt 4 cfg0.N (ix3 (seqAt t s) g n)
    = blocksAt (m ((c : Thread nD τ).loc main_arg0)) (m ((c : Thread nD τ).loc main_arg1)) (seqAt t s) g n := by
  have b := congrFun (Cert.KernelScmpIdeal.Value.blocks4 m c t (flush0_4 t)) (ix3 s g n)
  rw [Cert.KernelScmpIdeal.Value.flushed4_A] at b
  have e : ((cfg0.win 4).blk t).view.emb (ix3 s g n) = ix3 (seqAt t s) g n := by
    unfold seqAt
    blk_ext [at4]
  have b' : (dats m 0 c).arrAt 4 cfg0.N (((cfg0.win 4).blk t).view.emb (ix3 s g n)) = _ := b
  rw [e] at b'
  refine b'.trans ((out4_apply (grid0.coords t) _ _ _ c _ _ _ _ _ _ _ _ _ _ s g n).trans ?_)
  unfold blocksAt
  simp only [blk0, blk1, seqOf_eq]

/-- Every sequence is some point's. -/
theorem seq_surj (b : Fin 32) : ∃ (t : Fin cfg0.N) (s : Fin 4), seqAt t s = b :=
  ⟨⟨b.val / 4, by show b.val / 4 < 8; omega⟩, ⟨b.val % 4, by omega⟩, Fin.ext (by unfold seqAt; simp only []; omega)⟩

/-- The kernel's first result at an index. -/
theorem result3_apply (b : Fin 32) (h : Fin 8) (x : Fin 128) : (dats m 0 c).arrAt 3 cfg0.N (ix3 b h x)
    = outAt (m ((c : Thread nD τ).loc main_arg0)) (m ((c : Thread nD τ).loc main_arg1)) (m ((c : Thread nD τ).loc main_arg2)) b h x := by
  obtain ⟨t, s, rfl⟩ := seq_surj b
  exact result3_at m c t s h x

/-- The kernel's second result at an index. -/
theorem result4_apply (b : Fin 32) (g : Fin 2) (n : Fin 512) : (dats m 0 c).arrAt 4 cfg0.N (ix3 b g n)
    = blocksAt (m ((c : Thread nD τ).loc main_arg0)) (m ((c : Thread nD τ).loc main_arg1)) b g n := by
  obtain ⟨t, s, rfl⟩ := seq_surj b
  exact result4_at m c t s g n

end Cert.Proof.Scmp

end
-- ==== Proof.ScmpRef.lean ====
/- The compressed branch's reference, read at an index. -/
module

public import proofs.«01_k».proof.Proof.ScmpBlock
public import proofs.«01_k».proof.Proof.Gen.ReferenceScmpIdeal.Read
public import Idealize.ShloMosaic.Lib.IdealHost

@[expose] public section

set_option maxRecDepth 16384

noncomputable section

namespace Cert.Proof.Scmp

open Cert.ReferenceScmpIdeal Cert.ReferenceScmpIdeal.Gen Cert.ReferenceScmpIdeal.Read
open Idealize.ShloMosaic Idealize.ShloMosaic.TcCoe Idealize.ShloMosaic.StableHlo

variable (x0 : (⟨S32x1024, .f32⟩ : BufTy).Contents (Elt Ideal)) (x1 x2 : (⟨S32x512x256, .f32⟩ : BufTy).Contents (Elt Ideal))

/-- The place of block `n` in the compressed array, and the column of a head's group. -/
theorem order_k (b : Fin 32) (n : Fin 512) (g : Fin 2) (x : Fin 128) :
    val_main_v12 (F := Ideal) x1 (ix4 b n g x) = x1 (ix3 b (lane n) ⟨128 * g.val + x.val, by omega⟩) := by
  rw [val_main_v12_apply, val_main_v11_apply, val_main_v10_apply]
  have h0 : (((b.val * 512 + n.val) * 2 + g.val) * 128 + x.val) / 65536 = 2 * b.val + n.val / 256 := by omega
  have h1 : (((b.val * 512 + n.val) * 2 + g.val) * 128 + x.val) / 256 % 2 = n.val % 2 := by omega
  have h2 : (((b.val * 512 + n.val) * 2 + g.val) * 128 + x.val) / 512 % 128 = n.val % 256 / 2 := by omega
  have h3 : (((b.val * 512 + n.val) * 2 + g.val) * 128 + x.val) / 128 % 2 = g.val := by omega
  have h4 : (((b.val * 512 + n.val) * 2 + g.val) * 128 + x.val) % 128 = x.val := by omega
  refine congrArg x1 (funext fun a => ?_)
  match a with
  | ⟨0, _⟩ =>
    refine Fin.ext ?_
    show (((((((b.val * 512 + n.val) * 2 + g.val) * 128 + x.val) / 65536 * 2 + (((b.val * 512 + n.val) * 2 + g.val) * 128 + x.val) / 256 % 2) * 128 + (((b.val * 512 + n.val) * 2 + g.val) * 128 + x.val) / 512 % 128) * 2 + (((b.val * 512 + n.val) * 2 + g.val) * 128 + x.val) / 128 % 2) * 128 + (((b.val * 512 + n.val) * 2 + g.val) * 128 + x.val) % 128) / 131072 = b.val
    rw [h0, h1, h2, h3, h4]
    omega
  | ⟨1, _⟩ =>
    refine Fin.ext ?_
    show (((((((b.val * 512 + n.val) * 2 + g.val) * 128 + x.val) / 65536 * 2 + (((b.val * 512 + n.val) * 2 + g.val) * 128 + x.val) / 256 % 2) * 128 + (((b.val * 512 + n.val) * 2 + g.val) * 128 + x.val) / 512 % 128) * 2 + (((b.val * 512 + n.val) * 2 + g.val) * 128 + x.val) / 128 % 2) * 128 + (((b.val * 512 + n.val) * 2 + g.val) * 128 + x.val) % 128) / 256 % 512 = n.val / 256 * 256 + n.val % 2 * 128 + n.val % 256 / 2
    rw [h0, h1, h2, h3, h4]
    omega
  | ⟨2, _⟩ =>
    refine Fin.ext ?_
    show (((((((b.val * 512 + n.val) * 2 + g.val) * 128 + x.val) / 65536 * 2 + (((b.val * 512 + n.val) * 2 + g.val) * 128 + x.val) / 256 % 2) * 128 + (((b.val * 512 + n.val) * 2 + g.val) * 128 + x.val) / 512 % 128) * 2 + (((b.val * 512 + n.val) * 2 + g.val) * 128 + x.val) / 128 % 2) * 128 + (((b.val * 512 + n.val) * 2 + g.val) * 128 + x.val) % 128) % 256 = 128 * g.val + x.val
    rw [h0, h1, h2, h3, h4]
    omega

/-- The values are put in the same order. -/
theorem order_v (b : Fin 32) (n : Fin 512) (g : Fin 2) (x : Fin 128) :
    val_main_v31 (F := Ideal) x2 (ix4 b n g x) = x2 (ix3 b (lane n) ⟨128 * g.val + x.val, by omega⟩) :=
  order_k x2 b n g x

/-- The mask lets every block through. -/
theorem ref_mask : ∀ n : Fin 512, val_main_v9 (F := Ideal) (ix1 n) = 1#1 := by
  intro n
  rw [val_main_v9_apply, val_main_v8_apply, val_main_v7_apply, val_main_v6_apply, val_main_v5_apply, val_main_v4_apply, val_main_v3_apply, val_main_v2_apply, val_main_v1_apply, val_main_c_apply, val_main_c_0_apply, val_main_c_1_apply, val_main_c_2_apply]
  revert n
  decide +kernel

/-- A head's scores, in the blocks' order. -/
def sc (b : Fin 32) (g : Fin 2) (j : Fin 4) : Fin 512 → EReal :=
  scoreOf (fun x => x0 (ix2 b x)) (fun n x => x1 (ix3 b n x)) ⟨4 * g.val + j.val, by omega⟩

/-- The scores. -/
theorem ref_scores (b : Fin 32) (g : Fin 2) (j : Fin 4) (n : Fin 512) : val_main_v13 (F := Ideal) x0 x1 (ix4 b g j n) = sc x0 x1 b g j (lane n) := by
  rw [val_main_v13_apply]
  unfold sc scoreOf
  refine Finset.sum_congr rfl fun x _ => congrArg₂ (· * ·) ?_ ?_
  · rw [val_main_v0_apply]
    refine congrArg x0 (funext fun a => ?_)
    match a with
    | ⟨0, _⟩ => exact Fin.ext (by simp only []; show (((b.val * 2 + g.val) * 4 + j.val) * 128 + x.val) / 1024 = b.val; omega)
    | ⟨1, _⟩ => exact Fin.ext (by simp only []; show (((b.val * 2 + g.val) * 4 + j.val) * 128 + x.val) % 1024 = 128 * (4 * g.val + j.val) + x.val; omega)
  · have e : ridx_main_v13 (ix4 b g j n) x = ix4 b n g x := by
      funext a
      match a with
      | ⟨0, _⟩ => rfl
      | ⟨1, _⟩ => rfl
      | ⟨2, _⟩ => rfl
      | ⟨3, _⟩ => rfl
    rw [e, order_k]
    exact congrArg (fun z => x1 (ix3 b (lane n) z)) (Fin.ext (by show 128 * g.val + x.val = (4 * g.val + j.val) / 4 * 128 + x.val; omega))

/-- The masked scores. -/
theorem ref_masked (b : Fin 32) (g : Fin 2) (j : Fin 4) (n : Fin 512) : val_main_v14 (F := Ideal) x0 x1 (ix4 b g j n) = sc x0 x1 b g j (lane n) := by
  have e : idx_main_call0_v1 (ix4 b g j n) = ix1 n := funext fun a => match a with | ⟨0, _⟩ => rfl
  rw [val_main_v14_apply, val_main_call0_v1_apply, e, ref_mask, ref_scores]
  rfl

/-- The greatest score. -/
theorem ref_top (b : Fin 32) (g : Fin 2) (j : Fin 4) : val_main_v15 (F := Ideal) x0 x1 (ix3 b g j) = top (fun n => sc x0 x1 b g j (lane n)) := by
  unfold val_main_v15
  have e := ref_masked x0 x1 b g j
  generalize val_main_v14 (F := Ideal) x0 x1 = y at e
  refine (Host.reduce_eq_fold_single (α := Ideal .f32) FloatOps.maximumf y _ reducesTo_S32x2x4x512_S32x2x4_d3 (by decide) h_S_ (ix3 b g j)).trans ?_
  rw [val_main_cst_3_apply, Ideal.ofBits_def, negInf]
  unfold top
  refine Finset.sup_congr rfl fun n _ => Eq.trans (congrArg y (funext fun a => ?_)) (e n)
  match a with
  | ⟨0, _⟩ => rfl
  | ⟨1, _⟩ => rfl
  | ⟨2, _⟩ => rfl
  | ⟨3, _⟩ => rfl

/-- The weights. -/
theorem ref_weights (b : Fin 32) (g : Fin 2) (j : Fin 4) (n : Fin 512) : val_main_v21 (F := Ideal) x0 x1 (ix4 b g j n)
    = expo (fun n => sc x0 x1 b g j (lane n)) n := by
  have e : idx_main_call1_v1 (ix4 b g j n) = ix1 n := funext fun a => match a with | ⟨0, _⟩ => rfl
  have e' : idx_main_v16 (idx_main_v17 (ix4 b g j n)) = ix3 b g j := funext fun a => match a with | ⟨0, _⟩ => rfl | ⟨1, _⟩ => rfl | ⟨2, _⟩ => rfl
  rw [val_main_v21_apply, val_main_call1_v1_apply, e, ref_mask, val_main_v20_apply, val_main_v19_apply, val_main_cst_4_apply, val_main_v18_apply, val_main_v17_apply,
    val_main_v16_apply, e', ref_top, ref_masked]
  have two : (FloatOps.ofBits FTy.f32 0x40000000#32 : Ideal FTy.f32) = ((2 : ℝ) : EReal) := by
    rw [Ideal.ofBits_def]
    simp [Ideal.ofBits, Ideal.ieee]
    rw [← EReal.coe_mul]
    norm_num
  rw [two, Ideal.hostPowf_def, pow_two]
  rfl

/-- The shares. -/
theorem ref_shares (b : Fin 32) (g : Fin 2) (j : Fin 4) (n : Fin 512) : val_main_v28 (F := Ideal) x0 x1 (ix4 b g j n) = soft (sc x0 x1 b g j) (lane n) := by
  rw [← soft_lane]
  have e' : idx_main_v23 (idx_main_v27 (ix4 b g j n)) = ix3 b g j := funext fun a => match a with | ⟨0, _⟩ => rfl | ⟨1, _⟩ => rfl | ⟨2, _⟩ => rfl
  have l : val_main_v22 (F := Ideal) x0 x1 (ix3 b g j) = ∑ k, expo (fun n => sc x0 x1 b g j (lane n)) k := by
    rw [val_main_v22_apply, val_main_cst_6_apply, Ideal.ofBits_def]
    refine (congrArg₂ (· + ·) (by simp [Ideal.ofBits, Ideal.ieee] : Ideal.ofBits FTy.f32 0x00000000#32 = 0) (Finset.sum_congr rfl fun k _ => ?_)).trans (zero_add _)
    have e : idx_main_v22 (ix3 b g j) k = ix4 b g j k := funext fun a => match a with | ⟨0, _⟩ => rfl | ⟨1, _⟩ => rfl | ⟨2, _⟩ => rfl | ⟨3, _⟩ => rfl
    rw [e, ref_weights]
  rw [val_main_v28_apply, ref_weights, val_main_v27_apply, val_main_v26_apply, val_main_v25_apply, val_main_v23_apply, e', l, val_main_v24_apply,
    val_main_cst_7_apply, val_main_call2_v1_apply, val_main_call2_v0_apply, val_main_cst_8_apply]
  unfold soft
  generalize (∑ k, expo (fun n => sc x0 x1 b g j (lane n)) k) = l
  rw [Ideal.hostDivf_def]
  refine congrArg _ ?_
  unfold guard
  pointwise

/-- The reference's first result at an index. -/
theorem ref_out (b : Fin 32) (h : Fin 8) (x : Fin 128) : val_main_v33 (F := Ideal) x0 x1 x2 (ix3 b h x)
    = outOf (fun x => x0 (ix2 b x)) (fun n x => x1 (ix3 b n x)) (fun n x => x2 (ix3 b n x)) h x := by
  have i : idx_main_v33 (ix3 b h x) = ix4 b (⟨h.val / 4, by omega⟩ : Fin 2) (⟨h.val % 4, by omega⟩ : Fin 4) x := by
    funext a
    match a with
    | ⟨0, _⟩ => exact Fin.ext (by simp only []; show ((b.val * 8 + h.val) * 128 + x.val) / 1024 = b.val; omega)
    | ⟨1, _⟩ => exact Fin.ext (by simp only []; show ((b.val * 8 + h.val) * 128 + x.val) / 512 % 2 = h.val / 4; omega)
    | ⟨2, _⟩ => exact Fin.ext (by simp only []; show ((b.val * 8 + h.val) * 128 + x.val) / 128 % 4 = h.val % 4; omega)
    | ⟨3, _⟩ => exact Fin.ext (by simp only []; show ((b.val * 8 + h.val) * 128 + x.val) % 128 = x.val; omega)
  rw [val_main_v33_apply, i, val_main_v32_apply]
  unfold outOf
  rw [← attend_lane]
  unfold attend
  refine Finset.sum_congr rfl fun n _ => congrArg₂ (· * ·) ?_ ?_
  · have e : lidx_main_v32 (ix4 b (⟨h.val / 4, by omega⟩ : Fin 2) (⟨h.val % 4, by omega⟩ : Fin 4) x) n = ix4 b ⟨h.val / 4, by omega⟩ ⟨h.val % 4, by omega⟩ n := by
      funext a
      match a with
      | ⟨0, _⟩ => rfl
      | ⟨1, _⟩ => rfl
      | ⟨2, _⟩ => rfl
      | ⟨3, _⟩ => rfl
    rw [e, ref_shares, soft_lane]
    unfold sc
    exact congrArg (fun z => soft (scoreOf _ _ z) (lane n)) (Fin.ext (by show 4 * (h.val / 4) + h.val % 4 = h.val; omega))
  · have e : ridx_main_v32 (ix4 b (⟨h.val / 4, by omega⟩ : Fin 2) (⟨h.val % 4, by omega⟩ : Fin 4) x) n = ix4 b n ⟨h.val / 4, by omega⟩ x := by
      funext a
      match a with
      | ⟨0, _⟩ => rfl
      | ⟨1, _⟩ => rfl
      | ⟨2, _⟩ => rfl
      | ⟨3, _⟩ => rfl
    rw [e, order_v]
    exact congrArg (fun z => x2 (ix3 b (lane n) z)) (Fin.ext (by show 128 * (h.val / 4) + x.val = h.val / 4 * 128 + x.val; omega))

/-- The four heads' shares of a block. -/
theorem ref_heads (b : Fin 32) (g : Fin 2) (n : Fin 512) : val_main_v34 (F := Ideal) x0 x1 (ix3 b g n) = heads (sc x0 x1 b g) (lane n) := by
  rw [val_main_v34_apply, val_main_cst_9_apply, Ideal.ofBits_def]
  refine (congrArg₂ (· + ·) (by simp [Ideal.ofBits, Ideal.ieee] : Ideal.ofBits FTy.f32 0x00000000#32 = 0) (Finset.sum_congr rfl fun k _ => ?_)).trans ((zero_add _).trans (Fin.sum_univ_four fun k => soft (sc x0 x1 b g k) (lane n)))
  have e : idx_main_v34 (ix3 b g n) k = ix4 b g k n := funext fun a => match a with | ⟨0, _⟩ => rfl | ⟨1, _⟩ => rfl | ⟨2, _⟩ => rfl | ⟨3, _⟩ => rfl
  rw [e, ref_shares]

/-- A selection block's score: its two compressed blocks' shares. -/
theorem ref_pair (b : Fin 32) (g : Fin 2) (s : Fin 256) : val_main_v36 (F := Ideal) x0 x1 (ix3 b g s)
    = heads (sc x0 x1 b g) (lane ⟨2 * s.val, by omega⟩) + heads (sc x0 x1 b g) (lane ⟨2 * s.val + 1, by omega⟩) := by
  rw [val_main_v36_apply, val_main_cst_10_apply, Ideal.ofBits_def]
  refine (congrArg₂ (· + ·) (by simp [Ideal.ofBits, Ideal.ieee] : Ideal.ofBits FTy.f32 0x00000000#32 = 0) (Fin.sum_univ_two _)).trans ((zero_add _).trans ?_)
  have e : ∀ (k : Fin 2), idx_main_v35 (idx_main_v36 (ix3 b g s) k) = ix3 b g (⟨2 * s.val + k.val, by omega⟩ : Fin 512) := by
    intro k
    funext a
    match a with
    | ⟨0, _⟩ => exact Fin.ext (by simp only []; show (((b.val * 2 + g.val) * 256 + s.val) * 2 + k.val) / 1024 = b.val; omega)
    | ⟨1, _⟩ => exact Fin.ext (by simp only []; show (((b.val * 2 + g.val) * 256 + s.val) * 2 + k.val) / 512 % 2 = g.val; omega)
    | ⟨2, _⟩ => exact Fin.ext (by simp only []; show (((b.val * 2 + g.val) * 256 + s.val) * 2 + k.val) % 512 = 2 * s.val + k.val; omega)
  rw [val_main_v35_apply, val_main_v35_apply, e, e, ref_heads, ref_heads]
  rfl

/-- The reference's second result at an index. -/
theorem ref_blocks (b : Fin 32) (g : Fin 2) (n : Fin 512) : val_main_v39 (F := Ideal) x0 x1 (ix3 b g n)
    = blocksOf (fun x => x0 (ix2 b x)) (fun n x => x1 (ix3 b n x)) g n := by
  have i : idx_main_v37 (idx_main_v38 (idx_main_v39 (ix3 b g n))) = ix3 b g (⟨n.val / 256 * 128 + n.val % 128, by omega⟩ : Fin 256) := by
    have h2 : ((b.val * 2 + g.val) * 512 + n.val) / 256 % 2 = n.val / 256 := by omega
    have h4 : ((b.val * 2 + g.val) * 512 + n.val) % 128 = n.val % 128 := by omega
    have h0 : ((b.val * 2 + g.val) * 512 + n.val) / 1024 = b.val := by omega
    have h1 : ((b.val * 2 + g.val) * 512 + n.val) / 512 % 2 = g.val := by omega
    funext a
    match a with
    | ⟨0, _⟩ =>
      refine Fin.ext ?_
      show ((((((b.val * 2 + g.val) * 512 + n.val) / 1024 * 2 + ((b.val * 2 + g.val) * 512 + n.val) / 512 % 2) * 2 + ((b.val * 2 + g.val) * 512 + n.val) / 256 % 2) * 1 + 0) * 128 + ((b.val * 2 + g.val) * 512 + n.val) % 128) / 512 = b.val
      rw [h0, h1, h2, h4]
      clear h0 h1 h2 h4
      omega
    | ⟨1, _⟩ =>
      refine Fin.ext ?_
      show ((((((b.val * 2 + g.val) * 512 + n.val) / 1024 * 2 + ((b.val * 2 + g.val) * 512 + n.val) / 512 % 2) * 2 + ((b.val * 2 + g.val) * 512 + n.val) / 256 % 2) * 1 + 0) * 128 + ((b.val * 2 + g.val) * 512 + n.val) % 128) / 256 % 2 = g.val
      rw [h0, h1, h2, h4]
      clear h0 h1 h2 h4
      have e : ((((b.val * 2 + g.val) * 2 + n.val / 256) * 1 + 0) * 128 + n.val % 128) / 256 = b.val * 2 + g.val := by omega
      rw [e]
      omega
    | ⟨2, _⟩ =>
      refine Fin.ext ?_
      show ((((((b.val * 2 + g.val) * 512 + n.val) / 1024 * 2 + ((b.val * 2 + g.val) * 512 + n.val) / 512 % 2) * 2 + ((b.val * 2 + g.val) * 512 + n.val) / 256 % 2) * 1 + 0) * 128 + ((b.val * 2 + g.val) * 512 + n.val) % 128) % 256 = n.val / 256 * 128 + n.val % 128
      rw [h0, h1, h2, h4]
      clear h0 h1 h2 h4
      omega
  rw [val_main_v39_apply, val_main_v38_apply, val_main_v37_apply, i, ref_pair]
  unfold blocksOf
  show heads (sc x0 x1 b g) _ + heads (sc x0 x1 b g) _ = heads (sc x0 x1 b g) n + heads (sc x0 x1 b g) (turn n)
  rcases Nat.lt_or_ge (n.val % 256) 128 with h | h
  · refine congrArg₂ (· + ·) (congrArg _ (Fin.ext ?_)) (congrArg _ (Fin.ext ?_))
    · rw [lane_val]; simp only []; omega
    · rw [lane_val]; unfold turn; simp only []; omega
  · rw [add_comm]
    refine congrArg₂ (· + ·) (congrArg _ (Fin.ext ?_)) (congrArg _ (Fin.ext ?_))
    · rw [lane_val]; simp only []; omega
    · rw [lane_val]; unfold turn; simp only []; omega

end Cert.Proof.Scmp

end
-- ==== Proof.ClaimScmp.lean ====
/- The claims about the compressed branch's attention: frames, and equality of the kernel's two results with the reference's. -/
module

public import proofs.«01_k».proof.Defs
public import proofs.«01_k».proof.Proof.ScmpPlaces
public import proofs.«01_k».proof.Proof.ScmpRef
public import proofs.«01_k».proof.Proof.Gen.KernelScmp
public import proofs.«01_k».proof.Proof.Gen.KernelScmp.Frame
public import proofs.«01_k».proof.Proof.Gen.KernelScmpIdeal.Frame
public import proofs.«01_k».proof.Proof.Gen.ReferenceScmpIdeal.Run
public import Idealize.ShloMosaic.Lib.Quiescent
public import Idealize.ShloMosaic.Lib.KernelVsHost

@[expose] public section

noncomputable section

namespace Cert.Proof.Scmp

open Idealize.ShloMosaic Idealize.ShloMosaic.TcCoe Idealize.SL.Sem

/-- The kernel leaves its arguments as they were. -/
theorem frame : quiescent_KernelScmp := fun m ρ _ => Cert.KernelScmp.Gen.frame m ρ

/-- So does the kernel over the reals. -/
theorem frame_ideal : quiescent_KernelScmpIdeal := fun m ρ _ => Cert.KernelScmpIdeal.Gen.frame m ρ

/-- So does the reference. -/
theorem frame_ref : quiescent_ReferenceScmpIdeal := fun m ρ _ =>
  (θ_run _ _ _).mono (fun r h => ⟨fun c => (h c).2.2, sem_eq_zero_of_no_sems (by decide) r.2⟩) (Cert.ReferenceScmpIdeal.Value.run m ρ)

/-- Two arrays that agree at every index are one. -/
theorem same_array {a b c : ℕ} {A B : (⟨3, ![a, b, c]⟩ : Shape).Idx → EReal} (f : Fin a → Fin b → Fin c → EReal)
    (hA : ∀ i j k, A (ix3 i j k) = f i j k) (hB : ∀ i j k, B (ix3 i j k) = f i j k) : A = B := by
  funext x
  obtain ⟨i, j, k, rfl⟩ : ∃ i j k, x = ix3 i j k := ⟨_, _, _, eq_ix3 x⟩
  exact (hA i j k).trans (hB i j k).symm

open Cert.KernelScmpIdeal Cert.KernelScmpIdeal.Gen in
/-- The kernel and the reference end with equal results and unchanged arguments. -/
theorem equal : algebraic_KernelScmpIdeal_ReferenceScmpIdeal := by
  intro m g m' g' _ he
  refine ⟨fun c => (dats m 0 c).arrAt 3 cfg0.N, fun c => (dats m 0 c).arrAt 4 cfg0.N, Cert.KernelScmpIdeal.Value.run_blocks m g, ?_⟩
  refine (θ_run _ _ _).mono (fun _ h c => ⟨(h c).1.trans ?_, (h c).2.1.trans ?_, (h c).2.2⟩) (Cert.ReferenceScmpIdeal.Value.run m' g')
  all_goals obtain ⟨e0, e1, e2⟩ := he c
  · rw [Cert.ReferenceScmpIdeal.Read.val_main_v33_eq, e0, e1, e2]
    exact same_array _ (ref_out _ _ _) (result3_apply m c)
  · rw [Cert.ReferenceScmpIdeal.Read.val_main_v39_eq, e0, e1]
    exact same_array _ (ref_blocks _ _) (result4_apply m c)

end Cert.Proof.Scmp

end
-- ==== Proof.lean ====
module

public import proofs.«01_k».proof.Proof.Gen.KernelU
public import proofs.«01_k».proof.Proof.Gen.KernelU.Frame
public import proofs.«01_k».proof.Proof.Gen.KernelU.Points
public import proofs.«01_k».proof.Proof.Gen.KernelU.Launch
public import proofs.«01_k».proof.Proof.Gen.KernelU.Skeleton
public import proofs.«01_k».proof.Proof.Gen.KernelUIdeal
public import proofs.«01_k».proof.Proof.Gen.KernelUIdeal.Frame
public import proofs.«01_k».proof.Proof.Gen.KernelUIdeal.Points
public import proofs.«01_k».proof.Proof.Gen.KernelUIdeal.Launch
public import proofs.«01_k».proof.Proof.Gen.KernelUIdeal.Skeleton
public import proofs.«01_k».proof.Proof.Gen.ReferenceUIdeal
public import proofs.«01_k».proof.Proof.Gen.ReferenceUIdeal.Run
public import proofs.«01_k».proof.Proof.Gen.ReferenceUIdeal.Read
public import proofs.«01_k».proof.Proof.Gen.KernelSilu
public import proofs.«01_k».proof.Proof.Gen.KernelSilu.Frame
public import proofs.«01_k».proof.Proof.Gen.KernelSilu.Points
public import proofs.«01_k».proof.Proof.Gen.KernelSilu.Launch
public import proofs.«01_k».proof.Proof.Gen.KernelSilu.Skeleton
public import proofs.«01_k».proof.Proof.Gen.KernelSiluIdeal
public import proofs.«01_k».proof.Proof.Gen.KernelSiluIdeal.Frame
public import proofs.«01_k».proof.Proof.Gen.KernelSiluIdeal.Points
public import proofs.«01_k».proof.Proof.Gen.KernelSiluIdeal.Launch
public import proofs.«01_k».proof.Proof.Gen.KernelSiluIdeal.Skeleton
public import proofs.«01_k».proof.Proof.Gen.ReferenceSiluIdeal
public import proofs.«01_k».proof.Proof.Gen.ReferenceSiluIdeal.Run
public import proofs.«01_k».proof.Proof.Gen.ReferenceSiluIdeal.Read
public import proofs.«01_k».proof.Proof.Gen.KernelQ
public import proofs.«01_k».proof.Proof.Gen.KernelQ.Frame
public import proofs.«01_k».proof.Proof.Gen.KernelQ.Points
public import proofs.«01_k».proof.Proof.Gen.KernelQ.Launch
public import proofs.«01_k».proof.Proof.Gen.KernelQ.Skeleton
public import proofs.«01_k».proof.Proof.Gen.KernelQIdeal
public import proofs.«01_k».proof.Proof.Gen.KernelQIdeal.Frame
public import proofs.«01_k».proof.Proof.Gen.KernelQIdeal.Points
public import proofs.«01_k».proof.Proof.Gen.KernelQIdeal.Launch
public import proofs.«01_k».proof.Proof.Gen.KernelQIdeal.Skeleton
public import proofs.«01_k».proof.Proof.Gen.ReferenceQIdeal
public import proofs.«01_k».proof.Proof.Gen.ReferenceQIdeal.Run
public import proofs.«01_k».proof.Proof.Gen.ReferenceQIdeal.Read
public import proofs.«01_k».proof.Proof.Gen.KernelSig
public import proofs.«01_k».proof.Proof.Gen.KernelSig.Frame
public import proofs.«01_k».proof.Proof.Gen.KernelSig.Points
public import proofs.«01_k».proof.Proof.Gen.KernelSig.Launch
public import proofs.«01_k».proof.Proof.Gen.KernelSig.Skeleton
public import proofs.«01_k».proof.Proof.Gen.KernelSigIdeal
public import proofs.«01_k».proof.Proof.Gen.KernelSigIdeal.Frame
public import proofs.«01_k».proof.Proof.Gen.KernelSigIdeal.Points
public import proofs.«01_k».proof.Proof.Gen.KernelSigIdeal.Launch
public import proofs.«01_k».proof.Proof.Gen.KernelSigIdeal.Skeleton
public import proofs.«01_k».proof.Proof.Gen.ReferenceSigIdeal
public import proofs.«01_k».proof.Proof.Gen.ReferenceSigIdeal.Run
public import proofs.«01_k».proof.Proof.Gen.ReferenceSigIdeal.Read
public import proofs.«01_k».proof.Proof.Gen.KernelKv
public import proofs.«01_k».proof.Proof.Gen.KernelKv.Launch
public import proofs.«01_k».proof.Proof.Gen.KernelKv.Skeleton
public import proofs.«01_k».proof.Proof.Gen.KernelKvIdeal
public import proofs.«01_k».proof.Proof.Gen.KernelKvIdeal.Launch
public import proofs.«01_k».proof.Proof.Gen.KernelKvIdeal.Skeleton
public import proofs.«01_k».proof.Proof.Gen.ReferenceKvIdeal
public import proofs.«01_k».proof.Proof.Gen.ReferenceKvIdeal.Run
public import proofs.«01_k».proof.Proof.Gen.ReferenceKvIdeal.Read
public import proofs.«01_k».proof.Proof.Gen.KernelScmp
public import proofs.«01_k».proof.Proof.Gen.KernelScmp.Frame
public import proofs.«01_k».proof.Proof.Gen.KernelScmp.Points
public import proofs.«01_k».proof.Proof.Gen.KernelScmp.Launch
public import proofs.«01_k».proof.Proof.Gen.KernelScmp.Skeleton
public import proofs.«01_k».proof.Proof.Gen.KernelScmpIdeal
public import proofs.«01_k».proof.Proof.Gen.KernelScmpIdeal.Frame
public import proofs.«01_k».proof.Proof.Gen.KernelScmpIdeal.Points
public import proofs.«01_k».proof.Proof.Gen.KernelScmpIdeal.Launch
public import proofs.«01_k».proof.Proof.Gen.KernelScmpIdeal.Skeleton
public import proofs.«01_k».proof.Proof.Gen.KernelScmpIdeal.Value
public import proofs.«01_k».proof.Proof.Gen.ReferenceScmpIdeal
public import proofs.«01_k».proof.Proof.Gen.ReferenceScmpIdeal.Run
public import proofs.«01_k».proof.Proof.Gen.ReferenceScmpIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_u
public import proofs.«01_k».proof.Proof.Gen.KernelIdeal.Value
public import proofs.«01_k».proof.Proof.TailClaim
public import proofs.«01_k».proof.Proof.ClaimU
public import proofs.«01_k».proof.Proof.ClaimSilu
public import proofs.«01_k».proof.Proof.ClaimQ
public import proofs.«01_k».proof.Proof.ClaimSig
public import proofs.«01_k».proof.Proof.ClaimKv
public import proofs.«01_k».proof.Proof.ClaimScmp
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.KernelU.Gen.facts, Cert.KernelUIdeal.Gen.facts, Cert.ReferenceUIdeal.Gen.facts, Cert.KernelSilu.Gen.facts, Cert.KernelSiluIdeal.Gen.facts, Cert.ReferenceSiluIdeal.Gen.facts, Cert.KernelQ.Gen.facts, Cert.KernelQIdeal.Gen.facts, Cert.ReferenceQIdeal.Gen.facts, Cert.KernelSig.Gen.facts, Cert.KernelSigIdeal.Gen.facts, Cert.ReferenceSigIdeal.Gen.facts, Cert.KernelKv.Gen.facts, Cert.KernelKvIdeal.Gen.facts, Cert.ReferenceKvIdeal.Gen.facts, Cert.KernelScmp.Gen.facts, Cert.KernelScmpIdeal.Gen.facts, Cert.ReferenceScmpIdeal.Gen.facts, Cert.Pre_finite_u.Gen.facts,
  fun m ρ _ => Cert.Kernel.Gen.frame m ρ, fun m ρ _ => Cert.KernelIdeal.Gen.frame m ρ, fun m ρ _ => Cert.KernelIdeal.Gen.frame m ρ,
  ref_frame, fun m ρ _ => ref_frame m ρ trivial,
  ProjU.frame, ProjU.frame_ideal, ProjU.frame_ref,
  ProjSilu.frame, ProjSilu.frame_ideal, ProjSilu.frame_ref,
  ProjQ.frame, ProjQ.frame_ideal, ProjQ.frame_ref,
  ProjSig.frame, ProjSig.frame_ideal, ProjSig.frame_ref,
  Kv.frame_kernel, Kv.frame_ideal, Kv.frame_ref,
  Scmp.frame, Scmp.frame_ideal, Scmp.frame_ref,
  trivial, tail_equal, trivial, ProjU.equal, trivial, ProjSilu.equal, trivial, ProjQ.equal, trivial, ProjSig.equal, trivial, Kv.equal, trivial, Scmp.equal⟩

end Cert.Proof

end
